-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v38) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v5_0)) (v1 : (c : Dev Cert.Kernel3Ideal.nD) → Buf (Elt Ideal) ((c.tc : Thread Cert.Kernel3Ideal.nD Cert.Kernel3Ideal.τ).loc Cert.Kernel3Ideal.main_v5_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5_0) = v0 c
          ∧ r.2.mem ((c.tc : Thread Cert.Kernel3Ideal.nD Cert.Kernel3Ideal.τ).loc Cert.Kernel3Ideal.main_v5_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v17) = v0 c
          ∧ r.2.mem ((c.tc : Thread Cert.Reference3Ideal.nD Cert.Reference3Ideal.τ).loc Cert.Reference3Ideal.main_v18) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v29) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v25) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v11)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v11) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v255) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Kernel.lean ====
abbrev S2x4x16x64x320x256 : Shape := ⟨6, ![2, 4, 16, 64, 320, 256]⟩
abbrev S2x4x16x64x256 : Shape := ⟨5, ![2, 4, 16, 64, 256]⟩
abbrev S4x4096x4096 : Shape := ⟨3, ![4, 4096, 4096]⟩
abbrev S1x1x16x64x256 : Shape := ⟨5, ![1, 1, 16, 64, 256]⟩
abbrev S1x64x4096 : Shape := ⟨3, ![1, 64, 4096]⟩
abbrev S32x128x256 : Shape := ⟨3, ![32, 128, 256]⟩
abbrev S3x2x16x320x256 : Shape := ⟨5, ![3, 2, 16, 320, 256]⟩
abbrev S3x2 : Shape := ⟨2, ![3, 2]⟩
abbrev S1x1 : Shape := ⟨2, ![1, 1]⟩
abbrev S_ : Shape := ⟨0, ![]⟩
abbrev S1x1x16x320x256 : Shape := ⟨5, ![1, 1, 16, 320, 256]⟩
abbrev S16x320x256 : Shape := ⟨3, ![16, 320, 256]⟩
abbrev S1x1x16x1x320x256 : Shape := ⟨6, ![1, 1, 16, 1, 320, 256]⟩
abbrev S128x128 : Shape := ⟨2, ![128, 128]⟩
abbrev S64x128 : Shape := ⟨2, ![64, 128]⟩
abbrev S1x1x1x64x128 : Shape := ⟨5, ![1, 1, 1, 64, 128]⟩
abbrev S1x1x1x128x128 : Shape := ⟨5, ![1, 1, 1, 128, 128]⟩
abbrev S192x128 : Shape := ⟨2, ![192, 128]⟩
abbrev S1x1x1x128x256 : Shape := ⟨5, ![1, 1, 1, 128, 256]⟩
abbrev S128x256 : Shape := ⟨2, ![128, 256]⟩
abbrev S1x1x1x64x256 : Shape := ⟨5, ![1, 1, 1, 64, 256]⟩
abbrev S64x256 : Shape := ⟨2, ![64, 256]⟩
abbrev S1x1x1x1x256 : Shape := ⟨5, ![1, 1, 1, 1, 256]⟩
abbrev S1x256 : Shape := ⟨2, ![1, 256]⟩
abbrev S1x128x256 : Shape := ⟨3, ![1, 128, 256]⟩
abbrev S256x256 : Shape := ⟨2, ![256, 256]⟩
abbrev S192x256 : Shape := ⟨2, ![192, 256]⟩
abbrev S1x64x256 : Shape := ⟨3, ![1, 64, 256]⟩

abbrev nBuf : Space → Nat
  | .hbm => 4
  | .vmem => 10
  | .smem => 0
  | _ => 0

abbrev bufTy : (tb : Table) → Fin (tcTables nBuf tb) → BufTy
  | .hbm, ⟨0, _⟩ => ⟨S2x4x16x64x320x256, .bf16⟩
  | .hbm, ⟨1, _⟩ => ⟨S2x4x16x64x256, .f32⟩
  | .hbm, ⟨2, _⟩ => ⟨S4x4096x4096, .bf16⟩
  | .hbm, ⟨3, _⟩ => ⟨S4x4096x4096, .bf16⟩
  | .local _ .vmem, ⟨0, _⟩ => ⟨S1x1x16x64x256, .f32⟩
  | .local _ .vmem, ⟨1, _⟩ => ⟨S1x1x16x64x256, .f32⟩
  | .local _ .vmem, ⟨2, _⟩ => ⟨S1x1x16x64x256, .f32⟩
  | .local _ .vmem, ⟨3, _⟩ => ⟨S1x1x16x64x256, .f32⟩
  | .local _ .vmem, ⟨4, _⟩ => ⟨S1x64x4096, .bf16⟩
  | .local _ .vmem, ⟨5, _⟩ => ⟨S1x64x4096, .bf16⟩
  | .local _ .vmem, ⟨6, _⟩ => ⟨S1x64x4096, .bf16⟩
  | .local _ .vmem, ⟨7, _⟩ => ⟨S1x64x4096, .bf16⟩
  | .local _ .vmem, ⟨8, _⟩ => ⟨S32x128x256, .f32⟩
  | .local _ .vmem, ⟨9, _⟩ => ⟨S3x2x16x320x256, .bf16⟩
  | _, _ => ⟨S2x4x16x64x320x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 64], ![false, false]⟩

def k0_cond2 (i : grid0.Coords) : BitVec 1 :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c2_i32 : BitVec 32 := 2#32
  let v5 : BitVec 32 := Scalar.addi v1 c2_i32
  let c256_i32 : BitVec 32 := 256#32
  let v6 : BitVec 1 := Scalar.cmpi .slt v5 c256_i32
  let v7 : BitVec 32 := Scalar.extui v6
  let c0_i32_1 : BitVec 32 := 0#32
  let v8 : BitVec 1 := Scalar.cmpi .ne v7 c0_i32_1
  v8

def k0_off1 (i : grid0.Coords) : Fin 2 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c2_i32_985 : BitVec 32 := 2#32
  let v1635 : BitVec 32 := Scalar.addi v1 c2_i32_985
  let c3_i32_994 : BitVec 32 := 3#32
  let c0_i32_995 : BitVec 32 := 0#32
  let v1655 : BitVec 1 := Scalar.cmpi .eq c3_i32_994 c0_i32_995
  let c1_i32_996 : BitVec 32 := 1#32
  let v1656 : BitVec 32 := Scalar.select v1655 c1_i32_996 c3_i32_994
  let v1657 : BitVec 32 := Scalar.remsi v1635 v1656
  let c0_i32_998 : BitVec 32 := 0#32
  let v1659 : BitVec 1 := Scalar.cmpi .slt v1657 c0_i32_998
  let c0_i32_999 : BitVec 32 := 0#32
  let v1660 : BitVec 1 := Scalar.cmpi .slt v1656 c0_i32_999
  let v1661 : BitVec 1 := Scalar.xori v1659 v1660
  let c0_i32_997 : BitVec 32 := 0#32
  let v1658 : BitVec 1 := Scalar.cmpi .ne v1657 c0_i32_997
  let v1662 : BitVec 1 := Scalar.andi v1661 v1658
  let v1663 : BitVec 32 := Scalar.addi v1657 v1656
  let v1664 : BitVec 32 := Scalar.select v1662 v1663 v1657
  let c0_i32_1003 : BitVec 32 := 0#32
  ![v1664.toNat, 0]
def k0_off2 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c2_i32_985 : BitVec 32 := 2#32
  let v1635 : BitVec 32 := Scalar.addi v1 c2_i32_985
  let c3_i32_994 : BitVec 32 := 3#32
  let c0_i32_995 : BitVec 32 := 0#32
  let v1655 : BitVec 1 := Scalar.cmpi .eq c3_i32_994 c0_i32_995
  let c1_i32_996 : BitVec 32 := 1#32
  let v1656 : BitVec 32 := Scalar.select v1655 c1_i32_996 c3_i32_994
  let v1657 : BitVec 32 := Scalar.remsi v1635 v1656
  let c0_i32_998 : BitVec 32 := 0#32
  let v1659 : BitVec 1 := Scalar.cmpi .slt v1657 c0_i32_998
  let c0_i32_999 : BitVec 32 := 0#32
  let v1660 : BitVec 1 := Scalar.cmpi .slt v1656 c0_i32_999
  let v1661 : BitVec 1 := Scalar.xori v1659 v1660
  let c0_i32_997 : BitVec 32 := 0#32
  let v1658 : BitVec 1 := Scalar.cmpi .ne v1657 c0_i32_997
  let v1662 : BitVec 1 := Scalar.andi v1661 v1658
  let v1663 : BitVec 32 := Scalar.addi v1657 v1656
  let v1664 : BitVec 32 := Scalar.select v1662 v1663 v1657
  let c0_i32_1002 : BitVec 32 := 0#32
  let c0_i32_1004 : BitVec 32 := 0#32
  let c0_i32_1005 : BitVec 32 := 0#32
  let c0_i32_1006 : BitVec 32 := 0#32
  ![v1664.toNat, 0, 0, 0, 0]
def k0_off3 (i : grid0.Coords) : Fin 6 → Nat :=
  let c0_i32_1001 : BitVec 32 := 0#32
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c2_i32_985 : BitVec 32 := 2#32
  let v1635 : BitVec 32 := Scalar.addi v1 c2_i32_985
  let c0_i32_987 : BitVec 32 := 0#32
  let v1637 : BitVec 1 := Scalar.cmpi .sgt v1635 c0_i32_987
  let v1638 : BitVec 32 := Scalar.extui v1637
  let c0_i32_988 : BitVec 32 := 0#32
  let v1639 : BitVec 1 := Scalar.cmpi .slt v1635 c0_i32_988
  let v1640 : BitVec 32 := Scalar.extui v1639
  let v1641 : BitVec 32 := Scalar.subi v1638 v1640
  let c64_i32_986 : BitVec 32 := 64#32
  let c0_i32_989 : BitVec 32 := 0#32
  let v1642 : BitVec 1 := Scalar.cmpi .sgt c64_i32_986 c0_i32_989
  let v1643 : BitVec 32 := Scalar.extui v1642
  let c0_i32_990 : BitVec 32 := 0#32
  let v1644 : BitVec 1 := Scalar.cmpi .slt c64_i32_986 c0_i32_990
  let v1645 : BitVec 32 := Scalar.extui v1644
  let v1646 : BitVec 32 := Scalar.subi v1643 v1645
  let v1647 : BitVec 1 := Scalar.cmpi .ne v1641 v1646
  let v1648 : BitVec 32 := Scalar.remsi v1635 c64_i32_986
  let c0_i32_991 : BitVec 32 := 0#32
  let v1649 : BitVec 1 := Scalar.cmpi .ne v1648 c0_i32_991
  let v1650 : BitVec 1 := Scalar.andi v1647 v1649
  let v1636 : BitVec 32 := Scalar.divsi v1635 c64_i32_986
  let c1_i32_992 : BitVec 32 := 1#32
  let v1651 : BitVec 32 := Scalar.subi v1636 c1_i32_992
  let v1652 : BitVec 32 := Scalar.select v1650 v1651 v1636
  let c0_i32_1007 : BitVec 32 := 0#32
  let c64_i32_993 : BitVec 32 := 64#32
  let v1653 : BitVec 32 := Scalar.muli v1652 c64_i32_993
  let v1654 : BitVec 32 := Scalar.subi v1635 v1653
  let c0_i32_1008 : BitVec 32 := 0#32
  let c0_i32_1009 : BitVec 32 := 0#32
  ![0, v1652.toNat, 0, v1654.toNat, 0, 0]
def k0_off4 (i : grid0.Coords) : Fin 2 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c2_i32_985 : BitVec 32 := 2#32
  let v1635 : BitVec 32 := Scalar.addi v1 c2_i32_985
  let c3_i32_994 : BitVec 32 := 3#32
  let c0_i32_995 : BitVec 32 := 0#32
  let v1655 : BitVec 1 := Scalar.cmpi .eq c3_i32_994 c0_i32_995
  let c1_i32_996 : BitVec 32 := 1#32
  let v1656 : BitVec 32 := Scalar.select v1655 c1_i32_996 c3_i32_994
  let v1657 : BitVec 32 := Scalar.remsi v1635 v1656
  let c0_i32_998 : BitVec 32 := 0#32
  let v1659 : BitVec 1 := Scalar.cmpi .slt v1657 c0_i32_998
  let c0_i32_999 : BitVec 32 := 0#32
  let v1660 : BitVec 1 := Scalar.cmpi .slt v1656 c0_i32_999
  let v1661 : BitVec 1 := Scalar.xori v1659 v1660
  let c0_i32_997 : BitVec 32 := 0#32
  let v1658 : BitVec 1 := Scalar.cmpi .ne v1657 c0_i32_997
  let v1662 : BitVec 1 := Scalar.andi v1661 v1658
  let v1663 : BitVec 32 := Scalar.addi v1657 v1656
  let v1664 : BitVec 32 := Scalar.select v1662 v1663 v1657
  let c1_i32_1012 : BitVec 32 := 1#32
  ![v1664.toNat, 1]
def k0_off5 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c2_i32_985 : BitVec 32 := 2#32
  let v1635 : BitVec 32 := Scalar.addi v1 c2_i32_985
  let c3_i32_994 : BitVec 32 := 3#32
  let c0_i32_995 : BitVec 32 := 0#32
  let v1655 : BitVec 1 := Scalar.cmpi .eq c3_i32_994 c0_i32_995
  let c1_i32_996 : BitVec 32 := 1#32
  let v1656 : BitVec 32 := Scalar.select v1655 c1_i32_996 c3_i32_994
  let v1657 : BitVec 32 := Scalar.remsi v1635 v1656
  let c0_i32_998 : BitVec 32 := 0#32
  let v1659 : BitVec 1 := Scalar.cmpi .slt v1657 c0_i32_998
  let c0_i32_999 : BitVec 32 := 0#32
  let v1660 : BitVec 1 := Scalar.cmpi .slt v1656 c0_i32_999
  let v1661 : BitVec 1 := Scalar.xori v1659 v1660
  let c0_i32_997 : BitVec 32 := 0#32
  let v1658 : BitVec 1 := Scalar.cmpi .ne v1657 c0_i32_997
  let v1662 : BitVec 1 := Scalar.andi v1661 v1658
  let v1663 : BitVec 32 := Scalar.addi v1657 v1656
  let v1664 : BitVec 32 := Scalar.select v1662 v1663 v1657
  let c1_i32_1011 : BitVec 32 := 1#32
  let c0_i32_1013 : BitVec 32 := 0#32
  let c0_i32_1014 : BitVec 32 := 0#32
  let c0_i32_1015 : BitVec 32 := 0#32
  ![v1664.toNat, 1, 0, 0, 0]
def k0_off6 (i : grid0.Coords) : Fin 6 → Nat :=
  let c1_i32_1010 : BitVec 32 := 1#32
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c2_i32_985 : BitVec 32 := 2#32
  let v1635 : BitVec 32 := Scalar.addi v1 c2_i32_985
  let c0_i32_987 : BitVec 32 := 0#32
  let v1637 : BitVec 1 := Scalar.cmpi .sgt v1635 c0_i32_987
  let v1638 : BitVec 32 := Scalar.extui v1637
  let c0_i32_988 : BitVec 32 := 0#32
  let v1639 : BitVec 1 := Scalar.cmpi .slt v1635 c0_i32_988
  let v1640 : BitVec 32 := Scalar.extui v1639
  let v1641 : BitVec 32 := Scalar.subi v1638 v1640
  let c64_i32_986 : BitVec 32 := 64#32
  let c0_i32_989 : BitVec 32 := 0#32
  let v1642 : BitVec 1 := Scalar.cmpi .sgt c64_i32_986 c0_i32_989
  let v1643 : BitVec 32 := Scalar.extui v1642
  let c0_i32_990 : BitVec 32 := 0#32
  let v1644 : BitVec 1 := Scalar.cmpi .slt c64_i32_986 c0_i32_990
  let v1645 : BitVec 32 := Scalar.extui v1644
  let v1646 : BitVec 32 := Scalar.subi v1643 v1645
  let v1647 : BitVec 1 := Scalar.cmpi .ne v1641 v1646
  let v1648 : BitVec 32 := Scalar.remsi v1635 c64_i32_986
  let c0_i32_991 : BitVec 32 := 0#32
  let v1649 : BitVec 1 := Scalar.cmpi .ne v1648 c0_i32_991
  let v1650 : BitVec 1 := Scalar.andi v1647 v1649
  let v1636 : BitVec 32 := Scalar.divsi v1635 c64_i32_986
  let c1_i32_992 : BitVec 32 := 1#32
  let v1651 : BitVec 32 := Scalar.subi v1636 c1_i32_992
  let v1652 : BitVec 32 := Scalar.select v1650 v1651 v1636
  let c0_i32_1016 : BitVec 32 := 0#32
  let c63_i32_1000 : BitVec 32 := 63#32
  let c64_i32_993 : BitVec 32 := 64#32
  let v1653 : BitVec 32 := Scalar.muli v1652 c64_i32_993
  let v1654 : BitVec 32 := Scalar.subi v1635 v1653
  let v1665 : BitVec 32 := Scalar.subi c63_i32_1000 v1654
  let c0_i32_1017 : BitVec 32 := 0#32
  let c0_i32_1018 : BitVec 32 := 0#32
  ![1, v1652.toNat, 0, v1665.toNat, 0, 0]
def k0_off7 (i : grid0.Coords) : Fin 2 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32 : BitVec 32 := 3#32
  let c0_i32_9 : BitVec 32 := 0#32
  let v28 : BitVec 1 := Scalar.cmpi .eq c3_i32 c0_i32_9
  let c1_i32_10 : BitVec 32 := 1#32
  let v29 : BitVec 32 := Scalar.select v28 c1_i32_10 c3_i32
  let v30 : BitVec 32 := Scalar.remsi v1 v29
  let c0_i32_12 : BitVec 32 := 0#32
  let v32 : BitVec 1 := Scalar.cmpi .slt v30 c0_i32_12
  let c0_i32_13 : BitVec 32 := 0#32
  let v33 : BitVec 1 := Scalar.cmpi .slt v29 c0_i32_13
  let v34 : BitVec 1 := Scalar.xori v32 v33
  let c0_i32_11 : BitVec 32 := 0#32
  let v31 : BitVec 1 := Scalar.cmpi .ne v30 c0_i32_11
  let v35 : BitVec 1 := Scalar.andi v34 v31
  let v36 : BitVec 32 := Scalar.addi v30 v29
  let v37 : BitVec 32 := Scalar.select v35 v36 v30
  let c0_i32_16 : BitVec 32 := 0#32
  ![v37.toNat, 0]
def k0_off8 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32 : BitVec 32 := 3#32
  let c0_i32_9 : BitVec 32 := 0#32
  let v28 : BitVec 1 := Scalar.cmpi .eq c3_i32 c0_i32_9
  let c1_i32_10 : BitVec 32 := 1#32
  let v29 : BitVec 32 := Scalar.select v28 c1_i32_10 c3_i32
  let v30 : BitVec 32 := Scalar.remsi v1 v29
  let c0_i32_12 : BitVec 32 := 0#32
  let v32 : BitVec 1 := Scalar.cmpi .slt v30 c0_i32_12
  let c0_i32_13 : BitVec 32 := 0#32
  let v33 : BitVec 1 := Scalar.cmpi .slt v29 c0_i32_13
  let v34 : BitVec 1 := Scalar.xori v32 v33
  let c0_i32_11 : BitVec 32 := 0#32
  let v31 : BitVec 1 := Scalar.cmpi .ne v30 c0_i32_11
  let v35 : BitVec 1 := Scalar.andi v34 v31
  let v36 : BitVec 32 := Scalar.addi v30 v29
  let v37 : BitVec 32 := Scalar.select v35 v36 v30
  let c0_i32_15 : BitVec 32 := 0#32
  let c0_i32_17 : BitVec 32 := 0#32
  let c0_i32_18 : BitVec 32 := 0#32
  let c0_i32_19 : BitVec 32 := 0#32
  ![v37.toNat, 0, 0, 0, 0]
def k0_off9 (i : grid0.Coords) : Fin 6 → Nat :=
  let c0_i32_14 : BitVec 32 := 0#32
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c0_i32_3 : BitVec 32 := 0#32
  let v10 : BitVec 1 := Scalar.cmpi .sgt v1 c0_i32_3
  let v11 : BitVec 32 := Scalar.extui v10
  let c0_i32_4 : BitVec 32 := 0#32
  let v12 : BitVec 1 := Scalar.cmpi .slt v1 c0_i32_4
  let v13 : BitVec 32 := Scalar.extui v12
  let v14 : BitVec 32 := Scalar.subi v11 v13
  let c64_i32_2 : BitVec 32 := 64#32
  let c0_i32_5 : BitVec 32 := 0#32
  let v15 : BitVec 1 := Scalar.cmpi .sgt c64_i32_2 c0_i32_5
  let v16 : BitVec 32 := Scalar.extui v15
  let c0_i32_6 : BitVec 32 := 0#32
  let v17 : BitVec 1 := Scalar.cmpi .slt c64_i32_2 c0_i32_6
  let v18 : BitVec 32 := Scalar.extui v17
  let v19 : BitVec 32 := Scalar.subi v16 v18
  let v20 : BitVec 1 := Scalar.cmpi .ne v14 v19
  let v21 : BitVec 32 := Scalar.remsi v1 c64_i32_2
  let c0_i32_7 : BitVec 32 := 0#32
  let v22 : BitVec 1 := Scalar.cmpi .ne v21 c0_i32_7
  let v23 : BitVec 1 := Scalar.andi v20 v22
  let v9 : BitVec 32 := Scalar.divsi v1 c64_i32_2
  let c1_i32 : BitVec 32 := 1#32
  let v24 : BitVec 32 := Scalar.subi v9 c1_i32
  let v25 : BitVec 32 := Scalar.select v23 v24 v9
  let c0_i32_20 : BitVec 32 := 0#32
  let c64_i32_8 : BitVec 32 := 64#32
  let v26 : BitVec 32 := Scalar.muli v25 c64_i32_8
  let v27 : BitVec 32 := Scalar.subi v1 v26
  let c0_i32_21 : BitVec 32 := 0#32
  let c0_i32_22 : BitVec 32 := 0#32
  ![0, v25.toNat, 0, v27.toNat, 0, 0]
def k0_off10 (i : grid0.Coords) : Fin 2 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32 : BitVec 32 := 3#32
  let c0_i32_9 : BitVec 32 := 0#32
  let v28 : BitVec 1 := Scalar.cmpi .eq c3_i32 c0_i32_9
  let c1_i32_10 : BitVec 32 := 1#32
  let v29 : BitVec 32 := Scalar.select v28 c1_i32_10 c3_i32
  let v30 : BitVec 32 := Scalar.remsi v1 v29
  let c0_i32_12 : BitVec 32 := 0#32
  let v32 : BitVec 1 := Scalar.cmpi .slt v30 c0_i32_12
  let c0_i32_13 : BitVec 32 := 0#32
  let v33 : BitVec 1 := Scalar.cmpi .slt v29 c0_i32_13
  let v34 : BitVec 1 := Scalar.xori v32 v33
  let c0_i32_11 : BitVec 32 := 0#32
  let v31 : BitVec 1 := Scalar.cmpi .ne v30 c0_i32_11
  let v35 : BitVec 1 := Scalar.andi v34 v31
  let v36 : BitVec 32 := Scalar.addi v30 v29
  let v37 : BitVec 32 := Scalar.select v35 v36 v30
  let c1_i32_25 : BitVec 32 := 1#32
  ![v37.toNat, 1]
def k0_off11 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32 : BitVec 32 := 3#32
  let c0_i32_9 : BitVec 32 := 0#32
  let v28 : BitVec 1 := Scalar.cmpi .eq c3_i32 c0_i32_9
  let c1_i32_10 : BitVec 32 := 1#32
  let v29 : BitVec 32 := Scalar.select v28 c1_i32_10 c3_i32
  let v30 : BitVec 32 := Scalar.remsi v1 v29
  let c0_i32_12 : BitVec 32 := 0#32
  let v32 : BitVec 1 := Scalar.cmpi .slt v30 c0_i32_12
  let c0_i32_13 : BitVec 32 := 0#32
  let v33 : BitVec 1 := Scalar.cmpi .slt v29 c0_i32_13
  let v34 : BitVec 1 := Scalar.xori v32 v33
  let c0_i32_11 : BitVec 32 := 0#32
  let v31 : BitVec 1 := Scalar.cmpi .ne v30 c0_i32_11
  let v35 : BitVec 1 := Scalar.andi v34 v31
  let v36 : BitVec 32 := Scalar.addi v30 v29
  let v37 : BitVec 32 := Scalar.select v35 v36 v30
  let c1_i32_24 : BitVec 32 := 1#32
  let c0_i32_26 : BitVec 32 := 0#32
  let c0_i32_27 : BitVec 32 := 0#32
  let c0_i32_28 : BitVec 32 := 0#32
  ![v37.toNat, 1, 0, 0, 0]
def k0_off12 (i : grid0.Coords) : Fin 6 → Nat :=
  let c1_i32_23 : BitVec 32 := 1#32
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c0_i32_3 : BitVec 32 := 0#32
  let v10 : BitVec 1 := Scalar.cmpi .sgt v1 c0_i32_3
  let v11 : BitVec 32 := Scalar.extui v10
  let c0_i32_4 : BitVec 32 := 0#32
  let v12 : BitVec 1 := Scalar.cmpi .slt v1 c0_i32_4
  let v13 : BitVec 32 := Scalar.extui v12
  let v14 : BitVec 32 := Scalar.subi v11 v13
  let c64_i32_2 : BitVec 32 := 64#32
  let c0_i32_5 : BitVec 32 := 0#32
  let v15 : BitVec 1 := Scalar.cmpi .sgt c64_i32_2 c0_i32_5
  let v16 : BitVec 32 := Scalar.extui v15
  let c0_i32_6 : BitVec 32 := 0#32
  let v17 : BitVec 1 := Scalar.cmpi .slt c64_i32_2 c0_i32_6
  let v18 : BitVec 32 := Scalar.extui v17
  let v19 : BitVec 32 := Scalar.subi v16 v18
  let v20 : BitVec 1 := Scalar.cmpi .ne v14 v19
  let v21 : BitVec 32 := Scalar.remsi v1 c64_i32_2
  let c0_i32_7 : BitVec 32 := 0#32
  let v22 : BitVec 1 := Scalar.cmpi .ne v21 c0_i32_7
  let v23 : BitVec 1 := Scalar.andi v20 v22
  let v9 : BitVec 32 := Scalar.divsi v1 c64_i32_2
  let c1_i32 : BitVec 32 := 1#32
  let v24 : BitVec 32 := Scalar.subi v9 c1_i32
  let v25 : BitVec 32 := Scalar.select v23 v24 v9
  let c0_i32_29 : BitVec 32 := 0#32
  let c63_i32 : BitVec 32 := 63#32
  let c64_i32_8 : BitVec 32 := 64#32
  let v26 : BitVec 32 := Scalar.muli v25 c64_i32_8
  let v27 : BitVec 32 := Scalar.subi v1 v26
  let v38 : BitVec 32 := Scalar.subi c63_i32 v27
  let c0_i32_30 : BitVec 32 := 0#32
  let c0_i32_31 : BitVec 32 := 0#32
  ![1, v25.toNat, 0, v38.toNat, 0, 0]
def k0_off13 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v67 : Index := Scalar.indexCast v63
  let c0 : Index := 0#32
  let c0_42 : Index := 0#32
  let c192 : Index := 192#32
  let c0_43 : Index := 0#32
  ![v67.toNat, 0, 0, 192, 0]
def k0_off14 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v70 : Index := Scalar.indexCast v63
  let c0_44 : Index := 0#32
  let c0_45 : Index := 0#32
  let c192_46 : Index := 192#32
  let c128 : Index := 128#32
  ![v70.toNat, 0, 0, 192, 128]
def k0_off15 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v74 : Index := Scalar.indexCast v63
  let c0_47 : Index := 0#32
  let c0_48 : Index := 0#32
  let c0_49 : Index := 0#32
  let c0_50 : Index := 0#32
  ![v74.toNat, 0, 0, 0, 0]
def k0_off16 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v77 : Index := Scalar.indexCast v63
  let c0_51 : Index := 0#32
  let c0_52 : Index := 0#32
  let c128_53 : Index := 128#32
  let c0_54 : Index := 0#32
  ![v77.toNat, 0, 0, 128, 0]
def k0_off17 (i : grid0.Coords) : Fin 5 → Nat :=
  let c0_55 : Index := 0#32
  let c0_56 : Index := 0#32
  let c0_57 : Index := 0#32
  let arg1 : BitVec 32 := BitVec.ofNat 32 (i 1).val
  let v80 : Index := Scalar.indexCast arg1
  let c0_58 : Index := 0#32
  ![0, 0, 0, v80.toNat, 0]
def k0_off18 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v85 : Index := Scalar.indexCast v63
  let c0_62 : Index := 0#32
  let c1 : Index := 1#32
  let c192_63 : Index := 192#32
  let c0_64 : Index := 0#32
  ![v85.toNat, 0, 1, 192, 0]
def k0_off19 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v88 : Index := Scalar.indexCast v63
  let c0_65 : Index := 0#32
  let c1_66 : Index := 1#32
  let c192_67 : Index := 192#32
  let c128_68 : Index := 128#32
  ![v88.toNat, 0, 1, 192, 128]
def k0_off20 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v92 : Index := Scalar.indexCast v63
  let c0_69 : Index := 0#32
  let c1_70 : Index := 1#32
  let c0_71 : Index := 0#32
  let c0_72 : Index := 0#32
  ![v92.toNat, 0, 1, 0, 0]
def k0_off21 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v95 : Index := Scalar.indexCast v63
  let c0_73 : Index := 0#32
  let c1_74 : Index := 1#32
  let c128_75 : Index := 128#32
  let c0_76 : Index := 0#32
  ![v95.toNat, 0, 1, 128, 0]
def k0_off22 (i : grid0.Coords) : Fin 5 → Nat :=
  let c0_77 : Index := 0#32
  let c0_78 : Index := 0#32
  let c1_79 : Index := 1#32
  let arg1 : BitVec 32 := BitVec.ofNat 32 (i 1).val
  let v98 : Index := Scalar.indexCast arg1
  let c0_80 : Index := 0#32
  ![0, 0, 1, v98.toNat, 0]
def k0_off23 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v103 : Index := Scalar.indexCast v63
  let c0_84 : Index := 0#32
  let c2 : Index := 2#32
  let c192_85 : Index := 192#32
  let c0_86 : Index := 0#32
  ![v103.toNat, 0, 2, 192, 0]
def k0_off24 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v106 : Index := Scalar.indexCast v63
  let c0_87 : Index := 0#32
  let c2_88 : Index := 2#32
  let c192_89 : Index := 192#32
  let c128_90 : Index := 128#32
  ![v106.toNat, 0, 2, 192, 128]
def k0_off25 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v110 : Index := Scalar.indexCast v63
  let c0_91 : Index := 0#32
  let c2_92 : Index := 2#32
  let c0_93 : Index := 0#32
  let c0_94 : Index := 0#32
  ![v110.toNat, 0, 2, 0, 0]
def k0_off26 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v113 : Index := Scalar.indexCast v63
  let c0_95 : Index := 0#32
  let c2_96 : Index := 2#32
  let c128_97 : Index := 128#32
  let c0_98 : Index := 0#32
  ![v113.toNat, 0, 2, 128, 0]
def k0_off27 (i : grid0.Coords) : Fin 5 → Nat :=
  let c0_99 : Index := 0#32
  let c0_100 : Index := 0#32
  let c2_101 : Index := 2#32
  let arg1 : BitVec 32 := BitVec.ofNat 32 (i 1).val
  let v116 : Index := Scalar.indexCast arg1
  let c0_102 : Index := 0#32
  ![0, 0, 2, v116.toNat, 0]
def k0_off28 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v121 : Index := Scalar.indexCast v63
  let c0_106 : Index := 0#32
  let c3 : Index := 3#32
  let c192_107 : Index := 192#32
  let c0_108 : Index := 0#32
  ![v121.toNat, 0, 3, 192, 0]
def k0_off29 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v124 : Index := Scalar.indexCast v63
  let c0_109 : Index := 0#32
  let c3_110 : Index := 3#32
  let c192_111 : Index := 192#32
  let c128_112 : Index := 128#32
  ![v124.toNat, 0, 3, 192, 128]
def k0_off30 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v128 : Index := Scalar.indexCast v63
  let c0_113 : Index := 0#32
  let c3_114 : Index := 3#32
  let c0_115 : Index := 0#32
  let c0_116 : Index := 0#32
  ![v128.toNat, 0, 3, 0, 0]
def k0_off31 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v131 : Index := Scalar.indexCast v63
  let c0_117 : Index := 0#32
  let c3_118 : Index := 3#32
  let c128_119 : Index := 128#32
  let c0_120 : Index := 0#32
  ![v131.toNat, 0, 3, 128, 0]
def k0_off32 (i : grid0.Coords) : Fin 5 → Nat :=
  let c0_121 : Index := 0#32
  let c0_122 : Index := 0#32
  let c3_123 : Index := 3#32
  let arg1 : BitVec 32 := BitVec.ofNat 32 (i 1).val
  let v134 : Index := Scalar.indexCast arg1
  let c0_124 : Index := 0#32
  ![0, 0, 3, v134.toNat, 0]
def k0_off33 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v139 : Index := Scalar.indexCast v63
  let c0_128 : Index := 0#32
  let c4 : Index := 4#32
  let c192_129 : Index := 192#32
  let c0_130 : Index := 0#32
  ![v139.toNat, 0, 4, 192, 0]
def k0_off34 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v142 : Index := Scalar.indexCast v63
  let c0_131 : Index := 0#32
  let c4_132 : Index := 4#32
  let c192_133 : Index := 192#32
  let c128_134 : Index := 128#32
  ![v142.toNat, 0, 4, 192, 128]
def k0_off35 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v146 : Index := Scalar.indexCast v63
  let c0_135 : Index := 0#32
  let c4_136 : Index := 4#32
  let c0_137 : Index := 0#32
  let c0_138 : Index := 0#32
  ![v146.toNat, 0, 4, 0, 0]
def k0_off36 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v149 : Index := Scalar.indexCast v63
  let c0_139 : Index := 0#32
  let c4_140 : Index := 4#32
  let c128_141 : Index := 128#32
  let c0_142 : Index := 0#32
  ![v149.toNat, 0, 4, 128, 0]
def k0_off37 (i : grid0.Coords) : Fin 5 → Nat :=
  let c0_143 : Index := 0#32
  let c0_144 : Index := 0#32
  let c4_145 : Index := 4#32
  let arg1 : BitVec 32 := BitVec.ofNat 32 (i 1).val
  let v152 : Index := Scalar.indexCast arg1
  let c0_146 : Index := 0#32
  ![0, 0, 4, v152.toNat, 0]
def k0_off38 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v157 : Index := Scalar.indexCast v63
  let c0_150 : Index := 0#32
  let c5 : Index := 5#32
  let c192_151 : Index := 192#32
  let c0_152 : Index := 0#32
  ![v157.toNat, 0, 5, 192, 0]
def k0_off39 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v160 : Index := Scalar.indexCast v63
  let c0_153 : Index := 0#32
  let c5_154 : Index := 5#32
  let c192_155 : Index := 192#32
  let c128_156 : Index := 128#32
  ![v160.toNat, 0, 5, 192, 128]
def k0_off40 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v164 : Index := Scalar.indexCast v63
  let c0_157 : Index := 0#32
  let c5_158 : Index := 5#32
  let c0_159 : Index := 0#32
  let c0_160 : Index := 0#32
  ![v164.toNat, 0, 5, 0, 0]
def k0_off41 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v167 : Index := Scalar.indexCast v63
  let c0_161 : Index := 0#32
  let c5_162 : Index := 5#32
  let c128_163 : Index := 128#32
  let c0_164 : Index := 0#32
  ![v167.toNat, 0, 5, 128, 0]
def k0_off42 (i : grid0.Coords) : Fin 5 → Nat :=
  let c0_165 : Index := 0#32
  let c0_166 : Index := 0#32
  let c5_167 : Index := 5#32
  let arg1 : BitVec 32 := BitVec.ofNat 32 (i 1).val
  let v170 : Index := Scalar.indexCast arg1
  let c0_168 : Index := 0#32
  ![0, 0, 5, v170.toNat, 0]
def k0_off43 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v175 : Index := Scalar.indexCast v63
  let c0_172 : Index := 0#32
  let c6 : Index := 6#32
  let c192_173 : Index := 192#32
  let c0_174 : Index := 0#32
  ![v175.toNat, 0, 6, 192, 0]
def k0_off44 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v178 : Index := Scalar.indexCast v63
  let c0_175 : Index := 0#32
  let c6_176 : Index := 6#32
  let c192_177 : Index := 192#32
  let c128_178 : Index := 128#32
  ![v178.toNat, 0, 6, 192, 128]
def k0_off45 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v182 : Index := Scalar.indexCast v63
  let c0_179 : Index := 0#32
  let c6_180 : Index := 6#32
  let c0_181 : Index := 0#32
  let c0_182 : Index := 0#32
  ![v182.toNat, 0, 6, 0, 0]
def k0_off46 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v185 : Index := Scalar.indexCast v63
  let c0_183 : Index := 0#32
  let c6_184 : Index := 6#32
  let c128_185 : Index := 128#32
  let c0_186 : Index := 0#32
  ![v185.toNat, 0, 6, 128, 0]
def k0_off47 (i : grid0.Coords) : Fin 5 → Nat :=
  let c0_187 : Index := 0#32
  let c0_188 : Index := 0#32
  let c6_189 : Index := 6#32
  let arg1 : BitVec 32 := BitVec.ofNat 32 (i 1).val
  let v188 : Index := Scalar.indexCast arg1
  let c0_190 : Index := 0#32
  ![0, 0, 6, v188.toNat, 0]
def k0_off48 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v193 : Index := Scalar.indexCast v63
  let c0_194 : Index := 0#32
  let c7 : Index := 7#32
  let c192_195 : Index := 192#32
  let c0_196 : Index := 0#32
  ![v193.toNat, 0, 7, 192, 0]
def k0_off49 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v196 : Index := Scalar.indexCast v63
  let c0_197 : Index := 0#32
  let c7_198 : Index := 7#32
  let c192_199 : Index := 192#32
  let c128_200 : Index := 128#32
  ![v196.toNat, 0, 7, 192, 128]
def k0_off50 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v200 : Index := Scalar.indexCast v63
  let c0_201 : Index := 0#32
  let c7_202 : Index := 7#32
  let c0_203 : Index := 0#32
  let c0_204 : Index := 0#32
  ![v200.toNat, 0, 7, 0, 0]
def k0_off51 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v203 : Index := Scalar.indexCast v63
  let c0_205 : Index := 0#32
  let c7_206 : Index := 7#32
  let c128_207 : Index := 128#32
  let c0_208 : Index := 0#32
  ![v203.toNat, 0, 7, 128, 0]
def k0_off52 (i : grid0.Coords) : Fin 5 → Nat :=
  let c0_209 : Index := 0#32
  let c0_210 : Index := 0#32
  let c7_211 : Index := 7#32
  let arg1 : BitVec 32 := BitVec.ofNat 32 (i 1).val
  let v206 : Index := Scalar.indexCast arg1
  let c0_212 : Index := 0#32
  ![0, 0, 7, v206.toNat, 0]
def k0_off53 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v211 : Index := Scalar.indexCast v63
  let c0_216 : Index := 0#32
  let c8 : Index := 8#32
  let c192_217 : Index := 192#32
  let c0_218 : Index := 0#32
  ![v211.toNat, 0, 8, 192, 0]
def k0_off54 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v214 : Index := Scalar.indexCast v63
  let c0_219 : Index := 0#32
  let c8_220 : Index := 8#32
  let c192_221 : Index := 192#32
  let c128_222 : Index := 128#32
  ![v214.toNat, 0, 8, 192, 128]
def k0_off55 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v218 : Index := Scalar.indexCast v63
  let c0_223 : Index := 0#32
  let c8_224 : Index := 8#32
  let c0_225 : Index := 0#32
  let c0_226 : Index := 0#32
  ![v218.toNat, 0, 8, 0, 0]
def k0_off56 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v221 : Index := Scalar.indexCast v63
  let c0_227 : Index := 0#32
  let c8_228 : Index := 8#32
  let c128_229 : Index := 128#32
  let c0_230 : Index := 0#32
  ![v221.toNat, 0, 8, 128, 0]
def k0_off57 (i : grid0.Coords) : Fin 5 → Nat :=
  let c0_231 : Index := 0#32
  let c0_232 : Index := 0#32
  let c8_233 : Index := 8#32
  let arg1 : BitVec 32 := BitVec.ofNat 32 (i 1).val
  let v224 : Index := Scalar.indexCast arg1
  let c0_234 : Index := 0#32
  ![0, 0, 8, v224.toNat, 0]
def k0_off58 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v229 : Index := Scalar.indexCast v63
  let c0_238 : Index := 0#32
  let c9 : Index := 9#32
  let c192_239 : Index := 192#32
  let c0_240 : Index := 0#32
  ![v229.toNat, 0, 9, 192, 0]
def k0_off59 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v232 : Index := Scalar.indexCast v63
  let c0_241 : Index := 0#32
  let c9_242 : Index := 9#32
  let c192_243 : Index := 192#32
  let c128_244 : Index := 128#32
  ![v232.toNat, 0, 9, 192, 128]
def k0_off60 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v236 : Index := Scalar.indexCast v63
  let c0_245 : Index := 0#32
  let c9_246 : Index := 9#32
  let c0_247 : Index := 0#32
  let c0_248 : Index := 0#32
  ![v236.toNat, 0, 9, 0, 0]
def k0_off61 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v239 : Index := Scalar.indexCast v63
  let c0_249 : Index := 0#32
  let c9_250 : Index := 9#32
  let c128_251 : Index := 128#32
  let c0_252 : Index := 0#32
  ![v239.toNat, 0, 9, 128, 0]
def k0_off62 (i : grid0.Coords) : Fin 5 → Nat :=
  let c0_253 : Index := 0#32
  let c0_254 : Index := 0#32
  let c9_255 : Index := 9#32
  let arg1 : BitVec 32 := BitVec.ofNat 32 (i 1).val
  let v242 : Index := Scalar.indexCast arg1
  let c0_256 : Index := 0#32
  ![0, 0, 9, v242.toNat, 0]
def k0_off63 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v247 : Index := Scalar.indexCast v63
  let c0_260 : Index := 0#32
  let c10 : Index := 10#32
  let c192_261 : Index := 192#32
  let c0_262 : Index := 0#32
  ![v247.toNat, 0, 10, 192, 0]
def k0_off64 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v250 : Index := Scalar.indexCast v63
  let c0_263 : Index := 0#32
  let c10_264 : Index := 10#32
  let c192_265 : Index := 192#32
  let c128_266 : Index := 128#32
  ![v250.toNat, 0, 10, 192, 128]
def k0_off65 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v254 : Index := Scalar.indexCast v63
  let c0_267 : Index := 0#32
  let c10_268 : Index := 10#32
  let c0_269 : Index := 0#32
  let c0_270 : Index := 0#32
  ![v254.toNat, 0, 10, 0, 0]
def k0_off66 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v257 : Index := Scalar.indexCast v63
  let c0_271 : Index := 0#32
  let c10_272 : Index := 10#32
  let c128_273 : Index := 128#32
  let c0_274 : Index := 0#32
  ![v257.toNat, 0, 10, 128, 0]
def k0_off67 (i : grid0.Coords) : Fin 5 → Nat :=
  let c0_275 : Index := 0#32
  let c0_276 : Index := 0#32
  let c10_277 : Index := 10#32
  let arg1 : BitVec 32 := BitVec.ofNat 32 (i 1).val
  let v260 : Index := Scalar.indexCast arg1
  let c0_278 : Index := 0#32
  ![0, 0, 10, v260.toNat, 0]
def k0_off68 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v265 : Index := Scalar.indexCast v63
  let c0_282 : Index := 0#32
  let c11 : Index := 11#32
  let c192_283 : Index := 192#32
  let c0_284 : Index := 0#32
  ![v265.toNat, 0, 11, 192, 0]
def k0_off69 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v268 : Index := Scalar.indexCast v63
  let c0_285 : Index := 0#32
  let c11_286 : Index := 11#32
  let c192_287 : Index := 192#32
  let c128_288 : Index := 128#32
  ![v268.toNat, 0, 11, 192, 128]
def k0_off70 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v272 : Index := Scalar.indexCast v63
  let c0_289 : Index := 0#32
  let c11_290 : Index := 11#32
  let c0_291 : Index := 0#32
  let c0_292 : Index := 0#32
  ![v272.toNat, 0, 11, 0, 0]
def k0_off71 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v275 : Index := Scalar.indexCast v63
  let c0_293 : Index := 0#32
  let c11_294 : Index := 11#32
  let c128_295 : Index := 128#32
  let c0_296 : Index := 0#32
  ![v275.toNat, 0, 11, 128, 0]
def k0_off72 (i : grid0.Coords) : Fin 5 → Nat :=
  let c0_297 : Index := 0#32
  let c0_298 : Index := 0#32
  let c11_299 : Index := 11#32
  let arg1 : BitVec 32 := BitVec.ofNat 32 (i 1).val
  let v278 : Index := Scalar.indexCast arg1
  let c0_300 : Index := 0#32
  ![0, 0, 11, v278.toNat, 0]
def k0_off73 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v283 : Index := Scalar.indexCast v63
  let c0_304 : Index := 0#32
  let c12 : Index := 12#32
  let c192_305 : Index := 192#32
  let c0_306 : Index := 0#32
  ![v283.toNat, 0, 12, 192, 0]
def k0_off74 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v286 : Index := Scalar.indexCast v63
  let c0_307 : Index := 0#32
  let c12_308 : Index := 12#32
  let c192_309 : Index := 192#32
  let c128_310 : Index := 128#32
  ![v286.toNat, 0, 12, 192, 128]
def k0_off75 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v290 : Index := Scalar.indexCast v63
  let c0_311 : Index := 0#32
  let c12_312 : Index := 12#32
  let c0_313 : Index := 0#32
  let c0_314 : Index := 0#32
  ![v290.toNat, 0, 12, 0, 0]
def k0_off76 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v293 : Index := Scalar.indexCast v63
  let c0_315 : Index := 0#32
  let c12_316 : Index := 12#32
  let c128_317 : Index := 128#32
  let c0_318 : Index := 0#32
  ![v293.toNat, 0, 12, 128, 0]
def k0_off77 (i : grid0.Coords) : Fin 5 → Nat :=
  let c0_319 : Index := 0#32
  let c0_320 : Index := 0#32
  let c12_321 : Index := 12#32
  let arg1 : BitVec 32 := BitVec.ofNat 32 (i 1).val
  let v296 : Index := Scalar.indexCast arg1
  let c0_322 : Index := 0#32
  ![0, 0, 12, v296.toNat, 0]
def k0_off78 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v301 : Index := Scalar.indexCast v63
  let c0_326 : Index := 0#32
  let c13 : Index := 13#32
  let c192_327 : Index := 192#32
  let c0_328 : Index := 0#32
  ![v301.toNat, 0, 13, 192, 0]
def k0_off79 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v304 : Index := Scalar.indexCast v63
  let c0_329 : Index := 0#32
  let c13_330 : Index := 13#32
  let c192_331 : Index := 192#32
  let c128_332 : Index := 128#32
  ![v304.toNat, 0, 13, 192, 128]
def k0_off80 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v308 : Index := Scalar.indexCast v63
  let c0_333 : Index := 0#32
  let c13_334 : Index := 13#32
  let c0_335 : Index := 0#32
  let c0_336 : Index := 0#32
  ![v308.toNat, 0, 13, 0, 0]
def k0_off81 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v311 : Index := Scalar.indexCast v63
  let c0_337 : Index := 0#32
  let c13_338 : Index := 13#32
  let c128_339 : Index := 128#32
  let c0_340 : Index := 0#32
  ![v311.toNat, 0, 13, 128, 0]
def k0_off82 (i : grid0.Coords) : Fin 5 → Nat :=
  let c0_341 : Index := 0#32
  let c0_342 : Index := 0#32
  let c13_343 : Index := 13#32
  let arg1 : BitVec 32 := BitVec.ofNat 32 (i 1).val
  let v314 : Index := Scalar.indexCast arg1
  let c0_344 : Index := 0#32
  ![0, 0, 13, v314.toNat, 0]
def k0_off83 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v319 : Index := Scalar.indexCast v63
  let c0_348 : Index := 0#32
  let c14 : Index := 14#32
  let c192_349 : Index := 192#32
  let c0_350 : Index := 0#32
  ![v319.toNat, 0, 14, 192, 0]
def k0_off84 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v322 : Index := Scalar.indexCast v63
  let c0_351 : Index := 0#32
  let c14_352 : Index := 14#32
  let c192_353 : Index := 192#32
  let c128_354 : Index := 128#32
  ![v322.toNat, 0, 14, 192, 128]
def k0_off85 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v326 : Index := Scalar.indexCast v63
  let c0_355 : Index := 0#32
  let c14_356 : Index := 14#32
  let c0_357 : Index := 0#32
  let c0_358 : Index := 0#32
  ![v326.toNat, 0, 14, 0, 0]
def k0_off86 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v329 : Index := Scalar.indexCast v63
  let c0_359 : Index := 0#32
  let c14_360 : Index := 14#32
  let c128_361 : Index := 128#32
  let c0_362 : Index := 0#32
  ![v329.toNat, 0, 14, 128, 0]
def k0_off87 (i : grid0.Coords) : Fin 5 → Nat :=
  let c0_363 : Index := 0#32
  let c0_364 : Index := 0#32
  let c14_365 : Index := 14#32
  let arg1 : BitVec 32 := BitVec.ofNat 32 (i 1).val
  let v332 : Index := Scalar.indexCast arg1
  let c0_366 : Index := 0#32
  ![0, 0, 14, v332.toNat, 0]
def k0_off88 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v337 : Index := Scalar.indexCast v63
  let c0_370 : Index := 0#32
  let c15 : Index := 15#32
  let c192_371 : Index := 192#32
  let c0_372 : Index := 0#32
  ![v337.toNat, 0, 15, 192, 0]
def k0_off89 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v340 : Index := Scalar.indexCast v63
  let c0_373 : Index := 0#32
  let c15_374 : Index := 15#32
  let c192_375 : Index := 192#32
  let c128_376 : Index := 128#32
  ![v340.toNat, 0, 15, 192, 128]
def k0_off90 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v344 : Index := Scalar.indexCast v63
  let c0_377 : Index := 0#32
  let c15_378 : Index := 15#32
  let c0_379 : Index := 0#32
  let c0_380 : Index := 0#32
  ![v344.toNat, 0, 15, 0, 0]
def k0_off91 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v347 : Index := Scalar.indexCast v63
  let c0_381 : Index := 0#32
  let c15_382 : Index := 15#32
  let c128_383 : Index := 128#32
  let c0_384 : Index := 0#32
  ![v347.toNat, 0, 15, 128, 0]
def k0_off92 (i : grid0.Coords) : Fin 5 → Nat :=
  let c0_385 : Index := 0#32
  let c0_386 : Index := 0#32
  let c15_387 : Index := 15#32
  let arg1 : BitVec 32 := BitVec.ofNat 32 (i 1).val
  let v350 : Index := Scalar.indexCast arg1
  let c0_388 : Index := 0#32
  ![0, 0, 15, v350.toNat, 0]
def k0_off93 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v355 : Index := Scalar.indexCast v63
  let c1_392 : Index := 1#32
  let c0_393 : Index := 0#32
  let c192_394 : Index := 192#32
  let c0_395 : Index := 0#32
  ![v355.toNat, 1, 0, 192, 0]
def k0_off94 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v358 : Index := Scalar.indexCast v63
  let c1_396 : Index := 1#32
  let c0_397 : Index := 0#32
  let c192_398 : Index := 192#32
  let c128_399 : Index := 128#32
  ![v358.toNat, 1, 0, 192, 128]
def k0_off95 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v362 : Index := Scalar.indexCast v63
  let c1_400 : Index := 1#32
  let c0_401 : Index := 0#32
  let c0_402 : Index := 0#32
  let c0_403 : Index := 0#32
  ![v362.toNat, 1, 0, 0, 0]
def k0_off96 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v365 : Index := Scalar.indexCast v63
  let c1_404 : Index := 1#32
  let c0_405 : Index := 0#32
  let c128_406 : Index := 128#32
  let c0_407 : Index := 0#32
  ![v365.toNat, 1, 0, 128, 0]
def k0_off97 (i : grid0.Coords) : Fin 5 → Nat :=
  let c0_408 : Index := 0#32
  let c0_409 : Index := 0#32
  let c0_410 : Index := 0#32
  let c63_i32_41 : BitVec 32 := 63#32
  let arg1 : BitVec 32 := BitVec.ofNat 32 (i 1).val
  let v66 : BitVec 32 := Scalar.subi c63_i32_41 arg1
  let v368 : Index := Scalar.indexCast v66
  let c0_411 : Index := 0#32
  ![0, 0, 0, v368.toNat, 0]
def k0_off98 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v373 : Index := Scalar.indexCast v63
  let c1_414 : Index := 1#32
  let c1_415 : Index := 1#32
  let c192_416 : Index := 192#32
  let c0_417 : Index := 0#32
  ![v373.toNat, 1, 1, 192, 0]
def k0_off99 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v376 : Index := Scalar.indexCast v63
  let c1_418 : Index := 1#32
  let c1_419 : Index := 1#32
  let c192_420 : Index := 192#32
  let c128_421 : Index := 128#32
  ![v376.toNat, 1, 1, 192, 128]
def k0_off100 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v380 : Index := Scalar.indexCast v63
  let c1_422 : Index := 1#32
  let c1_423 : Index := 1#32
  let c0_424 : Index := 0#32
  let c0_425 : Index := 0#32
  ![v380.toNat, 1, 1, 0, 0]
def k0_off101 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v383 : Index := Scalar.indexCast v63
  let c1_426 : Index := 1#32
  let c1_427 : Index := 1#32
  let c128_428 : Index := 128#32
  let c0_429 : Index := 0#32
  ![v383.toNat, 1, 1, 128, 0]
def k0_off102 (i : grid0.Coords) : Fin 5 → Nat :=
  let c0_430 : Index := 0#32
  let c0_431 : Index := 0#32
  let c1_432 : Index := 1#32
  let c63_i32_41 : BitVec 32 := 63#32
  let arg1 : BitVec 32 := BitVec.ofNat 32 (i 1).val
  let v66 : BitVec 32 := Scalar.subi c63_i32_41 arg1
  let v386 : Index := Scalar.indexCast v66
  let c0_433 : Index := 0#32
  ![0, 0, 1, v386.toNat, 0]
def k0_off103 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v391 : Index := Scalar.indexCast v63
  let c1_436 : Index := 1#32
  let c2_437 : Index := 2#32
  let c192_438 : Index := 192#32
  let c0_439 : Index := 0#32
  ![v391.toNat, 1, 2, 192, 0]
def k0_off104 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v394 : Index := Scalar.indexCast v63
  let c1_440 : Index := 1#32
  let c2_441 : Index := 2#32
  let c192_442 : Index := 192#32
  let c128_443 : Index := 128#32
  ![v394.toNat, 1, 2, 192, 128]
def k0_off105 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v398 : Index := Scalar.indexCast v63
  let c1_444 : Index := 1#32
  let c2_445 : Index := 2#32
  let c0_446 : Index := 0#32
  let c0_447 : Index := 0#32
  ![v398.toNat, 1, 2, 0, 0]
def k0_off106 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v401 : Index := Scalar.indexCast v63
  let c1_448 : Index := 1#32
  let c2_449 : Index := 2#32
  let c128_450 : Index := 128#32
  let c0_451 : Index := 0#32
  ![v401.toNat, 1, 2, 128, 0]
def k0_off107 (i : grid0.Coords) : Fin 5 → Nat :=
  let c0_452 : Index := 0#32
  let c0_453 : Index := 0#32
  let c2_454 : Index := 2#32
  let c63_i32_41 : BitVec 32 := 63#32
  let arg1 : BitVec 32 := BitVec.ofNat 32 (i 1).val
  let v66 : BitVec 32 := Scalar.subi c63_i32_41 arg1
  let v404 : Index := Scalar.indexCast v66
  let c0_455 : Index := 0#32
  ![0, 0, 2, v404.toNat, 0]
def k0_off108 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v409 : Index := Scalar.indexCast v63
  let c1_458 : Index := 1#32
  let c3_459 : Index := 3#32
  let c192_460 : Index := 192#32
  let c0_461 : Index := 0#32
  ![v409.toNat, 1, 3, 192, 0]
def k0_off109 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v412 : Index := Scalar.indexCast v63
  let c1_462 : Index := 1#32
  let c3_463 : Index := 3#32
  let c192_464 : Index := 192#32
  let c128_465 : Index := 128#32
  ![v412.toNat, 1, 3, 192, 128]
def k0_off110 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v416 : Index := Scalar.indexCast v63
  let c1_466 : Index := 1#32
  let c3_467 : Index := 3#32
  let c0_468 : Index := 0#32
  let c0_469 : Index := 0#32
  ![v416.toNat, 1, 3, 0, 0]
def k0_off111 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v419 : Index := Scalar.indexCast v63
  let c1_470 : Index := 1#32
  let c3_471 : Index := 3#32
  let c128_472 : Index := 128#32
  let c0_473 : Index := 0#32
  ![v419.toNat, 1, 3, 128, 0]
def k0_off112 (i : grid0.Coords) : Fin 5 → Nat :=
  let c0_474 : Index := 0#32
  let c0_475 : Index := 0#32
  let c3_476 : Index := 3#32
  let c63_i32_41 : BitVec 32 := 63#32
  let arg1 : BitVec 32 := BitVec.ofNat 32 (i 1).val
  let v66 : BitVec 32 := Scalar.subi c63_i32_41 arg1
  let v422 : Index := Scalar.indexCast v66
  let c0_477 : Index := 0#32
  ![0, 0, 3, v422.toNat, 0]
def k0_off113 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v427 : Index := Scalar.indexCast v63
  let c1_480 : Index := 1#32
  let c4_481 : Index := 4#32
  let c192_482 : Index := 192#32
  let c0_483 : Index := 0#32
  ![v427.toNat, 1, 4, 192, 0]
def k0_off114 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v430 : Index := Scalar.indexCast v63
  let c1_484 : Index := 1#32
  let c4_485 : Index := 4#32
  let c192_486 : Index := 192#32
  let c128_487 : Index := 128#32
  ![v430.toNat, 1, 4, 192, 128]
def k0_off115 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v434 : Index := Scalar.indexCast v63
  let c1_488 : Index := 1#32
  let c4_489 : Index := 4#32
  let c0_490 : Index := 0#32
  let c0_491 : Index := 0#32
  ![v434.toNat, 1, 4, 0, 0]
def k0_off116 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v437 : Index := Scalar.indexCast v63
  let c1_492 : Index := 1#32
  let c4_493 : Index := 4#32
  let c128_494 : Index := 128#32
  let c0_495 : Index := 0#32
  ![v437.toNat, 1, 4, 128, 0]
def k0_off117 (i : grid0.Coords) : Fin 5 → Nat :=
  let c0_496 : Index := 0#32
  let c0_497 : Index := 0#32
  let c4_498 : Index := 4#32
  let c63_i32_41 : BitVec 32 := 63#32
  let arg1 : BitVec 32 := BitVec.ofNat 32 (i 1).val
  let v66 : BitVec 32 := Scalar.subi c63_i32_41 arg1
  let v440 : Index := Scalar.indexCast v66
  let c0_499 : Index := 0#32
  ![0, 0, 4, v440.toNat, 0]
def k0_off118 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v445 : Index := Scalar.indexCast v63
  let c1_502 : Index := 1#32
  let c5_503 : Index := 5#32
  let c192_504 : Index := 192#32
  let c0_505 : Index := 0#32
  ![v445.toNat, 1, 5, 192, 0]
def k0_off119 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v448 : Index := Scalar.indexCast v63
  let c1_506 : Index := 1#32
  let c5_507 : Index := 5#32
  let c192_508 : Index := 192#32
  let c128_509 : Index := 128#32
  ![v448.toNat, 1, 5, 192, 128]
def k0_off120 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v452 : Index := Scalar.indexCast v63
  let c1_510 : Index := 1#32
  let c5_511 : Index := 5#32
  let c0_512 : Index := 0#32
  let c0_513 : Index := 0#32
  ![v452.toNat, 1, 5, 0, 0]
def k0_off121 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v455 : Index := Scalar.indexCast v63
  let c1_514 : Index := 1#32
  let c5_515 : Index := 5#32
  let c128_516 : Index := 128#32
  let c0_517 : Index := 0#32
  ![v455.toNat, 1, 5, 128, 0]
def k0_off122 (i : grid0.Coords) : Fin 5 → Nat :=
  let c0_518 : Index := 0#32
  let c0_519 : Index := 0#32
  let c5_520 : Index := 5#32
  let c63_i32_41 : BitVec 32 := 63#32
  let arg1 : BitVec 32 := BitVec.ofNat 32 (i 1).val
  let v66 : BitVec 32 := Scalar.subi c63_i32_41 arg1
  let v458 : Index := Scalar.indexCast v66
  let c0_521 : Index := 0#32
  ![0, 0, 5, v458.toNat, 0]
def k0_off123 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v463 : Index := Scalar.indexCast v63
  let c1_524 : Index := 1#32
  let c6_525 : Index := 6#32
  let c192_526 : Index := 192#32
  let c0_527 : Index := 0#32
  ![v463.toNat, 1, 6, 192, 0]
def k0_off124 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v466 : Index := Scalar.indexCast v63
  let c1_528 : Index := 1#32
  let c6_529 : Index := 6#32
  let c192_530 : Index := 192#32
  let c128_531 : Index := 128#32
  ![v466.toNat, 1, 6, 192, 128]
def k0_off125 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v470 : Index := Scalar.indexCast v63
  let c1_532 : Index := 1#32
  let c6_533 : Index := 6#32
  let c0_534 : Index := 0#32
  let c0_535 : Index := 0#32
  ![v470.toNat, 1, 6, 0, 0]
def k0_off126 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v473 : Index := Scalar.indexCast v63
  let c1_536 : Index := 1#32
  let c6_537 : Index := 6#32
  let c128_538 : Index := 128#32
  let c0_539 : Index := 0#32
  ![v473.toNat, 1, 6, 128, 0]
def k0_off127 (i : grid0.Coords) : Fin 5 → Nat :=
  let c0_540 : Index := 0#32
  let c0_541 : Index := 0#32
  let c6_542 : Index := 6#32
  let c63_i32_41 : BitVec 32 := 63#32
  let arg1 : BitVec 32 := BitVec.ofNat 32 (i 1).val
  let v66 : BitVec 32 := Scalar.subi c63_i32_41 arg1
  let v476 : Index := Scalar.indexCast v66
  let c0_543 : Index := 0#32
  ![0, 0, 6, v476.toNat, 0]
def k0_off128 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v481 : Index := Scalar.indexCast v63
  let c1_546 : Index := 1#32
  let c7_547 : Index := 7#32
  let c192_548 : Index := 192#32
  let c0_549 : Index := 0#32
  ![v481.toNat, 1, 7, 192, 0]
def k0_off129 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v484 : Index := Scalar.indexCast v63
  let c1_550 : Index := 1#32
  let c7_551 : Index := 7#32
  let c192_552 : Index := 192#32
  let c128_553 : Index := 128#32
  ![v484.toNat, 1, 7, 192, 128]
def k0_off130 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v488 : Index := Scalar.indexCast v63
  let c1_554 : Index := 1#32
  let c7_555 : Index := 7#32
  let c0_556 : Index := 0#32
  let c0_557 : Index := 0#32
  ![v488.toNat, 1, 7, 0, 0]
def k0_off131 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v491 : Index := Scalar.indexCast v63
  let c1_558 : Index := 1#32
  let c7_559 : Index := 7#32
  let c128_560 : Index := 128#32
  let c0_561 : Index := 0#32
  ![v491.toNat, 1, 7, 128, 0]
def k0_off132 (i : grid0.Coords) : Fin 5 → Nat :=
  let c0_562 : Index := 0#32
  let c0_563 : Index := 0#32
  let c7_564 : Index := 7#32
  let c63_i32_41 : BitVec 32 := 63#32
  let arg1 : BitVec 32 := BitVec.ofNat 32 (i 1).val
  let v66 : BitVec 32 := Scalar.subi c63_i32_41 arg1
  let v494 : Index := Scalar.indexCast v66
  let c0_565 : Index := 0#32
  ![0, 0, 7, v494.toNat, 0]
def k0_off133 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v499 : Index := Scalar.indexCast v63
  let c1_568 : Index := 1#32
  let c8_569 : Index := 8#32
  let c192_570 : Index := 192#32
  let c0_571 : Index := 0#32
  ![v499.toNat, 1, 8, 192, 0]
def k0_off134 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v502 : Index := Scalar.indexCast v63
  let c1_572 : Index := 1#32
  let c8_573 : Index := 8#32
  let c192_574 : Index := 192#32
  let c128_575 : Index := 128#32
  ![v502.toNat, 1, 8, 192, 128]
def k0_off135 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v506 : Index := Scalar.indexCast v63
  let c1_576 : Index := 1#32
  let c8_577 : Index := 8#32
  let c0_578 : Index := 0#32
  let c0_579 : Index := 0#32
  ![v506.toNat, 1, 8, 0, 0]
def k0_off136 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v509 : Index := Scalar.indexCast v63
  let c1_580 : Index := 1#32
  let c8_581 : Index := 8#32
  let c128_582 : Index := 128#32
  let c0_583 : Index := 0#32
  ![v509.toNat, 1, 8, 128, 0]
def k0_off137 (i : grid0.Coords) : Fin 5 → Nat :=
  let c0_584 : Index := 0#32
  let c0_585 : Index := 0#32
  let c8_586 : Index := 8#32
  let c63_i32_41 : BitVec 32 := 63#32
  let arg1 : BitVec 32 := BitVec.ofNat 32 (i 1).val
  let v66 : BitVec 32 := Scalar.subi c63_i32_41 arg1
  let v512 : Index := Scalar.indexCast v66
  let c0_587 : Index := 0#32
  ![0, 0, 8, v512.toNat, 0]
def k0_off138 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v517 : Index := Scalar.indexCast v63
  let c1_590 : Index := 1#32
  let c9_591 : Index := 9#32
  let c192_592 : Index := 192#32
  let c0_593 : Index := 0#32
  ![v517.toNat, 1, 9, 192, 0]
def k0_off139 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v520 : Index := Scalar.indexCast v63
  let c1_594 : Index := 1#32
  let c9_595 : Index := 9#32
  let c192_596 : Index := 192#32
  let c128_597 : Index := 128#32
  ![v520.toNat, 1, 9, 192, 128]
def k0_off140 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v524 : Index := Scalar.indexCast v63
  let c1_598 : Index := 1#32
  let c9_599 : Index := 9#32
  let c0_600 : Index := 0#32
  let c0_601 : Index := 0#32
  ![v524.toNat, 1, 9, 0, 0]
def k0_off141 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v527 : Index := Scalar.indexCast v63
  let c1_602 : Index := 1#32
  let c9_603 : Index := 9#32
  let c128_604 : Index := 128#32
  let c0_605 : Index := 0#32
  ![v527.toNat, 1, 9, 128, 0]
def k0_off142 (i : grid0.Coords) : Fin 5 → Nat :=
  let c0_606 : Index := 0#32
  let c0_607 : Index := 0#32
  let c9_608 : Index := 9#32
  let c63_i32_41 : BitVec 32 := 63#32
  let arg1 : BitVec 32 := BitVec.ofNat 32 (i 1).val
  let v66 : BitVec 32 := Scalar.subi c63_i32_41 arg1
  let v530 : Index := Scalar.indexCast v66
  let c0_609 : Index := 0#32
  ![0, 0, 9, v530.toNat, 0]
def k0_off143 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v535 : Index := Scalar.indexCast v63
  let c1_612 : Index := 1#32
  let c10_613 : Index := 10#32
  let c192_614 : Index := 192#32
  let c0_615 : Index := 0#32
  ![v535.toNat, 1, 10, 192, 0]
def k0_off144 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v538 : Index := Scalar.indexCast v63
  let c1_616 : Index := 1#32
  let c10_617 : Index := 10#32
  let c192_618 : Index := 192#32
  let c128_619 : Index := 128#32
  ![v538.toNat, 1, 10, 192, 128]
def k0_off145 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v542 : Index := Scalar.indexCast v63
  let c1_620 : Index := 1#32
  let c10_621 : Index := 10#32
  let c0_622 : Index := 0#32
  let c0_623 : Index := 0#32
  ![v542.toNat, 1, 10, 0, 0]
def k0_off146 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v545 : Index := Scalar.indexCast v63
  let c1_624 : Index := 1#32
  let c10_625 : Index := 10#32
  let c128_626 : Index := 128#32
  let c0_627 : Index := 0#32
  ![v545.toNat, 1, 10, 128, 0]
def k0_off147 (i : grid0.Coords) : Fin 5 → Nat :=
  let c0_628 : Index := 0#32
  let c0_629 : Index := 0#32
  let c10_630 : Index := 10#32
  let c63_i32_41 : BitVec 32 := 63#32
  let arg1 : BitVec 32 := BitVec.ofNat 32 (i 1).val
  let v66 : BitVec 32 := Scalar.subi c63_i32_41 arg1
  let v548 : Index := Scalar.indexCast v66
  let c0_631 : Index := 0#32
  ![0, 0, 10, v548.toNat, 0]
def k0_off148 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v553 : Index := Scalar.indexCast v63
  let c1_634 : Index := 1#32
  let c11_635 : Index := 11#32
  let c192_636 : Index := 192#32
  let c0_637 : Index := 0#32
  ![v553.toNat, 1, 11, 192, 0]
def k0_off149 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v556 : Index := Scalar.indexCast v63
  let c1_638 : Index := 1#32
  let c11_639 : Index := 11#32
  let c192_640 : Index := 192#32
  let c128_641 : Index := 128#32
  ![v556.toNat, 1, 11, 192, 128]
def k0_off150 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v560 : Index := Scalar.indexCast v63
  let c1_642 : Index := 1#32
  let c11_643 : Index := 11#32
  let c0_644 : Index := 0#32
  let c0_645 : Index := 0#32
  ![v560.toNat, 1, 11, 0, 0]
def k0_off151 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v563 : Index := Scalar.indexCast v63
  let c1_646 : Index := 1#32
  let c11_647 : Index := 11#32
  let c128_648 : Index := 128#32
  let c0_649 : Index := 0#32
  ![v563.toNat, 1, 11, 128, 0]
def k0_off152 (i : grid0.Coords) : Fin 5 → Nat :=
  let c0_650 : Index := 0#32
  let c0_651 : Index := 0#32
  let c11_652 : Index := 11#32
  let c63_i32_41 : BitVec 32 := 63#32
  let arg1 : BitVec 32 := BitVec.ofNat 32 (i 1).val
  let v66 : BitVec 32 := Scalar.subi c63_i32_41 arg1
  let v566 : Index := Scalar.indexCast v66
  let c0_653 : Index := 0#32
  ![0, 0, 11, v566.toNat, 0]
def k0_off153 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v571 : Index := Scalar.indexCast v63
  let c1_656 : Index := 1#32
  let c12_657 : Index := 12#32
  let c192_658 : Index := 192#32
  let c0_659 : Index := 0#32
  ![v571.toNat, 1, 12, 192, 0]
def k0_off154 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v574 : Index := Scalar.indexCast v63
  let c1_660 : Index := 1#32
  let c12_661 : Index := 12#32
  let c192_662 : Index := 192#32
  let c128_663 : Index := 128#32
  ![v574.toNat, 1, 12, 192, 128]
def k0_off155 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v578 : Index := Scalar.indexCast v63
  let c1_664 : Index := 1#32
  let c12_665 : Index := 12#32
  let c0_666 : Index := 0#32
  let c0_667 : Index := 0#32
  ![v578.toNat, 1, 12, 0, 0]
def k0_off156 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v581 : Index := Scalar.indexCast v63
  let c1_668 : Index := 1#32
  let c12_669 : Index := 12#32
  let c128_670 : Index := 128#32
  let c0_671 : Index := 0#32
  ![v581.toNat, 1, 12, 128, 0]
def k0_off157 (i : grid0.Coords) : Fin 5 → Nat :=
  let c0_672 : Index := 0#32
  let c0_673 : Index := 0#32
  let c12_674 : Index := 12#32
  let c63_i32_41 : BitVec 32 := 63#32
  let arg1 : BitVec 32 := BitVec.ofNat 32 (i 1).val
  let v66 : BitVec 32 := Scalar.subi c63_i32_41 arg1
  let v584 : Index := Scalar.indexCast v66
  let c0_675 : Index := 0#32
  ![0, 0, 12, v584.toNat, 0]
def k0_off158 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v589 : Index := Scalar.indexCast v63
  let c1_678 : Index := 1#32
  let c13_679 : Index := 13#32
  let c192_680 : Index := 192#32
  let c0_681 : Index := 0#32
  ![v589.toNat, 1, 13, 192, 0]
def k0_off159 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v592 : Index := Scalar.indexCast v63
  let c1_682 : Index := 1#32
  let c13_683 : Index := 13#32
  let c192_684 : Index := 192#32
  let c128_685 : Index := 128#32
  ![v592.toNat, 1, 13, 192, 128]
def k0_off160 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v596 : Index := Scalar.indexCast v63
  let c1_686 : Index := 1#32
  let c13_687 : Index := 13#32
  let c0_688 : Index := 0#32
  let c0_689 : Index := 0#32
  ![v596.toNat, 1, 13, 0, 0]
def k0_off161 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v599 : Index := Scalar.indexCast v63
  let c1_690 : Index := 1#32
  let c13_691 : Index := 13#32
  let c128_692 : Index := 128#32
  let c0_693 : Index := 0#32
  ![v599.toNat, 1, 13, 128, 0]
def k0_off162 (i : grid0.Coords) : Fin 5 → Nat :=
  let c0_694 : Index := 0#32
  let c0_695 : Index := 0#32
  let c13_696 : Index := 13#32
  let c63_i32_41 : BitVec 32 := 63#32
  let arg1 : BitVec 32 := BitVec.ofNat 32 (i 1).val
  let v66 : BitVec 32 := Scalar.subi c63_i32_41 arg1
  let v602 : Index := Scalar.indexCast v66
  let c0_697 : Index := 0#32
  ![0, 0, 13, v602.toNat, 0]
def k0_off163 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v607 : Index := Scalar.indexCast v63
  let c1_700 : Index := 1#32
  let c14_701 : Index := 14#32
  let c192_702 : Index := 192#32
  let c0_703 : Index := 0#32
  ![v607.toNat, 1, 14, 192, 0]
def k0_off164 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v610 : Index := Scalar.indexCast v63
  let c1_704 : Index := 1#32
  let c14_705 : Index := 14#32
  let c192_706 : Index := 192#32
  let c128_707 : Index := 128#32
  ![v610.toNat, 1, 14, 192, 128]
def k0_off165 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v614 : Index := Scalar.indexCast v63
  let c1_708 : Index := 1#32
  let c14_709 : Index := 14#32
  let c0_710 : Index := 0#32
  let c0_711 : Index := 0#32
  ![v614.toNat, 1, 14, 0, 0]
def k0_off166 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v617 : Index := Scalar.indexCast v63
  let c1_712 : Index := 1#32
  let c14_713 : Index := 14#32
  let c128_714 : Index := 128#32
  let c0_715 : Index := 0#32
  ![v617.toNat, 1, 14, 128, 0]
def k0_off167 (i : grid0.Coords) : Fin 5 → Nat :=
  let c0_716 : Index := 0#32
  let c0_717 : Index := 0#32
  let c14_718 : Index := 14#32
  let c63_i32_41 : BitVec 32 := 63#32
  let arg1 : BitVec 32 := BitVec.ofNat 32 (i 1).val
  let v66 : BitVec 32 := Scalar.subi c63_i32_41 arg1
  let v620 : Index := Scalar.indexCast v66
  let c0_719 : Index := 0#32
  ![0, 0, 14, v620.toNat, 0]
def k0_off168 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v625 : Index := Scalar.indexCast v63
  let c1_722 : Index := 1#32
  let c15_723 : Index := 15#32
  let c192_724 : Index := 192#32
  let c0_725 : Index := 0#32
  ![v625.toNat, 1, 15, 192, 0]
def k0_off169 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v628 : Index := Scalar.indexCast v63
  let c1_726 : Index := 1#32
  let c15_727 : Index := 15#32
  let c192_728 : Index := 192#32
  let c128_729 : Index := 128#32
  ![v628.toNat, 1, 15, 192, 128]
def k0_off170 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v632 : Index := Scalar.indexCast v63
  let c1_730 : Index := 1#32
  let c15_731 : Index := 15#32
  let c0_732 : Index := 0#32
  let c0_733 : Index := 0#32
  ![v632.toNat, 1, 15, 0, 0]
def k0_off171 (i : grid0.Coords) : Fin 5 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let c3_i32_34 : BitVec 32 := 3#32
  let c0_i32_35 : BitVec 32 := 0#32
  let v54 : BitVec 1 := Scalar.cmpi .eq c3_i32_34 c0_i32_35
  let c1_i32_36 : BitVec 32 := 1#32
  let v55 : BitVec 32 := Scalar.select v54 c1_i32_36 c3_i32_34
  let v56 : BitVec 32 := Scalar.remsi v1 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let v635 : Index := Scalar.indexCast v63
  let c1_734 : Index := 1#32
  let c15_735 : Index := 15#32
  let c128_736 : Index := 128#32
  let c0_737 : Index := 0#32
  ![v635.toNat, 1, 15, 128, 0]
def k0_off172 (i : grid0.Coords) : Fin 5 → Nat :=
  let c0_738 : Index := 0#32
  let c0_739 : Index := 0#32
  let c15_740 : Index := 15#32
  let c63_i32_41 : BitVec 32 := 63#32
  let arg1 : BitVec 32 := BitVec.ofNat 32 (i 1).val
  let v66 : BitVec 32 := Scalar.subi c63_i32_41 arg1
  let v638 : Index := Scalar.indexCast v66
  let c0_741 : Index := 0#32
  ![0, 0, 15, v638.toNat, 0]
def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_2 (i : grid0.Coords) : Fin 5 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, arg0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  let c0_i32_0 : BitVec 32 := 0#32
  ![arg0.toNat, v0.toNat, c0_i32.toNat]

abbrev stage0_0 : Fin 2 → Memref sig .tc .vmem S1x1x16x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x16x64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x64x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S2x4x16x64x320x256 : Shape := ⟨6, ![2, 4, 16, 64, 320, 256]⟩
abbrev S2x4x16x64x256 : Shape := ⟨5, ![2, 4, 16, 64, 256]⟩
abbrev S1x4x16x64x320x256 : Shape := ⟨6, ![1, 4, 16, 64, 320, 256]⟩
abbrev S4x16x64x320x256 : Shape := ⟨5, ![4, 16, 64, 320, 256]⟩
abbrev S1x4x16x64x256 : Shape := ⟨5, ![1, 4, 16, 64, 256]⟩
abbrev S4x16x64x256 : Shape := ⟨4, ![4, 16, 64, 256]⟩
abbrev S2x4x16x64x64x256 : Shape := ⟨6, ![2, 4, 16, 64, 64, 256]⟩
abbrev S8x16x64x64x2x128 : Shape := ⟨6, ![8, 16, 64, 64, 2, 128]⟩
abbrev S64x8x16x2x64x128 : Shape := ⟨6, ![64, 8, 16, 2, 64, 128]⟩
abbrev S64x8x32x64x128 : Shape := ⟨5, ![64, 8, 32, 64, 128]⟩
abbrev S2x4x16x64x64x128 : Shape := ⟨6, ![2, 4, 16, 64, 64, 128]⟩
abbrev S8x16x64x64x2x64 : Shape := ⟨6, ![8, 16, 64, 64, 2, 64]⟩
abbrev S64x8x16x2x64x64 : Shape := ⟨6, ![64, 8, 16, 2, 64, 64]⟩
abbrev S64x8x32x64x64 : Shape := ⟨5, ![64, 8, 32, 64, 64]⟩
abbrev S2x4x16x64x128x128 : Shape := ⟨6, ![2, 4, 16, 64, 128, 128]⟩
abbrev S8x16x64x128x2x64 : Shape := ⟨6, ![8, 16, 64, 128, 2, 64]⟩
abbrev S64x8x16x2x128x64 : Shape := ⟨6, ![64, 8, 16, 2, 128, 64]⟩
abbrev S64x8x32x128x64 : Shape := ⟨5, ![64, 8, 32, 128, 64]⟩
abbrev S2x4x16x64x1x256 : Shape := ⟨6, ![2, 4, 16, 64, 1, 256]⟩
abbrev S8x16x64x1x2x128 : Shape := ⟨6, ![8, 16, 64, 1, 2, 128]⟩
abbrev S64x8x16x2x1x128 : Shape := ⟨6, ![64, 8, 16, 2, 1, 128]⟩
abbrev S64x8x32x1x128 : Shape := ⟨5, ![64, 8, 32, 1, 128]⟩
abbrev S_ : Shape := ⟨0, ![]⟩
abbrev S8x32x128x128 : Shape := ⟨4, ![8, 32, 128, 128]⟩
abbrev S1x8x32x64x128 : Shape := ⟨5, ![1, 8, 32, 64, 128]⟩
abbrev S8x32x64x128 : Shape := ⟨4, ![8, 32, 64, 128]⟩
abbrev S1x8x32x64x64 : Shape := ⟨5, ![1, 8, 32, 64, 64]⟩
abbrev S8x32x64x64 : Shape := ⟨4, ![8, 32, 64, 64]⟩
abbrev S1x8x32x1x128 : Shape := ⟨5, ![1, 8, 32, 1, 128]⟩
abbrev S8x32x1x128 : Shape := ⟨4, ![8, 32, 1, 128]⟩
abbrev S8x64x64x32x128 : Shape := ⟨5, ![8, 64, 64, 32, 128]⟩
abbrev S8x4096x4096 : Shape := ⟨3, ![8, 4096, 4096]⟩
abbrev S2x4x64x64x4096 : Shape := ⟨5, ![2, 4, 64, 64, 4096]⟩
abbrev S1x4x64x64x4096 : Shape := ⟨5, ![1, 4, 64, 64, 4096]⟩
abbrev S4x64x64x4096 : Shape := ⟨4, ![4, 64, 64, 4096]⟩
abbrev S4x4096x4096 : Shape := ⟨3, ![4, 4096, 4096]⟩

abbrev nBuf : Space → Nat
  | .hbm => 125
  | .vmem => 0
  | .smem => 0
  | _ => 0

abbrev bufTy : (tb : Table) → Fin (tcTables nBuf tb) → BufTy
  | .hbm, ⟨0, _⟩ => ⟨S2x4x16x64x320x256, .bf16⟩
  | .hbm, ⟨1, _⟩ => ⟨S2x4x16x64x256, .f32⟩
  | .hbm, ⟨2, _⟩ => ⟨S2x4x16x64x320x256, .f32⟩
  | .hbm, ⟨3, _⟩ => ⟨S1x4x16x64x320x256, .f32⟩
  | .hbm, ⟨4, _⟩ => ⟨S4x16x64x320x256, .f32⟩
  | .hbm, ⟨5, _⟩ => ⟨S1x4x16x64x320x256, .f32⟩
  | .hbm, ⟨6, _⟩ => ⟨S4x16x64x320x256, .f32⟩
  | .hbm, ⟨7, _⟩ => ⟨S4x16x64x320x256, .f32⟩
  | .hbm, ⟨8, _⟩ => ⟨S1x4x16x64x320x256, .f32⟩
  | .hbm, ⟨9, _⟩ => ⟨S1x4x16x64x320x256, .f32⟩
  | .hbm, ⟨10, _⟩ => ⟨S2x4x16x64x320x256, .f32⟩
  | .hbm, ⟨11, _⟩ => ⟨S1x4x16x64x256, .f32⟩
  | .hbm, ⟨12, _⟩ => ⟨S4x16x64x256, .f32⟩
  | .hbm, ⟨13, _⟩ => ⟨S1x4x16x64x256, .f32⟩
  | .hbm, ⟨14, _⟩ => ⟨S4x16x64x256, .f32⟩
  | .hbm, ⟨15, _⟩ => ⟨S4x16x64x256, .f32⟩
  | .hbm, ⟨16, _⟩ => ⟨S1x4x16x64x256, .f32⟩
  | .hbm, ⟨17, _⟩ => ⟨S1x4x16x64x256, .f32⟩
  | .hbm, ⟨18, _⟩ => ⟨S2x4x16x64x256, .f32⟩
  | .hbm, ⟨19, _⟩ => ⟨S2x4x16x64x64x256, .f32⟩
  | .hbm, ⟨20, _⟩ => ⟨S8x16x64x64x2x128, .f32⟩
  | .hbm, ⟨21, _⟩ => ⟨S64x8x16x2x64x128, .f32⟩
  | .hbm, ⟨22, _⟩ => ⟨S64x8x32x64x128, .f32⟩
  | .hbm, ⟨23, _⟩ => ⟨S2x4x16x64x64x256, .f32⟩
  | .hbm, ⟨24, _⟩ => ⟨S8x16x64x64x2x128, .f32⟩
  | .hbm, ⟨25, _⟩ => ⟨S64x8x16x2x64x128, .f32⟩
  | .hbm, ⟨26, _⟩ => ⟨S64x8x32x64x128, .f32⟩
  | .hbm, ⟨27, _⟩ => ⟨S2x4x16x64x64x256, .f32⟩
  | .hbm, ⟨28, _⟩ => ⟨S8x16x64x64x2x128, .f32⟩
  | .hbm, ⟨29, _⟩ => ⟨S64x8x16x2x64x128, .f32⟩
  | .hbm, ⟨30, _⟩ => ⟨S64x8x32x64x128, .f32⟩
  | .hbm, ⟨31, _⟩ => ⟨S2x4x16x64x64x128, .f32⟩
  | .hbm, ⟨32, _⟩ => ⟨S8x16x64x64x2x64, .f32⟩
  | .hbm, ⟨33, _⟩ => ⟨S64x8x16x2x64x64, .f32⟩
  | .hbm, ⟨34, _⟩ => ⟨S64x8x32x64x64, .f32⟩
  | .hbm, ⟨35, _⟩ => ⟨S2x4x16x64x128x128, .f32⟩
  | .hbm, ⟨36, _⟩ => ⟨S8x16x64x128x2x64, .f32⟩
  | .hbm, ⟨37, _⟩ => ⟨S64x8x16x2x128x64, .f32⟩
  | .hbm, ⟨38, _⟩ => ⟨S64x8x32x128x64, .f32⟩
  | .hbm, ⟨39, _⟩ => ⟨S64x8x32x64x128, .f32⟩
  | .hbm, ⟨40, _⟩ => ⟨S2x4x16x64x1x256, .f32⟩
  | .hbm, ⟨41, _⟩ => ⟨S8x16x64x1x2x128, .f32⟩
  | .hbm, ⟨42, _⟩ => ⟨S64x8x16x2x1x128, .f32⟩
  | .hbm, ⟨43, _⟩ => ⟨S64x8x32x1x128, .f32⟩
  | .hbm, ⟨44, _⟩ => ⟨S_, .f32⟩
  | .hbm, ⟨45, _⟩ => ⟨S8x32x128x128, .f32⟩
  | .hbm, ⟨46, _⟩ => ⟨S_, .f32⟩
  | .hbm, ⟨47, _⟩ => ⟨S64x8x32x64x128, .f32⟩
  | .hbm, ⟨48, _⟩ => ⟨S_, .i32⟩
  | .hbm, ⟨49, _⟩ => ⟨S64x8x32x64x128, .f32⟩
  | .hbm, ⟨50, _⟩ => ⟨S64x8x32x64x128, .f32⟩
  | .hbm, ⟨51, _⟩ => ⟨S64x8x32x64x128, .f32⟩
  | .hbm, ⟨52, _⟩ => ⟨S64x8x32x64x128, .f32⟩
  | .hbm, ⟨53, _⟩ => ⟨S64x8x32x64x64, .f32⟩
  | .hbm, ⟨54, _⟩ => ⟨S64x8x32x1x128, .f32⟩
  | .hbm, ⟨55, _⟩ => ⟨S_, .i32⟩
  | .hbm, ⟨56, _⟩ => ⟨S8x32x128x128, .f32⟩
  | .hbm, ⟨57, _⟩ => ⟨S64x8x32x64x128, .f32⟩
  | .hbm, ⟨58, _⟩ => ⟨S_, .i32⟩
  | .hbm, ⟨59, _⟩ => ⟨S_, .i1⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S1x8x32x64x128, .f32⟩
  | .hbm, ⟨65, _⟩ => ⟨S8x32x64x128, .f32⟩
  | .hbm, ⟨66, _⟩ => ⟨S_, .i32⟩
  | .hbm, ⟨67, _⟩ => ⟨S_, .i32⟩
  | .hbm, ⟨68, _⟩ => ⟨S_, .i32⟩
  | .hbm, ⟨69, _⟩ => ⟨S_, .i32⟩
  | .hbm, ⟨70, _⟩ => ⟨S1x8x32x64x128, .f32⟩
  | .hbm, ⟨71, _⟩ => ⟨S8x32x64x128, .f32⟩
  | .hbm, ⟨72, _⟩ => ⟨S_, .i32⟩
  | .hbm, ⟨73, _⟩ => ⟨S_, .i32⟩
  | .hbm, ⟨74, _⟩ => ⟨S_, .i32⟩
  | .hbm, ⟨75, _⟩ => ⟨S_, .i32⟩
  | .hbm, ⟨76, _⟩ => ⟨S1x8x32x64x128, .f32⟩
  | .hbm, ⟨77, _⟩ => ⟨S8x32x64x128, .f32⟩
  | .hbm, ⟨78, _⟩ => ⟨S_, .i32⟩
  | .hbm, ⟨79, _⟩ => ⟨S_, .i32⟩
  | .hbm, ⟨80, _⟩ => ⟨S_, .i32⟩
  | .hbm, ⟨81, _⟩ => ⟨S_, .i32⟩
  | .hbm, ⟨82, _⟩ => ⟨S1x8x32x64x128, .f32⟩
  | .hbm, ⟨83, _⟩ => ⟨S8x32x64x128, .f32⟩
  | .hbm, ⟨84, _⟩ => ⟨S_, .i32⟩
  | .hbm, ⟨85, _⟩ => ⟨S_, .i32⟩
  | .hbm, ⟨86, _⟩ => ⟨S_, .i32⟩
  | .hbm, ⟨87, _⟩ => ⟨S_, .i32⟩
  | .hbm, ⟨88, _⟩ => ⟨S1x8x32x64x64, .f32⟩
  | .hbm, ⟨89, _⟩ => ⟨S8x32x64x64, .f32⟩
  | .hbm, ⟨90, _⟩ => ⟨S_, .i32⟩
  | .hbm, ⟨91, _⟩ => ⟨S_, .i32⟩
  | .hbm, ⟨92, _⟩ => ⟨S_, .i32⟩
  | .hbm, ⟨93, _⟩ => ⟨S_, .i32⟩
  | .hbm, ⟨94, _⟩ => ⟨S1x8x32x1x128, .f32⟩
  | .hbm, ⟨95, _⟩ => ⟨S8x32x1x128, .f32⟩
  | .hbm, ⟨96, _⟩ => ⟨S8x32x64x128, .f32⟩
  | .hbm, ⟨97, _⟩ => ⟨S8x32x64x128, .f32⟩
  | .hbm, ⟨98, _⟩ => ⟨S8x32x64x128, .f32⟩
  | .hbm, ⟨99, _⟩ => ⟨S8x32x64x128, .f32⟩
  | .hbm, ⟨100, _⟩ => ⟨S8x32x64x128, .f32⟩
  | .hbm, ⟨101, _⟩ => ⟨S8x32x128x128, .f32⟩
  | .hbm, ⟨102, _⟩ => ⟨S8x32x128x128, .f32⟩
  | .hbm, ⟨103, _⟩ => ⟨S8x32x128x128, .f32⟩
  | .hbm, ⟨104, _⟩ => ⟨S8x32x128x128, .f32⟩
  | .hbm, ⟨105, _⟩ => ⟨S1x8x32x64x128, .f32⟩
  | .hbm, ⟨106, _⟩ => ⟨S_, .i32⟩
  | .hbm, ⟨107, _⟩ => ⟨S_, .i32⟩
  | .hbm, ⟨108, _⟩ => ⟨S_, .i32⟩
  | .hbm, ⟨109, _⟩ => ⟨S_, .i32⟩
  | .hbm, ⟨110, _⟩ => ⟨S64x8x32x64x128, .f32⟩
  | .hbm, ⟨111, _⟩ => ⟨S_, .i32⟩
  | .hbm, ⟨112, _⟩ => ⟨S_, .i32⟩
  | .hbm, ⟨113, _⟩ => ⟨S8x64x64x32x128, .f32⟩
  | .hbm, ⟨114, _⟩ => ⟨S8x4096x4096, .f32⟩
  | .hbm, ⟨115, _⟩ => ⟨S2x4x64x64x4096, .f32⟩
  | .hbm, ⟨116, _⟩ => ⟨S1x4x64x64x4096, .f32⟩
  | .hbm, ⟨117, _⟩ => ⟨S4x64x64x4096, .f32⟩
  | .hbm, ⟨118, _⟩ => ⟨S4x4096x4096, .f32⟩
  | .hbm, ⟨119, _⟩ => ⟨S4x4096x4096, .bf16⟩
  | .hbm, ⟨120, _⟩ => ⟨S1x4x64x64x4096, .f32⟩
  | .hbm, ⟨121, _⟩ => ⟨S4x64x64x4096, .f32⟩
  | .hbm, ⟨122, _⟩ => ⟨S4x64x64x4096, .f32⟩
  | .hbm, ⟨123, _⟩ => ⟨S4x4096x4096, .f32⟩
  | .hbm, ⟨124, _⟩ => ⟨S4x4096x4096, .bf16⟩
  | _, _ => ⟨S2x4x16x64x320x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev main_v39 : Ref sig .tc := ⟨.hbm, 41, rfl⟩
abbrev main_v40 : Ref sig .tc := ⟨.hbm, 42, rfl⟩
abbrev main_v41 : Ref sig .tc := ⟨.hbm, 43, rfl⟩
abbrev main_cst : Ref sig .tc := ⟨.hbm, 44, rfl⟩
abbrev main_v42 : Ref sig .tc := ⟨.hbm, 45, rfl⟩
abbrev main_cst_0 : Ref sig .tc := ⟨.hbm, 46, rfl⟩
abbrev main_v43 : Ref sig .tc := ⟨.hbm, 47, rfl⟩
abbrev main_c : Ref sig .tc := ⟨.hbm, 48, rfl⟩
abbrev main_v44_0 : Ref sig .tc := ⟨.hbm, 49, rfl⟩
abbrev main_v44_1 : Ref sig .tc := ⟨.hbm, 50, rfl⟩
abbrev main_v44_2 : Ref sig .tc := ⟨.hbm, 51, rfl⟩
abbrev main_v44_3 : Ref sig .tc := ⟨.hbm, 52, rfl⟩
abbrev main_v44_4 : Ref sig .tc := ⟨.hbm, 53, rfl⟩
abbrev main_v44_5 : Ref sig .tc := ⟨.hbm, 54, rfl⟩
abbrev main_v44_6 : Ref sig .tc := ⟨.hbm, 55, rfl⟩
abbrev main_v44_7 : Ref sig .tc := ⟨.hbm, 56, rfl⟩
abbrev main_v44_8 : Ref sig .tc := ⟨.hbm, 57, rfl⟩
abbrev main_while0c_c_9 : Ref sig .tc := ⟨.hbm, 58, rfl⟩
abbrev main_while0c_v57 : Ref sig .tc := ⟨.hbm, 59, rfl⟩
abbrev main_while0b_call2_c : Ref sig .tc := ⟨.hbm, 60, rfl⟩
abbrev main_while0b_call2_c_0 : Ref sig .tc := ⟨.hbm, 61, rfl⟩
abbrev main_while0b_call2_c_1 : Ref sig .tc := ⟨.hbm, 62, rfl⟩
abbrev main_while0b_call2_c_2 : Ref sig .tc := ⟨.hbm, 63, rfl⟩
abbrev main_while0b_call2_v0 : Ref sig .tc := ⟨.hbm, 64, rfl⟩
abbrev main_while0b_v57 : Ref sig .tc := ⟨.hbm, 65, rfl⟩
abbrev main_while0b_call3_c : Ref sig .tc := ⟨.hbm, 66, rfl⟩
abbrev main_while0b_call3_c_0 : Ref sig .tc := ⟨.hbm, 67, rfl⟩
abbrev main_while0b_call3_c_1 : Ref sig .tc := ⟨.hbm, 68, rfl⟩
abbrev main_while0b_call3_c_2 : Ref sig .tc := ⟨.hbm, 69, rfl⟩
abbrev main_while0b_call3_v0 : Ref sig .tc := ⟨.hbm, 70, rfl⟩
abbrev main_while0b_v58 : Ref sig .tc := ⟨.hbm, 71, rfl⟩
abbrev main_while0b_call4_c : Ref sig .tc := ⟨.hbm, 72, rfl⟩
abbrev main_while0b_call4_c_0 : Ref sig .tc := ⟨.hbm, 73, rfl⟩
abbrev main_while0b_call4_c_1 : Ref sig .tc := ⟨.hbm, 74, rfl⟩
abbrev main_while0b_call4_c_2 : Ref sig .tc := ⟨.hbm, 75, rfl⟩
abbrev main_while0b_call4_v0 : Ref sig .tc := ⟨.hbm, 76, rfl⟩
abbrev main_while0b_v59 : Ref sig .tc := ⟨.hbm, 77, rfl⟩
abbrev main_while0b_call5_c : Ref sig .tc := ⟨.hbm, 78, rfl⟩
abbrev main_while0b_call5_c_0 : Ref sig .tc := ⟨.hbm, 79, rfl⟩
abbrev main_while0b_call5_c_1 : Ref sig .tc := ⟨.hbm, 80, rfl⟩
abbrev main_while0b_call5_c_2 : Ref sig .tc := ⟨.hbm, 81, rfl⟩
abbrev main_while0b_call5_v0 : Ref sig .tc := ⟨.hbm, 82, rfl⟩
abbrev main_while0b_v60 : Ref sig .tc := ⟨.hbm, 83, rfl⟩
abbrev main_while0b_call6_c : Ref sig .tc := ⟨.hbm, 84, rfl⟩
abbrev main_while0b_call6_c_0 : Ref sig .tc := ⟨.hbm, 85, rfl⟩
abbrev main_while0b_call6_c_1 : Ref sig .tc := ⟨.hbm, 86, rfl⟩
abbrev main_while0b_call6_c_2 : Ref sig .tc := ⟨.hbm, 87, rfl⟩
abbrev main_while0b_call6_v0 : Ref sig .tc := ⟨.hbm, 88, rfl⟩
abbrev main_while0b_v61 : Ref sig .tc := ⟨.hbm, 89, rfl⟩
abbrev main_while0b_call7_c : Ref sig .tc := ⟨.hbm, 90, rfl⟩
abbrev main_while0b_call7_c_0 : Ref sig .tc := ⟨.hbm, 91, rfl⟩
abbrev main_while0b_call7_c_1 : Ref sig .tc := ⟨.hbm, 92, rfl⟩
abbrev main_while0b_call7_c_2 : Ref sig .tc := ⟨.hbm, 93, rfl⟩
abbrev main_while0b_call7_v0 : Ref sig .tc := ⟨.hbm, 94, rfl⟩
abbrev main_while0b_v62 : Ref sig .tc := ⟨.hbm, 95, rfl⟩
abbrev main_while0b_v63 : Ref sig .tc := ⟨.hbm, 96, rfl⟩
abbrev main_while0b_v64 : Ref sig .tc := ⟨.hbm, 97, rfl⟩
abbrev main_while0b_v65 : Ref sig .tc := ⟨.hbm, 98, rfl⟩
abbrev main_while0b_v66 : Ref sig .tc := ⟨.hbm, 99, rfl⟩
abbrev main_while0b_v67 : Ref sig .tc := ⟨.hbm, 100, rfl⟩
abbrev main_while0b_v68 : Ref sig .tc := ⟨.hbm, 101, rfl⟩
abbrev main_while0b_v69 : Ref sig .tc := ⟨.hbm, 102, rfl⟩
abbrev main_while0b_v70 : Ref sig .tc := ⟨.hbm, 103, rfl⟩
abbrev main_while0b_v71 : Ref sig .tc := ⟨.hbm, 104, rfl⟩
abbrev main_while0b_call8_v0 : Ref sig .tc := ⟨.hbm, 105, rfl⟩
abbrev main_while0b_call8_c : Ref sig .tc := ⟨.hbm, 106, rfl⟩
abbrev main_while0b_call8_c_0 : Ref sig .tc := ⟨.hbm, 107, rfl⟩
abbrev main_while0b_call8_c_1 : Ref sig .tc := ⟨.hbm, 108, rfl⟩
abbrev main_while0b_call8_c_2 : Ref sig .tc := ⟨.hbm, 109, rfl⟩
abbrev main_while0b_v72 : Ref sig .tc := ⟨.hbm, 110, rfl⟩
abbrev main_while0b_c_9 : Ref sig .tc := ⟨.hbm, 111, rfl⟩
abbrev main_while0b_v73 : Ref sig .tc := ⟨.hbm, 112, rfl⟩
abbrev main_v45 : Ref sig .tc := ⟨.hbm, 113, rfl⟩
abbrev main_v46 : Ref sig .tc := ⟨.hbm, 114, rfl⟩
abbrev main_v47 : Ref sig .tc := ⟨.hbm, 115, rfl⟩
abbrev main_v48 : Ref sig .tc := ⟨.hbm, 116, rfl⟩
abbrev main_v49 : Ref sig .tc := ⟨.hbm, 117, rfl⟩
abbrev main_v50 : Ref sig .tc := ⟨.hbm, 118, rfl⟩
abbrev main_v51 : Ref sig .tc := ⟨.hbm, 119, rfl⟩
abbrev main_v52 : Ref sig .tc := ⟨.hbm, 120, rfl⟩
abbrev main_v53 : Ref sig .tc := ⟨.hbm, 121, rfl⟩
abbrev main_v54 : Ref sig .tc := ⟨.hbm, 122, rfl⟩
abbrev main_v55 : Ref sig .tc := ⟨.hbm, 123, rfl⟩
abbrev main_v56 : Ref sig .tc := ⟨.hbm, 124, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S16384x2048 : Shape := ⟨2, ![16384, 2048]⟩
abbrev S2x2048 : Shape := ⟨2, ![2, 2048]⟩
abbrev S2x2048x11264 : Shape := ⟨3, ![2, 2048, 11264]⟩
abbrev S2x5632x2048 : Shape := ⟨3, ![2, 5632, 2048]⟩
abbrev S2048 : Shape := ⟨1, ![2048]⟩
abbrev S1x2048 : Shape := ⟨2, ![1, 2048]⟩
abbrev S512x2048 : Shape := ⟨2, ![512, 2048]⟩
abbrev S1x2048x512 : Shape := ⟨3, ![1, 2048, 512]⟩
abbrev S1x512x2048 : Shape := ⟨3, ![1, 512, 2048]⟩
abbrev S512 : Shape := ⟨1, ![512]⟩
abbrev S512x1 : Shape := ⟨2, ![512, 1]⟩
abbrev S2048x512 : Shape := ⟨2, ![2048, 512]⟩
abbrev S512x512 : Shape := ⟨2, ![512, 512]⟩

abbrev nBuf : Space → Nat
  | .hbm => 12
  | .vmem => 14
  | .smem => 0
  | _ => 0

abbrev bufTy : (tb : Table) → Fin (tcTables nBuf tb) → BufTy
  | .hbm, ⟨0, _⟩ => ⟨S16384x2048, .f32⟩
  | .hbm, ⟨1, _⟩ => ⟨S2x2048, .f32⟩
  | .hbm, ⟨2, _⟩ => ⟨S2x2048x11264, .f32⟩
  | .hbm, ⟨3, _⟩ => ⟨S2x5632x2048, .f32⟩
  | .hbm, ⟨4, _⟩ => ⟨S2048, .f32⟩
  | .hbm, ⟨5, _⟩ => ⟨S1x2048, .f32⟩
  | .hbm, ⟨6, _⟩ => ⟨S2048, .f32⟩
  | .hbm, ⟨7, _⟩ => ⟨S1x2048, .f32⟩
  | .hbm, ⟨8, _⟩ => ⟨S2x2048x11264, .bf16⟩
  | .hbm, ⟨9, _⟩ => ⟨S2x5632x2048, .bf16⟩
  | .hbm, ⟨10, _⟩ => ⟨S1x2048, .f32⟩
  | .hbm, ⟨11, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x512x2048, .bf16⟩
  | .local _ .vmem, ⟨8, _⟩ => ⟨S1x512x2048, .bf16⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c10_i32 : BitVec 32 := 10#32
  let v28 : BitVec 1 := Scalar.cmpi .eq arg1 c10_i32
  let v29 : BitVec 32 := Scalar.extui v28
  let c0_i32_20 : BitVec 32 := 0#32
  let v30 : BitVec 1 := Scalar.cmpi .ne v29 c0_i32_20
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c1_i32 : BitVec 32 := 1#32
  let c0_i32 : BitVec 32 := 0#32
  let c0_i32_0 : BitVec 32 := 0#32
  ![c1_i32.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S16384x2048 : Shape := ⟨2, ![16384, 2048]⟩
abbrev S2x2048 : Shape := ⟨2, ![2, 2048]⟩
abbrev S2x2048x11264 : Shape := ⟨3, ![2, 2048, 11264]⟩
abbrev S2x5632x2048 : Shape := ⟨3, ![2, 5632, 2048]⟩
abbrev S2048 : Shape := ⟨1, ![2048]⟩
abbrev S1x2048 : Shape := ⟨2, ![1, 2048]⟩
abbrev S_ : Shape := ⟨0, ![]⟩
abbrev S16384 : Shape := ⟨1, ![16384]⟩
abbrev S16384x1 : Shape := ⟨2, ![16384, 1]⟩
abbrev S1x2048x11264 : Shape := ⟨3, ![1, 2048, 11264]⟩
abbrev S2048x11264 : Shape := ⟨2, ![2048, 11264]⟩
abbrev S1x5632x2048 : Shape := ⟨3, ![1, 5632, 2048]⟩
abbrev S5632x2048 : Shape := ⟨2, ![5632, 2048]⟩
abbrev S16384x11264 : Shape := ⟨2, ![16384, 11264]⟩
abbrev S16384x5632 : Shape := ⟨2, ![16384, 5632]⟩

abbrev nBuf : Space → Nat
  | .hbm => 58
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2x2048, .f32⟩
  | .hbm, ⟨2, _⟩ => ⟨S2x2048x11264, .f32⟩
  | .hbm, ⟨3, _⟩ => ⟨S2x5632x2048, .f32⟩
  | .hbm, ⟨4, _⟩ => ⟨S2048, .f32⟩
  | .hbm, ⟨5, _⟩ => ⟨S1x2048, .f32⟩
  | .hbm, ⟨6, _⟩ => ⟨S2048, .f32⟩
  | .hbm, ⟨7, _⟩ => ⟨S16384x2048, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x2048, .f32⟩
  | .hbm, ⟨19, _⟩ => ⟨S16384x2048, .f32⟩
  | .hbm, ⟨20, _⟩ => ⟨S1x2048, .f32⟩
  | .hbm, ⟨21, _⟩ => ⟨S16384x2048, .f32⟩
  | .hbm, ⟨22, _⟩ => ⟨S16384x2048, .f32⟩
  | .hbm, ⟨23, _⟩ => ⟨S1x2048x11264, .f32⟩
  | .hbm, ⟨24, _⟩ => ⟨S2048x11264, .f32⟩
  | .hbm, ⟨25, _⟩ => ⟨S1x5632x2048, .f32⟩
  | .hbm, ⟨26, _⟩ => ⟨S5632x2048, .f32⟩
  | .hbm, ⟨27, _⟩ => ⟨S16384x11264, .f32⟩
  | .hbm, ⟨28, _⟩ => ⟨S16384x5632, .f32⟩
  | .hbm, ⟨29, _⟩ => ⟨S16384x5632, .f32⟩
  | .hbm, ⟨30, _⟩ => ⟨S16384x5632, .f32⟩
  | .hbm, ⟨31, _⟩ => ⟨S16384x5632, .f32⟩
  | .hbm, ⟨32, _⟩ => ⟨S_, .f32⟩
  | .hbm, ⟨33, _⟩ => ⟨S16384x5632, .f32⟩
  | .hbm, ⟨34, _⟩ => ⟨S16384x5632, .f32⟩
  | .hbm, ⟨35, _⟩ => ⟨S_, .f32⟩
  | .hbm, ⟨36, _⟩ => ⟨S16384x5632, .f32⟩
  | .hbm, ⟨37, _⟩ => ⟨S16384x5632, .f32⟩
  | .hbm, ⟨38, _⟩ => ⟨S16384x5632, .f32⟩
  | .hbm, ⟨39, _⟩ => ⟨S16384x5632, .f32⟩
  | .hbm, ⟨40, _⟩ => ⟨S16384x2048, .f32⟩
  | .hbm, ⟨41, _⟩ => ⟨S16384x2048, .f32⟩
  | .hbm, ⟨42, _⟩ => ⟨S16384x2048, .f32⟩
  | .hbm, ⟨43, _⟩ => ⟨S_, .f32⟩
  | .hbm, ⟨44, _⟩ => ⟨S16384, .f32⟩
  | .hbm, ⟨45, _⟩ => ⟨S16384x1, .f32⟩
  | .hbm, ⟨46, _⟩ => ⟨S_, .f32⟩
  | .hbm, ⟨47, _⟩ => ⟨S16384x1, .f32⟩
  | .hbm, ⟨48, _⟩ => ⟨S16384x1, .f32⟩
  | .hbm, ⟨49, _⟩ => ⟨S_, .f32⟩
  | .hbm, ⟨50, _⟩ => ⟨S16384x1, .f32⟩
  | .hbm, ⟨51, _⟩ => ⟨S16384x1, .f32⟩
  | .hbm, ⟨52, _⟩ => ⟨S16384x1, .f32⟩
  | .hbm, ⟨53, _⟩ => ⟨S16384x2048, .f32⟩
  | .hbm, ⟨54, _⟩ => ⟨S16384x2048, .f32⟩
  | .hbm, ⟨55, _⟩ => ⟨S1x2048, .f32⟩
  | .hbm, ⟨56, _⟩ => ⟨S16384x2048, .f32⟩
  | .hbm, ⟨57, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_2 : Ref sig .tc := ⟨.hbm, 43, rfl⟩
abbrev main_v27 : Ref sig .tc := ⟨.hbm, 44, rfl⟩
abbrev main_v28 : Ref sig .tc := ⟨.hbm, 45, rfl⟩
abbrev main_cst_3 : Ref sig .tc := ⟨.hbm, 46, rfl⟩
abbrev main_v29 : Ref sig .tc := ⟨.hbm, 47, rfl⟩
abbrev main_v30 : Ref sig .tc := ⟨.hbm, 48, rfl⟩
abbrev main_cst_4 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩

abbrev nD : Nat := 1
abbrev τ : Topo := Topo.v7x

variable {F : FTy → Type} [FloatOps F]
-- ==== Kernel3.lean ====
abbrev S16384x2048 : Shape := ⟨2, ![16384, 2048]⟩
abbrev S2x2048 : Shape := ⟨2, ![2, 2048]⟩
abbrev S1x2048x12416 : Shape := ⟨3, ![1, 2048, 12416]⟩
abbrev S1x2048 : Shape := ⟨2, ![1, 2048]⟩
abbrev S2048 : Shape := ⟨1, ![2048]⟩
abbrev S2048x12416 : Shape := ⟨2, ![2048, 12416]⟩
abbrev S16384x12288 : Shape := ⟨2, ![16384, 12288]⟩
abbrev S16384x128 : Shape := ⟨2, ![16384, 128]⟩
abbrev S1024x2048 : Shape := ⟨2, ![1024, 2048]⟩
abbrev S2048x1024 : Shape := ⟨2, ![2048, 1024]⟩
abbrev S2048x128 : Shape := ⟨2, ![2048, 128]⟩
abbrev S1024x1024 : Shape := ⟨2, ![1024, 1024]⟩
abbrev S1024x128 : Shape := ⟨2, ![1024, 128]⟩
abbrev S1024 : Shape := ⟨1, ![1024]⟩
abbrev S1024x1 : Shape := ⟨2, ![1024, 1]⟩

abbrev nBuf : Space → Nat
  | .hbm => 10
  | .vmem => 11
  | .smem => 0
  | _ => 0

abbrev bufTy : (tb : Table) → Fin (tcTables nBuf tb) → BufTy
  | .hbm, ⟨0, _⟩ => ⟨S16384x2048, .f32⟩
  | .hbm, ⟨1, _⟩ => ⟨S2x2048, .f32⟩
  | .hbm, ⟨2, _⟩ => ⟨S1x2048x12416, .f32⟩
  | .hbm, ⟨3, _⟩ => ⟨S1x2048, .f32⟩
  | .hbm, ⟨4, _⟩ => ⟨S2048, .f32⟩
  | .hbm, ⟨5, _⟩ => ⟨S1x2048, .f32⟩
  | .hbm, ⟨6, _⟩ => ⟨S2048x12416, .f32⟩
  | .hbm, ⟨7, _⟩ => ⟨S2048x12416, .bf16⟩
  | .hbm, ⟨8, _⟩ => ⟨S16384x12288, .f32⟩
  | .hbm, ⟨9, _⟩ => ⟨S16384x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S2048x128, .bf16⟩
  | .local _ .vmem, ⟨6, _⟩ => ⟨S1024x1024, .f32⟩
  | .local _ .vmem, ⟨7, _⟩ => ⟨S1024x1024, .f32⟩
  | .local _ .vmem, ⟨8, _⟩ => ⟨S1024x128, .f32⟩
  | .local _ .vmem, ⟨9, _⟩ => ⟨S1024x128, .f32⟩
  | .local _ .vmem, ⟨10, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 12], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c96_i32 : BitVec 32 := 96#32
  let c0_i32_0 : BitVec 32 := 0#32
  ![c0_i32.toNat, c96_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference3Ideal.lean ====
abbrev S16384x2048 : Shape := ⟨2, ![16384, 2048]⟩
abbrev S2x2048 : Shape := ⟨2, ![2, 2048]⟩
abbrev S1x2048x12416 : Shape := ⟨3, ![1, 2048, 12416]⟩
abbrev S1x2048 : Shape := ⟨2, ![1, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S2048x12416 : Shape := ⟨2, ![2048, 12416]⟩
abbrev S16384x12416 : Shape := ⟨2, ![16384, 12416]⟩
abbrev S16384x12288 : Shape := ⟨2, ![16384, 12288]⟩
abbrev S16384x128 : Shape := ⟨2, ![16384, 128]⟩

abbrev nBuf : Space → Nat
  | .hbm => 25
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2x2048, .f32⟩
  | .hbm, ⟨2, _⟩ => ⟨S1x2048x12416, .f32⟩
  | .hbm, ⟨3, _⟩ => ⟨S1x2048, .f32⟩
  | .hbm, ⟨4, _⟩ => ⟨S2048, .f32⟩
  | .hbm, ⟨5, _⟩ => ⟨S16384x2048, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x2048, .f32⟩
  | .hbm, ⟨17, _⟩ => ⟨S16384x2048, .f32⟩
  | .hbm, ⟨18, _⟩ => ⟨S1x2048, .f32⟩
  | .hbm, ⟨19, _⟩ => ⟨S16384x2048, .f32⟩
  | .hbm, ⟨20, _⟩ => ⟨S16384x2048, .f32⟩
  | .hbm, ⟨21, _⟩ => ⟨S2048x12416, .f32⟩
  | .hbm, ⟨22, _⟩ => ⟨S16384x12416, .f32⟩
  | .hbm, ⟨23, _⟩ => ⟨S16384x12288, .f32⟩
  | .hbm, ⟨24, _⟩ => ⟨S16384x128, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Kernel4.lean ====
abbrev S16384x2048 : Shape := ⟨2, ![16384, 2048]⟩
abbrev S2x2048 : Shape := ⟨2, ![2, 2048]⟩
abbrev S1x2048x4096 : Shape := ⟨3, ![1, 2048, 4096]⟩
abbrev S1x4096 : Shape := ⟨2, ![1, 4096]⟩
abbrev S1x2048 : Shape := ⟨2, ![1, 2048]⟩
abbrev S2048 : Shape := ⟨1, ![2048]⟩
abbrev S2048x4096 : Shape := ⟨2, ![2048, 4096]⟩
abbrev S4096 : Shape := ⟨1, ![4096]⟩
abbrev S1024x2048 : Shape := ⟨2, ![1024, 2048]⟩
abbrev S2048x512 : Shape := ⟨2, ![2048, 512]⟩
abbrev S1x512 : Shape := ⟨2, ![1, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 12
  | .vmem => 14
  | .smem => 0
  | _ => 0

abbrev bufTy : (tb : Table) → Fin (tcTables nBuf tb) → BufTy
  | .hbm, ⟨0, _⟩ => ⟨S16384x2048, .f32⟩
  | .hbm, ⟨1, _⟩ => ⟨S2x2048, .f32⟩
  | .hbm, ⟨2, _⟩ => ⟨S1x2048x4096, .f32⟩
  | .hbm, ⟨3, _⟩ => ⟨S1x4096, .f32⟩
  | .hbm, ⟨4, _⟩ => ⟨S1x2048, .f32⟩
  | .hbm, ⟨5, _⟩ => ⟨S2048, .f32⟩
  | .hbm, ⟨6, _⟩ => ⟨S1x2048, .f32⟩
  | .hbm, ⟨7, _⟩ => ⟨S2048x4096, .f32⟩
  | .hbm, ⟨8, _⟩ => ⟨S2048x4096, .bf16⟩
  | .hbm, ⟨9, _⟩ => ⟨S4096, .f32⟩
  | .hbm, ⟨10, _⟩ => ⟨S1x4096, .f32⟩
  | .hbm, ⟨11, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1024x512, .f32⟩
  | .local _ .vmem, ⟨12, _⟩ => ⟨S1024x512, .f32⟩
  | .local _ .vmem, ⟨13, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference4Ideal.lean ====
abbrev S16384x2048 : Shape := ⟨2, ![16384, 2048]⟩
abbrev S2x2048 : Shape := ⟨2, ![2, 2048]⟩
abbrev S1x2048x4096 : Shape := ⟨3, ![1, 2048, 4096]⟩
abbrev S1x4096 : Shape := ⟨2, ![1, 4096]⟩
abbrev S1x2048 : Shape := ⟨2, ![1, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S2048x4096 : Shape := ⟨2, ![2048, 4096]⟩
abbrev S16384x4096 : Shape := ⟨2, ![16384, 4096]⟩
abbrev S4096 : Shape := ⟨1, ![4096]⟩

abbrev nBuf : Space → Nat
  | .hbm => 39
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2x2048, .f32⟩
  | .hbm, ⟨2, _⟩ => ⟨S1x2048x4096, .f32⟩
  | .hbm, ⟨3, _⟩ => ⟨S1x4096, .f32⟩
  | .hbm, ⟨4, _⟩ => ⟨S1x2048, .f32⟩
  | .hbm, ⟨5, _⟩ => ⟨S2048, .f32⟩
  | .hbm, ⟨6, _⟩ => ⟨S16384x2048, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x2048, .f32⟩
  | .hbm, ⟨18, _⟩ => ⟨S16384x2048, .f32⟩
  | .hbm, ⟨19, _⟩ => ⟨S1x2048, .f32⟩
  | .hbm, ⟨20, _⟩ => ⟨S16384x2048, .f32⟩
  | .hbm, ⟨21, _⟩ => ⟨S16384x2048, .f32⟩
  | .hbm, ⟨22, _⟩ => ⟨S2048x4096, .f32⟩
  | .hbm, ⟨23, _⟩ => ⟨S16384x4096, .f32⟩
  | .hbm, ⟨24, _⟩ => ⟨S4096, .f32⟩
  | .hbm, ⟨25, _⟩ => ⟨S1x4096, .f32⟩
  | .hbm, ⟨26, _⟩ => ⟨S16384x4096, .f32⟩
  | .hbm, ⟨27, _⟩ => ⟨S16384x4096, .f32⟩
  | .hbm, ⟨28, _⟩ => ⟨S16384x2048, .f32⟩
  | .hbm, ⟨29, _⟩ => ⟨S16384x2048, .f32⟩
  | .hbm, ⟨30, _⟩ => ⟨S16384x2048, .f32⟩
  | .hbm, ⟨31, _⟩ => ⟨S16384x2048, .f32⟩
  | .hbm, ⟨32, _⟩ => ⟨S_, .f32⟩
  | .hbm, ⟨33, _⟩ => ⟨S16384x2048, .f32⟩
  | .hbm, ⟨34, _⟩ => ⟨S16384x2048, .f32⟩
  | .hbm, ⟨35, _⟩ => ⟨S_, .f32⟩
  | .hbm, ⟨36, _⟩ => ⟨S16384x2048, .f32⟩
  | .hbm, ⟨37, _⟩ => ⟨S16384x2048, .f32⟩
  | .hbm, ⟨38, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]
-- ==== Kernel5.lean ====
abbrev S16384x4096 : Shape := ⟨2, ![16384, 4096]⟩
abbrev S16384x12288 : Shape := ⟨2, ![16384, 12288]⟩
abbrev S1x128 : Shape := ⟨2, ![1, 128]⟩
abbrev S1x4096x2048 : Shape := ⟨3, ![1, 4096, 2048]⟩
abbrev S16384x2048 : Shape := ⟨2, ![16384, 2048]⟩
abbrev S128 : Shape := ⟨1, ![128]⟩
abbrev S4096x2048 : Shape := ⟨2, ![4096, 2048]⟩
abbrev S256x4096 : Shape := ⟨2, ![256, 4096]⟩
abbrev S256x2048 : Shape := ⟨2, ![256, 2048]⟩
abbrev S256x128 : Shape := ⟨2, ![256, 128]⟩
abbrev S256 : Shape := ⟨1, ![256]⟩
abbrev S256x1 : Shape := ⟨2, ![256, 1]⟩

abbrev nBuf : Space → Nat
  | .hbm => 11
  | .vmem => 13
  | .smem => 0
  | _ => 0

abbrev bufTy : (tb : Table) → Fin (tcTables nBuf tb) → BufTy
  | .hbm, ⟨0, _⟩ => ⟨S16384x4096, .bf16⟩
  | .hbm, ⟨1, _⟩ => ⟨S16384x4096, .bf16⟩
  | .hbm, ⟨2, _⟩ => ⟨S16384x12288, .f32⟩
  | .hbm, ⟨3, _⟩ => ⟨S1x128, .f32⟩
  | .hbm, ⟨4, _⟩ => ⟨S1x4096x2048, .f32⟩
  | .hbm, ⟨5, _⟩ => ⟨S16384x2048, .f32⟩
  | .hbm, ⟨6, _⟩ => ⟨S128, .f32⟩
  | .hbm, ⟨7, _⟩ => ⟨S1x128, .f32⟩
  | .hbm, ⟨8, _⟩ => ⟨S4096x2048, .f32⟩
  | .hbm, ⟨9, _⟩ => ⟨S4096x2048, .bf16⟩
  | .hbm, ⟨10, _⟩ => ⟨S16384x2048, .f32⟩
  | .local _ .vmem, ⟨0, _⟩ => ⟨S256x4096, .bf16⟩
  | .local _ .vmem, ⟨1, _⟩ => ⟨S256x4096, .bf16⟩
  | .local _ .vmem, ⟨2, _⟩ => ⟨S256x4096, .bf16⟩
  | .local _ .vmem, ⟨3, _⟩ => ⟨S256x4096, .bf16⟩
  | .local _ .vmem, ⟨4, _⟩ => ⟨S256x4096, .f32⟩
  | .local _ .vmem, ⟨5, _⟩ => ⟨S256x4096, .f32⟩
  | .local _ .vmem, ⟨6, _⟩ => ⟨S1x128, .f32⟩
  | .local _ .vmem, ⟨7, _⟩ => ⟨S4096x2048, .bf16⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x4096, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S16384x4096 : Shape := ⟨2, ![16384, 4096]⟩
abbrev S16384x12288 : Shape := ⟨2, ![16384, 12288]⟩
abbrev S1x128 : Shape := ⟨2, ![1, 128]⟩
abbrev S1x4096x2048 : Shape := ⟨3, ![1, 4096, 2048]⟩
abbrev S16384x2048 : Shape := ⟨2, ![16384, 2048]⟩
abbrev S16384x32x128 : Shape := ⟨3, ![16384, 32, 128]⟩
abbrev S_ : Shape := ⟨0, ![]⟩
abbrev S16384x32 : Shape := ⟨2, ![16384, 32]⟩
abbrev S16384x32x1 : Shape := ⟨3, ![16384, 32, 1]⟩
abbrev S128 : Shape := ⟨1, ![128]⟩
abbrev S1x1x128 : Shape := ⟨3, ![1, 1, 128]⟩
abbrev S4096x2048 : Shape := ⟨2, ![4096, 2048]⟩

abbrev nBuf : Space → Nat
  | .hbm => 43
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384x4096, .bf16⟩
  | .hbm, ⟨2, _⟩ => ⟨S16384x12288, .f32⟩
  | .hbm, ⟨3, _⟩ => ⟨S1x128, .f32⟩
  | .hbm, ⟨4, _⟩ => ⟨S1x4096x2048, .f32⟩
  | .hbm, ⟨5, _⟩ => ⟨S16384x2048, .f32⟩
  | .hbm, ⟨6, _⟩ => ⟨S16384x4096, .f32⟩
  | .hbm, ⟨7, _⟩ => ⟨S16384x4096, .f32⟩
  | .hbm, ⟨8, _⟩ => ⟨S16384x4096, .f32⟩
  | .hbm, ⟨9, _⟩ => ⟨S16384x32x128, .f32⟩
  | .hbm, ⟨10, _⟩ => ⟨S16384x4096, .f32⟩
  | .hbm, ⟨11, _⟩ => ⟨S16384x32x128, .f32⟩
  | .hbm, ⟨12, _⟩ => ⟨S16384x32x128, .f32⟩
  | .hbm, ⟨13, _⟩ => ⟨S_, .f32⟩
  | .hbm, ⟨14, _⟩ => ⟨S16384x32, .f32⟩
  | .hbm, ⟨15, _⟩ => ⟨S16384x32x1, .f32⟩
  | .hbm, ⟨16, _⟩ => ⟨S_, .f32⟩
  | .hbm, ⟨17, _⟩ => ⟨S16384x32x1, .f32⟩
  | .hbm, ⟨18, _⟩ => ⟨S16384x32x1, .f32⟩
  | .hbm, ⟨19, _⟩ => ⟨S_, .f32⟩
  | .hbm, ⟨20, _⟩ => ⟨S16384x32x1, .f32⟩
  | .hbm, ⟨21, _⟩ => ⟨S16384x32x1, .f32⟩
  | .hbm, ⟨22, _⟩ => ⟨S16384x32x1, .f32⟩
  | .hbm, ⟨23, _⟩ => ⟨S16384x32x128, .f32⟩
  | .hbm, ⟨24, _⟩ => ⟨S16384x32x128, .f32⟩
  | .hbm, ⟨25, _⟩ => ⟨S128, .f32⟩
  | .hbm, ⟨26, _⟩ => ⟨S1x1x128, .f32⟩
  | .hbm, ⟨27, _⟩ => ⟨S16384x32x128, .f32⟩
  | .hbm, ⟨28, _⟩ => ⟨S16384x32x128, .f32⟩
  | .hbm, ⟨29, _⟩ => ⟨S16384x32x128, .f32⟩
  | .hbm, ⟨30, _⟩ => ⟨S16384x32x128, .f32⟩
  | .hbm, ⟨31, _⟩ => ⟨S_, .f32⟩
  | .hbm, ⟨32, _⟩ => ⟨S16384x32x128, .f32⟩
  | .hbm, ⟨33, _⟩ => ⟨S16384x32x128, .f32⟩
  | .hbm, ⟨34, _⟩ => ⟨S_, .f32⟩
  | .hbm, ⟨35, _⟩ => ⟨S16384x32x128, .f32⟩
  | .hbm, ⟨36, _⟩ => ⟨S16384x32x128, .f32⟩
  | .hbm, ⟨37, _⟩ => ⟨S16384x32x128, .f32⟩
  | .hbm, ⟨38, _⟩ => ⟨S16384x32x128, .f32⟩
  | .hbm, ⟨39, _⟩ => ⟨S16384x4096, .f32⟩
  | .hbm, ⟨40, _⟩ => ⟨S4096x2048, .f32⟩
  | .hbm, ⟨41, _⟩ => ⟨S16384x2048, .f32⟩
  | .hbm, ⟨42, _⟩ => ⟨S16384x2048, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩

abbrev nD : Nat := 1
abbrev τ : Topo := Topo.v7x

variable {F : FTy → Type} [FloatOps F]
-- ==== Kernel6.lean ====
abbrev S4x4096x2048 : Shape := ⟨3, ![4, 4096, 2048]⟩
abbrev S1x31x2048 : Shape := ⟨3, ![1, 31, 2048]⟩
abbrev S1x2048 : Shape := ⟨2, ![1, 2048]⟩
abbrev S1x2048x2048 : Shape := ⟨3, ![1, 2048, 2048]⟩
abbrev S31x2048 : Shape := ⟨2, ![31, 2048]⟩
abbrev S2048 : Shape := ⟨1, ![2048]⟩
abbrev S2048x2048 : Shape := ⟨2, ![2048, 2048]⟩
abbrev S1x256x2048 : Shape := ⟨3, ![1, 256, 2048]⟩
abbrev S1x16x2048 : Shape := ⟨3, ![1, 16, 2048]⟩
abbrev S288x2048 : Shape := ⟨2, ![288, 2048]⟩
abbrev S256x2048 : Shape := ⟨2, ![256, 2048]⟩
abbrev S7x280x256 : Shape := ⟨3, ![7, 280, 256]⟩
abbrev S16x2048 : Shape := ⟨2, ![16, 2048]⟩
abbrev S280x256 : Shape := ⟨2, ![280, 256]⟩
abbrev S1x280x256 : Shape := ⟨3, ![1, 280, 256]⟩
abbrev S64x256 : Shape := ⟨2, ![64, 256]⟩
abbrev S1x64x256 : Shape := ⟨3, ![1, 64, 256]⟩
abbrev S1x256 : Shape := ⟨2, ![1, 256]⟩
abbrev S256 : Shape := ⟨1, ![256]⟩
abbrev S256x1 : Shape := ⟨2, ![256, 1]⟩

abbrev nBuf : Space → Nat
  | .hbm => 20
  | .vmem => 19
  | .smem => 0
  | _ => 0

abbrev bufTy : (tb : Table) → Fin (tcTables nBuf tb) → BufTy
  | .hbm, ⟨0, _⟩ => ⟨S4x4096x2048, .f32⟩
  | .hbm, ⟨1, _⟩ => ⟨S4x4096x2048, .f32⟩
  | .hbm, ⟨2, _⟩ => ⟨S1x31x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048x2048, .f32⟩
  | .hbm, ⟨7, _⟩ => ⟨S1x2048, .f32⟩
  | .hbm, ⟨8, _⟩ => ⟨S31x2048, .f32⟩
  | .hbm, ⟨9, _⟩ => ⟨S2048, .f32⟩
  | .hbm, ⟨10, _⟩ => ⟨S1x2048, .f32⟩
  | .hbm, ⟨11, _⟩ => ⟨S2048, .f32⟩
  | .hbm, ⟨12, _⟩ => ⟨S1x2048, .f32⟩
  | .hbm, ⟨13, _⟩ => ⟨S2048, .f32⟩
  | .hbm, ⟨14, _⟩ => ⟨S1x2048, .f32⟩
  | .hbm, ⟨15, _⟩ => ⟨S2048x2048, .f32⟩
  | .hbm, ⟨16, _⟩ => ⟨S2048x2048, .bf16⟩
  | .hbm, ⟨17, _⟩ => ⟨S2048, .f32⟩
  | .hbm, ⟨18, _⟩ => ⟨S1x2048, .f32⟩
  | .hbm, ⟨19, _⟩ => ⟨S4x4096x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x16x2048, .f32⟩
  | .local _ .vmem, ⟨3, _⟩ => ⟨S1x16x2048, .f32⟩
  | .local _ .vmem, ⟨4, _⟩ => ⟨S1x16x2048, .f32⟩
  | .local _ .vmem, ⟨5, _⟩ => ⟨S1x16x2048, .f32⟩
  | .local _ .vmem, ⟨6, _⟩ => ⟨S1x256x2048, .f32⟩
  | .local _ .vmem, ⟨7, _⟩ => ⟨S1x256x2048, .f32⟩
  | .local _ .vmem, ⟨8, _⟩ => ⟨S31x2048, .f32⟩
  | .local _ .vmem, ⟨9, _⟩ => ⟨S1x2048, .f32⟩
  | .local _ .vmem, ⟨10, _⟩ => ⟨S1x2048, .f32⟩
  | .local _ .vmem, ⟨11, _⟩ => ⟨S1x2048, .f32⟩
  | .local _ .vmem, ⟨12, _⟩ => ⟨S2048x2048, .bf16⟩
  | .local _ .vmem, ⟨13, _⟩ => ⟨S1x2048, .f32⟩
  | .local _ .vmem, ⟨14, _⟩ => ⟨S1x256x2048, .f32⟩
  | .local _ .vmem, ⟨15, _⟩ => ⟨S1x256x2048, .f32⟩
  | .local _ .vmem, ⟨16, _⟩ => ⟨S288x2048, .f32⟩
  | .local _ .vmem, ⟨17, _⟩ => ⟨S256x2048, .f32⟩
  | .local _ .vmem, ⟨18, _⟩ => ⟨S7x280x256, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![4, 16], ![false, false]⟩

@[reducible] def k0_t1_loop : Scf.Loop 32 :=
  let c0_i32_13 : BitVec 32 := 0#32
  let c8_i32 : BitVec 32 := 8#32
  let v21 : BitVec 32 := Scalar.addi c0_i32_13 c8_i32
  let c1_i32 : BitVec 32 := 1#32
  ⟨c0_i32_13, v21, c1_i32⟩
def k0_mult1 (k0_t1 : Fin k0_t1_loop.trips) : BitVec 32 :=
  let c0_i32_13 : BitVec 32 := 0#32
  let c1_i32 : BitVec 32 := 1#32
  let arg16 : BitVec 32 := Scf.iv c0_i32_13 c1_i32 k0_t1
  let c256_i32 : BitVec 32 := 256#32
  let v69 : BitVec 32 := Scalar.muli arg16 c256_i32
  v69
def k0_off1 (k0_t1 : Fin k0_t1_loop.trips) : Fin 2 → Nat :=
  let c1 : Index := 1#32
  let c0_i32_13 : BitVec 32 := 0#32
  let c1_i32 : BitVec 32 := 1#32
  let arg16 : BitVec 32 := Scf.iv c0_i32_13 c1_i32 k0_t1
  let c256_i32 : BitVec 32 := 256#32
  let v69 : BitVec 32 := Scalar.muli arg16 c256_i32
  let v70 : BitVec 32 := v69
  let v71 : Index := Scalar.indexCast v70
  ![1, v71.toNat]
def k0_off2 (k0_t1 : Fin k0_t1_loop.trips) : Fin 2 → Nat :=
  let c2 : Index := 2#32
  let c0_i32_13 : BitVec 32 := 0#32
  let c1_i32 : BitVec 32 := 1#32
  let arg16 : BitVec 32 := Scf.iv c0_i32_13 c1_i32 k0_t1
  let c256_i32 : BitVec 32 := 256#32
  let v69 : BitVec 32 := Scalar.muli arg16 c256_i32
  let v70 : BitVec 32 := v69
  let v76 : Index := Scalar.indexCast v70
  ![2, v76.toNat]
def k0_off3 (k0_t1 : Fin k0_t1_loop.trips) : Fin 2 → Nat :=
  let c3 : Index := 3#32
  let c0_i32_13 : BitVec 32 := 0#32
  let c1_i32 : BitVec 32 := 1#32
  let arg16 : BitVec 32 := Scf.iv c0_i32_13 c1_i32 k0_t1
  let c256_i32 : BitVec 32 := 256#32
  let v69 : BitVec 32 := Scalar.muli arg16 c256_i32
  let v70 : BitVec 32 := v69
  let v81 : Index := Scalar.indexCast v70
  ![3, v81.toNat]
def k0_off4 (k0_t1 : Fin k0_t1_loop.trips) : Fin 2 → Nat :=
  let c4 : Index := 4#32
  let c0_i32_13 : BitVec 32 := 0#32
  let c1_i32 : BitVec 32 := 1#32
  let arg16 : BitVec 32 := Scf.iv c0_i32_13 c1_i32 k0_t1
  let c256_i32 : BitVec 32 := 256#32
  let v69 : BitVec 32 := Scalar.muli arg16 c256_i32
  let v70 : BitVec 32 := v69
  let v86 : Index := Scalar.indexCast v70
  ![4, v86.toNat]
def k0_off5 (k0_t1 : Fin k0_t1_loop.trips) : Fin 2 → Nat :=
  let c5 : Index := 5#32
  let c0_i32_13 : BitVec 32 := 0#32
  let c1_i32 : BitVec 32 := 1#32
  let arg16 : BitVec 32 := Scf.iv c0_i32_13 c1_i32 k0_t1
  let c256_i32 : BitVec 32 := 256#32
  let v69 : BitVec 32 := Scalar.muli arg16 c256_i32
  let v70 : BitVec 32 := v69
  let v91 : Index := Scalar.indexCast v70
  ![5, v91.toNat]
def k0_off6 (k0_t1 : Fin k0_t1_loop.trips) : Fin 2 → Nat :=
  let c6 : Index := 6#32
  let c0_i32_13 : BitVec 32 := 0#32
  let c1_i32 : BitVec 32 := 1#32
  let arg16 : BitVec 32 := Scf.iv c0_i32_13 c1_i32 k0_t1
  let c256_i32 : BitVec 32 := 256#32
  let v69 : BitVec 32 := Scalar.muli arg16 c256_i32
  let v70 : BitVec 32 := v69
  let v96 : Index := Scalar.indexCast v70
  ![6, v96.toNat]
def k0_off7 (k0_t1 : Fin k0_t1_loop.trips) : Fin 2 → Nat :=
  let c7 : Index := 7#32
  let c0_i32_13 : BitVec 32 := 0#32
  let c1_i32 : BitVec 32 := 1#32
  let arg16 : BitVec 32 := Scf.iv c0_i32_13 c1_i32 k0_t1
  let c256_i32 : BitVec 32 := 256#32
  let v69 : BitVec 32 := Scalar.muli arg16 c256_i32
  let v70 : BitVec 32 := v69
  let v101 : Index := Scalar.indexCast v70
  ![7, v101.toNat]
def k0_off8 (k0_t1 : Fin k0_t1_loop.trips) : Fin 2 → Nat :=
  let c0_65 : Index := 0#32
  let c0_i32_13 : BitVec 32 := 0#32
  let c1_i32 : BitVec 32 := 1#32
  let arg16 : BitVec 32 := Scf.iv c0_i32_13 c1_i32 k0_t1
  let c256_i32 : BitVec 32 := 256#32
  let v69 : BitVec 32 := Scalar.muli arg16 c256_i32
  let v70 : BitVec 32 := v69
  let v109 : Index := Scalar.indexCast v70
  ![0, v109.toNat]
def k0_off9 (k0_t1 : Fin k0_t1_loop.trips) : Fin 2 → Nat :=
  let c1_69 : Index := 1#32
  let c0_i32_13 : BitVec 32 := 0#32
  let c1_i32 : BitVec 32 := 1#32
  let arg16 : BitVec 32 := Scf.iv c0_i32_13 c1_i32 k0_t1
  let c256_i32 : BitVec 32 := 256#32
  let v69 : BitVec 32 := Scalar.muli arg16 c256_i32
  let v70 : BitVec 32 := v69
  let v117 : Index := Scalar.indexCast v70
  ![1, v117.toNat]
def k0_off10 (k0_t1 : Fin k0_t1_loop.trips) : Fin 2 → Nat :=
  let c2_73 : Index := 2#32
  let c0_i32_13 : BitVec 32 := 0#32
  let c1_i32 : BitVec 32 := 1#32
  let arg16 : BitVec 32 := Scf.iv c0_i32_13 c1_i32 k0_t1
  let c256_i32 : BitVec 32 := 256#32
  let v69 : BitVec 32 := Scalar.muli arg16 c256_i32
  let v70 : BitVec 32 := v69
  let v125 : Index := Scalar.indexCast v70
  ![2, v125.toNat]
def k0_off11 (k0_t1 : Fin k0_t1_loop.trips) : Fin 2 → Nat :=
  let c3_77 : Index := 3#32
  let c0_i32_13 : BitVec 32 := 0#32
  let c1_i32 : BitVec 32 := 1#32
  let arg16 : BitVec 32 := Scf.iv c0_i32_13 c1_i32 k0_t1
  let c256_i32 : BitVec 32 := 256#32
  let v69 : BitVec 32 := Scalar.muli arg16 c256_i32
  let v70 : BitVec 32 := v69
  let v133 : Index := Scalar.indexCast v70
  ![3, v133.toNat]
def k0_off12 (k0_t1 : Fin k0_t1_loop.trips) : Fin 2 → Nat :=
  let c4_81 : Index := 4#32
  let c0_i32_13 : BitVec 32 := 0#32
  let c1_i32 : BitVec 32 := 1#32
  let arg16 : BitVec 32 := Scf.iv c0_i32_13 c1_i32 k0_t1
  let c256_i32 : BitVec 32 := 256#32
  let v69 : BitVec 32 := Scalar.muli arg16 c256_i32
  let v70 : BitVec 32 := v69
  let v141 : Index := Scalar.indexCast v70
  ![4, v141.toNat]
def k0_off13 (k0_t1 : Fin k0_t1_loop.trips) : Fin 2 → Nat :=
  let c5_85 : Index := 5#32
  let c0_i32_13 : BitVec 32 := 0#32
  let c1_i32 : BitVec 32 := 1#32
  let arg16 : BitVec 32 := Scf.iv c0_i32_13 c1_i32 k0_t1
  let c256_i32 : BitVec 32 := 256#32
  let v69 : BitVec 32 := Scalar.muli arg16 c256_i32
  let v70 : BitVec 32 := v69
  let v149 : Index := Scalar.indexCast v70
  ![5, v149.toNat]
def k0_off14 (k0_t1 : Fin k0_t1_loop.trips) : Fin 2 → Nat :=
  let c6_89 : Index := 6#32
  let c0_i32_13 : BitVec 32 := 0#32
  let c1_i32 : BitVec 32 := 1#32
  let arg16 : BitVec 32 := Scf.iv c0_i32_13 c1_i32 k0_t1
  let c256_i32 : BitVec 32 := 256#32
  let v69 : BitVec 32 := Scalar.muli arg16 c256_i32
  let v70 : BitVec 32 := v69
  let v157 : Index := Scalar.indexCast v70
  ![6, v157.toNat]
def k0_off15 (k0_t1 : Fin k0_t1_loop.trips) : Fin 2 → Nat :=
  let c8 : Index := 8#32
  let c0_i32_13 : BitVec 32 := 0#32
  let c1_i32 : BitVec 32 := 1#32
  let arg16 : BitVec 32 := Scf.iv c0_i32_13 c1_i32 k0_t1
  let c256_i32 : BitVec 32 := 256#32
  let v69 : BitVec 32 := Scalar.muli arg16 c256_i32
  let v70 : BitVec 32 := v69
  let v163 : Index := Scalar.indexCast v70
  ![8, v163.toNat]
def k0_off16 (k0_t1 : Fin k0_t1_loop.trips) : Fin 2 → Nat :=
  let c7_90 : Index := 7#32
  let c0_i32_13 : BitVec 32 := 0#32
  let c1_i32 : BitVec 32 := 1#32
  let arg16 : BitVec 32 := Scf.iv c0_i32_13 c1_i32 k0_t1
  let c256_i32 : BitVec 32 := 256#32
  let v69 : BitVec 32 := Scalar.muli arg16 c256_i32
  let v70 : BitVec 32 := v69
  let v165 : Index := Scalar.indexCast v70
  ![7, v165.toNat]
def k0_off17 (k0_t1 : Fin k0_t1_loop.trips) : Fin 2 → Nat :=
  let c8_94 : Index := 8#32
  let c0_i32_13 : BitVec 32 := 0#32
  let c1_i32 : BitVec 32 := 1#32
  let arg16 : BitVec 32 := Scf.iv c0_i32_13 c1_i32 k0_t1
  let c256_i32 : BitVec 32 := 256#32
  let v69 : BitVec 32 := Scalar.muli arg16 c256_i32
  let v70 : BitVec 32 := v69
  let v173 : Index := Scalar.indexCast v70
  ![8, v173.toNat]
def k0_off18 (k0_t1 : Fin k0_t1_loop.trips) : Fin 2 → Nat :=
  let c9 : Index := 9#32
  let c0_i32_13 : BitVec 32 := 0#32
  let c1_i32 : BitVec 32 := 1#32
  let arg16 : BitVec 32 := Scf.iv c0_i32_13 c1_i32 k0_t1
  let c256_i32 : BitVec 32 := 256#32
  let v69 : BitVec 32 := Scalar.muli arg16 c256_i32
  let v70 : BitVec 32 := v69
  let v181 : Index := Scalar.indexCast v70
  ![9, v181.toNat]
def k0_off19 (k0_t1 : Fin k0_t1_loop.trips) : Fin 2 → Nat :=
  let c10 : Index := 10#32
  let c0_i32_13 : BitVec 32 := 0#32
  let c1_i32 : BitVec 32 := 1#32
  let arg16 : BitVec 32 := Scf.iv c0_i32_13 c1_i32 k0_t1
  let c256_i32 : BitVec 32 := 256#32
  let v69 : BitVec 32 := Scalar.muli arg16 c256_i32
  let v70 : BitVec 32 := v69
  let v189 : Index := Scalar.indexCast v70
  ![10, v189.toNat]
def k0_off20 (k0_t1 : Fin k0_t1_loop.trips) : Fin 2 → Nat :=
  let c11 : Index := 11#32
  let c0_i32_13 : BitVec 32 := 0#32
  let c1_i32 : BitVec 32 := 1#32
  let arg16 : BitVec 32 := Scf.iv c0_i32_13 c1_i32 k0_t1
  let c256_i32 : BitVec 32 := 256#32
  let v69 : BitVec 32 := Scalar.muli arg16 c256_i32
  let v70 : BitVec 32 := v69
  let v197 : Index := Scalar.indexCast v70
  ![11, v197.toNat]
def k0_off21 (k0_t1 : Fin k0_t1_loop.trips) : Fin 2 → Nat :=
  let c12 : Index := 12#32
  let c0_i32_13 : BitVec 32 := 0#32
  let c1_i32 : BitVec 32 := 1#32
  let arg16 : BitVec 32 := Scf.iv c0_i32_13 c1_i32 k0_t1
  let c256_i32 : BitVec 32 := 256#32
  let v69 : BitVec 32 := Scalar.muli arg16 c256_i32
  let v70 : BitVec 32 := v69
  let v205 : Index := Scalar.indexCast v70
  ![12, v205.toNat]
def k0_off22 (k0_t1 : Fin k0_t1_loop.trips) : Fin 2 → Nat :=
  let c13 : Index := 13#32
  let c0_i32_13 : BitVec 32 := 0#32
  let c1_i32 : BitVec 32 := 1#32
  let arg16 : BitVec 32 := Scf.iv c0_i32_13 c1_i32 k0_t1
  let c256_i32 : BitVec 32 := 256#32
  let v69 : BitVec 32 := Scalar.muli arg16 c256_i32
  let v70 : BitVec 32 := v69
  let v213 : Index := Scalar.indexCast v70
  ![13, v213.toNat]
def k0_off23 (k0_t1 : Fin k0_t1_loop.trips) : Fin 2 → Nat :=
  let c14 : Index := 14#32
  let c0_i32_13 : BitVec 32 := 0#32
  let c1_i32 : BitVec 32 := 1#32
  let arg16 : BitVec 32 := Scf.iv c0_i32_13 c1_i32 k0_t1
  let c256_i32 : BitVec 32 := 256#32
  let v69 : BitVec 32 := Scalar.muli arg16 c256_i32
  let v70 : BitVec 32 := v69
  let v221 : Index := Scalar.indexCast v70
  ![14, v221.toNat]
def k0_off24 (k0_t1 : Fin k0_t1_loop.trips) : Fin 2 → Nat :=
  let c16_113 : Index := 16#32
  let c0_i32_13 : BitVec 32 := 0#32
  let c1_i32 : BitVec 32 := 1#32
  let arg16 : BitVec 32 := Scf.iv c0_i32_13 c1_i32 k0_t1
  let c256_i32 : BitVec 32 := 256#32
  let v69 : BitVec 32 := Scalar.muli arg16 c256_i32
  let v70 : BitVec 32 := v69
  let v227 : Index := Scalar.indexCast v70
  ![16, v227.toNat]
def k0_off25 (k0_t1 : Fin k0_t1_loop.trips) : Fin 2 → Nat :=
  let c15 : Index := 15#32
  let c0_i32_13 : BitVec 32 := 0#32
  let c1_i32 : BitVec 32 := 1#32
  let arg16 : BitVec 32 := Scf.iv c0_i32_13 c1_i32 k0_t1
  let c256_i32 : BitVec 32 := 256#32
  let v69 : BitVec 32 := Scalar.muli arg16 c256_i32
  let v70 : BitVec 32 := v69
  let v229 : Index := Scalar.indexCast v70
  ![15, v229.toNat]
def k0_off26 (k0_t1 : Fin k0_t1_loop.trips) : Fin 2 → Nat :=
  let c16_117 : Index := 16#32
  let c0_i32_13 : BitVec 32 := 0#32
  let c1_i32 : BitVec 32 := 1#32
  let arg16 : BitVec 32 := Scf.iv c0_i32_13 c1_i32 k0_t1
  let c256_i32 : BitVec 32 := 256#32
  let v69 : BitVec 32 := Scalar.muli arg16 c256_i32
  let v70 : BitVec 32 := v69
  let v237 : Index := Scalar.indexCast v70
  ![16, v237.toNat]
def k0_off27 (k0_t1 : Fin k0_t1_loop.trips) : Fin 2 → Nat :=
  let c17 : Index := 17#32
  let c0_i32_13 : BitVec 32 := 0#32
  let c1_i32 : BitVec 32 := 1#32
  let arg16 : BitVec 32 := Scf.iv c0_i32_13 c1_i32 k0_t1
  let c256_i32 : BitVec 32 := 256#32
  let v69 : BitVec 32 := Scalar.muli arg16 c256_i32
  let v70 : BitVec 32 := v69
  let v245 : Index := Scalar.indexCast v70
  ![17, v245.toNat]
def k0_off28 (k0_t1 : Fin k0_t1_loop.trips) : Fin 2 → Nat :=
  let c18 : Index := 18#32
  let c0_i32_13 : BitVec 32 := 0#32
  let c1_i32 : BitVec 32 := 1#32
  let arg16 : BitVec 32 := Scf.iv c0_i32_13 c1_i32 k0_t1
  let c256_i32 : BitVec 32 := 256#32
  let v69 : BitVec 32 := Scalar.muli arg16 c256_i32
  let v70 : BitVec 32 := v69
  let v253 : Index := Scalar.indexCast v70
  ![18, v253.toNat]
def k0_off29 (k0_t1 : Fin k0_t1_loop.trips) : Fin 2 → Nat :=
  let c19 : Index := 19#32
  let c0_i32_13 : BitVec 32 := 0#32
  let c1_i32 : BitVec 32 := 1#32
  let arg16 : BitVec 32 := Scf.iv c0_i32_13 c1_i32 k0_t1
  let c256_i32 : BitVec 32 := 256#32
  let v69 : BitVec 32 := Scalar.muli arg16 c256_i32
  let v70 : BitVec 32 := v69
  let v261 : Index := Scalar.indexCast v70
  ![19, v261.toNat]
def k0_off30 (k0_t1 : Fin k0_t1_loop.trips) : Fin 2 → Nat :=
  let c20 : Index := 20#32
  let c0_i32_13 : BitVec 32 := 0#32
  let c1_i32 : BitVec 32 := 1#32
  let arg16 : BitVec 32 := Scf.iv c0_i32_13 c1_i32 k0_t1
  let c256_i32 : BitVec 32 := 256#32
  let v69 : BitVec 32 := Scalar.muli arg16 c256_i32
  let v70 : BitVec 32 := v69
  let v269 : Index := Scalar.indexCast v70
  ![20, v269.toNat]
def k0_off31 (k0_t1 : Fin k0_t1_loop.trips) : Fin 2 → Nat :=
  let c21 : Index := 21#32
  let c0_i32_13 : BitVec 32 := 0#32
  let c1_i32 : BitVec 32 := 1#32
  let arg16 : BitVec 32 := Scf.iv c0_i32_13 c1_i32 k0_t1
  let c256_i32 : BitVec 32 := 256#32
  let v69 : BitVec 32 := Scalar.muli arg16 c256_i32
  let v70 : BitVec 32 := v69
  let v277 : Index := Scalar.indexCast v70
  ![21, v277.toNat]
def k0_off32 (k0_t1 : Fin k0_t1_loop.trips) : Fin 2 → Nat :=
  let c22 : Index := 22#32
  let c0_i32_13 : BitVec 32 := 0#32
  let c1_i32 : BitVec 32 := 1#32
  let arg16 : BitVec 32 := Scf.iv c0_i32_13 c1_i32 k0_t1
  let c256_i32 : BitVec 32 := 256#32
  let v69 : BitVec 32 := Scalar.muli arg16 c256_i32
  let v70 : BitVec 32 := v69
  let v285 : Index := Scalar.indexCast v70
  ![22, v285.toNat]
def k0_off33 (k0_t1 : Fin k0_t1_loop.trips) : Fin 2 → Nat :=
  let c24 : Index := 24#32
  let c0_i32_13 : BitVec 32 := 0#32
  let c1_i32 : BitVec 32 := 1#32
  let arg16 : BitVec 32 := Scf.iv c0_i32_13 c1_i32 k0_t1
  let c256_i32 : BitVec 32 := 256#32
  let v69 : BitVec 32 := Scalar.muli arg16 c256_i32
  let v70 : BitVec 32 := v69
  let v291 : Index := Scalar.indexCast v70
  ![24, v291.toNat]
def k0_off34 (k0_t1 : Fin k0_t1_loop.trips) : Fin 2 → Nat :=
  let c23 : Index := 23#32
  let c0_i32_13 : BitVec 32 := 0#32
  let c1_i32 : BitVec 32 := 1#32
  let arg16 : BitVec 32 := Scf.iv c0_i32_13 c1_i32 k0_t1
  let c256_i32 : BitVec 32 := 256#32
  let v69 : BitVec 32 := Scalar.muli arg16 c256_i32
  let v70 : BitVec 32 := v69
  let v293 : Index := Scalar.indexCast v70
  ![23, v293.toNat]
def k0_off35 (k0_t1 : Fin k0_t1_loop.trips) : Fin 2 → Nat :=
  let c24_139 : Index := 24#32
  let c0_i32_13 : BitVec 32 := 0#32
  let c1_i32 : BitVec 32 := 1#32
  let arg16 : BitVec 32 := Scf.iv c0_i32_13 c1_i32 k0_t1
  let c256_i32 : BitVec 32 := 256#32
  let v69 : BitVec 32 := Scalar.muli arg16 c256_i32
  let v70 : BitVec 32 := v69
  let v301 : Index := Scalar.indexCast v70
  ![24, v301.toNat]
def k0_off36 (k0_t1 : Fin k0_t1_loop.trips) : Fin 2 → Nat :=
  let c25 : Index := 25#32
  let c0_i32_13 : BitVec 32 := 0#32
  let c1_i32 : BitVec 32 := 1#32
  let arg16 : BitVec 32 := Scf.iv c0_i32_13 c1_i32 k0_t1
  let c256_i32 : BitVec 32 := 256#32
  let v69 : BitVec 32 := Scalar.muli arg16 c256_i32
  let v70 : BitVec 32 := v69
  let v309 : Index := Scalar.indexCast v70
  ![25, v309.toNat]
def k0_off37 (k0_t1 : Fin k0_t1_loop.trips) : Fin 2 → Nat :=
  let c26 : Index := 26#32
  let c0_i32_13 : BitVec 32 := 0#32
  let c1_i32 : BitVec 32 := 1#32
  let arg16 : BitVec 32 := Scf.iv c0_i32_13 c1_i32 k0_t1
  let c256_i32 : BitVec 32 := 256#32
  let v69 : BitVec 32 := Scalar.muli arg16 c256_i32
  let v70 : BitVec 32 := v69
  let v317 : Index := Scalar.indexCast v70
  ![26, v317.toNat]
def k0_off38 (k0_t1 : Fin k0_t1_loop.trips) : Fin 2 → Nat :=
  let c27 : Index := 27#32
  let c0_i32_13 : BitVec 32 := 0#32
  let c1_i32 : BitVec 32 := 1#32
  let arg16 : BitVec 32 := Scf.iv c0_i32_13 c1_i32 k0_t1
  let c256_i32 : BitVec 32 := 256#32
  let v69 : BitVec 32 := Scalar.muli arg16 c256_i32
  let v70 : BitVec 32 := v69
  let v325 : Index := Scalar.indexCast v70
  ![27, v325.toNat]
def k0_off39 (k0_t1 : Fin k0_t1_loop.trips) : Fin 2 → Nat :=
  let c28 : Index := 28#32
  let c0_i32_13 : BitVec 32 := 0#32
  let c1_i32 : BitVec 32 := 1#32
  let arg16 : BitVec 32 := Scf.iv c0_i32_13 c1_i32 k0_t1
  let c256_i32 : BitVec 32 := 256#32
  let v69 : BitVec 32 := Scalar.muli arg16 c256_i32
  let v70 : BitVec 32 := v69
  let v333 : Index := Scalar.indexCast v70
  ![28, v333.toNat]
def k0_off40 (k0_t1 : Fin k0_t1_loop.trips) : Fin 2 → Nat :=
  let c29 : Index := 29#32
  let c0_i32_13 : BitVec 32 := 0#32
  let c1_i32 : BitVec 32 := 1#32
  let arg16 : BitVec 32 := Scf.iv c0_i32_13 c1_i32 k0_t1
  let c256_i32 : BitVec 32 := 256#32
  let v69 : BitVec 32 := Scalar.muli arg16 c256_i32
  let v70 : BitVec 32 := v69
  let v341 : Index := Scalar.indexCast v70
  ![29, v341.toNat]
def k0_off41 (k0_t1 : Fin k0_t1_loop.trips) : Fin 2 → Nat :=
  let c30 : Index := 30#32
  let c0_i32_13 : BitVec 32 := 0#32
  let c1_i32 : BitVec 32 := 1#32
  let arg16 : BitVec 32 := Scf.iv c0_i32_13 c1_i32 k0_t1
  let c256_i32 : BitVec 32 := 256#32
  let v69 : BitVec 32 := Scalar.muli arg16 c256_i32
  let v70 : BitVec 32 := v69
  let v349 : Index := Scalar.indexCast v70
  ![30, v349.toNat]
def k0_off42 (k0_t1 : Fin k0_t1_loop.trips) : Fin 2 → Nat :=
  let c0_158 : Index := 0#32
  let c0_i32_13 : BitVec 32 := 0#32
  let c1_i32 : BitVec 32 := 1#32
  let arg16 : BitVec 32 := Scf.iv c0_i32_13 c1_i32 k0_t1
  let c256_i32 : BitVec 32 := 256#32
  let v69 : BitVec 32 := Scalar.muli arg16 c256_i32
  let v70 : BitVec 32 := v69
  let v355 : Index := Scalar.indexCast v70
  ![0, v355.toNat]
def k0_off43 (k0_t1 : Fin k0_t1_loop.trips) : Fin 2 → Nat :=
  let c0_159 : Index := 0#32
  let c0_i32_13 : BitVec 32 := 0#32
  let c1_i32 : BitVec 32 := 1#32
  let arg16 : BitVec 32 := Scf.iv c0_i32_13 c1_i32 k0_t1
  let c256_i32 : BitVec 32 := 256#32
  let v69 : BitVec 32 := Scalar.muli arg16 c256_i32
  let v70 : BitVec 32 := v69
  let v360 : Index := Scalar.indexCast v70
  ![0, v360.toNat]
def k0_off44 (k0_t1 : Fin k0_t1_loop.trips) : Fin 2 → Nat :=
  let c72 : Index := 72#32
  let c0_i32_13 : BitVec 32 := 0#32
  let c1_i32 : BitVec 32 := 1#32
  let arg16 : BitVec 32 := Scf.iv c0_i32_13 c1_i32 k0_t1
  let c256_i32 : BitVec 32 := 256#32
  let v69 : BitVec 32 := Scalar.muli arg16 c256_i32
  let v70 : BitVec 32 := v69
  let v421 : Index := Scalar.indexCast v70
  ![72, v421.toNat]
def k0_off45 (k0_t1 : Fin k0_t1_loop.trips) : Fin 2 → Nat :=
  let c80 : Index := 80#32
  let c0_i32_13 : BitVec 32 := 0#32
  let c1_i32 : BitVec 32 := 1#32
  let arg16 : BitVec 32 := Scf.iv c0_i32_13 c1_i32 k0_t1
  let c256_i32 : BitVec 32 := 256#32
  let v69 : BitVec 32 := Scalar.muli arg16 c256_i32
  let v70 : BitVec 32 := v69
  let v485 : Index := Scalar.indexCast v70
  ![80, v485.toNat]
def k0_off46 (k0_t1 : Fin k0_t1_loop.trips) : Fin 2 → Nat :=
  let c88 : Index := 88#32
  let c0_i32_13 : BitVec 32 := 0#32
  let c1_i32 : BitVec 32 := 1#32
  let arg16 : BitVec 32 := Scf.iv c0_i32_13 c1_i32 k0_t1
  let c256_i32 : BitVec 32 := 256#32
  let v69 : BitVec 32 := Scalar.muli arg16 c256_i32
  let v70 : BitVec 32 := v69
  let v549 : Index := Scalar.indexCast v70
  ![88, v549.toNat]
def k0_off47 (k0_t1 : Fin k0_t1_loop.trips) : Fin 2 → Nat :=
  let c64_276 : Index := 64#32
  let c0_i32_13 : BitVec 32 := 0#32
  let c1_i32 : BitVec 32 := 1#32
  let arg16 : BitVec 32 := Scf.iv c0_i32_13 c1_i32 k0_t1
  let c256_i32 : BitVec 32 := 256#32
  let v69 : BitVec 32 := Scalar.muli arg16 c256_i32
  let v70 : BitVec 32 := v69
  let v618 : Index := Scalar.indexCast v70
  ![64, v618.toNat]
def k0_off48 (k0_t1 : Fin k0_t1_loop.trips) : Fin 2 → Nat :=
  let c136 : Index := 136#32
  let c0_i32_13 : BitVec 32 := 0#32
  let c1_i32 : BitVec 32 := 1#32
  let arg16 : BitVec 32 := Scf.iv c0_i32_13 c1_i32 k0_t1
  let c256_i32 : BitVec 32 := 256#32
  let v69 : BitVec 32 := Scalar.muli arg16 c256_i32
  let v70 : BitVec 32 := v69
  let v679 : Index := Scalar.indexCast v70
  ![136, v679.toNat]
def k0_off49 (k0_t1 : Fin k0_t1_loop.trips) : Fin 2 → Nat :=
  let c144 : Index := 144#32
  let c0_i32_13 : BitVec 32 := 0#32
  let c1_i32 : BitVec 32 := 1#32
  let arg16 : BitVec 32 := Scf.iv c0_i32_13 c1_i32 k0_t1
  let c256_i32 : BitVec 32 := 256#32
  let v69 : BitVec 32 := Scalar.muli arg16 c256_i32
  let v70 : BitVec 32 := v69
  let v743 : Index := Scalar.indexCast v70
  ![144, v743.toNat]
def k0_off50 (k0_t1 : Fin k0_t1_loop.trips) : Fin 2 → Nat :=
  let c152 : Index := 152#32
  let c0_i32_13 : BitVec 32 := 0#32
  let c1_i32 : BitVec 32 := 1#32
  let arg16 : BitVec 32 := Scf.iv c0_i32_13 c1_i32 k0_t1
  let c256_i32 : BitVec 32 := 256#32
  let v69 : BitVec 32 := Scalar.muli arg16 c256_i32
  let v70 : BitVec 32 := v69
  let v807 : Index := Scalar.indexCast v70
  ![152, v807.toNat]
def k0_off51 (k0_t1 : Fin k0_t1_loop.trips) : Fin 2 → Nat :=
  let c128_393 : Index := 128#32
  let c0_i32_13 : BitVec 32 := 0#32
  let c1_i32 : BitVec 32 := 1#32
  let arg16 : BitVec 32 := Scf.iv c0_i32_13 c1_i32 k0_t1
  let c256_i32 : BitVec 32 := 256#32
  let v69 : BitVec 32 := Scalar.muli arg16 c256_i32
  let v70 : BitVec 32 := v69
  let v876 : Index := Scalar.indexCast v70
  ![128, v876.toNat]
def k0_off52 (k0_t1 : Fin k0_t1_loop.trips) : Fin 2 → Nat :=
  let c200 : Index := 200#32
  let c0_i32_13 : BitVec 32 := 0#32
  let c1_i32 : BitVec 32 := 1#32
  let arg16 : BitVec 32 := Scf.iv c0_i32_13 c1_i32 k0_t1
  let c256_i32 : BitVec 32 := 256#32
  let v69 : BitVec 32 := Scalar.muli arg16 c256_i32
  let v70 : BitVec 32 := v69
  let v937 : Index := Scalar.indexCast v70
  ![200, v937.toNat]
def k0_off53 (k0_t1 : Fin k0_t1_loop.trips) : Fin 2 → Nat :=
  let c208 : Index := 208#32
  let c0_i32_13 : BitVec 32 := 0#32
  let c1_i32 : BitVec 32 := 1#32
  let arg16 : BitVec 32 := Scf.iv c0_i32_13 c1_i32 k0_t1
  let c256_i32 : BitVec 32 := 256#32
  let v69 : BitVec 32 := Scalar.muli arg16 c256_i32
  let v70 : BitVec 32 := v69
  let v1001 : Index := Scalar.indexCast v70
  ![208, v1001.toNat]
def k0_off54 (k0_t1 : Fin k0_t1_loop.trips) : Fin 2 → Nat :=
  let c216 : Index := 216#32
  let c0_i32_13 : BitVec 32 := 0#32
  let c1_i32 : BitVec 32 := 1#32
  let arg16 : BitVec 32 := Scf.iv c0_i32_13 c1_i32 k0_t1
  let c256_i32 : BitVec 32 := 256#32
  let v69 : BitVec 32 := Scalar.muli arg16 c256_i32
  let v70 : BitVec 32 := v69
  let v1065 : Index := Scalar.indexCast v70
  ![216, v1065.toNat]
def k0_off55 (k0_t1 : Fin k0_t1_loop.trips) : Fin 2 → Nat :=
  let c192_510 : Index := 192#32
  let c0_i32_13 : BitVec 32 := 0#32
  let c1_i32 : BitVec 32 := 1#32
  let arg16 : BitVec 32 := Scf.iv c0_i32_13 c1_i32 k0_t1
  let c256_i32 : BitVec 32 := 256#32
  let v69 : BitVec 32 := Scalar.muli arg16 c256_i32
  let v70 : BitVec 32 := v69
  let v1134 : Index := Scalar.indexCast v70
  ![192, v1134.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S31x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference6Ideal.lean ====
abbrev S4x4096x2048 : Shape := ⟨3, ![4, 4096, 2048]⟩
abbrev S1x31x2048 : Shape := ⟨3, ![1, 31, 2048]⟩
abbrev S1x2048 : Shape := ⟨2, ![1, 2048]⟩
abbrev S1x2048x2048 : Shape := ⟨3, ![1, 2048, 2048]⟩
abbrev S31x2048 : Shape := ⟨2, ![31, 2048]⟩
abbrev S_ : Shape := ⟨0, ![]⟩
abbrev S4x4126x2048 : Shape := ⟨3, ![4, 4126, 2048]⟩
abbrev S2048 : Shape := ⟨1, ![2048]⟩
abbrev S1x1x2048 : Shape := ⟨3, ![1, 1, 2048]⟩
abbrev S4x4096 : Shape := ⟨2, ![4, 4096]⟩
abbrev S4x4096x1 : Shape := ⟨3, ![4, 4096, 1]⟩
abbrev S2048x2048 : Shape := ⟨2, ![2048, 2048]⟩

abbrev nBuf : Space → Nat
  | .hbm => 280
  | .vmem => 0
  | .smem => 0
  | _ => 0

abbrev hbmTy0_0 (i : Nat) : BufTy := match i % 128 with
  | 0 => ⟨S4x4096x2048, .f32⟩
  | 1 => ⟨S4x4096x2048, .f32⟩
  | 2 => ⟨S1x31x2048, .f32⟩
  | 3 => ⟨S1x2048, .f32⟩
  | 4 => ⟨S1x2048, .f32⟩
  | 5 => ⟨S1x2048, .f32⟩
  | 6 => ⟨S1x2048x2048, .f32⟩
  | 7 => ⟨S1x2048, .f32⟩
  | 8 => ⟨S31x2048, .f32⟩
  | 9 => ⟨S_, .i32⟩
  | 10 => ⟨S_, .f32⟩
  | 11 => ⟨S4x4126x2048, .f32⟩
  | 12 => ⟨S4x4096x2048, .f32⟩
  | 13 => ⟨S1x2048, .f32⟩
  | 14 => ⟨S2048, .f32⟩
  | 15 => ⟨S1x1x2048, .f32⟩
  | 16 => ⟨S4x4096x2048, .f32⟩
  | 17 => ⟨S4x4096x2048, .f32⟩
  | 18 => ⟨S_, .f32⟩
  | 19 => ⟨S4x4096x2048, .f32⟩
  | 20 => ⟨S4x4096x2048, .f32⟩
  | 21 => ⟨S4x4096x2048, .f32⟩
  | 22 => ⟨S1x2048, .f32⟩
  | 23 => ⟨S2048, .f32⟩
  | 24 => ⟨S1x1x2048, .f32⟩
  | 25 => ⟨S4x4096x2048, .f32⟩
  | 26 => ⟨S4x4096x2048, .f32⟩
  | 27 => ⟨S4x4096x2048, .f32⟩
  | 28 => ⟨S4x4096x2048, .f32⟩
  | 29 => ⟨S1x2048, .f32⟩
  | 30 => ⟨S2048, .f32⟩
  | 31 => ⟨S1x1x2048, .f32⟩
  | 32 => ⟨S4x4096x2048, .f32⟩
  | 33 => ⟨S4x4096x2048, .f32⟩
  | 34 => ⟨S4x4096x2048, .f32⟩
  | 35 => ⟨S4x4096x2048, .f32⟩
  | 36 => ⟨S1x2048, .f32⟩
  | 37 => ⟨S2048, .f32⟩
  | 38 => ⟨S1x1x2048, .f32⟩
  | 39 => ⟨S4x4096x2048, .f32⟩
  | 40 => ⟨S4x4096x2048, .f32⟩
  | 41 => ⟨S4x4096x2048, .f32⟩
  | 42 => ⟨S4x4096x2048, .f32⟩
  | 43 => ⟨S1x2048, .f32⟩
  | 44 => ⟨S2048, .f32⟩
  | 45 => ⟨S1x1x2048, .f32⟩
  | 46 => ⟨S4x4096x2048, .f32⟩
  | 47 => ⟨S4x4096x2048, .f32⟩
  | 48 => ⟨S4x4096x2048, .f32⟩
  | 49 => ⟨S4x4096x2048, .f32⟩
  | 50 => ⟨S1x2048, .f32⟩
  | 51 => ⟨S2048, .f32⟩
  | 52 => ⟨S1x1x2048, .f32⟩
  | 53 => ⟨S4x4096x2048, .f32⟩
  | 54 => ⟨S4x4096x2048, .f32⟩
  | 55 => ⟨S4x4096x2048, .f32⟩
  | 56 => ⟨S4x4096x2048, .f32⟩
  | 57 => ⟨S1x2048, .f32⟩
  | 58 => ⟨S2048, .f32⟩
  | 59 => ⟨S1x1x2048, .f32⟩
  | 60 => ⟨S4x4096x2048, .f32⟩
  | 61 => ⟨S4x4096x2048, .f32⟩
  | 62 => ⟨S4x4096x2048, .f32⟩
  | 63 => ⟨S4x4096x2048, .f32⟩
  | 64 => ⟨S1x2048, .f32⟩
  | 65 => ⟨S2048, .f32⟩
  | 66 => ⟨S1x1x2048, .f32⟩
  | 67 => ⟨S4x4096x2048, .f32⟩
  | 68 => ⟨S4x4096x2048, .f32⟩
  | 69 => ⟨S4x4096x2048, .f32⟩
  | 70 => ⟨S4x4096x2048, .f32⟩
  | 71 => ⟨S1x2048, .f32⟩
  | 72 => ⟨S2048, .f32⟩
  | 73 => ⟨S1x1x2048, .f32⟩
  | 74 => ⟨S4x4096x2048, .f32⟩
  | 75 => ⟨S4x4096x2048, .f32⟩
  | 76 => ⟨S4x4096x2048, .f32⟩
  | 77 => ⟨S4x4096x2048, .f32⟩
  | 78 => ⟨S1x2048, .f32⟩
  | 79 => ⟨S2048, .f32⟩
  | 80 => ⟨S1x1x2048, .f32⟩
  | 81 => ⟨S4x4096x2048, .f32⟩
  | 82 => ⟨S4x4096x2048, .f32⟩
  | 83 => ⟨S4x4096x2048, .f32⟩
  | 84 => ⟨S4x4096x2048, .f32⟩
  | 85 => ⟨S1x2048, .f32⟩
  | 86 => ⟨S2048, .f32⟩
  | 87 => ⟨S1x1x2048, .f32⟩
  | 88 => ⟨S4x4096x2048, .f32⟩
  | 89 => ⟨S4x4096x2048, .f32⟩
  | 90 => ⟨S4x4096x2048, .f32⟩
  | 91 => ⟨S4x4096x2048, .f32⟩
  | 92 => ⟨S1x2048, .f32⟩
  | 93 => ⟨S2048, .f32⟩
  | 94 => ⟨S1x1x2048, .f32⟩
  | 95 => ⟨S4x4096x2048, .f32⟩
  | 96 => ⟨S4x4096x2048, .f32⟩
  | 97 => ⟨S4x4096x2048, .f32⟩
  | 98 => ⟨S4x4096x2048, .f32⟩
  | 99 => ⟨S1x2048, .f32⟩
  | 100 => ⟨S2048, .f32⟩
  | 101 => ⟨S1x1x2048, .f32⟩
  | 102 => ⟨S4x4096x2048, .f32⟩
  | 103 => ⟨S4x4096x2048, .f32⟩
  | 104 => ⟨S4x4096x2048, .f32⟩
  | 105 => ⟨S4x4096x2048, .f32⟩
  | 106 => ⟨S1x2048, .f32⟩
  | 107 => ⟨S2048, .f32⟩
  | 108 => ⟨S1x1x2048, .f32⟩
  | 109 => ⟨S4x4096x2048, .f32⟩
  | 110 => ⟨S4x4096x2048, .f32⟩
  | 111 => ⟨S4x4096x2048, .f32⟩
  | 112 => ⟨S4x4096x2048, .f32⟩
  | 113 => ⟨S1x2048, .f32⟩
  | 114 => ⟨S2048, .f32⟩
  | 115 => ⟨S1x1x2048, .f32⟩
  | 116 => ⟨S4x4096x2048, .f32⟩
  | 117 => ⟨S4x4096x2048, .f32⟩
  | 118 => ⟨S4x4096x2048, .f32⟩
  | 119 => ⟨S4x4096x2048, .f32⟩
  | 120 => ⟨S1x2048, .f32⟩
  | 121 => ⟨S2048, .f32⟩
  | 122 => ⟨S1x1x2048, .f32⟩
  | 123 => ⟨S4x4096x2048, .f32⟩
  | 124 => ⟨S4x4096x2048, .f32⟩
  | 125 => ⟨S4x4096x2048, .f32⟩
  | 126 => ⟨S4x4096x2048, .f32⟩
  | 127 => ⟨S1x2048, .f32⟩
  | _ => ⟨S4x4096x2048, .f32⟩

abbrev hbmTy0_1 (i : Nat) : BufTy := match i % 128 with
  | 0 => ⟨S2048, .f32⟩
  | 1 => ⟨S1x1x2048, .f32⟩
  | 2 => ⟨S4x4096x2048, .f32⟩
  | 3 => ⟨S4x4096x2048, .f32⟩
  | 4 => ⟨S4x4096x2048, .f32⟩
  | 5 => ⟨S4x4096x2048, .f32⟩
  | 6 => ⟨S1x2048, .f32⟩
  | 7 => ⟨S2048, .f32⟩
  | 8 => ⟨S1x1x2048, .f32⟩
  | 9 => ⟨S4x4096x2048, .f32⟩
  | 10 => ⟨S4x4096x2048, .f32⟩
  | 11 => ⟨S4x4096x2048, .f32⟩
  | 12 => ⟨S4x4096x2048, .f32⟩
  | 13 => ⟨S1x2048, .f32⟩
  | 14 => ⟨S2048, .f32⟩
  | 15 => ⟨S1x1x2048, .f32⟩
  | 16 => ⟨S4x4096x2048, .f32⟩
  | 17 => ⟨S4x4096x2048, .f32⟩
  | 18 => ⟨S4x4096x2048, .f32⟩
  | 19 => ⟨S4x4096x2048, .f32⟩
  | 20 => ⟨S1x2048, .f32⟩
  | 21 => ⟨S2048, .f32⟩
  | 22 => ⟨S1x1x2048, .f32⟩
  | 23 => ⟨S4x4096x2048, .f32⟩
  | 24 => ⟨S4x4096x2048, .f32⟩
  | 25 => ⟨S4x4096x2048, .f32⟩
  | 26 => ⟨S4x4096x2048, .f32⟩
  | 27 => ⟨S1x2048, .f32⟩
  | 28 => ⟨S2048, .f32⟩
  | 29 => ⟨S1x1x2048, .f32⟩
  | 30 => ⟨S4x4096x2048, .f32⟩
  | 31 => ⟨S4x4096x2048, .f32⟩
  | 32 => ⟨S4x4096x2048, .f32⟩
  | 33 => ⟨S4x4096x2048, .f32⟩
  | 34 => ⟨S1x2048, .f32⟩
  | 35 => ⟨S2048, .f32⟩
  | 36 => ⟨S1x1x2048, .f32⟩
  | 37 => ⟨S4x4096x2048, .f32⟩
  | 38 => ⟨S4x4096x2048, .f32⟩
  | 39 => ⟨S4x4096x2048, .f32⟩
  | 40 => ⟨S4x4096x2048, .f32⟩
  | 41 => ⟨S1x2048, .f32⟩
  | 42 => ⟨S2048, .f32⟩
  | 43 => ⟨S1x1x2048, .f32⟩
  | 44 => ⟨S4x4096x2048, .f32⟩
  | 45 => ⟨S4x4096x2048, .f32⟩
  | 46 => ⟨S4x4096x2048, .f32⟩
  | 47 => ⟨S4x4096x2048, .f32⟩
  | 48 => ⟨S1x2048, .f32⟩
  | 49 => ⟨S2048, .f32⟩
  | 50 => ⟨S1x1x2048, .f32⟩
  | 51 => ⟨S4x4096x2048, .f32⟩
  | 52 => ⟨S4x4096x2048, .f32⟩
  | 53 => ⟨S4x4096x2048, .f32⟩
  | 54 => ⟨S4x4096x2048, .f32⟩
  | 55 => ⟨S1x2048, .f32⟩
  | 56 => ⟨S2048, .f32⟩
  | 57 => ⟨S1x1x2048, .f32⟩
  | 58 => ⟨S4x4096x2048, .f32⟩
  | 59 => ⟨S4x4096x2048, .f32⟩
  | 60 => ⟨S4x4096x2048, .f32⟩
  | 61 => ⟨S4x4096x2048, .f32⟩
  | 62 => ⟨S1x2048, .f32⟩
  | 63 => ⟨S2048, .f32⟩
  | 64 => ⟨S1x1x2048, .f32⟩
  | 65 => ⟨S4x4096x2048, .f32⟩
  | 66 => ⟨S4x4096x2048, .f32⟩
  | 67 => ⟨S4x4096x2048, .f32⟩
  | 68 => ⟨S4x4096x2048, .f32⟩
  | 69 => ⟨S1x2048, .f32⟩
  | 70 => ⟨S2048, .f32⟩
  | 71 => ⟨S1x1x2048, .f32⟩
  | 72 => ⟨S4x4096x2048, .f32⟩
  | 73 => ⟨S4x4096x2048, .f32⟩
  | 74 => ⟨S4x4096x2048, .f32⟩
  | 75 => ⟨S4x4096x2048, .f32⟩
  | 76 => ⟨S1x2048, .f32⟩
  | 77 => ⟨S2048, .f32⟩
  | 78 => ⟨S1x1x2048, .f32⟩
  | 79 => ⟨S4x4096x2048, .f32⟩
  | 80 => ⟨S4x4096x2048, .f32⟩
  | 81 => ⟨S4x4096x2048, .f32⟩
  | 82 => ⟨S4x4096x2048, .f32⟩
  | 83 => ⟨S1x2048, .f32⟩
  | 84 => ⟨S2048, .f32⟩
  | 85 => ⟨S1x1x2048, .f32⟩
  | 86 => ⟨S4x4096x2048, .f32⟩
  | 87 => ⟨S4x4096x2048, .f32⟩
  | 88 => ⟨S4x4096x2048, .f32⟩
  | 89 => ⟨S4x4096x2048, .f32⟩
  | 90 => ⟨S1x2048, .f32⟩
  | 91 => ⟨S2048, .f32⟩
  | 92 => ⟨S1x1x2048, .f32⟩
  | 93 => ⟨S4x4096x2048, .f32⟩
  | 94 => ⟨S4x4096x2048, .f32⟩
  | 95 => ⟨S4x4096x2048, .f32⟩
  | 96 => ⟨S4x4096x2048, .f32⟩
  | 97 => ⟨S1x2048, .f32⟩
  | 98 => ⟨S2048, .f32⟩
  | 99 => ⟨S1x1x2048, .f32⟩
  | 100 => ⟨S4x4096x2048, .f32⟩
  | 101 => ⟨S4x4096x2048, .f32⟩
  | 102 => ⟨S4x4096x2048, .f32⟩
  | 103 => ⟨S2048, .f32⟩
  | 104 => ⟨S1x1x2048, .f32⟩
  | 105 => ⟨S4x4096x2048, .f32⟩
  | 106 => ⟨S4x4096x2048, .f32⟩
  | 107 => ⟨S2048, .f32⟩
  | 108 => ⟨S2048, .f32⟩
  | 109 => ⟨S_, .f32⟩
  | 110 => ⟨S4x4096, .f32⟩
  | 111 => ⟨S4x4096x1, .f32⟩
  | 112 => ⟨S_, .f32⟩
  | 113 => ⟨S4x4096x1, .f32⟩
  | 114 => ⟨S4x4096x1, .f32⟩
  | 115 => ⟨S4x4096x2048, .f32⟩
  | 116 => ⟨S4x4096x2048, .f32⟩
  | 117 => ⟨S4x4096x2048, .f32⟩
  | 118 => ⟨S_, .f32⟩
  | 119 => ⟨S4x4096, .f32⟩
  | 120 => ⟨S4x4096x1, .f32⟩
  | 121 => ⟨S_, .f32⟩
  | 122 => ⟨S4x4096x1, .f32⟩
  | 123 => ⟨S4x4096x1, .f32⟩
  | 124 => ⟨S_, .f32⟩
  | 125 => ⟨S4x4096x1, .f32⟩
  | 126 => ⟨S4x4096x1, .f32⟩
  | 127 => ⟨S4x4096x1, .f32⟩
  | _ => ⟨S4x4096x2048, .f32⟩

abbrev hbmTy0_2 (i : Nat) : BufTy := match i % 128 with
  | 0 => ⟨S4x4096x2048, .f32⟩
  | 1 => ⟨S4x4096x2048, .f32⟩
  | 2 => ⟨S1x1x2048, .f32⟩
  | 3 => ⟨S4x4096x2048, .f32⟩
  | 4 => ⟨S4x4096x2048, .f32⟩
  | 5 => ⟨S1x1x2048, .f32⟩
  | 6 => ⟨S4x4096x2048, .f32⟩
  | 7 => ⟨S4x4096x2048, .f32⟩
  | 8 => ⟨S4x4096x2048, .f32⟩
  | 9 => ⟨S4x4096x2048, .f32⟩
  | 10 => ⟨S_, .f32⟩
  | 11 => ⟨S4x4096x2048, .f32⟩
  | 12 => ⟨S4x4096x2048, .f32⟩
  | 13 => ⟨S_, .f32⟩
  | 14 => ⟨S4x4096x2048, .f32⟩
  | 15 => ⟨S4x4096x2048, .f32⟩
  | 16 => ⟨S4x4096x2048, .f32⟩
  | 17 => ⟨S2048x2048, .f32⟩
  | 18 => ⟨S4x4096x2048, .f32⟩
  | 19 => ⟨S2048, .f32⟩
  | 20 => ⟨S1x1x2048, .f32⟩
  | 21 => ⟨S4x4096x2048, .f32⟩
  | 22 => ⟨S4x4096x2048, .f32⟩
  | 23 => ⟨S4x4096x2048, .f32⟩
  | _ => ⟨S4x4096x2048, .f32⟩

abbrev hbmTy (i : Nat) : BufTy := match i / 128 with
  | 0 => hbmTy0_0 i
  | 1 => hbmTy0_1 i
  | 2 => hbmTy0_2 i
  | _ => ⟨S4x4096x2048, .f32⟩

abbrev bufTy : (tb : Table) → Fin (tcTables nBuf tb) → BufTy
  | .hbm, ⟨i, _⟩ => hbmTy i
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_v148 : Ref sig .tc := ⟨.hbm, 159, rfl⟩
abbrev main_v149 : Ref sig .tc := ⟨.hbm, 160, rfl⟩
abbrev main_v150 : Ref sig .tc := ⟨.hbm, 161, rfl⟩
abbrev main_v151 : Ref sig .tc := ⟨.hbm, 162, rfl⟩
abbrev main_v152 : Ref sig .tc := ⟨.hbm, 163, rfl⟩
abbrev main_v153 : Ref sig .tc := ⟨.hbm, 164, rfl⟩
abbrev main_v154 : Ref sig .tc := ⟨.hbm, 165, rfl⟩
abbrev main_v155 : Ref sig .tc := ⟨.hbm, 166, rfl⟩
abbrev main_v156 : Ref sig .tc := ⟨.hbm, 167, rfl⟩
abbrev main_v157 : Ref sig .tc := ⟨.hbm, 168, rfl⟩
abbrev main_v158 : Ref sig .tc := ⟨.hbm, 169, rfl⟩
abbrev main_v159 : Ref sig .tc := ⟨.hbm, 170, rfl⟩
abbrev main_v160 : Ref sig .tc := ⟨.hbm, 171, rfl⟩
abbrev main_v161 : Ref sig .tc := ⟨.hbm, 172, rfl⟩
abbrev main_v162 : Ref sig .tc := ⟨.hbm, 173, rfl⟩
abbrev main_v163 : Ref sig .tc := ⟨.hbm, 174, rfl⟩
abbrev main_v164 : Ref sig .tc := ⟨.hbm, 175, rfl⟩
abbrev main_v165 : Ref sig .tc := ⟨.hbm, 176, rfl⟩
abbrev main_v166 : Ref sig .tc := ⟨.hbm, 177, rfl⟩
abbrev main_v167 : Ref sig .tc := ⟨.hbm, 178, rfl⟩
abbrev main_v168 : Ref sig .tc := ⟨.hbm, 179, rfl⟩
abbrev main_v169 : Ref sig .tc := ⟨.hbm, 180, rfl⟩
abbrev main_v170 : Ref sig .tc := ⟨.hbm, 181, rfl⟩
abbrev main_v171 : Ref sig .tc := ⟨.hbm, 182, rfl⟩
abbrev main_v172 : Ref sig .tc := ⟨.hbm, 183, rfl⟩
abbrev main_v173 : Ref sig .tc := ⟨.hbm, 184, rfl⟩
abbrev main_v174 : Ref sig .tc := ⟨.hbm, 185, rfl⟩
abbrev main_v175 : Ref sig .tc := ⟨.hbm, 186, rfl⟩
abbrev main_v176 : Ref sig .tc := ⟨.hbm, 187, rfl⟩
abbrev main_v177 : Ref sig .tc := ⟨.hbm, 188, rfl⟩
abbrev main_v178 : Ref sig .tc := ⟨.hbm, 189, rfl⟩
abbrev main_v179 : Ref sig .tc := ⟨.hbm, 190, rfl⟩
abbrev main_v180 : Ref sig .tc := ⟨.hbm, 191, rfl⟩
abbrev main_v181 : Ref sig .tc := ⟨.hbm, 192, rfl⟩
abbrev main_v182 : Ref sig .tc := ⟨.hbm, 193, rfl⟩
abbrev main_v183 : Ref sig .tc := ⟨.hbm, 194, rfl⟩
abbrev main_v184 : Ref sig .tc := ⟨.hbm, 195, rfl⟩
abbrev main_v185 : Ref sig .tc := ⟨.hbm, 196, rfl⟩
abbrev main_v186 : Ref sig .tc := ⟨.hbm, 197, rfl⟩
abbrev main_v187 : Ref sig .tc := ⟨.hbm, 198, rfl⟩
abbrev main_v188 : Ref sig .tc := ⟨.hbm, 199, rfl⟩
abbrev main_v189 : Ref sig .tc := ⟨.hbm, 200, rfl⟩
abbrev main_v190 : Ref sig .tc := ⟨.hbm, 201, rfl⟩
abbrev main_v191 : Ref sig .tc := ⟨.hbm, 202, rfl⟩
abbrev main_v192 : Ref sig .tc := ⟨.hbm, 203, rfl⟩
abbrev main_v193 : Ref sig .tc := ⟨.hbm, 204, rfl⟩
abbrev main_v194 : Ref sig .tc := ⟨.hbm, 205, rfl⟩
abbrev main_v195 : Ref sig .tc := ⟨.hbm, 206, rfl⟩
abbrev main_v196 : Ref sig .tc := ⟨.hbm, 207, rfl⟩
abbrev main_v197 : Ref sig .tc := ⟨.hbm, 208, rfl⟩
abbrev main_v198 : Ref sig .tc := ⟨.hbm, 209, rfl⟩
abbrev main_v199 : Ref sig .tc := ⟨.hbm, 210, rfl⟩
abbrev main_v200 : Ref sig .tc := ⟨.hbm, 211, rfl⟩
abbrev main_v201 : Ref sig .tc := ⟨.hbm, 212, rfl⟩
abbrev main_v202 : Ref sig .tc := ⟨.hbm, 213, rfl⟩
abbrev main_v203 : Ref sig .tc := ⟨.hbm, 214, rfl⟩
abbrev main_v204 : Ref sig .tc := ⟨.hbm, 215, rfl⟩
abbrev main_v205 : Ref sig .tc := ⟨.hbm, 216, rfl⟩
abbrev main_v206 : Ref sig .tc := ⟨.hbm, 217, rfl⟩
abbrev main_v207 : Ref sig .tc := ⟨.hbm, 218, rfl⟩
abbrev main_v208 : Ref sig .tc := ⟨.hbm, 219, rfl⟩
abbrev main_v209 : Ref sig .tc := ⟨.hbm, 220, rfl⟩
abbrev main_v210 : Ref sig .tc := ⟨.hbm, 221, rfl⟩
abbrev main_v211 : Ref sig .tc := ⟨.hbm, 222, rfl⟩
abbrev main_v212 : Ref sig .tc := ⟨.hbm, 223, rfl⟩
abbrev main_v213 : Ref sig .tc := ⟨.hbm, 224, rfl⟩
abbrev main_v214 : Ref sig .tc := ⟨.hbm, 225, rfl⟩
abbrev main_v215 : Ref sig .tc := ⟨.hbm, 226, rfl⟩
abbrev main_v216 : Ref sig .tc := ⟨.hbm, 227, rfl⟩
abbrev main_v217 : Ref sig .tc := ⟨.hbm, 228, rfl⟩
abbrev main_v218 : Ref sig .tc := ⟨.hbm, 229, rfl⟩
abbrev main_v219 : Ref sig .tc := ⟨.hbm, 230, rfl⟩
abbrev main_v220 : Ref sig .tc := ⟨.hbm, 231, rfl⟩
abbrev main_v221 : Ref sig .tc := ⟨.hbm, 232, rfl⟩
abbrev main_v222 : Ref sig .tc := ⟨.hbm, 233, rfl⟩
abbrev main_v223 : Ref sig .tc := ⟨.hbm, 234, rfl⟩
abbrev main_v224 : Ref sig .tc := ⟨.hbm, 235, rfl⟩
abbrev main_v225 : Ref sig .tc := ⟨.hbm, 236, rfl⟩
abbrev main_cst_0 : Ref sig .tc := ⟨.hbm, 237, rfl⟩
abbrev main_v226 : Ref sig .tc := ⟨.hbm, 238, rfl⟩
abbrev main_v227 : Ref sig .tc := ⟨.hbm, 239, rfl⟩
abbrev main_cst_1 : Ref sig .tc := ⟨.hbm, 240, rfl⟩
abbrev main_v228 : Ref sig .tc := ⟨.hbm, 241, rfl⟩
abbrev main_v229 : Ref sig .tc := ⟨.hbm, 242, rfl⟩
abbrev main_v230 : Ref sig .tc := ⟨.hbm, 243, rfl⟩
abbrev main_v231 : Ref sig .tc := ⟨.hbm, 244, rfl⟩
abbrev main_v232 : Ref sig .tc := ⟨.hbm, 245, rfl⟩
abbrev main_cst_2 : Ref sig .tc := ⟨.hbm, 246, rfl⟩
abbrev main_v233 : Ref sig .tc := ⟨.hbm, 247, rfl⟩
abbrev main_v234 : Ref sig .tc := ⟨.hbm, 248, rfl⟩
abbrev main_cst_3 : Ref sig .tc := ⟨.hbm, 249, rfl⟩
abbrev main_v235 : Ref sig .tc := ⟨.hbm, 250, rfl⟩
abbrev main_v236 : Ref sig .tc := ⟨.hbm, 251, rfl⟩
abbrev main_cst_4 : Ref sig .tc := ⟨.hbm, 252, rfl⟩
abbrev main_v237 : Ref sig .tc := ⟨.hbm, 253, rfl⟩
abbrev main_v238 : Ref sig .tc := ⟨.hbm, 254, rfl⟩
abbrev main_v239 : Ref sig .tc := ⟨.hbm, 255, rfl⟩
abbrev main_v240 : Ref sig .tc := ⟨.hbm, 256, rfl⟩
abbrev main_v241 : Ref sig .tc := ⟨.hbm, 257, rfl⟩
abbrev main_v242 : Ref sig .tc := ⟨.hbm, 258, rfl⟩
abbrev main_v243 : Ref sig .tc := ⟨.hbm, 259, rfl⟩
abbrev main_v244 : Ref sig .tc := ⟨.hbm, 260, rfl⟩
abbrev main_v245 : Ref sig .tc := ⟨.hbm, 261, rfl⟩
abbrev main_v246 : Ref sig .tc := ⟨.hbm, 262, rfl⟩
abbrev main_v247 : Ref sig .tc := ⟨.hbm, 263, rfl⟩
abbrev main_call1_v0 : Ref sig .tc := ⟨.hbm, 264, rfl⟩
abbrev main_call1_v1 : Ref sig .tc := ⟨.hbm, 265, rfl⟩
abbrev main_call1_cst : Ref sig .tc := ⟨.hbm, 266, rfl⟩
abbrev main_call1_v2 : Ref sig .tc := ⟨.hbm, 267, rfl⟩
abbrev main_call1_v3 : Ref sig .tc := ⟨.hbm, 268, rfl⟩
abbrev main_call1_cst_0 : Ref sig .tc := ⟨.hbm, 269, rfl⟩
abbrev main_call1_v4 : Ref sig .tc := ⟨.hbm, 270, rfl⟩
abbrev main_call1_v5 : Ref sig .tc := ⟨.hbm, 271, rfl⟩
abbrev main_v248 : Ref sig .tc := ⟨.hbm, 272, rfl⟩
abbrev main_v249 : Ref sig .tc := ⟨.hbm, 273, rfl⟩
abbrev main_v250 : Ref sig .tc := ⟨.hbm, 274, rfl⟩
abbrev main_v251 : Ref sig .tc := ⟨.hbm, 275, rfl⟩
abbrev main_v252 : Ref sig .tc := ⟨.hbm, 276, rfl⟩
abbrev main_v253 : Ref sig .tc := ⟨.hbm, 277, rfl⟩
abbrev main_v254 : Ref sig .tc := ⟨.hbm, 278, rfl⟩
abbrev main_v255 : Ref sig .tc := ⟨.hbm, 279, rfl⟩

abbrev nD : Nat := 1
abbrev τ : Topo := Topo.v7x

variable {F : FTy → Type} [FloatOps F]
-- ==== Proof.FfnBlocks.lean ====
/- The FFN's input blocks, read at an index: which entries of the arguments a grid point sees. -/
module

public import proofs.«01_k».proof.Proof.Gen.Kernel2Ideal.Value
public import Idealize.ShloMosaic.Lib.Pipeline.ValueKit
public import Idealize.ShloMosaic.Lib.Pointwise
public import Idealize.ShloMosaic.Lib.Claim

@[expose] public section

set_option maxRecDepth 16384

noncomputable section

namespace Cert.Ffn

open Idealize.ShloMosaic Idealize.ShloMosaic.TcCoe Idealize.SL.Sem
open Cert.Kernel2Ideal Cert.Kernel2Ideal.Gen

/-- Where each input window stands at point `t`: row block `t / 11`, hidden block `t % 11` (the up half 11 blocks on). -/
theorem idx : ∀ t : Fin grid0.N, win0_0.index t = ![t.val / 11, 0] ∧ win0_1.index t = ![0, 0]
    ∧ win0_2.index t = ![1, 0, t.val % 11] ∧ win0_3.index t = ![1, 0, t.val % 11 + 11]
    ∧ win0_4.index t = ![1, t.val % 11, 0] ∧ win0_5.index t = ![0, 0] := by
  decide +kernel

variable (m : (ℓ : Loc nD τ sig) → Buf (Elt Ideal) ℓ) (c : Dev nD)

/-- The grid has 352 points. -/
theorem lt_N (t : Fin cfg0.N) : t.val < 352 := lt_of_lt_of_eq t.isLt N_0

theorem rows_at (t : Fin cfg0.N) (r : Fin 512) (k : Fin 2048) :
    iblk m c 0 t (ix2 r k) = m ((c : Thread nD τ).loc main_arg0)
      (ix2 ⟨512 * (t.val / 11) + r.val, by have := lt_N t; omega⟩ k) := by
  blk_ext [iblk, V, idx t]

theorem normw_at (t : Fin cfg0.N) (k : Fin 2048) :
    iblk m c 1 t (ix2 0 k) = m ((c : Thread nD τ).loc main_arg1) (ix2 1 k) := by
  blk_ext! [iblk, V, idx t]

theorem gate_at (t : Fin cfg0.N) (k : Fin 2048) (x : Fin 512) :
    iblk m c 2 t (ix3 0 k x) = m ((c : Thread nD τ).loc main_arg2)
      (ix3 1 k ⟨512 * (t.val % 11) + x.val, by omega⟩) := by
  blk_ext! [iblk, V, idx t]

theorem up_at (t : Fin cfg0.N) (k : Fin 2048) (x : Fin 512) :
    iblk m c 3 t (ix3 0 k x) = m ((c : Thread nD τ).loc main_arg2)
      (ix3 1 k ⟨5632 + (512 * (t.val % 11) + x.val), by omega⟩) := by
  blk_ext! [iblk, V, idx t]

theorem down_at (t : Fin cfg0.N) (x : Fin 512) (l : Fin 2048) :
    iblk m c 4 t (ix3 0 x l) = m ((c : Thread nD τ).loc main_arg3)
      (ix3 1 ⟨512 * (t.val % 11) + x.val, by omega⟩ l) := by
  blk_ext! [iblk, V, idx t]

theorem finalw_at (t : Fin cfg0.N) (k : Fin 2048) :
    iblk m c 5 t (ix2 0 k) = m ((c : Thread nD τ).loc main_arg4) (ix1 k) := by
  blk_ext! [iblk, V, idx t]

end Cert.Ffn

end
-- ==== Proof.FfnPoint.lean ====
/- The FFN's grid points: what each point leaves in the normed rows, the accumulator and the output block. -/
module

public import proofs.«01_k».proof.Proof.Gen.Kernel2Ideal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Ffn

open Idealize.ShloMosaic Idealize.ShloMosaic.TcCoe Idealize.SL.Sem
open Cert.Kernel2Ideal Cert.Kernel2Ideal.Gen

variable (m : (ℓ : Loc nD τ sig) → Buf (Elt Ideal) ℓ) (c : Dev nD)

/-- The first point of a row block: the rows are normed and stored, the accumulator starts at zero. -/
theorem at_reset (t : Fin cfg0.N) (h0 : t.val % 11 = 0) :
    (outsAt0 m c t.val t.isLt).2.1 = k0_pay2 (iblk m c 0 t) (iblk m c 1 t)
    ∧ (outsAt0 m c t.val t.isLt).2.2
      = k0_pay4 (k0_pay2 (iblk m c 0 t) (iblk m c 1 t)) (iblk m c 2 t) (iblk m c 3 t) (k0_pay3 (F := Ideal)) (iblk m c 4 t) := by
  have h1 : ¬ t.val % 11 = 10 := by omega
  rw [outsAt0_A m c t h0 h1]
  constructor
  · frame_out
  · frame_out

/-- Any later point of the row block: the normed rows stay, the accumulator takes one more term. -/
theorem at_step (t : Fin cfg0.N) (h0 : ¬ t.val % 11 = 0) (hp : t.val - 1 < cfg0.N) :
    (outsAt0 m c t.val t.isLt).2.1 = (outsAt0 m c (t.val - 1) hp).2.1
    ∧ (outsAt0 m c t.val t.isLt).2.2
      = k0_pay4 (outsAt0 m c (t.val - 1) hp).2.1 (iblk m c 2 t) (iblk m c 3 t)
          (outsAt0 m c (t.val - 1) hp).2.2 (iblk m c 4 t) := by
  by_cases h1 : t.val % 11 = 10
  · rw [outsAt0_C m c t h0 h1]
    refine ⟨rfl, ?_⟩
    frame_out
    simp only [read_unread_whole]
  · rw [outsAt0_B m c t h0 h1]
    refine ⟨rfl, ?_⟩
    frame_out
    simp only [read_unread_whole]

/-- The last point of the row block: the output block is the normed sum of the rows and the accumulator. -/
theorem at_last (t : Fin cfg0.N) (h1 : t.val % 11 = 10) :
    (outsAt0 m c t.val t.isLt).1 = k0_pay1 (iblk m c 0 t) (outsAt0 m c t.val t.isLt).2.2 (iblk m c 5 t) := by
  have h0 : ¬ t.val % 11 = 0 := by omega
  rw [outsAt0_C m c t h0 h1]
  frame_out

end Cert.Ffn

end
-- ==== Proof.Spec.lean ====
/- The layer's two formulas, over the extended reals: a row's root-mean-square norm and the gated product. -/
module

public import Idealize.ShloMosaic.Lib.Pointwise

@[expose] public section

noncomputable section

namespace Cert.Spec

open Idealize.ShloMosaic

/-- A row `x` of 2048 values over the root of its mean square, times the weights `w`: the reference's `rmsnorm`.
    The two constants are 2048 and the rounded 1e-6, both as the programs write them. -/
def rms (x w : Fin 2048 → EReal) (l : Fin 2048) : EReal :=
  x l * Ideal.rsqrt (Ideal.div (∑ k, x k * x k) (Ideal.ofBits FTy.f32 0x45000000#32)
    + Ideal.ofBits FTy.f32 0x358637BD#32) * w l

/-- `g` times its logistic value times `u`: the reference's `silu(g) * u`. -/
def swiglu (g u : EReal) : EReal := g * Ideal.div 1 (1 + Ideal.exp (0 - g)) * u

/-- A sum over `n` blocks of `B` is the sum over all of them in order. -/
theorem sum_blocks (B : ℕ) (g : ℕ → EReal) (n : ℕ) :
    ∑ s ∈ Finset.range n, ∑ x : Fin B, g (B * s + x.val) = ∑ j ∈ Finset.range (B * n), g j := by
  induction n with
  | zero => simp
  | succ n ih =>
    rw [Finset.sum_range_succ, ih, Nat.mul_succ, Finset.sum_range_add, Finset.sum_range fun x => g (B * n + x)]

end Cert.Spec

end
-- ==== Proof.FfnRef.lean ====
/- The FFN's reference, read at an index: the norm of the row it adds up, over the two normed products. -/
module

public import proofs.«01_k».proof.Proof.Gen.Reference2Ideal.Run
public import proofs.«01_k».proof.Proof.Spec

@[expose] public section

set_option maxRecDepth 16384

noncomputable section

namespace Cert.FfnRef

open Idealize.ShloMosaic Idealize.ShloMosaic.TcCoe Idealize.SL.Sem
open Cert.Reference2Ideal Cert.Reference2Ideal.Gen Cert.Spec

/-- Every row's norm, as the reference writes it. -/
def norm (h : FVec Ideal S16384x2048 .f32) (w : FVec Ideal S2048 .f32) : FVec Ideal S16384x2048 .f32 :=
  mulf (mulf h (broadcastInDim S16384x2048 ![0, 1] bcast_S16384x1_S16384x2048_0_1 (Host.rsqrt (addf (Host.divf (broadcastInDim S16384x1 ![0] bcast_S16384_S16384x1_0 (Host.reduceAdd (mulf h h) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32))))))
    (broadcastInDim S16384x2048 ![0, 1] bcast_S1x2048_S16384x2048_0_1 (broadcastInDim S1x2048 ![1] bcast_S2048_S1x2048_1 w))

/-- Gate and up projection of the normed rows, side by side. -/
def gateUp (x : FVec Ideal S16384x2048 .f32) (w : FVec Ideal S2x2048x11264 .f32) : FVec Ideal S16384x11264 .f32 :=
  Host.dotGeneral dot_S16384x2048_S2048x11264_S16384x11264_1_0_0_1_n_n none x (shapeCast _ (extractStridedSlice S1x2048x11264 ![1, 0, 0] w slices_S2x2048x11264_S1x2048x11264_1_0_0) shapeCasts_S1x2048x11264_S2048x11264)

/-- The gated product of the two halves. -/
def act (y : FVec Ideal S16384x11264 .f32) : FVec Ideal S16384x5632 .f32 :=
  mulf (mulf (extractStridedSlice S16384x5632 ![0, 0] y slices_S16384x11264_S16384x5632_0_0) (Host.divf (broadcastInDim S16384x5632 ![] bcast_S_S16384x5632 (constant S_ .f32 0x3F800000#32)) (addf (broadcastInDim S16384x5632 ![] bcast_S_S16384x5632 (constant S_ .f32 0x3F800000#32)) (Host.exp (Host.negf (extractStridedSlice S16384x5632 ![0, 0] y slices_S16384x11264_S16384x5632_0_0))))))
    (extractStridedSlice S16384x5632 ![0, 5632] y slices_S16384x11264_S16384x5632_0_5632)

/-- The down projection added onto the rows. -/
def down (h : FVec Ideal S16384x2048 .f32) (a : FVec Ideal S16384x5632 .f32) (w : FVec Ideal S2x5632x2048 .f32) : FVec Ideal S16384x2048 .f32 :=
  addf h (Host.dotGeneral dot_S16384x5632_S5632x2048_S16384x2048_1_0_0_1_n_n none a (shapeCast _ (extractStridedSlice S1x5632x2048 ![1, 0, 0] w slices_S2x5632x2048_S1x5632x2048_1_0_0) shapeCasts_S1x5632x2048_S5632x2048))

/-- Layer 1's row of the norm weights. -/
def row1 (w : FVec Ideal S2x2048 .f32) : FVec Ideal S2048 .f32 :=
  shapeCast _ (extractStridedSlice S1x2048 ![1, 0] w slices_S2x2048_S1x2048_1_0) shapeCasts_S1x2048_S2048

theorem norm_apply (h : FVec Ideal S16384x2048 .f32) (w : FVec Ideal S2048 .f32) (r : Fin 16384) (l : Fin 2048) :
    norm h w (ix2 r l) = rms (fun k => h (ix2 r k)) (fun k => w (ix1 k)) l := by
  pointwise [norm, rms]

theorem gateUp_apply (x : FVec Ideal S16384x2048 .f32) (w : FVec Ideal S2x2048x11264 .f32) (r : Fin 16384) (j : Fin 11264) :
    gateUp x w (ix2 r j) = ∑ k, x (ix2 r k) * w (ix3 1 k j) := by
  pointwise [gateUp]

theorem act_apply (y : FVec Ideal S16384x11264 .f32) (r : Fin 16384) (j : Fin 5632) :
    act y (ix2 r j) = swiglu (y (ix2 r ⟨j.val, by omega⟩)) (y (ix2 r ⟨5632 + j.val, by omega⟩)) := by
  pointwise [act, swiglu]
  simp only [zero_sub]

theorem down_apply (h : FVec Ideal S16384x2048 .f32) (a : FVec Ideal S16384x5632 .f32) (w : FVec Ideal S2x5632x2048 .f32)
    (r : Fin 16384) (l : Fin 2048) :
    down h a w (ix2 r l) = h (ix2 r l) + ∑ j, a (ix2 r j) * w (ix3 1 j l) := by
  pointwise [down]

theorem row1_apply (w : FVec Ideal S2x2048 .f32) (l : Fin 2048) : row1 w (ix1 l) = w (ix2 1 l) := by
  pointwise [row1]

variable (m : (ℓ : Loc nD τ sig) → Buf (Elt Ideal) ℓ) (c : Dev nD)

set_option maxHeartbeats 2000000 in
/-- The reference's result is these five, composed. -/
theorem result_eq : Value.res_main_v38 m c
    = norm (down (m ((c.tc : Thread nD τ).loc main_arg0))
        (act (gateUp (norm (m ((c.tc : Thread nD τ).loc main_arg0)) (row1 (m ((c.tc : Thread nD τ).loc main_arg1))))
          (m ((c.tc : Thread nD τ).loc main_arg2)))) (m ((c.tc : Thread nD τ).loc main_arg3)))
        (m ((c.tc : Thread nD τ).loc main_arg4)) := rfl

end Cert.FfnRef

end
-- ==== Proof.FfnValue.lean ====
/- The FFN's result: every entry of the kernel's array is the reference's. -/
module

public import proofs.«01_k».proof.Proof.FfnBlocks
public import proofs.«01_k».proof.Proof.FfnPoint
public import proofs.«01_k».proof.Proof.FfnRef

@[expose] public section

set_option maxRecDepth 16384

noncomputable section

namespace Cert.Ffn

open Idealize.ShloMosaic Idealize.ShloMosaic.TcCoe Idealize.SL.Sem
open Cert.Kernel2Ideal Cert.Kernel2Ideal.Gen Cert.Spec

/-! ## The payloads, read at an index -/

theorem pay1_apply (x y : Vec Ideal S512x2048 .f32) (w : Vec Ideal S1x2048 .f32) (r : Fin 512) (l : Fin 2048) :
    k0_pay1 x y w (ix2 r l) = rms (fun k => x (ix2 r k) + y (ix2 r k)) (fun k => w (ix2 0 k)) l := by
  pointwise [k0_pay1, rms]

theorem pay2_apply (x : Vec Ideal S512x2048 .f32) (w : Vec Ideal S1x2048 .f32) (r : Fin 512) (l : Fin 2048) :
    k0_pay2 x w (ix2 r l) = rms (fun k => x (ix2 r k)) (fun k => w (ix2 0 k)) l := by
  pointwise [k0_pay2, rms]

theorem pay3_apply (r : Fin 512) (l : Fin 2048) : k0_pay3 (F := Ideal) (ix2 r l) = 0 := by
  pointwise [k0_pay3]

theorem pay4_apply (hn : Vec Ideal S512x2048 .bf16) (wg wu : Vec Ideal S1x2048x512 .bf16)
    (acc : Vec Ideal S512x2048 .f32) (wd : Vec Ideal S1x512x2048 .bf16) (r : Fin 512) (l : Fin 2048) :
    k0_pay4 hn wg wu acc wd (ix2 r l) = acc (ix2 r l)
      + ∑ x : Fin 512, swiglu (∑ k, hn (ix2 r k) * wg (ix3 0 k x)) (∑ k, hn (ix2 r k) * wu (ix3 0 k x))
          * wd (ix3 0 x l) := by
  pointwise [k0_pay4, swiglu]

variable (m : (ℓ : Loc nD τ sig) → Buf (Elt Ideal) ℓ) (c : Dev nD)

/-! ## The rows' quantities -/

/-- Row `R` of the activations, normed with layer 1's weights. -/
def hn (R : Fin 16384) (k : Fin 2048) : EReal :=
  rms (fun k => m ((c : Thread nD τ).loc main_arg0) (ix2 R k)) (fun k => m ((c : Thread nD τ).loc main_arg1) (ix2 1 k)) k

/-- Hidden unit `j` of row `R`. -/
def act (R : Fin 16384) (j : Fin 5632) : EReal :=
  swiglu (∑ k, hn m c R k * m ((c : Thread nD τ).loc main_arg2) (ix3 1 k ⟨j.val, by omega⟩))
    (∑ k, hn m c R k * m ((c : Thread nD τ).loc main_arg2) (ix3 1 k ⟨5632 + j.val, by omega⟩))

/-- What hidden unit `j` adds to entry `l` of row `R` (nothing past the last unit). -/
def term (R : Fin 16384) (l : Fin 2048) (j : ℕ) : EReal :=
  if h : j < 5632 then act m c R ⟨j, h⟩ * m ((c : Thread nD τ).loc main_arg3) (ix3 1 ⟨j, h⟩ l) else 0

/-- Row `r` of point `t`'s row block. -/
def row (t : Fin cfg0.N) (r : Fin 512) : Fin 16384 := ⟨512 * (t.val / 11) + r.val, by have := lt_N t; omega⟩

/-- Two points of one row block have the same rows. -/
theorem row_pred (t : Fin cfg0.N) (h0 : ¬ t.val % 11 = 0) (hp : t.val - 1 < cfg0.N) (r : Fin 512) :
    row ⟨t.val - 1, hp⟩ r = row t r := by
  apply Fin.ext
  show 512 * ((t.val - 1) / 11) + r.val = 512 * (t.val / 11) + r.val
  have : (t.val - 1) / 11 = t.val / 11 := by omega
  rw [this]

/-! ## What the two scratch buffers hold -/

/-- The block a point adds, over normed rows `x` that are this row block's. -/
theorem block_term (t : Fin cfg0.N) (x : Vec Ideal S512x2048 .bf16) (r : Fin 512) (l : Fin 2048)
    (hx : ∀ k, x (ix2 r k) = hn m c (row t r) k) (acc : Vec Ideal S512x2048 .f32) :
    k0_pay4 x (iblk m c 2 t) (iblk m c 3 t) acc (iblk m c 4 t) (ix2 r l)
      = acc (ix2 r l) + ∑ s : Fin 512, term m c (row t r) l (512 * (t.val % 11) + s.val) := by
  rw [pay4_apply]
  congr 1
  refine Finset.sum_congr rfl fun s _ => ?_
  have hs : 512 * (t.val % 11) + s.val < 5632 := by omega
  rw [term, dif_pos hs, down_at, act]
  simp only [hx, gate_at, up_at]

/-- After every point: the normed rows of its row block, and the sum of the hidden blocks met so far. -/
theorem held (n : ℕ) : ∀ (h : n < cfg0.N) (r : Fin 512),
    (∀ k, (outsAt0 m c n h).2.1 (ix2 r k) = hn m c (row ⟨n, h⟩ r) k)
    ∧ ∀ l, (outsAt0 m c n h).2.2 (ix2 r l)
        = ∑ s ∈ Finset.range (n % 11 + 1), ∑ x : Fin 512, term m c (row ⟨n, h⟩ r) l (512 * s + x.val) := by
  induction n with
  | zero =>
    intro h r
    obtain ⟨e1, e2⟩ := at_reset m c ⟨0, h⟩ rfl
    have hx : ∀ k, k0_pay2 (iblk m c 0 ⟨0, h⟩) (iblk m c 1 ⟨0, h⟩) (ix2 r k) = hn m c (row ⟨0, h⟩ r) k := fun k => by
      rw [pay2_apply, hn]; simp only [rows_at, normw_at, row]
    refine ⟨fun k => (congrFun e1 _).trans (hx k), fun l => (congrFun e2 _).trans ?_⟩
    rw [block_term m c ⟨0, h⟩ _ r l hx, pay3_apply, zero_add]
    simp
  | succ n ih =>
    intro h r
    by_cases h0 : (n + 1) % 11 = 0
    · obtain ⟨e1, e2⟩ := at_reset m c ⟨n + 1, h⟩ h0
      have hx : ∀ k, k0_pay2 (iblk m c 0 ⟨n + 1, h⟩) (iblk m c 1 ⟨n + 1, h⟩) (ix2 r k) = hn m c (row ⟨n + 1, h⟩ r) k :=
        fun k => by rw [pay2_apply, hn]; simp only [rows_at, normw_at, row]
      refine ⟨fun k => (congrFun e1 _).trans (hx k), fun l => (congrFun e2 _).trans ?_⟩
      rw [block_term m c ⟨n + 1, h⟩ _ r l hx, pay3_apply, zero_add, h0]
      simp [h0]
    · have hp : n < cfg0.N := Nat.lt_of_succ_lt h
      obtain ⟨e1, e2⟩ := at_step m c ⟨n + 1, h⟩ h0 hp
      have hrow : row ⟨n, hp⟩ r = row ⟨n + 1, h⟩ r := row_pred ⟨n + 1, h⟩ h0 hp r
      have hx : ∀ k, (outsAt0 m c n hp).2.1 (ix2 r k) = hn m c (row ⟨n + 1, h⟩ r) k := fun k => by
        rw [(ih hp r).1 k, hrow]
      refine ⟨fun k => (congrFun e1 _).trans (hx k), fun l => (congrFun e2 _).trans ?_⟩
      refine (block_term m c ⟨n + 1, h⟩ _ r l hx _).trans ?_
      have hm : (n + 1) % 11 = n % 11 + 1 := by omega
      rw [show (outsAt0 m c (n + 1 - 1) hp).2.2 (ix2 r l) = _ from (ih hp r).2 l, hrow]
      simp only [hm]
      rw [Finset.sum_range_succ _ (n % 11 + 1)]

/-- Entry `k` of row `R` of the activations. -/
abbrev x0 (R : Fin 16384) (k : Fin 2048) : EReal := m ((c : Thread nD τ).loc main_arg0) (ix2 R k)

/-- The reference's entry, over the same quantities. -/
def entry (R : Fin 16384) (l : Fin 2048) : EReal :=
  rms (fun k => x0 m c R k + ∑ j, act m c R j * m ((c : Thread nD τ).loc main_arg3) (ix3 1 j k))
    (fun k => m ((c : Thread nD τ).loc main_arg4) (ix1 k)) l

/-- The eleven hidden blocks are all of the hidden units. -/
theorem sum_terms (R : Fin 16384) (l : Fin 2048) :
    ∑ s ∈ Finset.range 11, ∑ x : Fin 512, term m c R l (512 * s + x.val)
      = ∑ j, act m c R j * m ((c : Thread nD τ).loc main_arg3) (ix3 1 j l) := by
  rw [sum_blocks 512 (term m c R l) 11, Finset.sum_range]
  refine Finset.sum_congr rfl fun j _ => ?_
  rw [term, dif_pos j.isLt]

/-- The output block at the last point of a row block. -/
theorem out_at (t : Fin cfg0.N) (h : t.val % 11 = 10) (r : Fin 512) (l : Fin 2048) :
    (outsAt0 m c t.val t.isLt).1 (ix2 r l) = entry m c (row t r) l := by
  rw [at_last m c t h, pay1_apply, entry]
  have e : ∀ k, (outsAt0 m c t.val t.isLt).2.2 (ix2 r k)
      = ∑ j, act m c (row t r) j * m ((c : Thread nD τ).loc main_arg3) (ix3 1 j k) := fun k => by
    rw [(held m c t.val t.isLt r).2 k, h]; exact sum_terms m c _ k
  simp only [e, rows_at, finalw_at, row, x0]

/-- The kernel's result array. -/
theorem result_apply (R : Fin 16384) (l : Fin 2048) : Value.G6 m c (ix2 R l) = entry m c R l := by
  have hN : cfg0.N = 352 := N_0
  have hb : Value.pt6Of (ix2 R l) < cfg0.N := by
    show 11 * (1 * (R.val / 512 - 0) + 1 * (l.val / 2048 - 0)) + 10 < cfg0.N
    omega
  have hv : Value.pt6Of (ix2 R l) = 11 * (R.val / 512) + 10 := by
    show 11 * (1 * (R.val / 512 - 0) + 1 * (l.val / 2048 - 0)) + 10 = _
    omega
  have hl : Value.loc6Of (ix2 R l) = ix2 ⟨R.val % 512, Nat.mod_lt _ (by decide)⟩ l := by
    funext a
    match a with
    | ⟨0, _⟩ => rfl
    | ⟨1, _⟩ => exact Fin.ext (Nat.mod_eq_of_lt l.isLt)
  rw [Value.G6, dif_pos hb, ← Value.outsAt0_sweep m c _ hb, hl]
  refine (out_at m c ⟨_, hb⟩ (by show Value.pt6Of (ix2 R l) % 11 = 10; omega) _ l).trans ?_
  congr 1
  apply Fin.ext
  show 512 * (Value.pt6Of (ix2 R l) / 11) + R.val % 512 = R.val
  omega

end Cert.Ffn

end
-- ==== Proof.FfnClaim.lean ====
/- The FFN's algebraic claim: kernel and reference end with the same array. -/
module

public import proofs.«01_k».proof.Defs
public import proofs.«01_k».proof.Proof.FfnValue

@[expose] public section

set_option maxRecDepth 16384

noncomputable section

namespace Cert.Ffn

open Idealize.ShloMosaic Idealize.ShloMosaic.TcCoe Idealize.SL.Sem
open Cert.Kernel2Ideal Cert.Kernel2Ideal.Gen Cert.Spec

variable (m : (ℓ : Loc nD τ sig) → Buf (Elt Ideal) ℓ) (c : Dev nD)
variable (m' : (ℓ : Loc Cert.Reference2Ideal.nD Cert.Reference2Ideal.τ Cert.Reference2Ideal.sig) → Buf (Elt Ideal) ℓ)

/-- From equal arguments the reference's entry is the kernel's. -/
theorem ref_apply
    (h0 : m' ((c.tc : Thread Cert.Reference2Ideal.nD Cert.Reference2Ideal.τ).loc Cert.Reference2Ideal.main_arg0) = m ((c.tc : Thread nD τ).loc main_arg0))
    (h1 : m' ((c.tc : Thread Cert.Reference2Ideal.nD Cert.Reference2Ideal.τ).loc Cert.Reference2Ideal.main_arg1) = m ((c.tc : Thread nD τ).loc main_arg1))
    (h2 : m' ((c.tc : Thread Cert.Reference2Ideal.nD Cert.Reference2Ideal.τ).loc Cert.Reference2Ideal.main_arg2) = m ((c.tc : Thread nD τ).loc main_arg2))
    (h3 : m' ((c.tc : Thread Cert.Reference2Ideal.nD Cert.Reference2Ideal.τ).loc Cert.Reference2Ideal.main_arg3) = m ((c.tc : Thread nD τ).loc main_arg3))
    (h4 : m' ((c.tc : Thread Cert.Reference2Ideal.nD Cert.Reference2Ideal.τ).loc Cert.Reference2Ideal.main_arg4) = m ((c.tc : Thread nD τ).loc main_arg4))
    (R : Fin 16384) (l : Fin 2048) :
    Cert.Reference2Ideal.Value.res_main_v38 m' c (ix2 R l) = entry m c R l := by
  rw [FfnRef.result_eq, h0, h1, h2, h3, h4]
  refine (FfnRef.norm_apply _ _ R l).trans ?_
  rw [entry]
  congr 1
  funext k
  rw [FfnRef.down_apply]
  congr 1
  refine Finset.sum_congr rfl fun j _ => ?_
  rw [FfnRef.act_apply, FfnRef.gateUp_apply, FfnRef.gateUp_apply, act]
  simp only [FfnRef.norm_apply, FfnRef.row1_apply, hn]

/-- The two programs end with equal results. -/
theorem claim : Cert.algebraic_Kernel2Ideal_Reference2Ideal := by
  intro m g m' g' _ hagree
  refine ⟨fun c => Value.G6 m c, Value.run m g, ?_⟩
  refine (θ_run _ _ _).mono (fun r h c => ?_) (Cert.Reference2Ideal.Value.run m' g')
  obtain ⟨h0, h1, h2, h3, h4⟩ := hagree c
  refine ⟨(h c).1.trans ?_, (h c).2⟩
  funext i
  rw [eq_ix2 i]
  exact (ref_apply m c m' h0 h1 h2 h3 h4 _ _).trans (result_apply m c _ _).symm

end Cert.Ffn

end
-- ==== Proof.InProjRun.lean ====
/- The input projection's body, run once at each of its two kinds of grid point, with what it leaves in closed form: the
   first point of a row block norms the rows, stores them and multiplies them by the last columns of the weight; every
   point multiplies the stored rows by its own block of columns. -/
module

public import proofs.«01_k».proof.Proof.Gen.Kernel3Ideal.Skeleton
public import proofs.«01_k».proof.Proof.Gen.Kernel3Ideal.Frame
public import Idealize.ShloMosaic.Lib.Pipeline.ValueKit
public import Idealize.ShloMosaic.Lib.Pipeline.ReadBack
public import Idealize.ShloMosaic.Lib.VecWindow

@[expose] public section

set_option maxRecDepth 16384

noncomputable section

namespace Cert.InProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel3Ideal Cert.Kernel3Ideal.Gen

variable {F : FTy → Type} [FloatOps F]

local notation "𝕄" => MT nD τ sig Unit (Elt F) ℕ (UR sig nD τ) ℕ

/-- The body's one condition: the point is the first of its row block. -/
abbrev first (i : grid0.Coords) : Prop := k0_cond1 i = 1#1

/-- Twelve points make a row block. -/
theorem first_iff (t : Fin cfg0.N) : first (grid0.coords t) ↔ t.val % 12 = 0 := by
  have ht : t.val < 192 := Nat.lt_of_lt_of_eq t.isLt N_0
  have e0 : (grid0.coords t 0).val = t.val / 12 % 16 := Pipeline.Grid.coords_val t 0 (by decide) rfl
  have e1 : (grid0.coords t 1).val = t.val / 1 % 12 := Pipeline.Grid.coords_val t 1 (by decide) rfl
  simp only [first, k0_cond1, e0, e1]
  word_cmp

section

variable (c : Dev nD) (i : grid0.Coords)
  (arg2 : Memref sig .tc .vmem S1024x2048 .f32) (harg2 : arg2.IsWhole)
  (arg3 : Memref sig .tc .vmem S1x2048 .f32) (harg3 : arg3.IsWhole)
  (arg4 : Memref sig .tc .vmem S2048x1024 .bf16) (harg4 : arg4.IsWhole)
  (arg5 : Memref sig .tc .vmem S2048x128 .bf16) (harg5 : arg5.IsWhole)
  (arg6 : Memref sig .tc .vmem S1024x1024 .f32) (harg6 : arg6.IsWhole)
  (arg7 : Memref sig .tc .vmem S1024x128 .f32) (harg7 : arg7.IsWhole)
  (arg8 : Memref sig .tc .vmem S1024x2048 .bf16) (harg8 : arg8.IsWhole)
  (x0 : Vec F S1024x2048 .f32) (x1 : Vec F S1x2048 .f32) (x2 : Vec F S2048x1024 .bf16) (x3 : Vec F S2048x128 .bf16)

set_option maxHeartbeats 1000000 in
/-- A first point: the normed rows are left in the scratch, and both products of them in the output blocks. -/
theorem run_first (hc : first i) (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ (∃ d, owns (c : Thread nD τ) arg8 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (k0_pay4 (k0_pay2 x0 x1) x2)
            ∗ owns (c : Thread nD τ) arg7 fullShare (k0_pay3 x0 x1 x3)
            ∗ owns (c : Thread nD τ) arg8 fullShare (k0_pay2 x0 x1)) -∗ K ⟨⟩))
      ⊢ wp frame (wpE (defs₀ (F := F)) Variants.none c none) E
          (cc0_in_proj i arg2 harg2 arg3 harg3 arg4 harg4 arg5 harg5 arg6 harg6 arg7 harg7 arg8 harg8) K := by
  simp only [cc0_in_proj_eq_skeleton]; unfold cc0_in_proj_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds, %fs, -, HS⟩, Hk⟩
  obtain rfl := harg2.eq_unread hf0; obtain rfl := harg3.eq_unread hf1
  obtain rfl := harg4.eq_unread hf2; obtain rfl := harg5.eq_unread hf3
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    refine (View.read_writes_full _ _ _ _ _).trans ?_
    frame_out
  isplitl [H5]
  · iexists _; isplitr; swap; · iexact H5
    ipureintro
    refine (View.read_writes_full _ _ _ _ _).trans ?_
    frame_out
  iexists _; isplitr; swap; · iexact HS
  ipureintro
  refine (View.read_writes_full _ _ _ _ _).trans ?_
  frame_out

set_option maxHeartbeats 1000000 in
/-- A later point: the stored rows stay, their product with the point's columns is left in its output block. -/
theorem run_later (hc : ¬ first i) (x5 : Vec F S1024x128 .f32) (h : Vec F S1024x2048 .bf16) (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ owns (c : Thread nD τ) arg7 fullShare x5
        ∗ owns (c : Thread nD τ) arg8 fullShare h
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (k0_pay4 h x2)
            ∗ owns (c : Thread nD τ) arg7 fullShare x5
            ∗ owns (c : Thread nD τ) arg8 fullShare h) -∗ K ⟨⟩))
      ⊢ wp frame (wpE (defs₀ (F := F)) Variants.none c none) E
          (cc0_in_proj i arg2 harg2 arg3 harg3 arg4 harg4 arg5 harg5 arg6 harg6 arg7 harg7 arg8 harg8) K := by
  simp only [cc0_in_proj_eq_skeleton]; unfold cc0_in_proj_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs, %hfs, HS⟩, Hk⟩
  obtain rfl := harg4.eq_unread hf2; obtain rfl := harg8.eq_unread hfs
  sl_exec (disch := first | sl_exact hc)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact harg4.read_unread _
    iexact H2
  isplitl [H3]
  · iexists _; isplitr; · ipureintro; exact hf3
    iexact H3
  isplitl [H4]
  · iexists _; isplitr; swap; · iexact H4
    ipureintro
    refine (View.read_writes_full _ _ _ _ _).trans ?_
    frame_out
  isplitl [H5]
  · iexists _; isplitr; · ipureintro; exact hf5
    iexact H5
  iexists _; isplitr; · ipureintro; exact harg8.read_unread _
  iexact HS

end

end Cert.InProj

end
-- ==== Proof.InProjFrame.lean ====
/- The input projection's frame: what every grid point leaves, the invariant between points (the normed rows of the row
   block stay in the scratch), the body obligation and the run of the whole program. -/
module

public import proofs.«01_k».proof.Proof.InProjRun
public import Idealize.ShloMosaic.Lib.Pipeline.TableIdle

@[expose] public section

set_option maxRecDepth 16384

noncomputable section

namespace Cert.InProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Kernel3Ideal Cert.Kernel3Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The grid has 192 points. -/
theorem lt_N (t : Fin cfg0.N) : t.val < 192 := lt_of_lt_of_eq t.isLt N_0

/-- The first point of the row block of point `n`. -/
def start (n : ℕ) (h : n < cfg0.N) : Fin cfg0.N := ⟨n / 12 * 12, by omega⟩

theorem start_first (t : Fin cfg0.N) (h : t.val % 12 = 0) : start t.val t.isLt = t := Fin.ext (by show t.val / 12 * 12 = t.val; omega)

theorem start_pred (t : Fin cfg0.N) (h : ¬ t.val % 12 = 0) :
    start (t.val - 1) (by omega) = start t.val t.isLt := Fin.ext (by show (t.val - 1) / 12 * 12 = t.val / 12 * 12; omega)

/-- The normed rows of point `n`'s row block. -/
def rows (c : Dev nD) (n : ℕ) (h : n < cfg0.N) : FVec F S1024x2048 .bf16 :=
  k0_pay2 (iblk m c 0 (start n h)) (iblk m c 1 (start n h))

/-- Their product with the last columns of the weight. -/
def tail (c : Dev nD) (n : ℕ) (h : n < cfg0.N) : FVec F S1024x128 .f32 :=
  k0_pay3 (iblk m c 0 (start n h)) (iblk m c 1 (start n h)) (iblk m c 3 (start n h))

/-- The scratch is the one buffer the region leaves to the body. -/
theorem start_inv (c : Dev nD) :
    (Pipeline.ΦA spec0 c : sProp 𝕄)
      = iprop((∃ d, owns (c : Thread nD τ) (Memref.whole cc0_scratch0) fullShare d) ∗ (∃ r, prngReg c r)) := by
  unfold Pipeline.ΦA; rw [scopedRest0_eq]; simp only [owns_whole]; try rfl

/-- Before the first point the scratch holds anything; after point `n` it holds the rows of that point's block. -/
def inv (c : Dev nD) : (n : ℕ) → n ≤ cfg0.N → sProp 𝕄
  | 0, _ => Pipeline.ΦA spec0 c
  | n + 1, hn => iprop(owns (c : Thread nD τ) (Memref.whole cc0_scratch0) fullShare (rows m c n hn) ∗ (∃ r, prngReg c r))

theorem inv_succ (c : Dev nD) (n : ℕ) (hn : n < cfg0.N) :
    inv m c (n + 1) hn = iprop(owns (c : Thread nD τ) (Memref.whole cc0_scratch0) fullShare (rows m c n hn)
      ∗ (∃ r, prngReg c r)) := rfl

theorem inv_pos (c : Dev nD) (n : ℕ) (h : n ≤ cfg0.N) (hz : n ≠ 0) :
    inv m c n h = iprop(owns (c : Thread nD τ) (Memref.whole cc0_scratch0) fullShare (rows m c (n - 1) (by omega))
      ∗ (∃ r, prngReg c r)) := by
  cases n with
  | zero => exact absurd rfl hz
  | succ n => rfl

/-- Whatever the point, the invariant lends the scratch at some contents. -/
theorem inv_any (c : Dev nD) (n : ℕ) (h : n ≤ cfg0.N) : inv m c n h ⊢ Pipeline.ΦA spec0 c := by
  by_cases hz : n = 0
  · subst hz; exact Idealize.SL.BI.Entails.refl _
  · rw [inv_pos m c n h hz, start_inv]
    iintro ⟨HS, Hg⟩
    isplitl [HS]
    · iexists _; iexact HS
    iexact Hg

/-- What each window's buffer holds after the body: an input its block, the two outputs the rows' products. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => k0_pay4 (rows m c t.val t.isLt) (X0_2 m c t)
    | ⟨5, _⟩ => tail m c t.val t.isLt
  Φ t := inv m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = inv m c t.val (Nat.le_of_lt t.isLt) := by
  dsimp only [dats]; exact Dat.Φ_castSucc (inv m c) t

section

variable (c : Dev nD) (t : Fin cfg0.N)

theorem after_0 : (dats m 0 c).after 0 t = iblk m c 0 t := by dsimp only [dats]
theorem after_1 : (dats m 0 c).after 1 t = iblk m c 1 t := by dsimp only [dats]
theorem after_2 : (dats m 0 c).after 2 t = X0_2 m c t := by dsimp only [dats]
theorem after_3 : (dats m 0 c).after 3 t = iblk m c 3 t := by dsimp only [dats]
theorem after_4 : (dats m 0 c).after 4 t = k0_pay4 (rows m c t.val t.isLt) (X0_2 m c t) := by dsimp only [dats]
theorem after_5 : (dats m 0 c).after 5 t = tail m c t.val t.isLt := by dsimp only [dats]

theorem before_0 (d) : (dats m 0 c).before 0 t d = iblk m c 0 t :=
  before0_0_of m (dats m 0 c) (A_eq m c 0) (after_0 m c) t d
theorem before_1 (d) : (dats m 0 c).before 1 t d = iblk m c 1 t :=
  before0_1_of m (dats m 0 c) (A_eq m c 1) (after_1 m c) t d
theorem before_2 (d) : (dats m 0 c).before 2 t d = X0_2 m c t :=
  before0_2_of m (dats m 0 c) (A_eq m c 2) (after_2 m c) t d
theorem before_3 (d) : (dats m 0 c).before 3 t d = iblk m c 3 t :=
  before0_3_of m (dats m 0 c) (A_eq m c 3) (after_3 m c) t d

/-- The last columns' window is written at the first point of a row block only. -/
theorem idle_iff : cfg0.idle 5 (grid0.coords t) = true ↔ ¬ t.val % 12 = 0 := by
  rw [← first_iff t]
  show (!(k0_cond1 (grid0.coords t) == 1#1)) = true ↔ _
  simp [first]

/-- Between two row blocks it is not fresh. -/
theorem not_fresh : ∀ t : Fin cfg0.N, ¬ t.val % 12 = 0 → cfg0.fresh 5 t.val = false := by decide +kernel

/-- At a later point of a row block its buffer holds what the first left. -/
theorem before_5 (h : ¬ t.val % 12 = 0) (d) : (dats m 0 c).before 5 t d = tail m c t.val t.isLt := by
  have e : ∀ t : Fin cfg0.N, ¬ t.val % 12 = 0 → tail m c (t.val - 1) (by omega) = tail m c t.val t.isLt := fun t h => by
    unfold tail; rw [start_pred t h]
  rw [(dats m 0 c).before_out_traj 5 rfl (fun _ _ => rfl)
    (fun t _ hi _ => by rw [after_5, after_5]; exact (e t ((idle_iff t).mp hi)).symm) t.val t rfl d,
    not_fresh t h, if_neg Bool.false_ne_true, after_5]
  exact e t h

end

/-- Each window's current buffer at a point, as the pipeline passes it. -/
abbrev buf (t : Fin cfg0.N) (w : Fin cfg0.W) := (cfg0.win w).stage (cfg0.slots t w)

/-- What the body is called with at a point, window by window, -/
def pre (c : Dev nD) (t : Fin cfg0.N) : sProp 𝕄 :=
  iprop((dats m 0 c).Φ t.castSucc ∗ (dats m 0 c).owesAt () t.castSucc
    ∗ (∃ d, owns (c : Thread nD τ) (buf t 0) fullShare ((dats m 0 c).before 0 t d))
    ∗ (∃ d, owns (c : Thread nD τ) (buf t 1) fullShare ((dats m 0 c).before 1 t d))
    ∗ (∃ d, owns (c : Thread nD τ) (buf t 2) fullShare ((dats m 0 c).before 2 t d))
    ∗ (∃ d, owns (c : Thread nD τ) (buf t 3) fullShare ((dats m 0 c).before 3 t d))
    ∗ (∃ d, owns (c : Thread nD τ) (buf t 4) fullShare ((dats m 0 c).before 4 t d))
    ∗ (∃ d, owns (c : Thread nD τ) (buf t 5) fullShare ((dats m 0 c).before 5 t d)))

/-- and what it returns. -/
def post (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

/-- A window that no point leaves alone is left at its stated contents. -/
theorem leaves_live (c : Dev nD) (t : Fin cfg0.N) (w : Fin cfg0.W) (h : cfg0.idle w (grid0.coords t) = false) :
    (dats m 0 c).leavesExact w t = owns (c : Thread nD τ) (buf t w) fullShare ((dats m 0 c).after w t) := by
  unfold Dat.leavesExact; rw [h]

/-- The last columns' window, left alone at a later point, is left at the same contents. -/
theorem leaves_5 (c : Dev nD) (t : Fin cfg0.N) (h : ¬ t.val % 12 = 0) :
    (owns (c : Thread nD τ) (buf t 5) fullShare (tail m c t.val t.isLt) : sProp 𝕄) ⊢ (dats m 0 c).leavesExact 5 t := by
  have hi := (idle_iff t).mpr h
  cases hf : (cfg0.win 5).flush t
  · rw [Dat.leavesExact_idle (dats m 0 c) 5 t hi hf]
    simp only [before_5 m c t h]
    iintro H
    iexists (fun _ => Classical.choice inferInstance); iexact H
  · unfold Dat.leavesExact
    rw [hi, hf, after_5]

set_option maxHeartbeats 4000000 in
/-- The body at any point. -/
theorem body (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3]
  rw [show (dats m 0 c).owesAt () t.succ = (dats m 0 c).owesAt () t.castSucc from rfl]
  rw [show (dats m 0 c).Φ t.succ = inv m c (t.val + 1) t.isLt from rfl, inv_succ, inv_castSucc]
  rw [leaves_live m c t 0 rfl, leaves_live m c t 1 rfl, leaves_live m c t 2 rfl, leaves_live m c t 3 rfl, leaves_live m c t 4 rfl,
    after_0, after_1, after_2, after_3, after_4]
  by_cases h : t.val % 12 = 0
  · rw [leaves_live m c t 5 (by
      cases hi : cfg0.idle 5 (grid0.coords t)
      · rfl
      · exact absurd h ((idle_iff t).mp hi)), after_5]
    unfold rows tail
    rw [start_first t h]
    refine (sep_mono_left (inv_any m c _ _)).trans ?_
    rw [start_inv]
    iintro ⟨⟨HS, Hg⟩, Ho, ⟨%d0, H0⟩, ⟨%d1, H1⟩, ⟨%d2, H2⟩, ⟨%d3, H3⟩, ⟨%d4, H4⟩, ⟨%d5, H5⟩⟩
    iapply (run_first c (grid0.coords t) _ _ _ _ _ _ _ _ _ _ _ _ _ _ (iblk m c 0 t) (iblk m c 1 t) (X0_2 m c t) (iblk m c 3 t)
      ((first_iff t).mpr h) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    iintro ⟨H0, H1, H2, H3, H4, H5, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    iexact H5
  · simp only [before_5 m c t h]
    rw [inv_pos m c t.val _ (by omega), show rows m c (t.val - 1) (by omega) = rows m c t.val t.isLt by
      unfold rows; rw [start_pred t h]]
    iintro ⟨⟨HS, Hg⟩, Ho, ⟨%d0, H0⟩, ⟨%d1, H1⟩, ⟨%d2, H2⟩, ⟨%d3, H3⟩, ⟨%d4, H4⟩, ⟨%d5, H5⟩⟩
    iapply (run_later c (grid0.coords t) _ _ _ _ _ _ _ _ _ _ _ _ _ _ (iblk m c 0 t) (iblk m c 1 t) (X0_2 m c t) (iblk m c 3 t)
      (fun hc => h ((first_iff t).mp hc)) (tail m c t.val t.isLt) (rows m c t.val t.isLt) Set.univ _)
    isplitl [H0]; · iexact H0
    isplitl [H1]; · iexact H1
    isplitl [H2]; · iexact H2
    isplitl [H3]; · iexact H3
    isplitl [H4]; · iexists _; iexact H4
    isplitl [H5]; · iexact H5
    isplitl [HS]; · iexact HS
    iintro ⟨H0, H1, H2, H3, H4, H5, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    iapply (leaves_5 m c t h); iexact H5

/-- The body obligation of the pipeline. -/
theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (body m c t) rfl .rfl fun _ => .rfl

theorem enter (c : Dev nD) : Pipeline.ΦA spec0 c ⊢ (dats m 0 c).Φ 0 := by
  rw [show (dats m 0 c).Φ 0 = inv m c 0 (Nat.zero_le _) from rfl]
  exact Idealize.SL.BI.Entails.refl _

theorem leave (c : Dev nD) : (dats m 0 c).Φ (Fin.last cfg0.N) ⊢ Pipeline.ΦA spec0 c := by
  rw [show (dats m 0 c).Φ (Fin.last cfg0.N) = inv m c (Fin.last cfg0.N).val (Nat.le_of_lt_succ (Fin.last cfg0.N).isLt) from rfl]
  exact inv_any m c _ _

-- the launch lemma's implicit arguments are found by unifying its conclusion with this one, through plain definitions
set_option backward.isDefEq.respectTransparency.types false in
/-- The run: every array of the pipeline ends at what the points' contents make of it, every counter at zero. -/
theorem run_all : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hin := enter m) (hout := leave m)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_all m ρ)))
    ((θ_run defs _ _).mono (fun _ h => h.2) (run_all m ρ))

end Cert.InProj

end
-- ==== Proof.InProjBits.lean ====
/- The input projection's frame at the machine's own float values: the program and the idealized program are one text, so
   the run proved for any float values is both programs' run. -/
module

public import proofs.«01_k».proof.Defs
public import proofs.«01_k».proof.Proof.Gen.Kernel3
public import proofs.«01_k».proof.Proof.InProjFrame

@[expose] public section

set_option maxRecDepth 16384

noncomputable section

namespace Cert.InProj

open Idealize.ShloMosaic Idealize.SL.Sem

/-- The two body tables have the same one row. -/
theorem rows_eq : Cert.Kernel3.defs₀ (F := Bits) = Cert.Kernel3Ideal.defs₀ (F := Bits) := by
  unfold Cert.Kernel3.defs₀ Cert.Kernel3Ideal.defs₀
  refine congrArg Defs.onTc (funext fun l => ?_)
  match l with
  | 0 => rfl

theorem defs_eq : Cert.Kernel3.defs (F := Bits) = Cert.Kernel3Ideal.defs (F := Bits) :=
  congrArg (Pipeline.defs (Cert.Kernel3Ideal.pcfgs (F := Bits))) rows_eq

theorem frame_kernel : Cert.quiescent_Kernel3 := fun m ρ _ => by
  rw [defs_eq]
  exact frame (F := Bits) m ρ

end Cert.InProj

end
-- ==== Proof.InProjRef.lean ====
/- The input projection's reference, read at an index: the normed row times a column of the weight. -/
module

public import proofs.«01_k».proof.Proof.Gen.Reference3Ideal.Run
public import proofs.«01_k».proof.Proof.Spec

@[expose] public section

set_option maxRecDepth 16384

noncomputable section

namespace Cert.InProjRef

open Idealize.ShloMosaic Idealize.ShloMosaic.TcCoe Idealize.SL.Sem
open Cert.Reference3Ideal Cert.Reference3Ideal.Gen Cert.Spec

/-- Every row's norm, as the reference writes it. -/
def norm (h : FVec Ideal S16384x2048 .f32) (w : FVec Ideal S2x2048 .f32) : FVec Ideal S16384x2048 .f32 :=
  mulf (mulf h (broadcastInDim S16384x2048 ![0, 1] bcast_S16384x1_S16384x2048_0_1 (Host.rsqrt (addf (Host.divf (broadcastInDim S16384x1 ![0] bcast_S16384_S16384x1_0 (Host.reduceAdd (mulf h h) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32))))))
    (broadcastInDim S16384x2048 ![0, 1] bcast_S1x2048_S16384x2048_0_1 (broadcastInDim S1x2048 ![1] bcast_S2048_S1x2048_1 (shapeCast _ (extractStridedSlice S1x2048 ![1, 0] w slices_S2x2048_S1x2048_1_0) shapeCasts_S1x2048_S2048)))

/-- All columns of the projection of the normed rows. -/
def proj (x : FVec Ideal S16384x2048 .f32) (w : FVec Ideal S1x2048x12416 .f32) : FVec Ideal S16384x12416 .f32 :=
  Host.dotGeneral dot_S16384x2048_S2048x12416_S16384x12416_1_0_0_1_n_n none x (shapeCast _ w shapeCasts_S1x2048x12416_S2048x12416)

theorem norm_apply (h : FVec Ideal S16384x2048 .f32) (w : FVec Ideal S2x2048 .f32) (r : Fin 16384) (l : Fin 2048) :
    norm h w (ix2 r l) = rms (fun k => h (ix2 r k)) (fun k => w (ix2 1 k)) l := by
  pointwise [norm, rms]

theorem proj_apply (x : FVec Ideal S16384x2048 .f32) (w : FVec Ideal S1x2048x12416 .f32) (r : Fin 16384) (j : Fin 12416) :
    proj x w (ix2 r j) = ∑ k, x (ix2 r k) * w (ix3 0 k j) := by
  pointwise [proj]

/-- The columns before the last 128. -/
theorem main_apply (y : FVec Ideal S16384x12416 .f32) (r : Fin 16384) (j : Fin 12288) :
    extractStridedSlice S16384x12288 ![0, 0] y slices_S16384x12416_S16384x12288_0_0 (ix2 r j) = y (ix2 r ⟨j.val, by omega⟩) := by
  pointwise []

/-- The last 128. -/
theorem tail_apply (y : FVec Ideal S16384x12416 .f32) (r : Fin 16384) (j : Fin 128) :
    extractStridedSlice S16384x128 ![0, 12288] y slices_S16384x12416_S16384x128_0_12288 (ix2 r j)
      = y (ix2 r ⟨12288 + j.val, by omega⟩) := by
  pointwise []

end Cert.InProjRef

end
-- ==== Proof.InProjValue.lean ====
/- The input projection's values: what its points leave, read at an index, and the two result arrays they make up. -/
module

public import proofs.«01_k».proof.Proof.InProjFrame
public import proofs.«01_k».proof.Proof.InProjRef
public import proofs.«01_k».proof.Proof.Spec
public import Idealize.ShloMosaic.Lib.Pointwise
public import Idealize.ShloMosaic.Lib.Claim

@[expose] public section

set_option maxRecDepth 16384

noncomputable section

namespace Cert.InProj

open Idealize.ShloMosaic Idealize.ShloMosaic.TcCoe Idealize.SL.Sem
open Cert.Kernel3Ideal Cert.Kernel3Ideal.Gen Cert.Spec

/-! ## The payloads, read at an index -/

theorem pay2_apply (x : Vec Ideal S1024x2048 .f32) (w : Vec Ideal S1x2048 .f32) (r : Fin 1024) (l : Fin 2048) :
    k0_pay2 x w (ix2 r l) = rms (fun k => x (ix2 r k)) (fun k => w (ix2 0 k)) l := by
  pointwise [k0_pay2, k0_pay1, rms]

theorem pay3_apply (x : Vec Ideal S1024x2048 .f32) (w : Vec Ideal S1x2048 .f32) (wt : Vec Ideal S2048x128 .bf16)
    (r : Fin 1024) (j : Fin 128) :
    k0_pay3 x w wt (ix2 r j) = ∑ k, rms (fun k => x (ix2 r k)) (fun k => w (ix2 0 k)) k * wt (ix2 k j) := by
  pointwise [k0_pay3, k0_pay1, rms]

theorem pay4_apply (h : Vec Ideal S1024x2048 .bf16) (w : Vec Ideal S2048x1024 .bf16) (r : Fin 1024) (j : Fin 1024) :
    k0_pay4 h w (ix2 r j) = ∑ k, h (ix2 r k) * w (ix2 k j) := by
  pointwise [k0_pay4]

/-! ## The blocks, read at an index -/

/-- Where each window stands at point `t`: row block `t / 12`, column block `t % 12`, the last columns at column 12288. -/
theorem idx : ∀ t : Fin grid0.N, win0_0.index t = ![t.val / 12, 0] ∧ win0_1.index t = ![0, 0]
    ∧ win0_2.index t = ![0, t.val % 12] ∧ win0_3.index t = ![0, 96]
    ∧ win0_4.index t = ![t.val / 12, t.val % 12] ∧ win0_5.index t = ![t.val / 12, 0] := by
  decide +kernel

variable (m : (ℓ : Loc nD τ sig) → Buf (Elt Ideal) ℓ) (c : Dev nD)

theorem rows_at (t : Fin cfg0.N) (r : Fin 1024) (k : Fin 2048) :
    iblk m c 0 t (ix2 r k) = m ((c : Thread nD τ).loc main_arg0)
      (ix2 ⟨1024 * (t.val / 12) + r.val, by have := lt_N t; omega⟩ k) := by
  blk_ext [iblk, V, idx t]

theorem normw_at (t : Fin cfg0.N) (k : Fin 2048) :
    iblk m c 1 t (ix2 0 k) = m ((c : Thread nD τ).loc main_arg1) (ix2 1 k) := by
  blk_ext! [iblk, V, idx t]

theorem tailw_at (t : Fin cfg0.N) (k : Fin 2048) (j : Fin 128) :
    iblk m c 3 t (ix2 k j) = m ((c : Thread nD τ).loc main_arg2) (ix3 0 k ⟨12288 + j.val, by omega⟩) := by
  blk_ext! [iblk, V, idx t]

theorem mainw_at (t : Fin cfg0.N) (k : Fin 2048) (j : Fin 1024) :
    X0_2 m c t (ix2 k j) = m ((c : Thread nD τ).loc main_arg2) (ix3 0 k ⟨1024 * (t.val % 12) + j.val, by omega⟩) := by
  unfold X0_2 Pipeline.Window.fill
  rw [dif_pos (moved0_2 t _)]
  blk_ext! [iblk, V, idx t]

/-! ## The results -/

/-- Entry `k` of row `R`, normed with layer 1's weights. -/
def hn (R : Fin 16384) (k : Fin 2048) : EReal :=
  rms (fun k => m ((c : Thread nD τ).loc main_arg0) (ix2 R k)) (fun k => m ((c : Thread nD τ).loc main_arg1) (ix2 1 k)) k

/-- Entry `j` of the projected row `R`. -/
def entry (R : Fin 16384) (j : Fin 12416) : EReal :=
  ∑ k, hn m c R k * m ((c : Thread nD τ).loc main_arg2) (ix3 0 k j)

/-- The two result arrays: the columns before the last 128, and those. -/
def mainCols (c : Dev nD) : Buf (Elt Ideal) ((c : Thread nD τ).loc main_v5_0) := fun i => entry m c (i 0) ⟨(i 1).val, lt_trans (b := 12288) (i 1).isLt (by decide)⟩
def lastCols (c : Dev nD) : Buf (Elt Ideal) ((c : Thread nD τ).loc main_v5_1) := fun i => entry m c (i 0) ⟨12288 + (i 1).val, Nat.add_lt_add_left (i 1).isLt 12288⟩

theorem hn_at (t : Fin cfg0.N) (r : Fin 1024) (k : Fin 2048) :
    rms (fun k => iblk m c 0 (start t.val t.isLt) (ix2 r k)) (fun k => iblk m c 1 (start t.val t.isLt) (ix2 0 k)) k
      = hn m c ⟨1024 * (t.val / 12) + r.val, by have := lt_N t; omega⟩ k := by
  have e : (start t.val t.isLt).val / 12 = t.val / 12 := by show t.val / 12 * 12 / 12 = t.val / 12; omega
  simp only [rows_at, normw_at, e, hn]

/-- Point `t` leaves its rows' entries in its columns, -/
theorem main_at (t : Fin cfg0.N) (r j : Fin 1024) :
    k0_pay4 (rows m c t.val t.isLt) (X0_2 m c t) (ix2 r j)
      = entry m c ⟨1024 * (t.val / 12) + r.val, by have := lt_N t; omega⟩ ⟨1024 * (t.val % 12) + j.val, by omega⟩ := by
  rw [pay4_apply]
  simp only [rows, pay2_apply, hn_at, mainw_at, entry]

/-- and its row block's in the last columns. -/
theorem last_at (t : Fin cfg0.N) (r : Fin 1024) (j : Fin 128) :
    tail m c t.val t.isLt (ix2 r j)
      = entry m c ⟨1024 * (t.val / 12) + r.val, by have := lt_N t; omega⟩ ⟨12288 + j.val, by omega⟩ := by
  rw [tail, pay3_apply]
  simp only [hn_at, tailw_at, entry]

theorem main_array : (dats m 0 c).arrAt 4 cfg0.N = mainCols m c := by
  refine (dats m 0 c).arrAt_eq_of_covers 4 _ (by decide +kernel) fun t hf y => ?_
  blk_simp
  rw [after_4]
  obtain ⟨r, j, rfl⟩ : ∃ (r j : Fin 1024), y = ix2 r j := ⟨y 0, y 1, eq_ix2 y⟩
  refine (main_at m c t r j).trans ?_
  unfold mainCols
  congr 1 <;> apply Fin.ext <;> blk_simp [idx t]
  all_goals (try dsimp only); omega

theorem last_array : (dats m 0 c).arrAt 5 cfg0.N = lastCols m c := by
  refine (dats m 0 c).arrAt_eq_of_covers 5 _ (by decide +kernel) fun t hf y => ?_
  blk_simp
  rw [after_5]
  obtain ⟨r, j, rfl⟩ : ∃ (r : Fin 1024) (j : Fin 128), y = ix2 r j := ⟨y 0, y 1, eq_ix2 y⟩
  refine (last_at m c t r j).trans ?_
  unfold lastCols
  congr 1 <;> apply Fin.ext <;> blk_simp [idx t]
  dsimp only; omega

end Cert.InProj

end
-- ==== Proof.InProjClaim.lean ====
/- The input projection computes what the reference computes. -/
module

public import proofs.«01_k».proof.Proof.InProjValue
public import proofs.«01_k».proof.Defs
public import proofs.«01_k».proof.Proof.Gen.Reference3Ideal.Run

@[expose] public section

set_option maxRecDepth 16384

noncomputable section

namespace Cert.InProj

open Idealize.ShloMosaic Idealize.ShloMosaic.TcCoe Idealize.SL.Sem
open Cert.Kernel3Ideal Cert.Kernel3Ideal.Gen

variable (m : (ℓ : Loc nD τ sig) → Buf (Elt Ideal) ℓ) (ρ : Dev nD → PrngReg)

/-- The run, read: the two results, the arguments as they were. -/
theorem run_values : θ_run defs (onTc (τ := τ) (main (F := Ideal))) ⟨m, fun _ => 0, ρ⟩ fun r => ∀ c : Dev nD,
    r.2.mem ((c.tc : Thread nD τ).loc main_v5_0) = mainCols m c
    ∧ r.2.mem ((c.tc : Thread nD τ).loc main_v5_1) = lastCols m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  (θ_run defs _ _).mono (fun _ h c => ⟨((h.1 c).1 4).trans (main_array m c), ((h.1 c).1 5).trans (last_array m c), h.2 c⟩)
    (θ_run_and ((θ_run defs _ _).mono (fun _ h => h.1) (run_all m ρ))
      (frame_of m ρ (dats m) (A_eq m) ((θ_run defs _ _).mono (fun _ h => h.1) (run_all m ρ))))

/-- The two programs end with equal results. -/
theorem claim : Cert.algebraic_Kernel3Ideal_Reference3Ideal := by
  intro m g m' g' _ hagree
  refine ⟨fun c => mainCols m c, fun c => lastCols m c, run_values m g, ?_⟩
  refine (θ_run _ _ _).mono (fun r h c => ?_) (Cert.Reference3Ideal.Value.run m' g')
  obtain ⟨h0, h1, h2⟩ := hagree c
  refine ⟨(h c).1.trans ?_, (h c).2.1.trans ?_, (h c).2.2⟩
  · rw [h0, h1, h2]
    funext i
    obtain ⟨R, j, rfl⟩ : ∃ (R : Fin 16384) (j : Fin 12288), i = ix2 R j := ⟨i 0, i 1, eq_ix2 i⟩
    refine (InProjRef.main_apply (InProjRef.proj (InProjRef.norm _ _) _) R j).trans ?_
    refine (InProjRef.proj_apply _ _ _ _).trans ?_
    simp only [InProjRef.norm_apply]
    rfl
  · rw [h0, h1, h2]
    funext i
    obtain ⟨R, j, rfl⟩ : ∃ (R : Fin 16384) (j : Fin 128), i = ix2 R j := ⟨i 0, i 1, eq_ix2 i⟩
    refine (InProjRef.tail_apply (InProjRef.proj (InProjRef.norm _ _) _) R j).trans ?_
    refine (InProjRef.proj_apply _ _ _ _).trans ?_
    simp only [InProjRef.norm_apply]
    rfl

end Cert.InProj

end
-- ==== Proof.StateRing.lean ====
/- The scan kernel's ring of operand blocks.

   At every grid point the kernel waits for one block per direction, computes with it, and has two more
   blocks per direction on their way.  A block lands in one of three slots of a scratch buffer; a slot
   has two parts, one for each direction of the scan, each filled by a transfer counted on a semaphore
   of its own.  This module names the slots, the blocks and the semaphores, says where in the body each
   of them is spelt, and states what the launch hands to the ring and takes back from it. -/
module

public import proofs.«01_k».proof.Proof.Gen.KernelIdeal.Frame
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.Ring.WriteBehind
public import Idealize.ShloMosaic.Lib.Tactic
public import Idealize.ShloMosaic.Lib.WordCmp

@[expose] public section

set_option maxRecDepth 16384

noncomputable section

namespace Cert.State

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The resources of the launch, with the counters of the body's own transfers. -/
local notation "𝕄" => MT nD τ sig Unit (Elt F) ℕ (Pipeline.UD sig nD τ) ℕ

/-! ## The body's conditions, in closed form over the points -/

/-- The body's first condition: the first point of all. -/
abbrev isFirst (i : grid0.Coords) : Prop := (Scalar.cmpi .ne (Scalar.extui (Scalar.cmpi .eq (Scalar.addi (Scalar.muli (BitVec.ofNat 32 (i 0).val) 64#32) (BitVec.ofNat 32 (i 1).val)) 0#32)) 0#32) = 1#1
theorem isFirst_iff : ∀ t : Fin grid0.N, isFirst (grid0.coords t) ↔ t.val = 0 := by decide +kernel

/-- The body's second condition: two points further on there is still a block to start. -/
abbrev isStart (i : grid0.Coords) : Prop := k0_cond2 i = 1#1
theorem isStart_iff : ∀ t : Fin grid0.N, isStart (grid0.coords t) ↔ t.val < 254 := by decide +kernel

/-- The body's third condition: the first chunk of a sequence, where the states are set to zero. -/
abbrev isReset (i : grid0.Coords) : Prop := (Scalar.cmpi .ne (Scalar.extui (Scalar.cmpi .eq (BitVec.ofNat 32 (i 1).val) 0#32)) 0#32) = 1#1
theorem isReset_iff : ∀ t : Fin grid0.N, isReset (grid0.coords t) ↔ t.val % 64 = 0 := by decide +kernel

/-! ## Buffers and semaphores -/

/-- The scratch buffer of the states, and the one of the ring. -/
abbrev stM : Memref sig .tc .vmem S32x128x256 .f32 := Memref.whole cc0_scratch0
abbrev ringM : Memref sig .tc .vmem S3x2x16x320x256 .bf16 := Memref.whole cc0_scratch1
/-- The operand the kernel copies blocks of itself. -/
abbrev opM : Memref sig .tc .hbm S2x4x16x64x320x256 .bf16 := Memref.whole main_arg0
/-- A buffer's contents type on a core, by its memref. -/
abbrev BufOf (c : Dev nD) {sp : Space} {S : Shape} {e : EltTy} (M : Memref sig .tc sp S e) : Type := Buf (Elt F) (M.view.loc (c : Thread nD τ))
/-- The operand held whole at `f`. -/
abbrev opPt (c : Dev nD) (f : BufOf (F := F) c opM) : sProp 𝕄 := opM.view.loc (c : Thread nD τ) ↦{fullShare} f

/-- The kernel's own six semaphores. -/
abbrev ownSem : Fin 6 → SemLoc sig := fun j => (![SemLoc.dma 8, SemLoc.dma 9, SemLoc.dma 10, SemLoc.dma 11, SemLoc.dma 12, SemLoc.dma 13] : Fin 6 → SemLoc sig) j
theorem ownSemFacts : Pipeline.OwnSemFacts spec0 ownSem := by decide
/-- All six at zero, two per slot. -/
abbrev semsP (c : Dev nD) : sProp 𝕄 :=
  iprop(semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0)
theorem ownSems_eq (c : Dev nD) :
    (Pipeline.ownSems0 (Ix := Unit) (Name := ℕ) (U := Pipeline.UD sig nD τ) (Lvl := ℕ) (Val := Elt F) (τ := τ) ownSem c : sProp 𝕄) = semsP c := by
  rw [Pipeline.ownSems0_eq_of_list c ownSem [0, 1, 2, 3, 4, 5] (by decide) (by decide)]; rfl
/-- The one buffer outside the windows that the launch hands over. -/
def hbmRefs : Finset (Ref sig .tc) := {main_arg0}
theorem hbmRefs_sub : hbmRefs ⊆ Pipeline.restRefs sig spec0 := by decide

/-! ## The ring's slots, blocks and cells -/

instance : NeZero grid0.N := ⟨by rw [N_0]; decide⟩

/-- Where part `d` of slot `s` begins in the ring's buffer, and where its semaphore stands in the array. -/
def winOff (d : Fin 2) (s : Fin 3) : Fin 5 → ℕ := ![s.val, d.val, 0, 0, 0]
instance (d : Fin 2) (s : Fin 3) : ClosedOff (winOff d s) := ⟨![s.val, d.val, 0, 0, 0], rfl⟩
abbrev cellOff (d : Fin 2) (s : Fin 3) : Fin 2 → ℕ := ![s.val, d.val]
/-- The chunk that direction `d` reads at point `b`: the second direction runs from the end. -/
def chunkOf (d : Fin 2) (b : ℕ) : ℕ := if d = 0 then b % 64 else 63 - b % 64
/-- Where direction `d`'s block of point `b` begins in the operand. -/
abbrev srcOff (d : Fin 2) (b : Fin 256) : Fin 6 → ℕ := ![d.val, b.val / 64, 0, chunkOf d b.val, 0, 0]

theorem win_inb (d : Fin 2) (s : Fin 3) : ∀ a, winOff d s a + S1x1x16x320x256.size a ≤ S3x2x16x320x256.size a := by
  have := s.isLt; have := d.isLt; intro a; fin_cases a <;> simp [winOff] <;> omega
theorem cell_inb (d : Fin 2) (s : Fin 3) : ∀ a, cellOff d s a + S1x1.size a ≤ S3x2.size a := by
  have := s.isLt; have := d.isLt; intro a; fin_cases a <;> simp <;> omega
theorem src_inb (d : Fin 2) (b : Fin 256) : ∀ a, srcOff d b a + S1x1x16x1x320x256.size a ≤ S2x4x16x64x320x256.size a := by
  have := b.isLt; have := d.isLt
  have : chunkOf d b.val < 64 := by unfold chunkOf; split <;> omega
  intro a; fin_cases a <;> simp <;> omega

/-- Part `d` of slot `s`, as a transfer into it spells it. -/
def win (d : Fin 2) (s : Fin 3) : Memref sig .tc .vmem S16x320x256 .bf16 :=
  (ringM.slice (Rect.unit (s := S3x2x16x320x256) (winOff d s) S1x1x16x320x256.size (win_inb d s)) (fun _ => rfl)).squeeze S16x320x256 squeezes_S1x1x16x320x256_S16x320x256
/-- Direction `d`'s block of point `b`, as a transfer spells its source. -/
def src (d : Fin 2) (b : Fin 256) : Memref sig .tc .hbm S16x320x256 .bf16 :=
  (opM.slice (Rect.unit (s := S2x4x16x64x320x256) (srcOff d b) S1x1x16x1x320x256.size (src_inb d b)) (fun _ => rfl)).squeeze S16x320x256 squeezes_S1x1x16x1x320x256_S16x320x256
/-- The semaphore of part `d` of slot `s`. -/
def cellA (d : Fin 2) (s : Fin 3) : DmaSems sig S_ := (cc0_scratch2.slice (Rect.unit (s := S3x2) (cellOff d s) S1x1.size (cell_inb d s))).squeeze S_ squeezes_S1x1_S_
abbrev cell (d : Fin 2) (s : Fin 3) : SemLoc sig := SemLoc.dma (cellA d s).sem
theorem cell_eq : ∀ (s : Fin 3) (d : Fin 2), cell d s = SemLoc.dma (⟨8 + 2 * s.val + d.val, by have := s.isLt; have := d.isLt; show _ < 14; omega⟩ : DmaSem sig) := by decide

section Ring
variable (c : Dev nD) (W0 : BufOf (F := F) c opM)

/-- The operand is lent by share, one share of it to each part of each slot: the full share halved down a spine. -/
abbrev shareOf0 (s : Fin 3) : PosShare TreeShare := if s.val = 0 then fullShare.left else if s.val = 1 then fullShare.right.left else fullShare.right.right.left
abbrev shareOf1 (s : Fin 3) : PosShare TreeShare := if s.val = 0 then fullShare.right.right.right.left else if s.val = 1 then fullShare.right.right.right.right.left else fullShare.right.right.right.right.right
abbrev shareP (d : Fin 2) (s : Fin 3) : PosShare TreeShare := if d.val = 0 then shareOf0 s else shareOf1 s

/-- Part `d` of slot `s` held at `e`; the slot, each part at its own contents; the slot's two cells at zero. -/
abbrev winP (d : Fin 2) (s : Fin 3) (e : BufOf (F := F) c ringM) : sProp 𝕄 := (win d s).view.loc (c : Thread nD τ) ↦[(win d s).view.set]{fullShare} e
abbrev slotP (s : Fin 3) (f : Fin 2 → BufOf (F := F) c ringM) : sProp 𝕄 := iprop(winP c 0 s (f 0) ∗ winP c 1 s (f 1))
abbrev cellP (s : Fin 3) : sProp 𝕄 := iprop(semVal ((c : Thread nD τ), cell 0 s) 0 ∗ semVal ((c : Thread nD τ), cell 1 s) 0)
/-- The part's share of the operand: the elements of block `b`, the other elements, and all of them. -/
abbrev srcP (d : Fin 2) (s : Fin 3) (b : Fin 256) : sProp 𝕄 := (src d b).view.loc (c : Thread nD τ) ↦[(src d b).view.set]{shareP d s} W0
def restP (d : Fin 2) (s : Fin 3) (b : Fin 256) : sProp 𝕄 := ((c : Thread nD τ).loc main_arg0) ↦[Finset.univ \ (src d b).view.set]{shareP d s} W0
abbrev wholeP (d : Fin 2) (s : Fin 3) : sProp 𝕄 := ((c : Thread nD τ).loc main_arg0) ↦[Finset.univ]{shareP d s} W0
/-- The part after block `b` landed in it over `f`. -/
abbrev landed (d : Fin 2) (s : Fin 3) (b : Fin 256) (f : BufOf (F := F) c ringM) : BufOf (F := F) c ringM :=
  (win d s).view.writes (Elt F) f [⟨Rect.whole S16x320x256, ReadAs.same.apply ((src d b).view.read (Elt F) W0)⟩]
/-- Block `b` on its way into part `d` of slot `s`. -/
abbrev partFlight (d : Fin 2) (s : Fin 3) (b : Fin 256) (f : BufOf (F := F) c ringM) : sProp 𝕄 :=
  Transfers.Flight countersEmb (c : Thread nD τ) (cell d s) default ((win d s).view.amount (cell d s))
    iprop(winP c d s (landed c W0 d s b f) ∗ srcP c W0 d s b)
/-- Both parts of a slot after block `b` landed. -/
abbrev landedJ (s : Fin 3) (b : Fin 256) : Fin 2 → BufOf (F := F) c ringM := ![landed c W0 0 s b (win 0 s).view.junk, landed c W0 1 s b (win 1 s).view.junk]

/-- A slot at rest and a slot with block `b` on its way, as the library's ring takes them. -/
abbrev slotW (s : Fin 3) (f : Fin 2 → BufOf (F := F) c ringM) : sProp 𝕄 := iprop(slotP c s f ∗ wholeP c W0 0 s ∗ wholeP c W0 1 s)
abbrev flightW (s : Fin 3) (b : Fin 256) (f : Fin 2 → BufOf (F := F) c ringM) : sProp 𝕄 :=
  iprop((partFlight c W0 0 s b (f 0) ∗ partFlight c W0 1 s b (f 1)) ∗ restP c W0 0 s b ∗ restP c W0 1 s b)
abbrev noHome (_ : Fin 256) : sProp 𝕄 := iprop(emp)
/-- The ring before point `k`. -/
def ringAt (k : ℕ) : sProp 𝕄 :=
  if k = 0 then Ring.At₀ (cellP c) (slotW c W0) noHome else Ring.At 2 (cellP c) (slotW c W0) noHome (flightW c W0) k

omit [FloatOps F] in
theorem cellP_at (s : Fin 3) : cellP (F := F) c s = iprop(semVal ((c : Thread nD τ), SemLoc.dma (⟨8 + 2 * s.val, by have := s.isLt; show _ < 14; omega⟩ : DmaSem sig)) 0 ∗ semVal ((c : Thread nD τ), SemLoc.dma (⟨9 + 2 * s.val, by have := s.isLt; show _ < 14; omega⟩ : DmaSem sig)) 0) := by
  unfold cellP; rw [cell_eq s 0, cell_eq s 1]
  congr 4; simp; omega
end Ring

/-! ## The parts are disjoint boxes -/

abbrev boxOff (i : Fin 3 × Fin 2) : Fin 5 → ℕ := winOff i.2 i.1
theorem box_inb (i : Fin 3 × Fin 2) : ∀ a, boxOff i a + S1x1x16x320x256.size a ≤ S3x2x16x320x256.size a := win_inb i.2 i.1
abbrev boxSet (i : Fin 3 × Fin 2) : Finset S3x2x16x320x256.Idx := (Rect.unit (s := S3x2x16x320x256) (boxOff i) S1x1x16x320x256.size (box_inb i)).set
theorem boxSet_eq (s : Fin 3) (d : Fin 2) : (win d s).view.set = boxSet (s, d) := by
  simp only [win, Memref.view_squeeze, View.set_reshape]; exact View.set_slice_whole _ _
def boxIx (i : Fin 3 × Fin 2) : Fin 5 → ℕ := ![i.1.val, i.2.val, 0, 0, 0]
def boxUn (v : Fin 5 → ℕ) : Fin 3 × Fin 2 := (Fin.ofNat 3 (v 0), Fin.ofNat 2 (v 1))
theorem boxUn_left : ∀ i : Fin 3 × Fin 2, boxUn (boxIx i) = i := by decide +kernel
theorem boxes_disjoint (i i' : Fin 3 × Fin 2) (h : i ≠ i') : Disjoint (boxSet i) (boxSet i') :=
  Ring.boxes_disjoint (s := S3x2x16x320x256) S1x1x16x320x256.size boxOff box_inb boxIx
    (fun i a => by fin_cases a <;> simp [boxOff, winOff, boxIx]) boxUn boxUn_left i i' h
/-- The ring's buffer outside the parts (nothing, the parts tile it), carried beside the ring. -/
abbrev spareP (c : Dev nD) : sProp 𝕄 := iprop(∃ f : Buf (Elt F) ((c : Thread nD τ).loc cc0_scratch1), ((c : Thread nD τ).loc cc0_scratch1) ↦[Finset.univ \ Finset.univ.biUnion boxSet]{fullShare} f)

/-! ## What the launch hands the ring, and takes back -/

section InOut
variable (c : Dev nD) (W0 : BufOf (F := F) c opM)

abbrev partP (i : Fin 3 × Fin 2) (e : BufOf (F := F) c ringM) : sProp 𝕄 := winP c i.2 i.1 e
theorem partP_eq (i : Fin 3 × Fin 2) (e : BufOf (F := F) c ringM) : partP (F := F) c i e = (((c : Thread nD τ).loc cc0_scratch1) ↦[boxSet i]{fullShare} e : sProp 𝕄) := by
  obtain ⟨s, d⟩ := i
  show winP (F := F) c d s e = _; unfold winP; rw [boxSet_eq]; rfl
/-- All parts, each at some contents, are the three slots, each at some contents per part. -/
theorem slots_eq : (bigSep Finset.univ (fun i : Fin 3 × Fin 2 => iprop(∃ e, partP c i e)) : sProp 𝕄) = iprop((∃ f, slotP (F := F) c 0 f) ∗ (∃ f, slotP (F := F) c 1 f) ∗ ∃ f, slotP (F := F) c 2 f) := by
  rw [BI.bigSep_univ_prod, Ring.bigSep_fin3]
  have e : ∀ j : Fin 3, (bigSep Finset.univ (fun w : Fin 2 => iprop(∃ e, partP c (j, w) e)) : sProp 𝕄) = iprop(∃ f, slotP (F := F) c j f) := fun j => by
    rw [← Ring.bigSep_exists_pi_eq]; unfold slotP
    refine congrArg _ (funext fun f => ?_)
    rw [BI.bigSep_eq_bigSepL_of_eq [0, 1] (by decide) (by decide)]; rfl
  rw [e 0, e 1, e 2]

theorem slotP_tuple (s : Fin 3) (a0 a1 : BufOf (F := F) c ringM) : slotP (F := F) c s ![a0, a1] = iprop(winP c 0 s a0 ∗ winP c 1 s a1) := rfl
theorem slotP_landed (s : Fin 3) (b : Fin 256) : iprop(winP c 0 s (landed c W0 0 s b (win 0 s).view.junk) ∗ winP c 1 s (landed c W0 1 s b (win 1 s).view.junk)) ⊢ slotP (F := F) c s (landedJ c W0 s b) :=
  Entails.of_eq (slotP_tuple c s (landed c W0 0 s b (win 0 s).view.junk) (landed c W0 1 s b (win 1 s).view.junk)).symm
/-- A part's share of the operand is block `b`'s elements and the rest, for any `b`. -/
theorem src_split (d : Fin 2) (s : Fin 3) (b : Fin 256) : wholeP (F := F) c W0 d s ⊣⊢ iprop(srcP c W0 d s b ∗ restP c W0 d s b) := by
  unfold restP; exact pointsTo_split_subset (Finset.subset_univ _)
/-- The operand whole is its six shares. -/
theorem op_split : (opPt c W0 : sProp 𝕄) ⊣⊢ iprop(wholeP c W0 0 0 ∗ wholeP c W0 0 1 ∗ wholeP c W0 0 2 ∗ wholeP c W0 1 0 ∗ wholeP c W0 1 1 ∗ wholeP c W0 1 2) := by
  refine ⟨?_, ?_⟩
  · iintro H
    ihave G0 := (pointsTo_share (PosShare.mem_left_op_right fullShare)).1 $$ H
    icases G0 with ⟨H0, R1⟩
    ihave G1 := (pointsTo_share (PosShare.mem_left_op_right fullShare.right)).1 $$ R1
    icases G1 with ⟨H1, R2⟩
    ihave G2 := (pointsTo_share (PosShare.mem_left_op_right fullShare.right.right)).1 $$ R2
    icases G2 with ⟨H2, R3⟩
    ihave G3 := (pointsTo_share (PosShare.mem_left_op_right fullShare.right.right.right)).1 $$ R3
    icases G3 with ⟨H3, R4⟩
    ihave G4 := (pointsTo_share (PosShare.mem_left_op_right fullShare.right.right.right.right)).1 $$ R4
    icases G4 with ⟨H4, H5⟩
    isplitl [H0]; · iexact H0
    isplitl [H1]; · iexact H1
    isplitl [H2]; · iexact H2
    isplitl [H3]; · iexact H3
    isplitl [H4]; · iexact H4
    iexact H5
  · iintro ⟨H0, H1, H2, H3, H4, H5⟩
    iapply (pointsTo_share (PosShare.mem_left_op_right fullShare)).2
    isplitl [H0]; · iexact H0
    iapply (pointsTo_share (PosShare.mem_left_op_right fullShare.right)).2
    isplitl [H1]; · iexact H1
    iapply (pointsTo_share (PosShare.mem_left_op_right fullShare.right.right)).2
    isplitl [H2]; · iexact H2
    iapply (pointsTo_share (PosShare.mem_left_op_right fullShare.right.right.right)).2
    isplitl [H3]; · iexact H3
    iapply (pointsTo_share (PosShare.mem_left_op_right fullShare.right.right.right.right)).2
    isplitl [H4]; · iexact H4
    iexact H5

set_option maxHeartbeats 1000000 in
/-- The ring's buffer whole is the three slots, and back. -/
theorem slots_in : iprop(∃ d, owns (c : Thread nD τ) ringM fullShare d) ⊢ (iprop(((∃ f, slotP (F := F) c 0 f) ∗ (∃ f, slotP (F := F) c 1 f) ∗ ∃ f, slotP (F := F) c 2 f) ∗ spareP c) : sProp 𝕄) := by
  simp only [ringM, owns_whole]
  rw [← slots_eq c]
  exact Ring.pieces_split_spare (U := Pipeline.UD sig nD τ) (ℓ := (c : Thread nD τ).loc cc0_scratch1) (q := fullShare) boxSet boxes_disjoint (partP c) (partP_eq c)
set_option maxHeartbeats 1000000 in
theorem slots_out : (iprop(((∃ f, slotP (F := F) c 0 f) ∗ (∃ f, slotP (F := F) c 1 f) ∗ ∃ f, slotP (F := F) c 2 f) ∗ spareP c) : sProp 𝕄) ⊢ iprop(∃ d, owns (c : Thread nD τ) ringM fullShare d) := by
  simp only [ringM, owns_whole]
  rw [← slots_eq c]
  exact Ring.pieces_join_spare (U := Pipeline.UD sig nD τ) (ℓ := (c : Thread nD τ).loc cc0_scratch1) (q := fullShare) boxSet boxes_disjoint (partP c) (partP_eq c)

/-- Into the ring: its buffer, the cells at zero and the operand are the ring before the first point. -/
theorem ring_in : iprop((∃ d, owns (c : Thread nD τ) ringM fullShare d) ∗ semsP c ∗ opPt c W0)
      ⊢ iprop(ringAt c W0 0 ∗ spareP c) := by
  unfold ringAt; rw [if_pos rfl]; unfold Ring.At₀
  rw [Ring.bigSep_fin3]
  simp only [Ring.free, cellP_at]
  iintro ⟨HS, Hc, HR0⟩
  icases Hc with ⟨H0_0, H0_1, H1_0, H1_1, H2_0, H2_1⟩
  ihave HS' := (slots_in (F := F) c) $$ HS
  icases HS' with ⟨⟨⟨%d0, HS0⟩, ⟨%d1, HS1⟩, ⟨%d2, HS2⟩⟩, HSp⟩
  ihave HR0' := (op_split (F := F) c W0).1 $$ HR0
  icases HR0' with ⟨HW0_0, HW0_1, HW0_2, HW1_0, HW1_1, HW1_2⟩
  isplitl [H0_0 H0_1 HS0 HW0_0 HW1_0 H1_0 H1_1 HS1 HW0_1 HW1_1 H2_0 H2_1 HS2 HW0_2 HW1_2]
  · iapply Ring.with_homes₀
    isplitl [H0_0 H0_1 HS0 HW0_0 HW1_0]
    · isplitl [H0_0 H0_1]
      · isplitl [H0_0]; · iexact H0_0
        iexact H0_1
      iexists d0; isplitl [HS0]; · iexact HS0
      isplitl [HW0_0]; · iexact HW0_0
      iexact HW1_0
    isplitl [H1_0 H1_1 HS1 HW0_1 HW1_1]
    · isplitl [H1_0 H1_1]
      · isplitl [H1_0]; · iexact H1_0
        iexact H1_1
      iexists d1; isplitl [HS1]; · iexact HS1
      isplitl [HW0_1]; · iexact HW0_1
      iexact HW1_1
    · isplitl [H2_0 H2_1]
      · isplitl [H2_0]; · iexact H2_0
        iexact H2_1
      iexists d2; isplitl [HS2]; · iexact HS2
      isplitl [HW0_2]; · iexact HW0_2
      iexact HW1_2
  iexact HSp
/-- Out of the ring after the last point. -/
theorem ring_out : iprop(ringAt c W0 256 ∗ spareP c)
      ⊢ iprop((∃ d, owns (c : Thread nD τ) ringM fullShare d) ∗ semsP c ∗ opPt c W0) := by
  unfold ringAt; rw [if_neg (by decide)]
  iintro ⟨H, HSp⟩
  ihave H' := (Ring.free3_of_At_last _ _ _ _) $$ H
  simp only [Ring.free, cellP_at]
  icases H' with ⟨-, ⟨⟨H0_0, H0_1⟩, ⟨%f0, HS0, HW0_0, HW1_0⟩⟩, ⟨⟨H1_0, H1_1⟩, ⟨%f1, HS1, HW0_1, HW1_1⟩⟩, ⟨⟨H2_0, H2_1⟩, ⟨%f2, HS2, HW0_2, HW1_2⟩⟩⟩
  isplitl [HS0 HS1 HS2 HSp]
  · iapply (slots_out (F := F) c); isplitl [HS0 HS1 HS2]
    · isplitl [HS0]; · iexists f0; iexact HS0
      isplitl [HS1]; · iexists f1; iexact HS1
      iexists f2; iexact HS2
    iexact HSp
  isplitl [H0_0 H0_1 H1_0 H1_1 H2_0 H2_1]
  · isplitl [H0_0]; · iexact H0_0
    isplitl [H0_1]; · iexact H0_1
    isplitl [H1_0]; · iexact H1_0
    isplitl [H1_1]; · iexact H1_1
    isplitl [H2_0]; · iexact H2_0
    iexact H2_1
  · iapply (op_split (F := F) c W0).2; isplitl [HW0_0]; · iexact HW0_0
    isplitl [HW0_1]; · iexact HW0_1
    isplitl [HW0_2]; · iexact HW0_2
    isplitl [HW1_0]; · iexact HW1_0
    isplitl [HW1_1]; · iexact HW1_1
    iexact HW1_2
end InOut

/-! ## Where the body spells a slot, a block or a cell -/

/-- A slice of the ring's buffer that begins where part `d` of slot `s` begins is that part. -/
theorem win_canon (d : Fin 2) (s : Fin 3) (off : Fin 5 → ℕ) (inb : ∀ a, off a + S1x1x16x320x256.size a ≤ S3x2x16x320x256.size a) (h : off = winOff d s) :
    (ringM.slice (Rect.unit (s := S3x2x16x320x256) off S1x1x16x320x256.size inb) (fun _ => rfl)).squeeze S16x320x256 squeezes_S1x1x16x320x256_S16x320x256 = win d s :=
  congrArg (fun M : Memref sig .tc .vmem S1x1x16x320x256 .bf16 => M.squeeze S16x320x256 squeezes_S1x1x16x320x256_S16x320x256) (Memref.slice_unit_congr _ h _ _ (fun _ => rfl) (fun _ => rfl))
theorem win_canon' (d : Fin 2) (s : Fin 3) (off : Fin 5 → ℕ) (inb : ∀ a, off a + S1x1x16x320x256.size a ≤ S3x2x16x320x256.size a) (h : off = winOff d s) :
    (ringM.slice (Rect.unit (s := S3x2x16x320x256) off ![1, 1, 16, 320, 256] inb) (fun _ => rfl)).squeeze S16x320x256 squeezes_S1x1x16x320x256_S16x320x256 = win d s := win_canon d s off inb h
theorem cell_canon (d : Fin 2) (s : Fin 3) (off : Fin 2 → ℕ) (inb : ∀ a, off a + S1x1.size a ≤ S3x2.size a) (h : off = cellOff d s) :
    (cc0_scratch2.slice (Rect.unit (s := S3x2) off S1x1.size inb)).squeeze S_ squeezes_S1x1_S_ = cellA d s :=
  congrArg (fun A : DmaSems sig S1x1 => A.squeeze S_ squeezes_S1x1_S_) (SemArray.slice_unit_congr _ h _ _)
theorem cell_canon' (d : Fin 2) (s : Fin 3) (off : Fin 2 → ℕ) (inb : ∀ a, off a + S1x1.size a ≤ S3x2.size a) (h : off = cellOff d s) :
    (cc0_scratch2.slice (Rect.unit (s := S3x2) off ![1, 1] inb)).squeeze S_ squeezes_S1x1_S_ = cellA d s := cell_canon d s off inb h
theorem src_canon (d : Fin 2) (b : Fin 256) (off : Fin 6 → ℕ) (inb : ∀ a, off a + S1x1x16x1x320x256.size a ≤ S2x4x16x64x320x256.size a) (h : off = srcOff d b) :
    (opM.slice (Rect.unit (s := S2x4x16x64x320x256) off S1x1x16x1x320x256.size inb) (fun _ => rfl)).squeeze S16x320x256 squeezes_S1x1x16x1x320x256_S16x320x256 = src d b :=
  congrArg (fun M : Memref sig .tc .hbm S1x1x16x1x320x256 .bf16 => M.squeeze S16x320x256 squeezes_S1x1x16x1x320x256_S16x320x256) (Memref.slice_unit_congr _ h _ _ (fun _ => rfl) (fun _ => rfl))
theorem src_canon' (d : Fin 2) (b : Fin 256) (off : Fin 6 → ℕ) (inb : ∀ a, off a + S1x1x16x1x320x256.size a ≤ S2x4x16x64x320x256.size a) (h : off = srcOff d b) :
    (opM.slice (Rect.unit (s := S2x4x16x64x320x256) off ![1, 1, 16, 1, 320, 256] inb) (fun _ => rfl)).squeeze S16x320x256 squeezes_S1x1x16x1x320x256_S16x320x256 = src d b := src_canon d b off inb h

section Offsets
/-- The starts of the block two points ahead. -/
theorem off1_eq : ∀ t : Fin grid0.N, k0_off1 (grid0.coords t) = cellOff 0 (Ring.sl 3 (t.val + 2)) := by decide +kernel
theorem off2_eq : ∀ t : Fin grid0.N, k0_off2 (grid0.coords t) = winOff 0 (Ring.sl 3 (t.val + 2)) := by decide +kernel
theorem off3_eq : ∀ t : Fin grid0.N, isStart (grid0.coords t) → k0_off3 (grid0.coords t) = srcOff 0 (Ring.bk 256 (t.val + 2)) := by decide +kernel
theorem off4_eq : ∀ t : Fin grid0.N, k0_off4 (grid0.coords t) = cellOff 1 (Ring.sl 3 (t.val + 2)) := by decide +kernel
theorem off5_eq : ∀ t : Fin grid0.N, k0_off5 (grid0.coords t) = winOff 1 (Ring.sl 3 (t.val + 2)) := by decide +kernel
theorem off6_eq : ∀ t : Fin grid0.N, isStart (grid0.coords t) → k0_off6 (grid0.coords t) = srcOff 1 (Ring.bk 256 (t.val + 2)) := by decide +kernel
/-- The waits for this point's block. -/
theorem off7_eq : ∀ t : Fin grid0.N, k0_off7 (grid0.coords t) = cellOff 0 (Ring.sl 3 t.val) := by decide +kernel
theorem off8_eq : ∀ t : Fin grid0.N, k0_off8 (grid0.coords t) = winOff 0 (Ring.sl 3 t.val) := by decide +kernel
theorem off9_eq : ∀ t : Fin grid0.N, k0_off9 (grid0.coords t) = srcOff 0 (Ring.bk 256 t.val) := by decide +kernel
theorem off10_eq : ∀ t : Fin grid0.N, k0_off10 (grid0.coords t) = cellOff 1 (Ring.sl 3 t.val) := by decide +kernel
theorem off11_eq : ∀ t : Fin grid0.N, k0_off11 (grid0.coords t) = winOff 1 (Ring.sl 3 t.val) := by decide +kernel
theorem off12_eq : ∀ t : Fin grid0.N, k0_off12 (grid0.coords t) = srcOff 1 (Ring.bk 256 t.val) := by decide +kernel
/-- The starts of the first two blocks, spelt with numbers, at the first point. -/
theorem first_win (d : Fin 2) : ∀ t : Fin grid0.N, isFirst (grid0.coords t) → (![0, d.val, 0, 0, 0] : Fin 5 → ℕ) = winOff d (Ring.sl 3 t.val) ∧ (![1, d.val, 0, 0, 0] : Fin 5 → ℕ) = winOff d (Ring.sl 3 (t.val + 1)) := by
  intro t h; rw [(isFirst_iff t).mp h]; exact ⟨rfl, rfl⟩
theorem first_cell (d : Fin 2) : ∀ t : Fin grid0.N, isFirst (grid0.coords t) → (![0, d.val] : Fin 2 → ℕ) = cellOff d (Ring.sl 3 t.val) ∧ (![1, d.val] : Fin 2 → ℕ) = cellOff d (Ring.sl 3 (t.val + 1)) := by
  intro t h; rw [(isFirst_iff t).mp h]; exact ⟨rfl, rfl⟩
theorem first_src (d : Fin 2) : ∀ t : Fin grid0.N, isFirst (grid0.coords t) → (![d.val, 0, 0, chunkOf d 0, 0, 0] : Fin 6 → ℕ) = srcOff d (Ring.bk 256 t.val) ∧ (![d.val, 0, 0, chunkOf d 1, 0, 0] : Fin 6 → ℕ) = srcOff d (Ring.bk 256 (t.val + 1)) := by
  intro t h; rw [(isFirst_iff t).mp h]; exact ⟨rfl, rfl⟩

/-- The slot the body computes for this point, as a word. -/
def slotWord (i : grid0.Coords) : Index :=
  let v1 : BitVec 32 := Scalar.addi (Scalar.muli (BitVec.ofNat 32 (i 0).val) 64#32) (BitVec.ofNat 32 (i 1).val)
  let v55 : BitVec 32 := Scalar.select (Scalar.cmpi .eq 3#32 0#32) 1#32 3#32
  let v56 : BitVec 32 := Scalar.remsi v1 v55
  let v61 : BitVec 1 := Scalar.andi (Scalar.xori (Scalar.cmpi .slt v56 0#32) (Scalar.cmpi .slt v55 0#32)) (Scalar.cmpi .ne v56 0#32)
  Scalar.indexCast (Scalar.select v61 (Scalar.addi v56 v55) v56)
theorem slotWord_eq : ∀ t : Fin grid0.N, (slotWord (grid0.coords t)).toNat = (Ring.sl 3 t.val).val := by decide +kernel

/-- Offsets that begin inside this point's slot: direction `d`, head `h`, row `r`, column `k`. -/
class SlotOff (off : grid0.Coords → Fin 5 → ℕ) where
  d : ℕ
  h : ℕ
  r : ℕ
  k : ℕ
  eq : ∀ i, off i = ![(slotWord i).toNat, d, h, r, k]
instance (priority := high) closedSlot (t : Fin grid0.N) (off : grid0.Coords → Fin 5 → ℕ) [o : SlotOff off] : ClosedOff (off (grid0.coords t)) :=
  ⟨![(Ring.sl 3 t.val).val, o.d, o.h, o.r, o.k], by rw [o.eq, slotWord_eq]⟩
end Offsets

end Cert.State

end
-- ==== Proof.StateSlots.lean ====
/- Where the body reads the slot of this point: per direction and head, the rows of one operand of the
   chunk's step — the scaled keys' two halves, the stacked `[w; q]`, the update `u`. -/
module

public import proofs.«01_k».proof.Proof.StateRing

@[expose] public section

set_option maxRecDepth 16384

noncomputable section

namespace Cert.State

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

instance : SlotOff k0_off13 := ⟨0, 0, 192, 0, fun _ => rfl⟩
instance : SlotOff k0_off14 := ⟨0, 0, 192, 128, fun _ => rfl⟩
instance : SlotOff k0_off15 := ⟨0, 0, 0, 0, fun _ => rfl⟩
instance : SlotOff k0_off16 := ⟨0, 0, 128, 0, fun _ => rfl⟩
instance : SlotOff k0_off18 := ⟨0, 1, 192, 0, fun _ => rfl⟩
instance : SlotOff k0_off19 := ⟨0, 1, 192, 128, fun _ => rfl⟩
instance : SlotOff k0_off20 := ⟨0, 1, 0, 0, fun _ => rfl⟩
instance : SlotOff k0_off21 := ⟨0, 1, 128, 0, fun _ => rfl⟩
instance : SlotOff k0_off23 := ⟨0, 2, 192, 0, fun _ => rfl⟩
instance : SlotOff k0_off24 := ⟨0, 2, 192, 128, fun _ => rfl⟩
instance : SlotOff k0_off25 := ⟨0, 2, 0, 0, fun _ => rfl⟩
instance : SlotOff k0_off26 := ⟨0, 2, 128, 0, fun _ => rfl⟩
instance : SlotOff k0_off28 := ⟨0, 3, 192, 0, fun _ => rfl⟩
instance : SlotOff k0_off29 := ⟨0, 3, 192, 128, fun _ => rfl⟩
instance : SlotOff k0_off30 := ⟨0, 3, 0, 0, fun _ => rfl⟩
instance : SlotOff k0_off31 := ⟨0, 3, 128, 0, fun _ => rfl⟩
instance : SlotOff k0_off33 := ⟨0, 4, 192, 0, fun _ => rfl⟩
instance : SlotOff k0_off34 := ⟨0, 4, 192, 128, fun _ => rfl⟩
instance : SlotOff k0_off35 := ⟨0, 4, 0, 0, fun _ => rfl⟩
instance : SlotOff k0_off36 := ⟨0, 4, 128, 0, fun _ => rfl⟩
instance : SlotOff k0_off38 := ⟨0, 5, 192, 0, fun _ => rfl⟩
instance : SlotOff k0_off39 := ⟨0, 5, 192, 128, fun _ => rfl⟩
instance : SlotOff k0_off40 := ⟨0, 5, 0, 0, fun _ => rfl⟩
instance : SlotOff k0_off41 := ⟨0, 5, 128, 0, fun _ => rfl⟩
instance : SlotOff k0_off43 := ⟨0, 6, 192, 0, fun _ => rfl⟩
instance : SlotOff k0_off44 := ⟨0, 6, 192, 128, fun _ => rfl⟩
instance : SlotOff k0_off45 := ⟨0, 6, 0, 0, fun _ => rfl⟩
instance : SlotOff k0_off46 := ⟨0, 6, 128, 0, fun _ => rfl⟩
instance : SlotOff k0_off48 := ⟨0, 7, 192, 0, fun _ => rfl⟩
instance : SlotOff k0_off49 := ⟨0, 7, 192, 128, fun _ => rfl⟩
instance : SlotOff k0_off50 := ⟨0, 7, 0, 0, fun _ => rfl⟩
instance : SlotOff k0_off51 := ⟨0, 7, 128, 0, fun _ => rfl⟩
instance : SlotOff k0_off53 := ⟨0, 8, 192, 0, fun _ => rfl⟩
instance : SlotOff k0_off54 := ⟨0, 8, 192, 128, fun _ => rfl⟩
instance : SlotOff k0_off55 := ⟨0, 8, 0, 0, fun _ => rfl⟩
instance : SlotOff k0_off56 := ⟨0, 8, 128, 0, fun _ => rfl⟩
instance : SlotOff k0_off58 := ⟨0, 9, 192, 0, fun _ => rfl⟩
instance : SlotOff k0_off59 := ⟨0, 9, 192, 128, fun _ => rfl⟩
instance : SlotOff k0_off60 := ⟨0, 9, 0, 0, fun _ => rfl⟩
instance : SlotOff k0_off61 := ⟨0, 9, 128, 0, fun _ => rfl⟩
instance : SlotOff k0_off63 := ⟨0, 10, 192, 0, fun _ => rfl⟩
instance : SlotOff k0_off64 := ⟨0, 10, 192, 128, fun _ => rfl⟩
instance : SlotOff k0_off65 := ⟨0, 10, 0, 0, fun _ => rfl⟩
instance : SlotOff k0_off66 := ⟨0, 10, 128, 0, fun _ => rfl⟩
instance : SlotOff k0_off68 := ⟨0, 11, 192, 0, fun _ => rfl⟩
instance : SlotOff k0_off69 := ⟨0, 11, 192, 128, fun _ => rfl⟩
instance : SlotOff k0_off70 := ⟨0, 11, 0, 0, fun _ => rfl⟩
instance : SlotOff k0_off71 := ⟨0, 11, 128, 0, fun _ => rfl⟩
instance : SlotOff k0_off73 := ⟨0, 12, 192, 0, fun _ => rfl⟩
instance : SlotOff k0_off74 := ⟨0, 12, 192, 128, fun _ => rfl⟩
instance : SlotOff k0_off75 := ⟨0, 12, 0, 0, fun _ => rfl⟩
instance : SlotOff k0_off76 := ⟨0, 12, 128, 0, fun _ => rfl⟩
instance : SlotOff k0_off78 := ⟨0, 13, 192, 0, fun _ => rfl⟩
instance : SlotOff k0_off79 := ⟨0, 13, 192, 128, fun _ => rfl⟩
instance : SlotOff k0_off80 := ⟨0, 13, 0, 0, fun _ => rfl⟩
instance : SlotOff k0_off81 := ⟨0, 13, 128, 0, fun _ => rfl⟩
instance : SlotOff k0_off83 := ⟨0, 14, 192, 0, fun _ => rfl⟩
instance : SlotOff k0_off84 := ⟨0, 14, 192, 128, fun _ => rfl⟩
instance : SlotOff k0_off85 := ⟨0, 14, 0, 0, fun _ => rfl⟩
instance : SlotOff k0_off86 := ⟨0, 14, 128, 0, fun _ => rfl⟩
instance : SlotOff k0_off88 := ⟨0, 15, 192, 0, fun _ => rfl⟩
instance : SlotOff k0_off89 := ⟨0, 15, 192, 128, fun _ => rfl⟩
instance : SlotOff k0_off90 := ⟨0, 15, 0, 0, fun _ => rfl⟩
instance : SlotOff k0_off91 := ⟨0, 15, 128, 0, fun _ => rfl⟩
instance : SlotOff k0_off93 := ⟨1, 0, 192, 0, fun _ => rfl⟩
instance : SlotOff k0_off94 := ⟨1, 0, 192, 128, fun _ => rfl⟩
instance : SlotOff k0_off95 := ⟨1, 0, 0, 0, fun _ => rfl⟩
instance : SlotOff k0_off96 := ⟨1, 0, 128, 0, fun _ => rfl⟩
instance : SlotOff k0_off98 := ⟨1, 1, 192, 0, fun _ => rfl⟩
instance : SlotOff k0_off99 := ⟨1, 1, 192, 128, fun _ => rfl⟩
instance : SlotOff k0_off100 := ⟨1, 1, 0, 0, fun _ => rfl⟩
instance : SlotOff k0_off101 := ⟨1, 1, 128, 0, fun _ => rfl⟩
instance : SlotOff k0_off103 := ⟨1, 2, 192, 0, fun _ => rfl⟩
instance : SlotOff k0_off104 := ⟨1, 2, 192, 128, fun _ => rfl⟩
instance : SlotOff k0_off105 := ⟨1, 2, 0, 0, fun _ => rfl⟩
instance : SlotOff k0_off106 := ⟨1, 2, 128, 0, fun _ => rfl⟩
instance : SlotOff k0_off108 := ⟨1, 3, 192, 0, fun _ => rfl⟩
instance : SlotOff k0_off109 := ⟨1, 3, 192, 128, fun _ => rfl⟩
instance : SlotOff k0_off110 := ⟨1, 3, 0, 0, fun _ => rfl⟩
instance : SlotOff k0_off111 := ⟨1, 3, 128, 0, fun _ => rfl⟩
instance : SlotOff k0_off113 := ⟨1, 4, 192, 0, fun _ => rfl⟩
instance : SlotOff k0_off114 := ⟨1, 4, 192, 128, fun _ => rfl⟩
instance : SlotOff k0_off115 := ⟨1, 4, 0, 0, fun _ => rfl⟩
instance : SlotOff k0_off116 := ⟨1, 4, 128, 0, fun _ => rfl⟩
instance : SlotOff k0_off118 := ⟨1, 5, 192, 0, fun _ => rfl⟩
instance : SlotOff k0_off119 := ⟨1, 5, 192, 128, fun _ => rfl⟩
instance : SlotOff k0_off120 := ⟨1, 5, 0, 0, fun _ => rfl⟩
instance : SlotOff k0_off121 := ⟨1, 5, 128, 0, fun _ => rfl⟩
instance : SlotOff k0_off123 := ⟨1, 6, 192, 0, fun _ => rfl⟩
instance : SlotOff k0_off124 := ⟨1, 6, 192, 128, fun _ => rfl⟩
instance : SlotOff k0_off125 := ⟨1, 6, 0, 0, fun _ => rfl⟩
instance : SlotOff k0_off126 := ⟨1, 6, 128, 0, fun _ => rfl⟩
instance : SlotOff k0_off128 := ⟨1, 7, 192, 0, fun _ => rfl⟩
instance : SlotOff k0_off129 := ⟨1, 7, 192, 128, fun _ => rfl⟩
instance : SlotOff k0_off130 := ⟨1, 7, 0, 0, fun _ => rfl⟩
instance : SlotOff k0_off131 := ⟨1, 7, 128, 0, fun _ => rfl⟩
instance : SlotOff k0_off133 := ⟨1, 8, 192, 0, fun _ => rfl⟩
instance : SlotOff k0_off134 := ⟨1, 8, 192, 128, fun _ => rfl⟩
instance : SlotOff k0_off135 := ⟨1, 8, 0, 0, fun _ => rfl⟩
instance : SlotOff k0_off136 := ⟨1, 8, 128, 0, fun _ => rfl⟩
instance : SlotOff k0_off138 := ⟨1, 9, 192, 0, fun _ => rfl⟩
instance : SlotOff k0_off139 := ⟨1, 9, 192, 128, fun _ => rfl⟩
instance : SlotOff k0_off140 := ⟨1, 9, 0, 0, fun _ => rfl⟩
instance : SlotOff k0_off141 := ⟨1, 9, 128, 0, fun _ => rfl⟩
instance : SlotOff k0_off143 := ⟨1, 10, 192, 0, fun _ => rfl⟩
instance : SlotOff k0_off144 := ⟨1, 10, 192, 128, fun _ => rfl⟩
instance : SlotOff k0_off145 := ⟨1, 10, 0, 0, fun _ => rfl⟩
instance : SlotOff k0_off146 := ⟨1, 10, 128, 0, fun _ => rfl⟩
instance : SlotOff k0_off148 := ⟨1, 11, 192, 0, fun _ => rfl⟩
instance : SlotOff k0_off149 := ⟨1, 11, 192, 128, fun _ => rfl⟩
instance : SlotOff k0_off150 := ⟨1, 11, 0, 0, fun _ => rfl⟩
instance : SlotOff k0_off151 := ⟨1, 11, 128, 0, fun _ => rfl⟩
instance : SlotOff k0_off153 := ⟨1, 12, 192, 0, fun _ => rfl⟩
instance : SlotOff k0_off154 := ⟨1, 12, 192, 128, fun _ => rfl⟩
instance : SlotOff k0_off155 := ⟨1, 12, 0, 0, fun _ => rfl⟩
instance : SlotOff k0_off156 := ⟨1, 12, 128, 0, fun _ => rfl⟩
instance : SlotOff k0_off158 := ⟨1, 13, 192, 0, fun _ => rfl⟩
instance : SlotOff k0_off159 := ⟨1, 13, 192, 128, fun _ => rfl⟩
instance : SlotOff k0_off160 := ⟨1, 13, 0, 0, fun _ => rfl⟩
instance : SlotOff k0_off161 := ⟨1, 13, 128, 0, fun _ => rfl⟩
instance : SlotOff k0_off163 := ⟨1, 14, 192, 0, fun _ => rfl⟩
instance : SlotOff k0_off164 := ⟨1, 14, 192, 128, fun _ => rfl⟩
instance : SlotOff k0_off165 := ⟨1, 14, 0, 0, fun _ => rfl⟩
instance : SlotOff k0_off166 := ⟨1, 14, 128, 0, fun _ => rfl⟩
instance : SlotOff k0_off168 := ⟨1, 15, 192, 0, fun _ => rfl⟩
instance : SlotOff k0_off169 := ⟨1, 15, 192, 128, fun _ => rfl⟩
instance : SlotOff k0_off170 := ⟨1, 15, 0, 0, fun _ => rfl⟩
instance : SlotOff k0_off171 := ⟨1, 15, 128, 0, fun _ => rfl⟩

end Cert.State

end
-- ==== Proof.StateRunA.lean ====
/- The body at the first point: it starts the first three blocks per direction, sets the states to zero,
   waits for its own blocks and does one step per head and direction. -/
module

public import proofs.«01_k».proof.Proof.StateSlots

@[expose] public section

set_option maxRecDepth 16384

noncomputable section

namespace Cert.State

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 4000000 in
/-- The body's run at these points.  The three lists are what it stores into the two outputs' buffers and
    into the states' one, last first. -/
noncomputable def runA (c : Dev nD) (t : Fin grid0.N) (arg3 : Memref sig .tc .vmem S1x1x16x64x256 .f32) (harg3 : arg3.IsWhole) (arg4 : Memref sig .tc .vmem S1x1x16x64x256 .f32) (harg4 : arg4.IsWhole) (arg5 : Memref sig .tc .vmem S1x64x4096 .bf16) (harg5 : arg5.IsWhole) (arg6 : Memref sig .tc .vmem S1x64x4096 .bf16) (harg6 : arg6.IsWhole) (arg7 : Memref sig .tc .vmem S32x128x256 .f32) (harg7 : arg7.IsWhole)
    (hc0 : isFirst (grid0.coords t)) (hc1 : isStart (grid0.coords t)) (hc2 : isReset (grid0.coords t))
    (x0 x1 : Vec F S1x1x16x64x256 .f32) (W0 : BufOf (F := F) c opM) :
    Σ' (L2 : List (View.Piece (Elt F) S1x64x4096 .bf16)) (L3 : List (View.Piece (Elt F) S1x64x4096 .bf16)), { L7 : List (View.Piece (Elt F) S32x128x256 .f32) //
      ∀ (W : Waits sig Unit) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d) ∗ (∃ d, owns (c : Thread nD τ) arg7 fullShare d)
            ∗ Ring.free (cellP c) (slotW c W0) (Ring.sl 3 t.val) ∗ Ring.free (cellP c) (slotW c W0) (Ring.sl 3 (t.val + 1)) ∗ Ring.free (cellP c) (slotW c W0) (Ring.sl 3 (t.val + 2)) ∗ owes (c : Thread nD τ) 0 W
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f L7)
                ∗ Ring.inflight (flightW c W0) (Ring.sl 3 (t.val + 1)) (Ring.bk 256 (t.val + 1)) ∗ Ring.inflight (flightW c W0) (Ring.sl 3 (t.val + 2)) (Ring.bk 256 (t.val + 2)) ∗ Ring.free (cellP c) (slotW c W0) (Ring.sl 3 t.val) ∗ (∃ W', owes (c : Thread nD τ) 0 W')) -∗ K ⟨⟩))
          ⊢ wp frame (wpE (defs₀ (F := F)) Variants.none c none) Set.univ (cc0_delta_state (grid0.coords t) opM (Memref.isWhole_whole _) arg3 harg3 arg4 harg4 arg5 harg5 arg6 harg6 arg7 harg7 ringM (Memref.isWhole_whole _) cc0_scratch2) K } := by
  refine ⟨?_, ?_, ?_, fun W K => ?run⟩
  case run =>
    simp only [cc0_delta_state_eq_skeleton]; unfold cc0_delta_state_skel
    simp only [k0_part3_eq_skeleton, k0_part1_eq_skeleton, k0_part2_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton]
    have hcanon0 := cell_canon 0 (Ring.sl 3 t.val) ![0, 0] inb_S3x2_S1x1_0_0 (first_cell 0 t hc0).1
    have hcanon1 := cell_canon' 0 (Ring.sl 3 t.val) ![0, 0] inb_S3x2_S1x1_0_0 (first_cell 0 t hc0).1
    have hcanon2 := win_canon 0 (Ring.sl 3 t.val) ![0, 0, 0, 0, 0] inb_S3x2x16x320x256_S1x1x16x320x256_0_0_0_0_0 (first_win 0 t hc0).1
    have hcanon3 := win_canon' 0 (Ring.sl 3 t.val) ![0, 0, 0, 0, 0] inb_S3x2x16x320x256_S1x1x16x320x256_0_0_0_0_0 (first_win 0 t hc0).1
    have hcanon4 := src_canon 0 (Ring.bk 256 t.val) ![0, 0, 0, 0, 0, 0] inb_S2x4x16x64x320x256_S1x1x16x1x320x256_0_0_0_0_0_0 (first_src 0 t hc0).1
    have hcanon5 := src_canon' 0 (Ring.bk 256 t.val) ![0, 0, 0, 0, 0, 0] inb_S2x4x16x64x320x256_S1x1x16x1x320x256_0_0_0_0_0_0 (first_src 0 t hc0).1
    have hcanon6 := cell_canon 1 (Ring.sl 3 t.val) ![0, 1] inb_S3x2_S1x1_0_1 (first_cell 1 t hc0).1
    have hcanon7 := cell_canon' 1 (Ring.sl 3 t.val) ![0, 1] inb_S3x2_S1x1_0_1 (first_cell 1 t hc0).1
    have hcanon8 := win_canon 1 (Ring.sl 3 t.val) ![0, 1, 0, 0, 0] inb_S3x2x16x320x256_S1x1x16x320x256_0_1_0_0_0 (first_win 1 t hc0).1
    have hcanon9 := win_canon' 1 (Ring.sl 3 t.val) ![0, 1, 0, 0, 0] inb_S3x2x16x320x256_S1x1x16x320x256_0_1_0_0_0 (first_win 1 t hc0).1
    have hcanon10 := src_canon 1 (Ring.bk 256 t.val) ![1, 0, 0, 63, 0, 0] inb_S2x4x16x64x320x256_S1x1x16x1x320x256_1_0_0_63_0_0 (first_src 1 t hc0).1
    have hcanon11 := src_canon' 1 (Ring.bk 256 t.val) ![1, 0, 0, 63, 0, 0] inb_S2x4x16x64x320x256_S1x1x16x1x320x256_1_0_0_63_0_0 (first_src 1 t hc0).1
    have hcanon12 := cell_canon 0 (Ring.sl 3 (t.val + 1)) ![1, 0] inb_S3x2_S1x1_1_0 (first_cell 0 t hc0).2
    have hcanon13 := cell_canon' 0 (Ring.sl 3 (t.val + 1)) ![1, 0] inb_S3x2_S1x1_1_0 (first_cell 0 t hc0).2
    have hcanon14 := win_canon 0 (Ring.sl 3 (t.val + 1)) ![1, 0, 0, 0, 0] inb_S3x2x16x320x256_S1x1x16x320x256_1_0_0_0_0 (first_win 0 t hc0).2
    have hcanon15 := win_canon' 0 (Ring.sl 3 (t.val + 1)) ![1, 0, 0, 0, 0] inb_S3x2x16x320x256_S1x1x16x320x256_1_0_0_0_0 (first_win 0 t hc0).2
    have hcanon16 := src_canon 0 (Ring.bk 256 (t.val + 1)) ![0, 0, 0, 1, 0, 0] inb_S2x4x16x64x320x256_S1x1x16x1x320x256_0_0_0_1_0_0 (first_src 0 t hc0).2
    have hcanon17 := src_canon' 0 (Ring.bk 256 (t.val + 1)) ![0, 0, 0, 1, 0, 0] inb_S2x4x16x64x320x256_S1x1x16x1x320x256_0_0_0_1_0_0 (first_src 0 t hc0).2
    have hcanon18 := cell_canon 1 (Ring.sl 3 (t.val + 1)) ![1, 1] inb_S3x2_S1x1_1_1 (first_cell 1 t hc0).2
    have hcanon19 := cell_canon' 1 (Ring.sl 3 (t.val + 1)) ![1, 1] inb_S3x2_S1x1_1_1 (first_cell 1 t hc0).2
    have hcanon20 := win_canon 1 (Ring.sl 3 (t.val + 1)) ![1, 1, 0, 0, 0] inb_S3x2x16x320x256_S1x1x16x320x256_1_1_0_0_0 (first_win 1 t hc0).2
    have hcanon21 := win_canon' 1 (Ring.sl 3 (t.val + 1)) ![1, 1, 0, 0, 0] inb_S3x2x16x320x256_S1x1x16x320x256_1_1_0_0_0 (first_win 1 t hc0).2
    have hcanon22 := src_canon 1 (Ring.bk 256 (t.val + 1)) ![1, 0, 0, 62, 0, 0] inb_S2x4x16x64x320x256_S1x1x16x1x320x256_1_0_0_62_0_0 (first_src 1 t hc0).2
    have hcanon23 := src_canon' 1 (Ring.bk 256 (t.val + 1)) ![1, 0, 0, 62, 0, 0] inb_S2x4x16x64x320x256_S1x1x16x1x320x256_1_0_0_62_0_0 (first_src 1 t hc0).2
    have hcanon24 := cell_canon 0 (Ring.sl 3 (t.val + 2)) (k0_off1 (grid0.coords t)) (k0_off1_inb (grid0.coords t) hc1) (off1_eq t)
    have hcanon25 := cell_canon' 0 (Ring.sl 3 (t.val + 2)) (k0_off1 (grid0.coords t)) (k0_off1_inb (grid0.coords t) hc1) (off1_eq t)
    have hcanon26 := win_canon 0 (Ring.sl 3 (t.val + 2)) (k0_off2 (grid0.coords t)) (k0_off2_inb (grid0.coords t) hc1) (off2_eq t)
    have hcanon27 := win_canon' 0 (Ring.sl 3 (t.val + 2)) (k0_off2 (grid0.coords t)) (k0_off2_inb (grid0.coords t) hc1) (off2_eq t)
    have hcanon28 := src_canon 0 (Ring.bk 256 (t.val + 2)) (k0_off3 (grid0.coords t)) (k0_off3_inb (grid0.coords t) hc1) (off3_eq t hc1)
    have hcanon29 := src_canon' 0 (Ring.bk 256 (t.val + 2)) (k0_off3 (grid0.coords t)) (k0_off3_inb (grid0.coords t) hc1) (off3_eq t hc1)
    have hcanon30 := cell_canon 1 (Ring.sl 3 (t.val + 2)) (k0_off4 (grid0.coords t)) (k0_off4_inb (grid0.coords t) hc1) (off4_eq t)
    have hcanon31 := cell_canon' 1 (Ring.sl 3 (t.val + 2)) (k0_off4 (grid0.coords t)) (k0_off4_inb (grid0.coords t) hc1) (off4_eq t)
    have hcanon32 := win_canon 1 (Ring.sl 3 (t.val + 2)) (k0_off5 (grid0.coords t)) (k0_off5_inb (grid0.coords t) hc1) (off5_eq t)
    have hcanon33 := win_canon' 1 (Ring.sl 3 (t.val + 2)) (k0_off5 (grid0.coords t)) (k0_off5_inb (grid0.coords t) hc1) (off5_eq t)
    have hcanon34 := src_canon 1 (Ring.bk 256 (t.val + 2)) (k0_off6 (grid0.coords t)) (k0_off6_inb (grid0.coords t) hc1) (off6_eq t hc1)
    have hcanon35 := src_canon' 1 (Ring.bk 256 (t.val + 2)) (k0_off6 (grid0.coords t)) (k0_off6_inb (grid0.coords t) hc1) (off6_eq t hc1)
    have hcanon36 := cell_canon 0 (Ring.sl 3 t.val) (k0_off7 (grid0.coords t)) (k0_off7_inb (grid0.coords t)) (off7_eq t)
    have hcanon37 := cell_canon' 0 (Ring.sl 3 t.val) (k0_off7 (grid0.coords t)) (k0_off7_inb (grid0.coords t)) (off7_eq t)
    have hcanon38 := win_canon 0 (Ring.sl 3 t.val) (k0_off8 (grid0.coords t)) (k0_off8_inb (grid0.coords t)) (off8_eq t)
    have hcanon39 := win_canon' 0 (Ring.sl 3 t.val) (k0_off8 (grid0.coords t)) (k0_off8_inb (grid0.coords t)) (off8_eq t)
    have hcanon40 := src_canon 0 (Ring.bk 256 t.val) (k0_off9 (grid0.coords t)) (k0_off9_inb (grid0.coords t)) (off9_eq t)
    have hcanon41 := src_canon' 0 (Ring.bk 256 t.val) (k0_off9 (grid0.coords t)) (k0_off9_inb (grid0.coords t)) (off9_eq t)
    have hcanon42 := cell_canon 1 (Ring.sl 3 t.val) (k0_off10 (grid0.coords t)) (k0_off10_inb (grid0.coords t)) (off10_eq t)
    have hcanon43 := cell_canon' 1 (Ring.sl 3 t.val) (k0_off10 (grid0.coords t)) (k0_off10_inb (grid0.coords t)) (off10_eq t)
    have hcanon44 := win_canon 1 (Ring.sl 3 t.val) (k0_off11 (grid0.coords t)) (k0_off11_inb (grid0.coords t)) (off11_eq t)
    have hcanon45 := win_canon' 1 (Ring.sl 3 t.val) (k0_off11 (grid0.coords t)) (k0_off11_inb (grid0.coords t)) (off11_eq t)
    have hcanon46 := src_canon 1 (Ring.bk 256 t.val) (k0_off12 (grid0.coords t)) (k0_off12_inb (grid0.coords t)) (off12_eq t)
    have hcanon47 := src_canon' 1 (Ring.bk 256 t.val) (k0_off12 (grid0.coords t)) (k0_off12_inb (grid0.coords t)) (off12_eq t)
    unfold owns Ring.free Ring.inflight
    iintro ⟨⟨%f0, %hf0, H0⟩, ⟨%f1, %hf1, H1⟩, ⟨%d2, %f2, -, H2⟩, ⟨%d3, %f3, -, H3⟩, ⟨%d7, %f7, -, H7⟩, ⟨⟨Hc0_0, Hc0_1⟩, ⟨%fs0, ⟨Hs0_0, Hs0_1⟩, Hw0_0, Hw0_1⟩⟩, ⟨⟨Hc1_0, Hc1_1⟩, ⟨%fs1, ⟨Hs1_0, Hs1_1⟩, Hw1_0, Hw1_1⟩⟩, ⟨⟨Hc2_0, Hc2_1⟩, ⟨%fs2, ⟨Hs2_0, Hs2_1⟩, Hw2_0, Hw2_1⟩⟩, HW, Hk⟩
    ihave Hsp0_0 := (src_split c W0 0 (Ring.sl 3 t.val) (Ring.bk 256 t.val)).1 $$ Hw0_0
    icases Hsp0_0 with ⟨Hh0_0, Hr0_0⟩
    ihave Hsp0_1 := (src_split c W0 1 (Ring.sl 3 t.val) (Ring.bk 256 t.val)).1 $$ Hw0_1
    icases Hsp0_1 with ⟨Hh0_1, Hr0_1⟩
    ihave Hsp1_0 := (src_split c W0 0 (Ring.sl 3 (t.val + 1)) (Ring.bk 256 (t.val + 1))).1 $$ Hw1_0
    icases Hsp1_0 with ⟨Hh1_0, Hr1_0⟩
    ihave Hsp1_1 := (src_split c W0 1 (Ring.sl 3 (t.val + 1)) (Ring.bk 256 (t.val + 1))).1 $$ Hw1_1
    icases Hsp1_1 with ⟨Hh1_1, Hr1_1⟩
    ihave Hsp2_0 := (src_split c W0 0 (Ring.sl 3 (t.val + 2)) (Ring.bk 256 (t.val + 2))).1 $$ Hw2_0
    icases Hsp2_0 with ⟨Hh2_0, Hr2_0⟩
    ihave Hsp2_1 := (src_split c W0 1 (Ring.sl 3 (t.val + 2)) (Ring.bk 256 (t.val + 2))).1 $$ Hw2_1
    icases Hsp2_1 with ⟨Hh2_1, Hr2_1⟩
    obtain rfl := harg3.eq_unread hf0; obtain rfl := harg4.eq_unread hf1
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [H3]; · iexists _; iexact H3
    isplitl [H7]; · iexists _; iexact H7
    isplitl [Hc1_0 Hc1_1 Hr1_0 Hr1_1]
    · iexists fs1; isplitl [Hc1_0 Hc1_1]
      · isplitl [Hc1_0]; · iexact Hc1_0
        iexact Hc1_1
      isplitl [Hr1_0]; · iexact Hr1_0
      iexact Hr1_1
    isplitl [Hc2_0 Hc2_1 Hr2_0 Hr2_1]
    · iexists fs2; isplitl [Hc2_0 Hc2_1]
      · isplitl [Hc2_0]; · iexact Hc2_0
        iexact Hc2_1
      isplitl [Hr2_0]; · iexact Hr2_0
      iexact Hr2_1
    isplitl [Hc0_0 Hc0_1 Hs0_0 Hs0_1 Hh0_0 Hh0_1 Hr0_0 Hr0_1]
    · isplitl [Hc0_0 Hc0_1]
      · isplitl [Hc0_0]; · iexact Hc0_0
        iexact Hc0_1
      iexists (landedJ c W0 (Ring.sl 3 t.val) (Ring.bk 256 t.val)); isplitl [Hs0_0 Hs0_1]
      · iapply (slotP_landed c W0 (Ring.sl 3 t.val) (Ring.bk 256 t.val))
        isplitl [Hs0_0]; · iexact Hs0_0
        iexact Hs0_1
      isplitl [Hh0_0 Hr0_0]
      · iapply (src_split c W0 0 (Ring.sl 3 t.val) (Ring.bk 256 t.val)).2; isplitl [Hh0_0]; · iexact Hh0_0
        iexact Hr0_0
      iapply (src_split c W0 1 (Ring.sl 3 t.val) (Ring.bk 256 t.val)).2; isplitl [Hh0_1]; · iexact Hh0_1
      iexact Hr0_1
    iexists _; iexact HW

end Cert.State

end
-- ==== Proof.StateRunB.lean ====
/- The body at the points inside a sequence: it starts the block two points ahead, waits for its own and does one
   step per head and direction from the states it finds. -/
module

public import proofs.«01_k».proof.Proof.StateSlots

@[expose] public section

set_option maxRecDepth 16384

noncomputable section

namespace Cert.State

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 4000000 in
/-- The body's run at these points.  The three lists are what it stores into the two outputs' buffers and
    into the states' one, last first. -/
noncomputable def runB (c : Dev nD) (t : Fin grid0.N) (arg3 : Memref sig .tc .vmem S1x1x16x64x256 .f32) (harg3 : arg3.IsWhole) (arg4 : Memref sig .tc .vmem S1x1x16x64x256 .f32) (harg4 : arg4.IsWhole) (arg5 : Memref sig .tc .vmem S1x64x4096 .bf16) (harg5 : arg5.IsWhole) (arg6 : Memref sig .tc .vmem S1x64x4096 .bf16) (harg6 : arg6.IsWhole) (arg7 : Memref sig .tc .vmem S32x128x256 .f32) (harg7 : arg7.IsWhole)
    (hc0 : ¬isFirst (grid0.coords t)) (hc1 : isStart (grid0.coords t)) (hc2 : ¬isReset (grid0.coords t))
    (x0 x1 : Vec F S1x1x16x64x256 .f32) (x7 : Vec F S32x128x256 .f32) (W0 : BufOf (F := F) c opM) :
    Σ' (L2 : List (View.Piece (Elt F) S1x64x4096 .bf16)) (L3 : List (View.Piece (Elt F) S1x64x4096 .bf16)), { L7 : List (View.Piece (Elt F) S32x128x256 .f32) //
      ∀ (W : Waits sig Unit) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d) ∗ owns (c : Thread nD τ) arg7 fullShare x7
            ∗ Ring.inflight (flightW c W0) (Ring.sl 3 t.val) (Ring.bk 256 t.val) ∗ Ring.inflight (flightW c W0) (Ring.sl 3 (t.val + 1)) (Ring.bk 256 (t.val + 1)) ∗ Ring.free (cellP c) (slotW c W0) (Ring.sl 3 (t.val + 2)) ∗ owes (c : Thread nD τ) 0 W
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f L7)
                ∗ Ring.inflight (flightW c W0) (Ring.sl 3 (t.val + 1)) (Ring.bk 256 (t.val + 1)) ∗ Ring.inflight (flightW c W0) (Ring.sl 3 (t.val + 2)) (Ring.bk 256 (t.val + 2)) ∗ Ring.free (cellP c) (slotW c W0) (Ring.sl 3 t.val) ∗ (∃ W', owes (c : Thread nD τ) 0 W')) -∗ K ⟨⟩))
          ⊢ wp frame (wpE (defs₀ (F := F)) Variants.none c none) Set.univ (cc0_delta_state (grid0.coords t) opM (Memref.isWhole_whole _) arg3 harg3 arg4 harg4 arg5 harg5 arg6 harg6 arg7 harg7 ringM (Memref.isWhole_whole _) cc0_scratch2) K } := by
  refine ⟨?_, ?_, ?_, fun W K => ?run⟩
  case run =>
    simp only [cc0_delta_state_eq_skeleton]; unfold cc0_delta_state_skel
    simp only [k0_part3_eq_skeleton, k0_part2_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton]
    have hcanon0 := cell_canon 0 (Ring.sl 3 (t.val + 2)) (k0_off1 (grid0.coords t)) (k0_off1_inb (grid0.coords t) hc1) (off1_eq t)
    have hcanon1 := cell_canon' 0 (Ring.sl 3 (t.val + 2)) (k0_off1 (grid0.coords t)) (k0_off1_inb (grid0.coords t) hc1) (off1_eq t)
    have hcanon2 := win_canon 0 (Ring.sl 3 (t.val + 2)) (k0_off2 (grid0.coords t)) (k0_off2_inb (grid0.coords t) hc1) (off2_eq t)
    have hcanon3 := win_canon' 0 (Ring.sl 3 (t.val + 2)) (k0_off2 (grid0.coords t)) (k0_off2_inb (grid0.coords t) hc1) (off2_eq t)
    have hcanon4 := src_canon 0 (Ring.bk 256 (t.val + 2)) (k0_off3 (grid0.coords t)) (k0_off3_inb (grid0.coords t) hc1) (off3_eq t hc1)
    have hcanon5 := src_canon' 0 (Ring.bk 256 (t.val + 2)) (k0_off3 (grid0.coords t)) (k0_off3_inb (grid0.coords t) hc1) (off3_eq t hc1)
    have hcanon6 := cell_canon 1 (Ring.sl 3 (t.val + 2)) (k0_off4 (grid0.coords t)) (k0_off4_inb (grid0.coords t) hc1) (off4_eq t)
    have hcanon7 := cell_canon' 1 (Ring.sl 3 (t.val + 2)) (k0_off4 (grid0.coords t)) (k0_off4_inb (grid0.coords t) hc1) (off4_eq t)
    have hcanon8 := win_canon 1 (Ring.sl 3 (t.val + 2)) (k0_off5 (grid0.coords t)) (k0_off5_inb (grid0.coords t) hc1) (off5_eq t)
    have hcanon9 := win_canon' 1 (Ring.sl 3 (t.val + 2)) (k0_off5 (grid0.coords t)) (k0_off5_inb (grid0.coords t) hc1) (off5_eq t)
    have hcanon10 := src_canon 1 (Ring.bk 256 (t.val + 2)) (k0_off6 (grid0.coords t)) (k0_off6_inb (grid0.coords t) hc1) (off6_eq t hc1)
    have hcanon11 := src_canon' 1 (Ring.bk 256 (t.val + 2)) (k0_off6 (grid0.coords t)) (k0_off6_inb (grid0.coords t) hc1) (off6_eq t hc1)
    have hcanon12 := cell_canon 0 (Ring.sl 3 t.val) (k0_off7 (grid0.coords t)) (k0_off7_inb (grid0.coords t)) (off7_eq t)
    have hcanon13 := cell_canon' 0 (Ring.sl 3 t.val) (k0_off7 (grid0.coords t)) (k0_off7_inb (grid0.coords t)) (off7_eq t)
    have hcanon14 := win_canon 0 (Ring.sl 3 t.val) (k0_off8 (grid0.coords t)) (k0_off8_inb (grid0.coords t)) (off8_eq t)
    have hcanon15 := win_canon' 0 (Ring.sl 3 t.val) (k0_off8 (grid0.coords t)) (k0_off8_inb (grid0.coords t)) (off8_eq t)
    have hcanon16 := src_canon 0 (Ring.bk 256 t.val) (k0_off9 (grid0.coords t)) (k0_off9_inb (grid0.coords t)) (off9_eq t)
    have hcanon17 := src_canon' 0 (Ring.bk 256 t.val) (k0_off9 (grid0.coords t)) (k0_off9_inb (grid0.coords t)) (off9_eq t)
    have hcanon18 := cell_canon 1 (Ring.sl 3 t.val) (k0_off10 (grid0.coords t)) (k0_off10_inb (grid0.coords t)) (off10_eq t)
    have hcanon19 := cell_canon' 1 (Ring.sl 3 t.val) (k0_off10 (grid0.coords t)) (k0_off10_inb (grid0.coords t)) (off10_eq t)
    have hcanon20 := win_canon 1 (Ring.sl 3 t.val) (k0_off11 (grid0.coords t)) (k0_off11_inb (grid0.coords t)) (off11_eq t)
    have hcanon21 := win_canon' 1 (Ring.sl 3 t.val) (k0_off11 (grid0.coords t)) (k0_off11_inb (grid0.coords t)) (off11_eq t)
    have hcanon22 := src_canon 1 (Ring.bk 256 t.val) (k0_off12 (grid0.coords t)) (k0_off12_inb (grid0.coords t)) (off12_eq t)
    have hcanon23 := src_canon' 1 (Ring.bk 256 t.val) (k0_off12 (grid0.coords t)) (k0_off12_inb (grid0.coords t)) (off12_eq t)
    unfold owns Ring.free Ring.inflight
    iintro ⟨⟨%f0, %hf0, H0⟩, ⟨%f1, %hf1, H1⟩, ⟨%d2, %f2, -, H2⟩, ⟨%d3, %f3, -, H3⟩, ⟨%f7, %hf7, H7⟩, ⟨%ff0, ⟨Hf0_0, Hf0_1⟩, Hrf0_0, Hrf0_1⟩, ⟨%ff1, ⟨Hf1_0, Hf1_1⟩, Hrf1_0, Hrf1_1⟩, ⟨⟨Hc2_0, Hc2_1⟩, ⟨%fs2, ⟨Hs2_0, Hs2_1⟩, Hw2_0, Hw2_1⟩⟩, HW, Hk⟩
    ihave Hsp2_0 := (src_split c W0 0 (Ring.sl 3 (t.val + 2)) (Ring.bk 256 (t.val + 2))).1 $$ Hw2_0
    icases Hsp2_0 with ⟨Hh2_0, Hr2_0⟩
    ihave Hsp2_1 := (src_split c W0 1 (Ring.sl 3 (t.val + 2)) (Ring.bk 256 (t.val + 2))).1 $$ Hw2_1
    icases Hsp2_1 with ⟨Hh2_1, Hr2_1⟩
    obtain rfl := harg3.eq_unread hf0; obtain rfl := harg4.eq_unread hf1; obtain rfl := harg7.eq_unread hf7
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [H3]; · iexists _; iexact H3
    isplitl [H7]; · iexists _; iexact H7
    isplitl [Hf1_0 Hf1_1 Hrf1_0 Hrf1_1]
    · iexists ff1; isplitl [Hf1_0 Hf1_1]
      · isplitl [Hf1_0]; · iexact Hf1_0
        iexact Hf1_1
      isplitl [Hrf1_0]; · iexact Hrf1_0
      iexact Hrf1_1
    isplitl [Hc2_0 Hc2_1 Hr2_0 Hr2_1]
    · iexists fs2; isplitl [Hc2_0 Hc2_1]
      · isplitl [Hc2_0]; · iexact Hc2_0
        iexact Hc2_1
      isplitl [Hr2_0]; · iexact Hr2_0
      iexact Hr2_1
    isplitl [Hf0_0 Hf0_1 Hf0_0_dst Hf0_1_dst Hf0_0_src Hf0_1_src Hrf0_0 Hrf0_1]
    · isplitl [Hf0_0 Hf0_1]
      · isplitl [Hf0_0]; · iexact Hf0_0
        iexact Hf0_1
      iexists (landedJ c W0 (Ring.sl 3 t.val) (Ring.bk 256 t.val)); isplitl [Hf0_0_dst Hf0_1_dst]
      · iapply (slotP_landed c W0 (Ring.sl 3 t.val) (Ring.bk 256 t.val))
        isplitl [Hf0_0_dst]; · iexact Hf0_0_dst
        iexact Hf0_1_dst
      isplitl [Hf0_0_src Hrf0_0]
      · iapply (src_split c W0 0 (Ring.sl 3 t.val) (Ring.bk 256 t.val)).2; isplitl [Hf0_0_src]; · iexact Hf0_0_src
        iexact Hrf0_0
      iapply (src_split c W0 1 (Ring.sl 3 t.val) (Ring.bk 256 t.val)).2; isplitl [Hf0_1_src]; · iexact Hf0_1_src
      iexact Hrf0_1
    iexists _; iexact HW

end Cert.State

end
-- ==== Proof.StateRunC.lean ====
/- The body at the first chunk of a later sequence: as inside one, but the states are set to zero first. -/
module

public import proofs.«01_k».proof.Proof.StateSlots

@[expose] public section

set_option maxRecDepth 16384

noncomputable section

namespace Cert.State

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 4000000 in
/-- The body's run at these points.  The three lists are what it stores into the two outputs' buffers and
    into the states' one, last first. -/
noncomputable def runC (c : Dev nD) (t : Fin grid0.N) (arg3 : Memref sig .tc .vmem S1x1x16x64x256 .f32) (harg3 : arg3.IsWhole) (arg4 : Memref sig .tc .vmem S1x1x16x64x256 .f32) (harg4 : arg4.IsWhole) (arg5 : Memref sig .tc .vmem S1x64x4096 .bf16) (harg5 : arg5.IsWhole) (arg6 : Memref sig .tc .vmem S1x64x4096 .bf16) (harg6 : arg6.IsWhole) (arg7 : Memref sig .tc .vmem S32x128x256 .f32) (harg7 : arg7.IsWhole)
    (hc0 : ¬isFirst (grid0.coords t)) (hc1 : isStart (grid0.coords t)) (hc2 : isReset (grid0.coords t))
    (x0 x1 : Vec F S1x1x16x64x256 .f32) (W0 : BufOf (F := F) c opM) :
    Σ' (L2 : List (View.Piece (Elt F) S1x64x4096 .bf16)) (L3 : List (View.Piece (Elt F) S1x64x4096 .bf16)), { L7 : List (View.Piece (Elt F) S32x128x256 .f32) //
      ∀ (W : Waits sig Unit) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d) ∗ (∃ d, owns (c : Thread nD τ) arg7 fullShare d)
            ∗ Ring.inflight (flightW c W0) (Ring.sl 3 t.val) (Ring.bk 256 t.val) ∗ Ring.inflight (flightW c W0) (Ring.sl 3 (t.val + 1)) (Ring.bk 256 (t.val + 1)) ∗ Ring.free (cellP c) (slotW c W0) (Ring.sl 3 (t.val + 2)) ∗ owes (c : Thread nD τ) 0 W
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f L7)
                ∗ Ring.inflight (flightW c W0) (Ring.sl 3 (t.val + 1)) (Ring.bk 256 (t.val + 1)) ∗ Ring.inflight (flightW c W0) (Ring.sl 3 (t.val + 2)) (Ring.bk 256 (t.val + 2)) ∗ Ring.free (cellP c) (slotW c W0) (Ring.sl 3 t.val) ∗ (∃ W', owes (c : Thread nD τ) 0 W')) -∗ K ⟨⟩))
          ⊢ wp frame (wpE (defs₀ (F := F)) Variants.none c none) Set.univ (cc0_delta_state (grid0.coords t) opM (Memref.isWhole_whole _) arg3 harg3 arg4 harg4 arg5 harg5 arg6 harg6 arg7 harg7 ringM (Memref.isWhole_whole _) cc0_scratch2) K } := by
  refine ⟨?_, ?_, ?_, fun W K => ?run⟩
  case run =>
    simp only [cc0_delta_state_eq_skeleton]; unfold cc0_delta_state_skel
    simp only [k0_part3_eq_skeleton, k0_part2_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton]
    have hcanon0 := cell_canon 0 (Ring.sl 3 (t.val + 2)) (k0_off1 (grid0.coords t)) (k0_off1_inb (grid0.coords t) hc1) (off1_eq t)
    have hcanon1 := cell_canon' 0 (Ring.sl 3 (t.val + 2)) (k0_off1 (grid0.coords t)) (k0_off1_inb (grid0.coords t) hc1) (off1_eq t)
    have hcanon2 := win_canon 0 (Ring.sl 3 (t.val + 2)) (k0_off2 (grid0.coords t)) (k0_off2_inb (grid0.coords t) hc1) (off2_eq t)
    have hcanon3 := win_canon' 0 (Ring.sl 3 (t.val + 2)) (k0_off2 (grid0.coords t)) (k0_off2_inb (grid0.coords t) hc1) (off2_eq t)
    have hcanon4 := src_canon 0 (Ring.bk 256 (t.val + 2)) (k0_off3 (grid0.coords t)) (k0_off3_inb (grid0.coords t) hc1) (off3_eq t hc1)
    have hcanon5 := src_canon' 0 (Ring.bk 256 (t.val + 2)) (k0_off3 (grid0.coords t)) (k0_off3_inb (grid0.coords t) hc1) (off3_eq t hc1)
    have hcanon6 := cell_canon 1 (Ring.sl 3 (t.val + 2)) (k0_off4 (grid0.coords t)) (k0_off4_inb (grid0.coords t) hc1) (off4_eq t)
    have hcanon7 := cell_canon' 1 (Ring.sl 3 (t.val + 2)) (k0_off4 (grid0.coords t)) (k0_off4_inb (grid0.coords t) hc1) (off4_eq t)
    have hcanon8 := win_canon 1 (Ring.sl 3 (t.val + 2)) (k0_off5 (grid0.coords t)) (k0_off5_inb (grid0.coords t) hc1) (off5_eq t)
    have hcanon9 := win_canon' 1 (Ring.sl 3 (t.val + 2)) (k0_off5 (grid0.coords t)) (k0_off5_inb (grid0.coords t) hc1) (off5_eq t)
    have hcanon10 := src_canon 1 (Ring.bk 256 (t.val + 2)) (k0_off6 (grid0.coords t)) (k0_off6_inb (grid0.coords t) hc1) (off6_eq t hc1)
    have hcanon11 := src_canon' 1 (Ring.bk 256 (t.val + 2)) (k0_off6 (grid0.coords t)) (k0_off6_inb (grid0.coords t) hc1) (off6_eq t hc1)
    have hcanon12 := cell_canon 0 (Ring.sl 3 t.val) (k0_off7 (grid0.coords t)) (k0_off7_inb (grid0.coords t)) (off7_eq t)
    have hcanon13 := cell_canon' 0 (Ring.sl 3 t.val) (k0_off7 (grid0.coords t)) (k0_off7_inb (grid0.coords t)) (off7_eq t)
    have hcanon14 := win_canon 0 (Ring.sl 3 t.val) (k0_off8 (grid0.coords t)) (k0_off8_inb (grid0.coords t)) (off8_eq t)
    have hcanon15 := win_canon' 0 (Ring.sl 3 t.val) (k0_off8 (grid0.coords t)) (k0_off8_inb (grid0.coords t)) (off8_eq t)
    have hcanon16 := src_canon 0 (Ring.bk 256 t.val) (k0_off9 (grid0.coords t)) (k0_off9_inb (grid0.coords t)) (off9_eq t)
    have hcanon17 := src_canon' 0 (Ring.bk 256 t.val) (k0_off9 (grid0.coords t)) (k0_off9_inb (grid0.coords t)) (off9_eq t)
    have hcanon18 := cell_canon 1 (Ring.sl 3 t.val) (k0_off10 (grid0.coords t)) (k0_off10_inb (grid0.coords t)) (off10_eq t)
    have hcanon19 := cell_canon' 1 (Ring.sl 3 t.val) (k0_off10 (grid0.coords t)) (k0_off10_inb (grid0.coords t)) (off10_eq t)
    have hcanon20 := win_canon 1 (Ring.sl 3 t.val) (k0_off11 (grid0.coords t)) (k0_off11_inb (grid0.coords t)) (off11_eq t)
    have hcanon21 := win_canon' 1 (Ring.sl 3 t.val) (k0_off11 (grid0.coords t)) (k0_off11_inb (grid0.coords t)) (off11_eq t)
    have hcanon22 := src_canon 1 (Ring.bk 256 t.val) (k0_off12 (grid0.coords t)) (k0_off12_inb (grid0.coords t)) (off12_eq t)
    have hcanon23 := src_canon' 1 (Ring.bk 256 t.val) (k0_off12 (grid0.coords t)) (k0_off12_inb (grid0.coords t)) (off12_eq t)
    unfold owns Ring.free Ring.inflight
    iintro ⟨⟨%f0, %hf0, H0⟩, ⟨%f1, %hf1, H1⟩, ⟨%d2, %f2, -, H2⟩, ⟨%d3, %f3, -, H3⟩, ⟨%d7, %f7, -, H7⟩, ⟨%ff0, ⟨Hf0_0, Hf0_1⟩, Hrf0_0, Hrf0_1⟩, ⟨%ff1, ⟨Hf1_0, Hf1_1⟩, Hrf1_0, Hrf1_1⟩, ⟨⟨Hc2_0, Hc2_1⟩, ⟨%fs2, ⟨Hs2_0, Hs2_1⟩, Hw2_0, Hw2_1⟩⟩, HW, Hk⟩
    ihave Hsp2_0 := (src_split c W0 0 (Ring.sl 3 (t.val + 2)) (Ring.bk 256 (t.val + 2))).1 $$ Hw2_0
    icases Hsp2_0 with ⟨Hh2_0, Hr2_0⟩
    ihave Hsp2_1 := (src_split c W0 1 (Ring.sl 3 (t.val + 2)) (Ring.bk 256 (t.val + 2))).1 $$ Hw2_1
    icases Hsp2_1 with ⟨Hh2_1, Hr2_1⟩
    obtain rfl := harg3.eq_unread hf0; obtain rfl := harg4.eq_unread hf1
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [H3]; · iexists _; iexact H3
    isplitl [H7]; · iexists _; iexact H7
    isplitl [Hf1_0 Hf1_1 Hrf1_0 Hrf1_1]
    · iexists ff1; isplitl [Hf1_0 Hf1_1]
      · isplitl [Hf1_0]; · iexact Hf1_0
        iexact Hf1_1
      isplitl [Hrf1_0]; · iexact Hrf1_0
      iexact Hrf1_1
    isplitl [Hc2_0 Hc2_1 Hr2_0 Hr2_1]
    · iexists fs2; isplitl [Hc2_0 Hc2_1]
      · isplitl [Hc2_0]; · iexact Hc2_0
        iexact Hc2_1
      isplitl [Hr2_0]; · iexact Hr2_0
      iexact Hr2_1
    isplitl [Hf0_0 Hf0_1 Hf0_0_dst Hf0_1_dst Hf0_0_src Hf0_1_src Hrf0_0 Hrf0_1]
    · isplitl [Hf0_0 Hf0_1]
      · isplitl [Hf0_0]; · iexact Hf0_0
        iexact Hf0_1
      iexists (landedJ c W0 (Ring.sl 3 t.val) (Ring.bk 256 t.val)); isplitl [Hf0_0_dst Hf0_1_dst]
      · iapply (slotP_landed c W0 (Ring.sl 3 t.val) (Ring.bk 256 t.val))
        isplitl [Hf0_0_dst]; · iexact Hf0_0_dst
        iexact Hf0_1_dst
      isplitl [Hf0_0_src Hrf0_0]
      · iapply (src_split c W0 0 (Ring.sl 3 t.val) (Ring.bk 256 t.val)).2; isplitl [Hf0_0_src]; · iexact Hf0_0_src
        iexact Hrf0_0
      iapply (src_split c W0 1 (Ring.sl 3 t.val) (Ring.bk 256 t.val)).2; isplitl [Hf0_1_src]; · iexact Hf0_1_src
      iexact Hrf0_1
    iexists _; iexact HW

end Cert.State

end
-- ==== Proof.StateRunD.lean ====
/- The body at the last two points: there is no block left to start. -/
module

public import proofs.«01_k».proof.Proof.StateSlots

@[expose] public section

set_option maxRecDepth 16384

noncomputable section

namespace Cert.State

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 4000000 in
/-- The body's run at these points.  The three lists are what it stores into the two outputs' buffers and
    into the states' one, last first. -/
noncomputable def runD (c : Dev nD) (t : Fin grid0.N) (arg3 : Memref sig .tc .vmem S1x1x16x64x256 .f32) (harg3 : arg3.IsWhole) (arg4 : Memref sig .tc .vmem S1x1x16x64x256 .f32) (harg4 : arg4.IsWhole) (arg5 : Memref sig .tc .vmem S1x64x4096 .bf16) (harg5 : arg5.IsWhole) (arg6 : Memref sig .tc .vmem S1x64x4096 .bf16) (harg6 : arg6.IsWhole) (arg7 : Memref sig .tc .vmem S32x128x256 .f32) (harg7 : arg7.IsWhole)
    (hc0 : ¬isFirst (grid0.coords t)) (hc1 : ¬isStart (grid0.coords t)) (hc2 : ¬isReset (grid0.coords t))
    (x0 x1 : Vec F S1x1x16x64x256 .f32) (x7 : Vec F S32x128x256 .f32) (W0 : BufOf (F := F) c opM) :
    Σ' (L2 : List (View.Piece (Elt F) S1x64x4096 .bf16)) (L3 : List (View.Piece (Elt F) S1x64x4096 .bf16)), { L7 : List (View.Piece (Elt F) S32x128x256 .f32) //
      ∀ (W : Waits sig Unit) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d) ∗ owns (c : Thread nD τ) arg7 fullShare x7
            ∗ Ring.inflight (flightW c W0) (Ring.sl 3 t.val) (Ring.bk 256 t.val) ∗ Ring.slotAt 2 (cellP c) (slotW c W0) (flightW c W0) t.val 1 ∗ Ring.free (cellP c) (slotW c W0) (Ring.sl 3 (t.val + 2)) ∗ owes (c : Thread nD τ) 0 W
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f L7)
                ∗ Ring.slotAt 2 (cellP c) (slotW c W0) (flightW c W0) t.val 1 ∗ Ring.free (cellP c) (slotW c W0) (Ring.sl 3 (t.val + 2)) ∗ Ring.free (cellP c) (slotW c W0) (Ring.sl 3 t.val) ∗ (∃ W', owes (c : Thread nD τ) 0 W')) -∗ K ⟨⟩))
          ⊢ wp frame (wpE (defs₀ (F := F)) Variants.none c none) Set.univ (cc0_delta_state (grid0.coords t) opM (Memref.isWhole_whole _) arg3 harg3 arg4 harg4 arg5 harg5 arg6 harg6 arg7 harg7 ringM (Memref.isWhole_whole _) cc0_scratch2) K } := by
  refine ⟨?_, ?_, ?_, fun W K => ?run⟩
  case run =>
    simp only [cc0_delta_state_eq_skeleton]; unfold cc0_delta_state_skel
    simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton]
    have hcanon0 := cell_canon 0 (Ring.sl 3 t.val) (k0_off7 (grid0.coords t)) (k0_off7_inb (grid0.coords t)) (off7_eq t)
    have hcanon1 := cell_canon' 0 (Ring.sl 3 t.val) (k0_off7 (grid0.coords t)) (k0_off7_inb (grid0.coords t)) (off7_eq t)
    have hcanon2 := win_canon 0 (Ring.sl 3 t.val) (k0_off8 (grid0.coords t)) (k0_off8_inb (grid0.coords t)) (off8_eq t)
    have hcanon3 := win_canon' 0 (Ring.sl 3 t.val) (k0_off8 (grid0.coords t)) (k0_off8_inb (grid0.coords t)) (off8_eq t)
    have hcanon4 := src_canon 0 (Ring.bk 256 t.val) (k0_off9 (grid0.coords t)) (k0_off9_inb (grid0.coords t)) (off9_eq t)
    have hcanon5 := src_canon' 0 (Ring.bk 256 t.val) (k0_off9 (grid0.coords t)) (k0_off9_inb (grid0.coords t)) (off9_eq t)
    have hcanon6 := cell_canon 1 (Ring.sl 3 t.val) (k0_off10 (grid0.coords t)) (k0_off10_inb (grid0.coords t)) (off10_eq t)
    have hcanon7 := cell_canon' 1 (Ring.sl 3 t.val) (k0_off10 (grid0.coords t)) (k0_off10_inb (grid0.coords t)) (off10_eq t)
    have hcanon8 := win_canon 1 (Ring.sl 3 t.val) (k0_off11 (grid0.coords t)) (k0_off11_inb (grid0.coords t)) (off11_eq t)
    have hcanon9 := win_canon' 1 (Ring.sl 3 t.val) (k0_off11 (grid0.coords t)) (k0_off11_inb (grid0.coords t)) (off11_eq t)
    have hcanon10 := src_canon 1 (Ring.bk 256 t.val) (k0_off12 (grid0.coords t)) (k0_off12_inb (grid0.coords t)) (off12_eq t)
    have hcanon11 := src_canon' 1 (Ring.bk 256 t.val) (k0_off12 (grid0.coords t)) (k0_off12_inb (grid0.coords t)) (off12_eq t)
    unfold owns Ring.free Ring.inflight
    iintro ⟨⟨%f0, %hf0, H0⟩, ⟨%f1, %hf1, H1⟩, ⟨%d2, %f2, -, H2⟩, ⟨%d3, %f3, -, H3⟩, ⟨%f7, %hf7, H7⟩, ⟨%ff0, ⟨Hf0_0, Hf0_1⟩, Hrf0_0, Hrf0_1⟩, Hro, ⟨⟨Hc2_0, Hc2_1⟩, ⟨%fs2, ⟨Hs2_0, Hs2_1⟩, Hw2_0, Hw2_1⟩⟩, HW, Hk⟩
    obtain rfl := harg3.eq_unread hf0; obtain rfl := harg4.eq_unread hf1; obtain rfl := harg7.eq_unread hf7
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [H3]; · iexists _; iexact H3
    isplitl [H7]; · iexists _; iexact H7
    isplitl [Hro]; · iexact Hro
    isplitl [Hc2_0 Hc2_1 Hs2_0 Hs2_1 Hw2_0 Hw2_1]
    · isplitl [Hc2_0 Hc2_1]
      · isplitl [Hc2_0]; · iexact Hc2_0
        iexact Hc2_1
      iexists fs2; isplitl [Hs2_0 Hs2_1]
      · isplitl [Hs2_0]; · iexact Hs2_0
        iexact Hs2_1
      isplitl [Hw2_0]; · iexact Hw2_0
      iexact Hw2_1
    isplitl [Hf0_0 Hf0_1 Hf0_0_dst Hf0_1_dst Hf0_0_src Hf0_1_src Hrf0_0 Hrf0_1]
    · isplitl [Hf0_0 Hf0_1]
      · isplitl [Hf0_0]; · iexact Hf0_0
        iexact Hf0_1
      iexists (landedJ c W0 (Ring.sl 3 t.val) (Ring.bk 256 t.val)); isplitl [Hf0_0_dst Hf0_1_dst]
      · iapply (slotP_landed c W0 (Ring.sl 3 t.val) (Ring.bk 256 t.val))
        isplitl [Hf0_0_dst]; · iexact Hf0_0_dst
        iexact Hf0_1_dst
      isplitl [Hf0_0_src Hrf0_0]
      · iapply (src_split c W0 0 (Ring.sl 3 t.val) (Ring.bk 256 t.val)).2; isplitl [Hf0_0_src]; · iexact Hf0_0_src
        iexact Hrf0_0
      iapply (src_split c W0 1 (Ring.sl 3 t.val) (Ring.bk 256 t.val)).2; isplitl [Hf0_1_src]; · iexact Hf0_1_src
      iexact Hrf0_1
    iexists _; iexact HW

end Cert.State

end
-- ==== Proof.StateStores.lean ====
/- What the scan kernel's body stores at every point, and the states those stores leave from point to point. -/
module

public import proofs.«01_k».proof.Proof.StateRunA
public import proofs.«01_k».proof.Proof.StateRunB
public import proofs.«01_k».proof.Proof.StateRunC
public import proofs.«01_k».proof.Proof.StateRunD

@[expose] public section

set_option maxRecDepth 16384

noncomputable section

namespace Cert.State

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffers after a point -/

/-- The staging buffers the body is given at point `t`. -/
abbrev dwF (t : Fin cfg0.N) := win0_0.stage (cfg0.slots t 0)
abbrev dwB (t : Fin cfg0.N) := win0_1.stage (cfg0.slots t 1)
abbrev outF (t : Fin cfg0.N) := win0_2.stage (cfg0.slots t 2)
abbrev outB (t : Fin cfg0.N) := win0_3.stage (cfg0.slots t 3)
theorem dwF_whole (t : Fin cfg0.N) : (dwF t).IsWhole := hstage0_0 ((cfg0.slots t 0).cast nbuf0_0)
theorem dwB_whole (t : Fin cfg0.N) : (dwB t).IsWhole := hstage0_1 ((cfg0.slots t 1).cast nbuf0_1)
theorem outF_whole (t : Fin cfg0.N) : (outF t).IsWhole := hstage0_2 ((cfg0.slots t 2).cast nbuf0_2)
theorem outB_whole (t : Fin cfg0.N) : (outB t).IsWhole := hstage0_3 ((cfg0.slots t 3).cast nbuf0_3)

/-- What the body stores at a point: into the two outputs and into the states. -/
abbrev Stores : Type := List (View.Piece (Elt F) S1x64x4096 .bf16) × List (View.Piece (Elt F) S1x64x4096 .bf16) × List (View.Piece (Elt F) S32x128x256 .f32)

/-- The run at the first point, at the point's own buffers and blocks. -/
abbrev atA (c : Dev nD) (t : Fin cfg0.N) (h0 : isFirst (grid0.coords t)) (h1 : isStart (grid0.coords t)) (h2 : isReset (grid0.coords t)) :=
  runA c t (dwF t) (dwF_whole t) (dwB t) (dwB_whole t) (outF t) (outF_whole t) (outB t) (outB_whole t) stM (Memref.isWhole_whole _) h0 h1 h2 (iblk m c 0 t) (iblk m c 1 t) (V m c main_arg0)
theorem coverA (c : Dev nD) (t : Fin cfg0.N) (h0 : isFirst (grid0.coords t)) (h1 : isStart (grid0.coords t)) (h2 : isReset (grid0.coords t)) :
    (∀ y, ∃ p ∈ (atA m c t h0 h1 h2).1, y ∈ p.1.set) ∧ (∀ y, ∃ p ∈ (atA m c t h0 h1 h2).2.1, y ∈ p.1.set)
      ∧ ∀ y, ∃ p ∈ (atA m c t h0 h1 h2).2.2.1, y ∈ p.1.set :=
  ⟨fun y => View.cover_of_tiledL (atA m c t h0 h1 h2).1 ![1, 64, 256] (by sl_kernel_rfl) y,
    fun y => View.cover_of_tiledL (atA m c t h0 h1 h2).2.1 ![1, 64, 256] (by sl_kernel_rfl) y,
    fun y => let ⟨p, hp, hy⟩ := View.cover_of_tiledL ((atA m c t h0 h1 h2).2.2.1.take 32) ![1, 128, 256] (by sl_kernel_rfl) y; ⟨p, List.mem_of_mem_take hp, hy⟩⟩
/-- The run at a point inside a sequence, at the point's own buffers and blocks. -/
abbrev atB (c : Dev nD) (t : Fin cfg0.N) (h0 : ¬isFirst (grid0.coords t)) (h1 : isStart (grid0.coords t)) (h2 : ¬isReset (grid0.coords t)) (x7 : Vec F S32x128x256 .f32) :=
  runB c t (dwF t) (dwF_whole t) (dwB t) (dwB_whole t) (outF t) (outF_whole t) (outB t) (outB_whole t) stM (Memref.isWhole_whole _) h0 h1 h2 (iblk m c 0 t) (iblk m c 1 t) x7 (V m c main_arg0)
theorem coverB (c : Dev nD) (t : Fin cfg0.N) (h0 : ¬isFirst (grid0.coords t)) (h1 : isStart (grid0.coords t)) (h2 : ¬isReset (grid0.coords t)) (x7 : Vec F S32x128x256 .f32) :
    (∀ y, ∃ p ∈ (atB m c t h0 h1 h2 x7).1, y ∈ p.1.set) ∧ (∀ y, ∃ p ∈ (atB m c t h0 h1 h2 x7).2.1, y ∈ p.1.set)
      ∧ ∀ y, ∃ p ∈ (atB m c t h0 h1 h2 x7).2.2.1, y ∈ p.1.set :=
  ⟨fun y => View.cover_of_tiledL (atB m c t h0 h1 h2 x7).1 ![1, 64, 256] (by sl_kernel_rfl) y,
    fun y => View.cover_of_tiledL (atB m c t h0 h1 h2 x7).2.1 ![1, 64, 256] (by sl_kernel_rfl) y,
    fun y => View.cover_of_tiledL (atB m c t h0 h1 h2 x7).2.2.1 ![1, 128, 256] (by sl_kernel_rfl) y⟩
/-- The run at the first chunk of a later sequence, at the point's own buffers and blocks. -/
abbrev atC (c : Dev nD) (t : Fin cfg0.N) (h0 : ¬isFirst (grid0.coords t)) (h1 : isStart (grid0.coords t)) (h2 : isReset (grid0.coords t)) :=
  runC c t (dwF t) (dwF_whole t) (dwB t) (dwB_whole t) (outF t) (outF_whole t) (outB t) (outB_whole t) stM (Memref.isWhole_whole _) h0 h1 h2 (iblk m c 0 t) (iblk m c 1 t) (V m c main_arg0)
theorem coverC (c : Dev nD) (t : Fin cfg0.N) (h0 : ¬isFirst (grid0.coords t)) (h1 : isStart (grid0.coords t)) (h2 : isReset (grid0.coords t)) :
    (∀ y, ∃ p ∈ (atC m c t h0 h1 h2).1, y ∈ p.1.set) ∧ (∀ y, ∃ p ∈ (atC m c t h0 h1 h2).2.1, y ∈ p.1.set)
      ∧ ∀ y, ∃ p ∈ (atC m c t h0 h1 h2).2.2.1, y ∈ p.1.set :=
  ⟨fun y => View.cover_of_tiledL (atC m c t h0 h1 h2).1 ![1, 64, 256] (by sl_kernel_rfl) y,
    fun y => View.cover_of_tiledL (atC m c t h0 h1 h2).2.1 ![1, 64, 256] (by sl_kernel_rfl) y,
    fun y => let ⟨p, hp, hy⟩ := View.cover_of_tiledL ((atC m c t h0 h1 h2).2.2.1.take 32) ![1, 128, 256] (by sl_kernel_rfl) y; ⟨p, List.mem_of_mem_take hp, hy⟩⟩
/-- The run at one of the last two points, at the point's own buffers and blocks. -/
abbrev atD (c : Dev nD) (t : Fin cfg0.N) (h0 : ¬isFirst (grid0.coords t)) (h1 : ¬isStart (grid0.coords t)) (h2 : ¬isReset (grid0.coords t)) (x7 : Vec F S32x128x256 .f32) :=
  runD c t (dwF t) (dwF_whole t) (dwB t) (dwB_whole t) (outF t) (outF_whole t) (outB t) (outB_whole t) stM (Memref.isWhole_whole _) h0 h1 h2 (iblk m c 0 t) (iblk m c 1 t) x7 (V m c main_arg0)
theorem coverD (c : Dev nD) (t : Fin cfg0.N) (h0 : ¬isFirst (grid0.coords t)) (h1 : ¬isStart (grid0.coords t)) (h2 : ¬isReset (grid0.coords t)) (x7 : Vec F S32x128x256 .f32) :
    (∀ y, ∃ p ∈ (atD m c t h0 h1 h2 x7).1, y ∈ p.1.set) ∧ (∀ y, ∃ p ∈ (atD m c t h0 h1 h2 x7).2.1, y ∈ p.1.set)
      ∧ ∀ y, ∃ p ∈ (atD m c t h0 h1 h2 x7).2.2.1, y ∈ p.1.set :=
  ⟨fun y => View.cover_of_tiledL (atD m c t h0 h1 h2 x7).1 ![1, 64, 256] (by sl_kernel_rfl) y,
    fun y => View.cover_of_tiledL (atD m c t h0 h1 h2 x7).2.1 ![1, 64, 256] (by sl_kernel_rfl) y,
    fun y => View.cover_of_tiledL (atD m c t h0 h1 h2 x7).2.2.1 ![1, 128, 256] (by sl_kernel_rfl) y⟩

/-- The stores at point `t` from states `x7`. -/
def stores (c : Dev nD) (t : Fin cfg0.N) (x7 : Vec F S32x128x256 .f32) : Stores (F := F) :=
  if h0 : isFirst (grid0.coords t) then
    if h1 : isStart (grid0.coords t) then
      if h2 : isReset (grid0.coords t) then ((atA m c t h0 h1 h2).1, (atA m c t h0 h1 h2).2.1, (atA m c t h0 h1 h2).2.2.1)
      else ([], [], [])
    else ([], [], [])
  else if h1 : isStart (grid0.coords t) then
    if h2 : isReset (grid0.coords t) then ((atC m c t h0 h1 h2).1, (atC m c t h0 h1 h2).2.1, (atC m c t h0 h1 h2).2.2.1)
    else ((atB m c t h0 h1 h2 x7).1, (atB m c t h0 h1 h2 x7).2.1, (atB m c t h0 h1 h2 x7).2.2.1)
  else if h2 : isReset (grid0.coords t) then ([], [], [])
  else ((atD m c t h0 h1 h2 x7).1, (atD m c t h0 h1 h2 x7).2.1, (atD m c t h0 h1 h2 x7).2.2.1)

/-- A buffer's contents once it is filled by a list of stores. -/
def fill {S : Shape} {e : EltTy} (M : Memref sig .tc .vmem S e) (L : List (View.Piece (Elt F) S e)) : Vec F S e :=
  M.view.read (Elt F) (M.view.writes (Elt F) M.view.junk L)
/-- The states after point `t`, from those before it. -/
def stepState (c : Dev nD) (t : Fin cfg0.N) (x7 : Vec F S32x128x256 .f32) : Vec F S32x128x256 .f32 := fill stM (stores m c t x7).2.2
/-- The states before the `k`-th point (before the first one anything; this names one choice). -/
def stateAt (c : Dev nD) : ℕ → Vec F S32x128x256 .f32
  | 0 => fill stM []
  | k + 1 => if h : k < cfg0.N then stepState m c ⟨k, h⟩ (stateAt c k) else stateAt c k
theorem stateAt_succ (c : Dev nD) (t : Fin cfg0.N) : stateAt m c (t.val + 1) = stepState m c t (stateAt m c t.val) := by
  show dite _ _ _ = _; rw [dif_pos t.isLt]

end Cert.State

end
-- ==== Proof.StateBody.lean ====
/- The scan kernel's pipeline: what its buffers hold after every point, the states carried along, and the body at a point. -/
module

public import proofs.«01_k».proof.Proof.StateStores

@[expose] public section

set_option maxRecDepth 16384

noncomputable section

namespace Cert.State

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The pipeline's data -/

/-- The region's invariant before point `k`: the states as the points before left them, the generator's register, the ring. -/
def PhiR (c : Dev nD) (k : ℕ) : sProp 𝕄 :=
  iprop((∃ d, ⌜k ≠ 0 → d = stateAt m c k⌝ ∗ owns (c : Thread nD τ) stM fullShare d) ∗ (∃ r, prngReg c r) ∗ (ringAt c (V m c main_arg0) k ∗ spareP c))

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => fill (outF t) (stores m c t (stateAt m c t.val)).1
    | ⟨3, _⟩ => fill (outB t) (stores m c t (stateAt m c t.val)).2.1
  Φ t := PhiR m c t.val
  q w := Pipeline.shareOf spec0 w
  owed _ := 0

theorem A_eq (c : Dev nD) (w : Fin cfg0.W) : (dats m 0 c).A w = V m c (Pipeline.arrRef spec0 w) := by
  dsimp only [dats]
theorem PhiR_castSucc (c : Dev nD) (t : Fin cfg0.N) : (dats m 0 c).Φ t.castSucc = PhiR m c t.val := by
  dsimp only [dats]; simp only [Fin.coe_castSucc]
theorem PhiR_succ (c : Dev nD) (t : Fin cfg0.N) : (dats m 0 c).Φ t.succ = PhiR m c (t.val + 1) := by
  dsimp only [dats]; simp only [Fin.val_succ]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = fill (outF t) (stores m c t (stateAt m c t.val)).1 := by dsimp only [dats]
theorem after_3 (c : Dev nD) (t : Fin cfg0.N) : (dats m 0 c).after 3 t = fill (outB t) (stores m c t (stateAt m c t.val)).2.1 := by dsimp only [dats]
/-- The decays' buffers hold their block at every point: it is fetched where it changes and left in place elsewhere. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]) t d).trans
    (by unfold Dat.fetched Dat.blockOf iblk; rw [A_eq]; rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]) t d).trans
    (by unfold Dat.fetched Dat.blockOf iblk; rw [A_eq]; rfl)

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (dwF t) fullShare ((dats m 0 c).before 0 t d))
    ∗ (∃ d, owns (c : Thread nD τ) (dwB t) fullShare ((dats m 0 c).before 1 t d))
    ∗ (∃ d, owns (c : Thread nD τ) (outF t) fullShare ((dats m 0 c).before 2 t d))
    ∗ (∃ d, owns (c : Thread nD τ) (outB t) fullShare ((dats m 0 c).before 3 t d)))
def bodyPost (c : Dev nD) (t : Fin cfg0.N) : sProp 𝕄 :=
  iprop((dats m 0 c).Φ t.succ ∗ (dats m 0 c).owesAt () t.succ
    ∗ owns (c : Thread nD τ) (dwF t) fullShare ((dats m 0 c).after 0 t)
    ∗ owns (c : Thread nD τ) (dwB t) fullShare ((dats m 0 c).after 1 t)
    ∗ owns (c : Thread nD τ) (outF t) fullShare ((dats m 0 c).after 2 t)
    ∗ owns (c : Thread nD τ) (outB t) fullShare ((dats m 0 c).after 3 t))

set_option maxHeartbeats 2000000 in
/-- The body takes what the pipeline has before a point to what it has after it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [after_0, after_1, after_2, after_3]
  rw [PhiR_castSucc m c t, PhiR_succ m c t]
  unfold Dat.owesAt Pipeline.owesWithin
  rw [show (dats m 0 c).owed t.castSucc = 0 from rfl, show (dats m 0 c).owed t.succ = 0 from rfl]
  unfold PhiR ringAt
  rw [stateAt_succ]
  unfold stepState stores
  have hN : t.val < 256 := lt_of_lt_of_eq t.isLt (show cfg0.N = 256 from N_0)
  by_cases h0 : isFirst (grid0.coords t)
  · have h1 : isStart (grid0.coords t) := (isStart_iff t).mpr (by have := (isFirst_iff t).mp h0; omega)
    have h2 : isReset (grid0.coords t) := (isReset_iff t).mpr (by have := (isFirst_iff t).mp h0; omega)
    rw [dif_pos h0, dif_pos h1, dif_pos h2]
    have hK := (isFirst_iff t).mp h0
    rw [if_pos hK, if_neg (show ¬t.val + 1 = 0 by omega)]
    rw [Ring.At₀_eq3' _ _ _ t.val hK (by decide : 3 ≤ 256), Ring.At3_one' _ _ _ _ t.val hK (by decide : 3 ≤ 256)]
    iintro ⟨⟨⟨%d7, %hd7, H7⟩, Hg, ⟨⟨-, Hr0, Hr1, Hr2⟩, HSp⟩⟩, ⟨%W, -, HW⟩, ⟨%d0, H0⟩, ⟨%d1, H1⟩, ⟨%d2, H2⟩, ⟨%d3, H3⟩⟩
    iapply ((atA m c t h0 h1 h2).2.2.2 W _)
    isplitl [H0]; · iexact H0
    isplitl [H1]; · iexact H1
    isplitl [H2]; · iexists _; iexact H2
    isplitl [H3]; · iexists _; iexact H3
    isplitl [H7]; · iexists _; iexact H7
    isplitl [Hr0]; · iexact Hr0
    isplitl [Hr1]; · iexact Hr1
    isplitl [Hr2]; · iexact Hr2
    isplitl [HW]; · iexact HW
    iintro ⟨H0, H1, ⟨%e2, H2⟩, ⟨%e3, H3⟩, ⟨%e7, H7⟩, Hr0, Hr1, Hr2, ⟨%W', HW⟩⟩
    isplitl [H7 Hg HSp Hr0 Hr1 Hr2]
    · isplitl [H7]
      · iexists _; isplitr; · ipureintro; exact fun _ => rfl
        unfold owns; iexists _; isplitr; swap; · iexact H7
        ipureintro; exact View.read_writes_of_cover _ _ _ _ _ (coverA m c t h0 h1 h2).2.2
      isplitl [Hg]; · iexact Hg
      isplitl [Hr0 Hr1 Hr2]
      · iapply (Ring.with_homes (Idealize.SL.BI.Entails.refl _))
        isplitl [Hr0]; · iexact Hr0
        isplitl [Hr1]; · iexact Hr1
        iexact Hr2
      iexact HSp
    isplitl [HW]
    · iexists W'; isplitr
      · ipureintro; exact fun _ _ => Or.inl trivial
      iexact HW
    isplitl [H0]; · iexact H0
    isplitl [H1]; · iexact H1
    isplitl [H2]
    · unfold owns; iexists _; isplitr; swap; · iexact H2
      ipureintro; exact View.read_writes_of_cover _ _ _ _ _ (coverA m c t h0 h1 h2).1
    unfold owns; iexists _; isplitr; swap; · iexact H3
    ipureintro; exact View.read_writes_of_cover _ _ _ _ _ (coverA m c t h0 h1 h2).2.1
  by_cases h1 : isStart (grid0.coords t)
  · by_cases h2 : isReset (grid0.coords t)
    · rw [dif_neg h0, dif_pos h1, dif_pos h2]
      have hK : ¬t.val = 0 := fun h => h0 ((isFirst_iff t).mpr h)
      rw [if_neg hK, if_neg (show ¬t.val + 1 = 0 by omega)]
      have hB : t.val + 2 < 256 := by have := (isStart_iff t).mp h1; omega
      rw [Ring.At3_here _ _ _ _ t.val hB, Ring.At3_next _ _ _ _ t.val hB, Ring.slotAt3_next0 _ _ _ t.val (by omega), Ring.slotAt3_next1 _ _ _ t.val hB]
      iintro ⟨⟨⟨%d7, %hd7, H7⟩, Hg, ⟨⟨-, Hr0, Hr1, Hr2⟩, HSp⟩⟩, ⟨%W, -, HW⟩, ⟨%d0, H0⟩, ⟨%d1, H1⟩, ⟨%d2, H2⟩, ⟨%d3, H3⟩⟩
      iapply ((atC m c t h0 h1 h2).2.2.2 W _)
      isplitl [H0]; · iexact H0
      isplitl [H1]; · iexact H1
      isplitl [H2]; · iexists _; iexact H2
      isplitl [H3]; · iexists _; iexact H3
      isplitl [H7]; · iexists _; iexact H7
      isplitl [Hr0]; · iexact Hr0
      isplitl [Hr1]; · iexact Hr1
      isplitl [Hr2]; · iexact Hr2
      isplitl [HW]; · iexact HW
      iintro ⟨H0, H1, ⟨%e2, H2⟩, ⟨%e3, H3⟩, ⟨%e7, H7⟩, Hr0, Hr1, Hr2, ⟨%W', HW⟩⟩
      isplitl [H7 Hg HSp Hr0 Hr1 Hr2]
      · isplitl [H7]
        · iexists _; isplitr; · ipureintro; exact fun _ => rfl
          unfold owns; iexists _; isplitr; swap; · iexact H7
          ipureintro; exact View.read_writes_of_cover _ _ _ _ _ (coverC m c t h0 h1 h2).2.2
        isplitl [Hg]; · iexact Hg
        isplitl [Hr0 Hr1 Hr2]
        · iapply (Ring.with_homes (Idealize.SL.BI.Entails.refl _))
          isplitl [Hr0]; · iexact Hr0
          isplitl [Hr1]; · iexact Hr1
          iexact Hr2
        iexact HSp
      isplitl [HW]
      · iexists W'; isplitr
        · ipureintro; exact fun _ _ => Or.inl trivial
        iexact HW
      isplitl [H0]; · iexact H0
      isplitl [H1]; · iexact H1
      isplitl [H2]
      · unfold owns; iexists _; isplitr; swap; · iexact H2
        ipureintro; exact View.read_writes_of_cover _ _ _ _ _ (coverC m c t h0 h1 h2).1
      unfold owns; iexists _; isplitr; swap; · iexact H3
      ipureintro; exact View.read_writes_of_cover _ _ _ _ _ (coverC m c t h0 h1 h2).2.1
    · rw [dif_neg h0, dif_pos h1, dif_neg h2]
      have hK : ¬t.val = 0 := fun h => h0 ((isFirst_iff t).mpr h)
      rw [if_neg hK, if_neg (show ¬t.val + 1 = 0 by omega)]
      have hB : t.val + 2 < 256 := by have := (isStart_iff t).mp h1; omega
      rw [Ring.At3_here _ _ _ _ t.val hB, Ring.At3_next _ _ _ _ t.val hB, Ring.slotAt3_next0 _ _ _ t.val (by omega), Ring.slotAt3_next1 _ _ _ t.val hB]
      iintro ⟨⟨⟨%d7, %hd7, H7⟩, Hg, ⟨⟨-, Hr0, Hr1, Hr2⟩, HSp⟩⟩, ⟨%W, -, HW⟩, ⟨%d0, H0⟩, ⟨%d1, H1⟩, ⟨%d2, H2⟩, ⟨%d3, H3⟩⟩
      obtain rfl := hd7 hK
      iapply ((atB m c t h0 h1 h2 (stateAt m c t.val)).2.2.2 W _)
      isplitl [H0]; · iexact H0
      isplitl [H1]; · iexact H1
      isplitl [H2]; · iexists _; iexact H2
      isplitl [H3]; · iexists _; iexact H3
      isplitl [H7]; · iexact H7
      isplitl [Hr0]; · iexact Hr0
      isplitl [Hr1]; · iexact Hr1
      isplitl [Hr2]; · iexact Hr2
      isplitl [HW]; · iexact HW
      iintro ⟨H0, H1, ⟨%e2, H2⟩, ⟨%e3, H3⟩, ⟨%e7, H7⟩, Hr0, Hr1, Hr2, ⟨%W', HW⟩⟩
      isplitl [H7 Hg HSp Hr0 Hr1 Hr2]
      · isplitl [H7]
        · iexists _; isplitr; · ipureintro; exact fun _ => rfl
          unfold owns; iexists _; isplitr; swap; · iexact H7
          ipureintro; exact View.read_writes_of_cover _ _ _ _ _ (coverB m c t h0 h1 h2 (stateAt m c t.val)).2.2
        isplitl [Hg]; · iexact Hg
        isplitl [Hr0 Hr1 Hr2]
        · iapply (Ring.with_homes (Idealize.SL.BI.Entails.refl _))
          isplitl [Hr0]; · iexact Hr0
          isplitl [Hr1]; · iexact Hr1
          iexact Hr2
        iexact HSp
      isplitl [HW]
      · iexists W'; isplitr
        · ipureintro; exact fun _ _ => Or.inl trivial
        iexact HW
      isplitl [H0]; · iexact H0
      isplitl [H1]; · iexact H1
      isplitl [H2]
      · unfold owns; iexists _; isplitr; swap; · iexact H2
        ipureintro; exact View.read_writes_of_cover _ _ _ _ _ (coverB m c t h0 h1 h2 (stateAt m c t.val)).1
      unfold owns; iexists _; isplitr; swap; · iexact H3
      ipureintro; exact View.read_writes_of_cover _ _ _ _ _ (coverB m c t h0 h1 h2 (stateAt m c t.val)).2.1
  · have h2 : ¬isReset (grid0.coords t) := fun h => by
      have := (isReset_iff t).mp h; exact h1 ((isStart_iff t).mpr (by omega))
    rw [dif_neg h0, dif_neg h1, dif_neg h2]
    have hK : ¬t.val = 0 := fun h => h0 ((isFirst_iff t).mpr h)
    rw [if_neg hK, if_neg (show ¬t.val + 1 = 0 by omega)]
    have hB : 256 ≤ t.val + 2 := by
      by_contra h; exact h1 ((isStart_iff t).mpr (by omega))
    rw [Ring.At3_here_tail _ _ _ _ t.val hN, Ring.At3_next_tail _ _ _ _ t.val hB hN, Ring.slotAt3_tail_role _ _ _ t.val]
    iintro ⟨⟨⟨%d7, %hd7, H7⟩, Hg, ⟨⟨-, Hr0, Hr1, Hr2⟩, HSp⟩⟩, ⟨%W, -, HW⟩, ⟨%d0, H0⟩, ⟨%d1, H1⟩, ⟨%d2, H2⟩, ⟨%d3, H3⟩⟩
    obtain rfl := hd7 hK
    iapply ((atD m c t h0 h1 h2 (stateAt m c t.val)).2.2.2 W _)
    isplitl [H0]; · iexact H0
    isplitl [H1]; · iexact H1
    isplitl [H2]; · iexists _; iexact H2
    isplitl [H3]; · iexists _; iexact H3
    isplitl [H7]; · iexact H7
    isplitl [Hr0]; · iexact Hr0
    isplitl [Hr1]; · iexact Hr1
    isplitl [Hr2]; · iexact Hr2
    isplitl [HW]; · iexact HW
    iintro ⟨H0, H1, ⟨%e2, H2⟩, ⟨%e3, H3⟩, ⟨%e7, H7⟩, Hr0, Hr1, Hr2, ⟨%W', HW⟩⟩
    isplitl [H7 Hg HSp Hr0 Hr1 Hr2]
    · isplitl [H7]
      · iexists _; isplitr; · ipureintro; exact fun _ => rfl
        unfold owns; iexists _; isplitr; swap; · iexact H7
        ipureintro; exact View.read_writes_of_cover _ _ _ _ _ (coverD m c t h0 h1 h2 (stateAt m c t.val)).2.2
      isplitl [Hg]; · iexact Hg
      isplitl [Hr0 Hr1 Hr2]
      · iapply (Ring.with_homes (Idealize.SL.BI.Entails.refl _))
        isplitl [Hr0]; · iexact Hr0
        isplitl [Hr1]; · iexact Hr1
        iexact Hr2
      iexact HSp
    isplitl [HW]
    · iexists W'; isplitr
      · ipureintro; exact fun _ _ => Or.inl trivial
      iexact HW
    isplitl [H0]; · iexact H0
    isplitl [H1]; · iexact H1
    isplitl [H2]
    · unfold owns; iexists _; isplitr; swap; · iexact H2
      ipureintro; exact View.read_writes_of_cover _ _ _ _ _ (coverD m c t h0 h1 h2 (stateAt m c t.val)).1
    unfold owns; iexists _; isplitr; swap; · iexact H3
    ipureintro; exact View.read_writes_of_cover _ _ _ _ _ (coverD m c t h0 h1 h2 (stateAt m c t.val)).2.1

end Cert.State

end
-- ==== Proof.StateFrame.lean ====
/- The scan kernel's launch: the run of the whole program, and its frame. -/
module

public import proofs.«01_k».proof.Proof.StateBody

@[expose] public section

set_option maxRecDepth 16384

noncomputable section

namespace Cert.State

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The launch -/

theorem defs₀_row (t : Fin cfg0.N) :
    defs₀ (F := F) .tc cfg0.body (cfg0.bodyArgs t (cfg0.slots t)) = bodyAt0 t := by
  unfold defs₀; rw [Defs.onTc_tc]
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hbm_eq (c : Dev nD) :
    (bigSep hbmRefs (fun b => ((c : Thread nD τ).loc b) ↦{fullShare} V m c b) : sProp 𝕄) = opPt c (V m c main_arg0) := by
  rw [BI.bigSep_eq_bigSepL_of_eq [main_arg0] (by decide) (by decide)]; rfl
/-- What the launch hands the region. -/
theorem handed_eq (c : Dev nD) :
    (Pipeline.ΦD ownSem spec0 hbmRefs (V m) c : sProp 𝕄)
      = iprop(((∃ d, owns (c : Thread nD τ) stM fullShare d) ∗ (∃ d, owns (c : Thread nD τ) ringM fullShare d)) ∗ (∃ r, prngReg c r) ∗ semsP c ∗ opPt c (V m c main_arg0)) := by
  rw [Pipeline.ΦD_eq, scopedRest0_eq, ownSems_eq, hbm_eq]; simp only [stM, ringM, owns_whole]; rfl
theorem hin (c : Dev nD) : Pipeline.ΦD ownSem spec0 hbmRefs (V m) c ⊢ (dats m 0 c).Φ 0 := by
  rw [handed_eq, show (dats m 0 c).Φ 0 = PhiR m c 0 from rfl]
  unfold PhiR
  iintro ⟨⟨⟨%d, HS⟩, HR⟩, Hg, Hq, Hh⟩
  isplitl [HS]
  · iexists d; isplitr; · ipureintro; exact fun h => absurd rfl h
    iexact HS
  isplitl [Hg]; · iexact Hg
  iapply (ring_in (F := F) c (V m c main_arg0))
  isplitl [HR]; · iexact HR
  isplitl [Hq]; · iexact Hq
  iexact Hh
theorem hout (c : Dev nD) : (dats m 0 c).Φ (Fin.last cfg0.N) ⊢ Pipeline.ΦD ownSem spec0 hbmRefs (V m) c := by
  rw [handed_eq, show (dats m 0 c).Φ (Fin.last cfg0.N) = PhiR m c grid0.N from rfl]
  unfold PhiR
  rw [show grid0.N = 256 by rw [N_0]]
  iintro ⟨⟨%d, -, HS⟩, Hg, HR⟩
  ihave HX := (ring_out (F := F) c (V m c main_arg0)) $$ HR
  icases HX with ⟨HR, Hq, Hh⟩
  isplitl [HS HR]
  · isplitl [HS]; · iexists d; iexact HS
    iexact HR
  isplitl [Hg]; · iexact Hg
  isplitl [Hq]; · iexact Hq
  iexact Hh

set_option maxHeartbeats 800000 in
theorem region (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

set_option backward.isDefEq.respectTransparency.types false in
/-- Every execution of the program ends, every array of the pipeline holding what the data say, every counter at zero. -/
theorem run_main : θ_run defs (onTc (τ := τ) (main (F := F))) (s₀ m ρ) (fun r => (Pipeline.FramePost cfgs (dats m) 0 (V m)) r ∧ r.2.sem = fun _ => 0) :=
  Pipeline.θ_run_frame_dma_shared (Q' := _) cfgs (dats m) (0 : Fin 1) launch₀0 ownSem defs₀ Variants.none ownSemFacts hbmRefs hbmRefs_sub m ρ main
    (hbody := fun c => (body_obligation m c).loose) (hq := fun _ _ _ => rfl)
    (howed := fun _ _ => rfl) (V := V m) (hmain := region m Variants.none) (hA := A_eq m)
    (hin := hin m) (hout := hout m)

/-- The frame, at any float values: the program ends with its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).1 1).trans (((dats m 0 c).arrAt_in 1 rfl _).trans ((A_eq m c 1).trans (V_main_arg1 m c)))⟩, h.2⟩) (run_main m ρ)

end Cert.State

end
-- ==== Proof.StateBits.lean ====
/- The scan kernel's frame at the machine's own float values: the program and the idealized program are one text, so
   the run proved for any float values is both programs' run. -/
module

public import proofs.«01_k».proof.Defs
public import proofs.«01_k».proof.Proof.Gen.Kernel
public import proofs.«01_k».proof.Proof.StateFrame

@[expose] public section

set_option maxRecDepth 16384

noncomputable section

namespace Cert.State

open Idealize.ShloMosaic Idealize.SL.Sem

/-- The two body tables have the same one row. -/
theorem rows_eq : Cert.Kernel.defs₀ (F := Bits) = Cert.KernelIdeal.defs₀ (F := Bits) := by
  unfold Cert.Kernel.defs₀ Cert.KernelIdeal.defs₀
  refine congrArg Defs.onTc (funext fun l => ?_)
  match l with
  | 0 => rfl

theorem defs_eq : Cert.Kernel.defs (F := Bits) = Cert.KernelIdeal.defs (F := Bits) :=
  congrArg (Pipeline.defs (Cert.KernelIdeal.pcfgs (F := Bits))) rows_eq

theorem frame_kernel : Cert.quiescent_Kernel := fun m ρ _ => by
  rw [defs_eq]
  exact frame (F := Bits) m ρ

end Cert.State

end
-- ==== Proof.StateSpec.lean ====
/- The gated delta rule's step of one pair of heads, over the extended reals: what a chunk makes of the state it finds. -/
module

public import Idealize.ShloMosaic.Lib.Pointwise

@[expose] public section

noncomputable section

namespace Cert.State

open Idealize.ShloMosaic

/-- A packed chunk of a pair of heads: rows 0 to 63 hold w, 64 to 127 the gated queries, 128 to 191 u, each head in its
    half of the columns; rows 192 on hold the two heads' attention (64 columns each) and, from column 128, the two heads'
    transposed keys (64 columns each). -/
abbrev Chunk := Fin 320 → Fin 256 → EReal
/-- The states of a pair of heads, side by side. -/
abbrev Pair := Fin 128 → Fin 256 → EReal

/-- The chunk a direction takes up as its `n`-th: forward from the first one, backward from the last one. -/
def chunkAt (d : Fin 2) (n : ℕ) : Fin 64 := if d = 0 then ⟨n % 64, by omega⟩ else ⟨63 - n % 64, by omega⟩
/-- Direction `d`'s `n`-th chunk of the pair `h` of batch `b`, and its decays, of the operands holding them. -/
def chunkX (A : (⟨6, ![2, 4, 16, 64, 320, 256]⟩ : Shape).Idx → EReal) (d : Fin 2) (b : Fin 4) (h : Fin 16) (n : ℕ) : Chunk :=
  fun r k => A (ix6 d b h (chunkAt d n) r k)
def decayD (B : (⟨5, ![2, 4, 16, 64, 256]⟩ : Shape).Idx → EReal) (d : Fin 2) (b : Fin 4) (h : Fin 16) (n : ℕ) : Fin 256 → EReal :=
  fun q => B (ix5 d b h (chunkAt d n) q)

/-- Which of the pair's heads column `q` belongs to. -/
def headOf (q : Fin 256) : Fin 2 := ⟨q.val / 128, by omega⟩
/-- Column `i` of the head column `q` belongs to, of a part with 128 columns a head, -/
def wide (q : Fin 256) (i : Fin 128) : Fin 256 := ⟨128 * (headOf q).val + i.val, by omega⟩
/-- and of the attention and of the keys. -/
def attCol (q : Fin 256) (s : Fin 64) : Fin 256 := ⟨64 * (headOf q).val + s.val, by omega⟩
def keyCol (q : Fin 256) (s : Fin 64) : Fin 256 := ⟨128 + 64 * (headOf q).val + s.val, by omega⟩

/-- `v_new = u - w @ state` -/
def vnew (X : Chunk) (S : Pair) (r : Fin 64) (q : Fin 256) : EReal :=
  X ⟨128 + r.val, by omega⟩ q - ∑ i, X ⟨r.val, by omega⟩ (wide q i) * S i q
/-- `out = q_g @ state + a @ v_new` -/
def outRow (X : Chunk) (S : Pair) (r : Fin 64) (q : Fin 256) : EReal :=
  ∑ i, X ⟨64 + r.val, by omega⟩ (wide q i) * S i q + ∑ s, X ⟨192 + r.val, by omega⟩ (attCol q s) * vnew X S s q
/-- `state = state * dl + k^T @ v_new` -/
def nextState (X : Chunk) (D : Fin 256 → EReal) (S : Pair) (i : Fin 128) (q : Fin 256) : EReal :=
  S i q * D q + ∑ s, X ⟨192 + i.val, by omega⟩ (keyCol q s) * vnew X S s q

/-- The state of a pair of heads after `n` chunks, from zero, -/
def scanState (X : ℕ → Chunk) (D : ℕ → Fin 256 → EReal) : ℕ → Pair
  | 0 => fun _ _ => 0
  | n + 1 => nextState (X n) (D n) (scanState X D n)
/-- and what chunk `n` gives. -/
def scanOut (X : ℕ → Chunk) (D : ℕ → Fin 256 → EReal) (n : ℕ) : Fin 64 → Fin 256 → EReal := outRow (X n) (scanState X D n)

end Cert.State

end
-- ==== Proof.StateArgs.lean ====
/-
  The parts the scan's reference cuts the packed operands into, read at an index: both directions' chunks in the order
  they are taken up, the heads of a pair apart.
-/
module

public import proofs.«01_k».proof.Proof.StateSpec
public import proofs.«01_k».proof.Proof.Gen.ReferenceIdeal.Step
public import Idealize.ShloMosaic.Lib.Pointwise
public import Idealize.ShloMosaic.Lib.ValueIdxRank6
public import Idealize.ShloMosaic.Lib.Pipeline.Value

@[expose] public section

set_option maxRecDepth 16384

noncomputable section

namespace Cert.State

open Idealize.ShloMosaic Idealize.ShloMosaic.TcCoe
open Cert.ReferenceIdeal Cert.ReferenceIdeal.Gen Cert.ReferenceIdeal.Step

/-- The row of direction `d`'s batch `b` among both directions' batches, -/
def dirRow (d : Fin 2) (b : Fin 4) : Fin 8 := ⟨4 * d.val + b.val, by omega⟩
/-- and head `j` of pair `h` among all heads. -/
def headRow (h : Fin 16) (j : Fin 2) : Fin 32 := ⟨2 * h.val + j.val, by omega⟩
/-- Column `e` of head `j` of a pair, `w` columns a head. -/
def pairCol {w : ℕ} (j : Fin 2) (e : Fin w) : Fin (2 * w) := ⟨w * j.val + e.val, by
  have h1 := j.isLt; have h2 := e.isLt
  rcases (show j.val = 0 ∨ j.val = 1 by omega) with h | h <;> rw [h] <;> omega⟩

/-- The heads of a pair taken apart and the chunks brought to the front. -/
theorem apart {R w : ℕ} (x : (⟨6, ![2, 4, 16, 64, R, 2 * w]⟩ : Shape).Idx → EReal)
    (h1 : (⟨6, ![2, 4, 16, 64, R, 2 * w]⟩ : Shape).ShapeCasts ⟨6, ![8, 16, 64, R, 2, w]⟩)
    (h2 : Shape.Transposes ⟨6, ![8, 16, 64, R, 2, w]⟩ [2, 0, 1, 4, 3, 5] ⟨6, ![64, 8, 16, 2, R, w]⟩)
    (h3 : (⟨6, ![64, 8, 16, 2, R, w]⟩ : Shape).ShapeCasts ⟨5, ![64, 8, 32, R, w]⟩)
    (n : Fin 64) (d : Fin 2) (b : Fin 4) (h : Fin 16) (j : Fin 2) (r : Fin R) (e : Fin w) :
    shapeCast ⟨5, ![64, 8, 32, R, w]⟩ (transpose ⟨6, ![64, 8, 16, 2, R, w]⟩ [2, 0, 1, 4, 3, 5] (shapeCast ⟨6, ![8, 16, 64, R, 2, w]⟩ x h1) h2) h3
      (ix5 n (dirRow d b) (headRow h j) r e) = x (ix6 d b h n r (pairCol j e)) := by
  refine (Idealize.ShloMosaic.shapeCast_apply _ h3 _ (ix6 n (dirRow d b) h j r e) ?_).trans ?_
  · rw [Shape.rowMajor_val_six, Shape.rowMajor_val_five]
    show ((((n.val * 8 + (4 * d.val + b.val)) * 16 + h.val) * 2 + j.val) * R + r.val) * w + e.val
      = (((n.val * 8 + (4 * d.val + b.val)) * 32 + (2 * h.val + j.val)) * R + r.val) * w + e.val
    ring
  · rw [Pointwise.transpose_apply]
    refine Idealize.ShloMosaic.shapeCast_apply _ h1 _ _ ?_
    rw [Shape.rowMajor_val_six, Shape.rowMajor_val_six]
    show ((((d.val * 4 + b.val) * 16 + h.val) * 64 + n.val) * R + r.val) * (2 * w) + (w * j.val + e.val)
      = (((((4 * d.val + b.val) * 16 + h.val) * 64 + n.val) * R + r.val) * 2 + j.val) * w + e.val
    ring

/-- The chunks a direction takes up in its order, of what holds both directions': the second direction's are turned over. -/
theorem order_at (d : Fin 2) (n : Fin 64) : chunkAt d n.val = if d.val < 1 then n else n.rev := by
  apply Fin.ext
  match d with
  | 0 => exact Nat.mod_eq_of_lt n.isLt
  | 1 =>
    show 63 - n.val % 64 = n.rev.val
    rw [Fin.val_rev]; omega

theorem decays_both (x : Vec Ideal S2x4x16x64x256 .f32) (h1 h2 h3 h4 h5 h6 h7) (d : Fin 2) (b : Fin 4) (h : Fin 16) (n : Fin 64) (k : Fin 256) :
    concatenate S2x4x16x64x256 0
      [⟨S1x4x16x64x256, broadcastInDim S1x4x16x64x256 ![1, 2, 3, 4] h1 (shapeCast S4x16x64x256 (extractStridedSlice S1x4x16x64x256 ![0, 0, 0, 0, 0] x h2) h3)⟩,
       ⟨S1x4x16x64x256, broadcastInDim S1x4x16x64x256 ![1, 2, 3, 4] h4
         (Host.reverse [2] (shapeCast S4x16x64x256 (extractStridedSlice S1x4x16x64x256 ![1, 0, 0, 0, 0] x h5) h6))⟩] h7 (ix5 d b h n k)
     = x (ix5 d b h (chunkAt d n.val) k) := by
  rw [order_at]
  pointwise
  split
  case isTrue h0 =>
    obtain rfl : d = 0 := Fin.ext (by show d.val = 0; omega)
    rfl
  case isFalse h0 =>
    obtain rfl : d = 1 := Fin.ext (by show d.val = 1; omega)
    rfl

theorem chunks_both (x : Vec Ideal S2x4x16x64x320x256 .f32) (h1 h2 h3 h4 h5 h6 h7) (d : Fin 2) (b : Fin 4) (h : Fin 16) (n : Fin 64) (r : Fin 320) (k : Fin 256) :
    concatenate S2x4x16x64x320x256 0
      [⟨S1x4x16x64x320x256, broadcastInDim S1x4x16x64x320x256 ![1, 2, 3, 4, 5] h1
         (shapeCast S4x16x64x320x256 (extractStridedSlice S1x4x16x64x320x256 ![0, 0, 0, 0, 0, 0] x h2) h3)⟩,
       ⟨S1x4x16x64x320x256, broadcastInDim S1x4x16x64x320x256 ![1, 2, 3, 4, 5] h4
         (Host.reverse [2] (shapeCast S4x16x64x320x256 (extractStridedSlice S1x4x16x64x320x256 ![1, 0, 0, 0, 0, 0] x h5) h6))⟩] h7 (ix6 d b h n r k)
     = x (ix6 d b h (chunkAt d n.val) r k) := by
  rw [order_at]
  pointwise
  split
  case isTrue h0 =>
    obtain rfl : d = 0 := Fin.ext (by show d.val = 0; omega)
    rfl
  case isFalse h0 =>
    obtain rfl : d = 1 := Fin.ext (by show d.val = 1; omega)
    rfl

variable (A : Vec Ideal S2x4x16x64x320x256 .bf16) (B : Vec Ideal S2x4x16x64x256 .f32)

theorem chunks_at (d : Fin 2) (b : Fin 4) (h : Fin 16) (n : Fin 64) (r : Fin 320) (k : Fin 256) :
    A_main_v8 (F := Ideal) A B (ix6 d b h n r k) = A (ix6 d b h (chunkAt d n.val) r k) :=
  chunks_both (A_main_v0 (F := Ideal) A B) _ _ _ _ _ _ _ d b h n r k

theorem decays_at (d : Fin 2) (b : Fin 4) (h : Fin 16) (n : Fin 64) (k : Fin 256) :
    A_main_v16 (F := Ideal) A B (ix5 d b h n k) = B (ix5 d b h (chunkAt d n.val) k) :=
  decays_both B _ _ _ _ _ _ _ d b h n k

/-- A part of the chunks: rows from `i` on and columns from `l` on. -/
theorem part_at {R C : ℕ} (x : Vec Ideal S2x4x16x64x320x256 .f32) (i l : ℕ)
    (hs : S2x4x16x64x320x256.Slices ![0, 0, 0, 0, i, l] ⟨6, ![2, 4, 16, 64, R, C]⟩)
    (d : Fin 2) (b : Fin 4) (h : Fin 16) (n : Fin 64) (r : Fin R) (k : Fin C) (hr : i + r.val < 320) (hk : l + k.val < 256) :
    extractStridedSlice ⟨6, ![2, 4, 16, 64, R, C]⟩ ![0, 0, 0, 0, i, l] x hs (ix6 d b h n r k) = x (ix6 d b h n ⟨i + r.val, hr⟩ ⟨l + k.val, hk⟩) := by
  unfold extractStridedSlice
  refine congrArg x (funext fun a => Fin.ext ?_)
  match a with
  | 0 | 1 | 2 | 3 => exact Nat.zero_add _
  | 4 | 5 => rfl

variable (d : Fin 2) (b : Fin 4) (h : Fin 16) (n : Fin 64) (j : Fin 2)

theorem ref_q (r : Fin 64) (e : Fin 128) : A_main_v24 (F := Ideal) A B (ix5 n (dirRow d b) (headRow h j) r e)
    = A (ix6 d b h (chunkAt d n.val) ⟨64 + r.val, by omega⟩ (pairCol j e)) :=
  (apart (R := 64) (w := 128) _ _ _ _ n d b h j r e).trans ((part_at _ 64 0 _ d b h n r (pairCol j e) (by omega) (by omega)).trans
    ((chunks_at A B d b h n _ _).trans (by simp only [Nat.zero_add])))
theorem ref_u (r : Fin 64) (e : Fin 128) : A_main_v28 (F := Ideal) A B (ix5 n (dirRow d b) (headRow h j) r e)
    = A (ix6 d b h (chunkAt d n.val) ⟨128 + r.val, by omega⟩ (pairCol j e)) :=
  (apart (R := 64) (w := 128) _ _ _ _ n d b h j r e).trans ((part_at _ 128 0 _ d b h n r (pairCol j e) (by omega) (by omega)).trans
    ((chunks_at A B d b h n _ _).trans (by simp only [Nat.zero_add])))
theorem ref_w (r : Fin 64) (e : Fin 128) : A_main_v20 (F := Ideal) A B (ix5 n (dirRow d b) (headRow h j) r e)
    = A (ix6 d b h (chunkAt d n.val) ⟨r.val, by omega⟩ (pairCol j e)) :=
  (apart (R := 64) (w := 128) _ _ _ _ n d b h j r e).trans ((part_at _ 0 0 _ d b h n r (pairCol j e) (by omega) (by omega)).trans
    ((chunks_at A B d b h n _ _).trans (by simp only [Nat.zero_add])))
theorem ref_a (r : Fin 64) (e : Fin 64) : A_main_v32 (F := Ideal) A B (ix5 n (dirRow d b) (headRow h j) r e)
    = A (ix6 d b h (chunkAt d n.val) ⟨192 + r.val, by omega⟩ ⟨64 * j.val + e.val, by omega⟩) :=
  (apart (R := 64) (w := 64) _ _ _ _ n d b h j r e).trans ((part_at _ 192 0 _ d b h n r (pairCol j e) (by omega) (by have := (pairCol j e).isLt; omega)).trans
    ((chunks_at A B d b h n _ _).trans (by simp only [Nat.zero_add]; rfl)))
theorem ref_k (r : Fin 128) (e : Fin 64) : A_main_v37 (F := Ideal) A B (ix5 n (dirRow d b) (headRow h j) e r)
    = A (ix6 d b h (chunkAt d n.val) ⟨192 + r.val, by omega⟩ ⟨128 + (64 * j.val + e.val), by omega⟩) := by
  have ht : A_main_v37 (F := Ideal) A B (ix5 n (dirRow d b) (headRow h j) e r) = A_main_v36 (F := Ideal) A B (ix5 n (dirRow d b) (headRow h j) r e) := by
    unfold A_main_v37
    rw [Pointwise.transpose_apply]
    rfl
  exact ht.trans ((apart (R := 128) (w := 64) _ _ _ _ n d b h j r e).trans ((part_at _ 192 128 _ d b h n r (pairCol j e) (by omega)
    (by have := (pairCol j e).isLt; omega)).trans (chunks_at A B d b h n _ _)))
theorem ref_d (e : Fin 128) : A_main_v41 (F := Ideal) A B (ix5 n (dirRow d b) (headRow h j) 0 e) = B (ix5 d b h (chunkAt d n.val) (pairCol j e)) := by
  refine (apart (R := 1) (w := 128) _ _ _ _ n d b h j 0 e).trans (.trans ?_ (decays_at A B d b h n _))
  unfold A_main_v38
  generalize A_main_v16 (F := Ideal) A B = x
  pointwise
  try rfl

end Cert.State

end
-- ==== Proof.StateTrip.lean ====
/-
  The run of the scan's reference by states: the carried buffers as one state, a trip's step of it, and the state the
  operations before the loop leave.
-/
module

public import proofs.«01_k».proof.Proof.Gen.ReferenceIdeal.Run
public import proofs.«01_k».proof.Proof.Gen.ReferenceIdeal.Step

@[expose] public section

set_option maxRecDepth 65536

noncomputable section

namespace Cert.State

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State init step b44 b50)

variable {F : FTy → Type} [FloatOps F]

/-- The carried buffers' contents as a state. -/
def stateOf (V : Valuation τ sig (Elt F)) : State F where
  main_v44_7 := V (Proc.devRef .tc main_v44_7)
  main_v44_8 := V (Proc.devRef .tc main_v44_8)
  main_v44_0 := V (Proc.devRef .tc main_v44_0)
  main_v44_1 := V (Proc.devRef .tc main_v44_1)
  main_v44_2 := V (Proc.devRef .tc main_v44_2)
  main_v44_3 := V (Proc.devRef .tc main_v44_3)
  main_v44_4 := V (Proc.devRef .tc main_v44_4)
  main_v44_5 := V (Proc.devRef .tc main_v44_5)

variable (V : Valuation τ sig (Elt F)) (j : ℕ)

theorem states_step (hc : V (Proc.devRef .tc main_v44_6) = constantI S_ 32 (BitVec.ofNat 32 j)) : step_main_v44_7 V = b44 j (stateOf V) := by
  unfold step_main_v44_7 res_main_while0b_v64
  rw [hc]
  rfl

theorem outputs_step (hc : V (Proc.devRef .tc main_v44_6) = constantI S_ 32 (BitVec.ofNat 32 j)) : step_main_v44_8 V = b50 j (stateOf V) := by
  unfold step_main_v44_8 res_main_while0b_v64
  rw [hc]
  rfl

theorem stateOf_step (hc : V (Proc.devRef .tc main_v44_6) = constantI S_ 32 (BitVec.ofNat 32 j)) : stateOf (STEP V) = step j (stateOf V) := by
  unfold stateOf step
  rw [STEP_main_v44_7, STEP_main_v44_8, STEP_main_v44_0, STEP_main_v44_1, STEP_main_v44_2, STEP_main_v44_3, STEP_main_v44_4, STEP_main_v44_5,
    states_step V j hc, outputs_step V j hc]
  rfl

theorem number_step (hc : V (Proc.devRef .tc main_v44_6) = constantI S_ 32 (BitVec.ofNat 32 j)) :
    STEP V (Proc.devRef .tc main_v44_6) = constantI S_ 32 (BitVec.ofNat 32 (j + 1)) := by
  rw [STEP_main_v44_6]
  unfold step_main_v44_6
  rw [hc]
  funext i
  show BitVec.ofNat 32 j + 1#32 = BitVec.ofNat 32 (j + 1)
  rw [BitVec.ofNat_add]

variable (m : (ℓ : Loc nD τ sig) → Buf (Elt F) ℓ) (c : Dev nD)

set_option maxHeartbeats 16000000 in
/-- The operations before the loop leave the state the arguments give, -/
theorem stateOf_entry : stateOf (entryContents preI m c) = init (m (c.tc.loc main_arg0)) (m (c.tc.loc main_arg1)) := by
  refine (State.mk.injEq ..).mpr ⟨?_, ?_, ?_, ?_, ?_, ?_, ?_, ?_⟩ <;>
    (simp only [entryContents, afterL_cons, afterL_nil]; after_reads_simp; rfl)

/-- and the number zero. -/
theorem number_entry : entryContents preI m c (Proc.devRef .tc main_v44_6) = constantI S_ 32 (BitVec.ofNat 32 0) := ctr_entry m c

/-- The states of the loop: the one the arguments give, then trip by trip. -/
def trips (A : main_arg0.ty.Contents (Elt F)) (B : main_arg1.ty.Contents (Elt F)) : ℕ → State F
  | 0 => init A B
  | n + 1 => step n (trips A B n)

theorem stateOf_iter : ∀ k, stateOf (STEP^[k] (entryContents preI m c)) = trips (m (c.tc.loc main_arg0)) (m (c.tc.loc main_arg1)) k
    ∧ (STEP^[k] (entryContents preI m c)) (Proc.devRef .tc main_v44_6) = constantI S_ 32 (BitVec.ofNat 32 k)
  | 0 => ⟨stateOf_entry m c, number_entry m c⟩
  | k + 1 => by
    rw [Function.iterate_succ_apply']
    obtain ⟨h1, h2⟩ := stateOf_iter k
    exact ⟨by rw [stateOf_step _ k h2, h1]; rfl, number_step _ k h2⟩

theorem fwd_of (V : Valuation τ sig (Elt F)) : out_main_v51 V = Step.R_main_v51 (stateOf V) := rfl
theorem bwd_of (V : Valuation τ sig (Elt F)) : out_main_v56 V = Step.R_main_v56 (stateOf V) := rfl

/-- The run: the results are made of the last state, and the arguments stay. -/
theorem run_trips (ρ : Dev nD → PrngReg) : θ_run (defs (F := F)) (onTc (τ := τ) (main (F := F))) ⟨m, fun _ => 0, ρ⟩ fun r => ∀ c : Dev nD,
    r.2.mem (c.tc.loc main_v51) = Step.R_main_v51 (trips (m (c.tc.loc main_arg0)) (m (c.tc.loc main_arg1)) 64)
    ∧ r.2.mem (c.tc.loc main_v56) = Step.R_main_v56 (trips (m (c.tc.loc main_arg0)) (m (c.tc.loc main_arg1)) 64)
    ∧ r.2.mem (c.tc.loc main_arg0) = m (c.tc.loc main_arg0) ∧ r.2.mem (c.tc.loc main_arg1) = m (c.tc.loc main_arg1) := by
  refine (θ_run (defs (F := F)) _ _).mono (fun r h c => ?_) (Value.run m ρ)
  obtain ⟨h0, h1, h2, h3⟩ := h c
  have e := (stateOf_iter m c 64).1
  exact ⟨h0.trans ((fwd_of _).trans (congrArg Step.R_main_v51 e)), h1.trans ((bwd_of _).trans (congrArg Step.R_main_v56 e)), h2, h3⟩

end Cert.State

end
-- ==== Proof.StateRef.lean ====
/-
  What the scan's reference computes: its states and its outputs are the recurrence's.
-/
module

public import proofs.«01_k».proof.Proof.StateArgs
public import proofs.«01_k».proof.Proof.StateTrip
public import Idealize.ShloMosaic.Lib.DynamicIndex

@[expose] public section

set_option maxRecDepth 16384

noncomputable section

namespace Cert.State

open Idealize.ShloMosaic Idealize.ShloMosaic.TcCoe
open Cert.ReferenceIdeal Cert.ReferenceIdeal.Gen Cert.ReferenceIdeal.Step

/-! ## A trip's slices -/

/-- A trip's part of an array of all chunks, the chunk's axis dropped. -/
theorem trip_part {R w j : ℕ} (x : (⟨5, ![64, 8, 32, R, w]⟩ : Shape).Idx → EReal) (start : Fin 5 → ℤ)
    (hf : Shape.Slices ⟨5, ![64, 8, 32, R, w]⟩ (fun _ => 0) ⟨5, ![1, 8, 32, R, w]⟩)
    (hc : (⟨5, ![1, 8, 32, R, w]⟩ : Shape).ShapeCasts ⟨4, ![8, 32, R, w]⟩) (hj : j < 64)
    (h0 : start 0 = j) (h1 : start 1 = 0) (h2 : start 2 = 0) (h3 : start 3 = 0) (h4 : start 4 = 0)
    (p : Fin 8) (g : Fin 32) (r : Fin R) (e : Fin w) :
    shapeCast ⟨4, ![8, 32, R, w]⟩ (Host.dynamicSlice ⟨5, ![1, 8, 32, R, w]⟩ x start hf) hc (ix4 p g r e) = x (ix5 ⟨j, hj⟩ p g r e) := by
  refine (Idealize.ShloMosaic.shapeCast_apply _ hc _ (ix5 0 p g r e) ?_).trans ?_
  · rw [Shape.rowMajor_val_five, Shape.rowMajor_val_four]
    show (((0 * 8 + p.val) * 32 + g.val) * R + r.val) * w + e.val = ((p.val * 32 + g.val) * R + r.val) * w + e.val
    ring
  · unfold Host.dynamicSlice extractStridedSlice
    refine congrArg x (funext fun a => Fin.ext ?_)
    match a with
    | 0 => show (min (max (start 0) 0) ((64 - 1 : ℕ) : ℤ)).toNat + 0 = j; rw [h0]; omega
    | 1 => show (min (max (start 1) 0) ((8 - 8 : ℕ) : ℤ)).toNat + p.val = p.val; rw [h1]; omega
    | 2 => show (min (max (start 2) 0) ((32 - 32 : ℕ) : ℤ)).toNat + g.val = g.val; rw [h2]; omega
    | 3 => show (min (max (start 3) 0) ((R - R : ℕ) : ℤ)).toNat + r.val = r.val; rw [h3]; omega
    | 4 => show (min (max (start 4) 0) ((w - w : ℕ) : ℤ)).toNat + e.val = e.val; rw [h4]; omega

/-- An array of all chunks with a trip's part written. -/
theorem trip_write {j : ℕ} (x : (⟨5, ![64, 8, 32, 64, 128]⟩ : Shape).Idx → EReal) (u : (⟨5, ![1, 8, 32, 64, 128]⟩ : Shape).Idx → EReal)
    (start : Fin 5 → ℤ) (hf : Shape.Slices ⟨5, ![64, 8, 32, 64, 128]⟩ (fun _ => 0) ⟨5, ![1, 8, 32, 64, 128]⟩) (hj : j < 64)
    (h0 : start 0 = j) (h1 : start 1 = 0) (h2 : start 2 = 0) (h3 : start 3 = 0) (h4 : start 4 = 0)
    (n : Fin 64) (p : Fin 8) (g : Fin 32) (r : Fin 64) (e : Fin 128) :
    Host.dynamicUpdateSlice x u start hf (ix5 n p g r e) = if n.val = j then u (ix5 0 p g r e) else x (ix5 n p g r e) := by
  rw [Host.dynamicUpdateSlice_eq_updateSlice x u start hf ![j, 0, 0, 0, 0] (fun a => by
    match a with
    | 0 => show (min (max (start 0) 0) ((64 - 1 : ℕ) : ℤ)).toNat = j; rw [h0]; omega
    | 1 => show (min (max (start 1) 0) ((8 - 8 : ℕ) : ℤ)).toNat = 0; rw [h1]; omega
    | 2 => show (min (max (start 2) 0) ((32 - 32 : ℕ) : ℤ)).toNat = 0; rw [h2]; omega
    | 3 => show (min (max (start 3) 0) ((64 - 64 : ℕ) : ℤ)).toNat = 0; rw [h3]; omega
    | 4 => show (min (max (start 4) 0) ((128 - 128 : ℕ) : ℤ)).toNat = 0; rw [h4]; omega)
    ⟨rfl, fun a => by
      match a with
      | 0 => show j + 1 ≤ 64; omega
      | 1 => show 0 + 8 ≤ 8; omega
      | 2 => show 0 + 32 ≤ 32; omega
      | 3 => show 0 + 64 ≤ 64; omega
      | 4 => show 0 + 128 ≤ 128; omega⟩]
  unfold updateSlice
  split
  case isTrue hin =>
    have hh := hin 0
    have e0 : n.val = j := by
      have a1 : j ≤ n.val := hh.1
      have a2 : n.val < j + 1 := hh.2
      omega
    rw [if_pos e0]
    refine congrArg u (funext fun a => Fin.ext ?_)
    match a with
    | 0 => show n.val - j = 0; omega
    | 1 | 2 | 3 | 4 => rfl
  case isFalse hin =>
    rw [if_neg]
    intro e0
    refine hin fun a => ?_
    match a with
    | 0 => show j ≤ n.val ∧ n.val < j + 1; omega
    | 1 => show 0 ≤ p.val ∧ p.val < 0 + 8; omega
    | 2 => show 0 ≤ g.val ∧ g.val < 0 + 32; omega
    | 3 => show 0 ≤ r.val ∧ r.val < 0 + 64; omega
    | 4 => show 0 ≤ e.val ∧ e.val < 0 + 128; omega

/-! ## The products -/

theorem dot_state (x : Vec Ideal S8x32x64x128 .f32) (y : Vec Ideal S8x32x128x128 .f32) (p : Fin 8) (g : Fin 32) (r : Fin 64) (e : Fin 128) :
    Host.dotGeneral (F := Ideal) (φ₁ := .f32) (φ₂ := .f32) dot_S8x32x64x128_S8x32x128x128_S8x32x64x128_3_2_2_3_01_01 none x y (ix4 p g r e) = ∑ i : Fin 128, x (ix4 p g r i) * y (ix4 p g i e) := by
  pointwise
theorem dot_att (x : Vec Ideal S8x32x64x64 .f32) (y : Vec Ideal S8x32x64x128 .f32) (p : Fin 8) (g : Fin 32) (r : Fin 64) (e : Fin 128) :
    Host.dotGeneral (F := Ideal) (φ₁ := .f32) (φ₂ := .f32) dot_S8x32x64x64_S8x32x64x128_S8x32x64x128_3_2_2_3_01_01 none x y (ix4 p g r e) = ∑ i : Fin 64, x (ix4 p g r i) * y (ix4 p g i e) := by
  pointwise
theorem dot_keys (x y : Vec Ideal S8x32x64x128 .f32) (p : Fin 8) (g : Fin 32) (r e : Fin 128) :
    Host.dotGeneral (F := Ideal) (φ₁ := .f32) (φ₂ := .f32) dot_S8x32x64x128_S8x32x64x128_S8x32x128x128_2_2_3_3_01_01 none x y (ix4 p g r e) = ∑ i : Fin 64, x (ix4 p g i r) * y (ix4 p g i e) := by
  pointwise

/-! ## Columns of a pair -/

theorem headOf_pair (j : Fin 2) (e : Fin 128) : headOf (pairCol (w := 128) j e) = j := Fin.ext (by
  show (128 * j.val + e.val) / 128 = j.val; omega)
theorem wide_pair (j : Fin 2) (e i : Fin 128) : wide (pairCol (w := 128) j e) i = pairCol (w := 128) j i := Fin.ext (by
  show 128 * (headOf (pairCol (w := 128) j e)).val + i.val = 128 * j.val + i.val; rw [headOf_pair])
theorem attCol_pair (j : Fin 2) (e : Fin 128) (s : Fin 64) : attCol (pairCol (w := 128) j e) s = ⟨64 * j.val + s.val, by omega⟩ := Fin.ext (by
  show 64 * (headOf (pairCol (w := 128) j e)).val + s.val = 64 * j.val + s.val; rw [headOf_pair])
theorem keyCol_pair (j : Fin 2) (e : Fin 128) (s : Fin 64) : keyCol (pairCol (w := 128) j e) s = ⟨128 + (64 * j.val + s.val), by omega⟩ := Fin.ext (by
  show 128 + 64 * (headOf (pairCol (w := 128) j e)).val + s.val = 128 + (64 * j.val + s.val); rw [headOf_pair]; omega)

/-! ## A trip -/

variable (A : Vec Ideal S2x4x16x64x320x256 .bf16) (B : Vec Ideal S2x4x16x64x256 .f32)

/-- The parts cut of the operands stay what they are. -/
theorem trips_parts : ∀ n, (trips (F := Ideal) A B n).main_v44_0 = A_main_v24 (F := Ideal) A B ∧ (trips (F := Ideal) A B n).main_v44_1 = A_main_v37 (F := Ideal) A B
    ∧ (trips (F := Ideal) A B n).main_v44_2 = A_main_v28 (F := Ideal) A B ∧ (trips (F := Ideal) A B n).main_v44_3 = A_main_v20 (F := Ideal) A B
    ∧ (trips (F := Ideal) A B n).main_v44_4 = A_main_v32 (F := Ideal) A B ∧ (trips (F := Ideal) A B n).main_v44_5 = A_main_v41 (F := Ideal) A B
  | 0 => ⟨rfl, rfl, rfl, rfl, rfl, rfl⟩
  | n + 1 => trips_parts n

variable (d : Fin 2) (b : Fin 4) (h : Fin 16) (j : Fin 2) (n : ℕ) (hn : n < 64)

theorem word_nat (n : ℕ) (hn : n < 64) : (BitVec.ofNat 32 n).toInt = n := toInt_ofNat_of_lt (by omega)

include hn

theorem trip_q (r : Fin 64) (e : Fin 128) : b5 n (trips (F := Ideal) A B n) (ix4 (dirRow d b) (headRow h j) r e)
    = chunkX A d b h n ⟨64 + r.val, by omega⟩ (pairCol j e) :=
  (trip_part (R := 64) (w := 128) _ _ _ _ hn (word_nat n hn) rfl rfl rfl rfl _ _ r e).trans
    ((congrFun (trips_parts A B n).1 _).trans (ref_q A B d b h ⟨n, hn⟩ j r e))
theorem trip_k (s : Fin 64) (i : Fin 128) : b11 n (trips (F := Ideal) A B n) (ix4 (dirRow d b) (headRow h j) s i)
    = chunkX A d b h n ⟨192 + i.val, by omega⟩ ⟨128 + (64 * j.val + s.val), by omega⟩ :=
  (trip_part (R := 64) (w := 128) _ _ _ _ hn (word_nat n hn) rfl rfl rfl rfl _ _ s i).trans
    ((congrFun (trips_parts A B n).2.1 _).trans (ref_k A B d b h ⟨n, hn⟩ j i s))
theorem trip_u (r : Fin 64) (e : Fin 128) : b17 n (trips (F := Ideal) A B n) (ix4 (dirRow d b) (headRow h j) r e)
    = chunkX A d b h n ⟨128 + r.val, by omega⟩ (pairCol j e) :=
  (trip_part (R := 64) (w := 128) _ _ _ _ hn (word_nat n hn) rfl rfl rfl rfl _ _ r e).trans
    ((congrFun (trips_parts A B n).2.2.1 _).trans (ref_u A B d b h ⟨n, hn⟩ j r e))
theorem trip_w (r : Fin 64) (e : Fin 128) : b23 n (trips (F := Ideal) A B n) (ix4 (dirRow d b) (headRow h j) r e)
    = chunkX A d b h n ⟨r.val, by omega⟩ (pairCol j e) :=
  (trip_part (R := 64) (w := 128) _ _ _ _ hn (word_nat n hn) rfl rfl rfl rfl _ _ r e).trans
    ((congrFun (trips_parts A B n).2.2.2.1 _).trans (ref_w A B d b h ⟨n, hn⟩ j r e))
theorem trip_a (r s : Fin 64) : b29 n (trips (F := Ideal) A B n) (ix4 (dirRow d b) (headRow h j) r s)
    = chunkX A d b h n ⟨192 + r.val, by omega⟩ ⟨64 * j.val + s.val, by omega⟩ :=
  (trip_part (R := 64) (w := 64) _ _ _ _ hn (word_nat n hn) rfl rfl rfl rfl _ _ r s).trans
    ((congrFun (trips_parts A B n).2.2.2.2.1 _).trans (ref_a A B d b h ⟨n, hn⟩ j r s))
theorem trip_d (e : Fin 128) : b35 n (trips (F := Ideal) A B n) (ix4 (dirRow d b) (headRow h j) 0 e) = decayD B d b h n (pairCol j e) :=
  (trip_part (R := 1) (w := 128) _ _ _ _ hn (word_nat n hn) rfl rfl rfl rfl _ _ 0 e).trans
    ((congrFun (trips_parts A B n).2.2.2.2.2 _).trans (ref_d A B d b h ⟨n, hn⟩ j e))

/-- The states before a trip are those of the recurrence. -/
def StatesAre (n : ℕ) : Prop := ∀ (i e : Fin 128), (trips (F := Ideal) A B n).main_v44_7 (ix4 (dirRow d b) (headRow h j) i e)
  = scanState (chunkX A d b h) (decayD B d b h) n i (pairCol j e)

variable (hS : StatesAre A B d b h j n)
include hS

theorem trip_vnew (r : Fin 64) (e : Fin 128) : b37 n (trips (F := Ideal) A B n) (ix4 (dirRow d b) (headRow h j) r e)
    = vnew (chunkX A d b h n) (scanState (chunkX A d b h) (decayD B d b h) n) r (pairCol j e) := by
  show b17 n (trips (F := Ideal) A B n) (ix4 (dirRow d b) (headRow h j) r e) - b36 n (trips (F := Ideal) A B n) (ix4 (dirRow d b) (headRow h j) r e) = _
  unfold b36 vnew
  rw [dot_state, trip_u A B d b h j n hn]
  refine congrArg _ (Finset.sum_congr rfl fun i _ => ?_)
  rw [trip_w A B d b h j n hn, hS, wide_pair]

theorem trip_out (r : Fin 64) (e : Fin 128) : b40 n (trips (F := Ideal) A B n) (ix4 (dirRow d b) (headRow h j) r e)
    = scanOut (chunkX A d b h) (decayD B d b h) n r (pairCol j e) := by
  show b38 n (trips (F := Ideal) A B n) (ix4 (dirRow d b) (headRow h j) r e) + b39 n (trips (F := Ideal) A B n) (ix4 (dirRow d b) (headRow h j) r e) = _
  unfold b38 b39 scanOut outRow
  rw [dot_state, dot_att]
  refine congrArg₂ _ (Finset.sum_congr rfl fun i _ => ?_) (Finset.sum_congr rfl fun s _ => ?_)
  · rw [trip_q A B d b h j n hn, hS, wide_pair]
  · rw [trip_a A B d b h j n hn, trip_vnew A B d b h j n hn hS, attCol_pair]

theorem trip_next (i e : Fin 128) : b44 n (trips (F := Ideal) A B n) (ix4 (dirRow d b) (headRow h j) i e)
    = scanState (chunkX A d b h) (decayD B d b h) (n + 1) i (pairCol j e) := by
  show (trips (F := Ideal) A B n).main_v44_7 (ix4 (dirRow d b) (headRow h j) i e) * b41 n (trips (F := Ideal) A B n) (ix4 (dirRow d b) (headRow h j) i e)
    + b43 n (trips (F := Ideal) A B n) (ix4 (dirRow d b) (headRow h j) i e) = _
  have e41 : b41 n (trips (F := Ideal) A B n) (ix4 (dirRow d b) (headRow h j) i e) = decayD B d b h n (pairCol j e) := by
    refine .trans ?_ (trip_d A B d b h j n hn e)
    unfold b41
    generalize b35 n (trips (F := Ideal) A B n) = x
    pointwise
    try rfl
  rw [e41, hS]
  unfold b43
  rw [dot_keys]
  show _ = nextState _ _ _ _ _
  unfold nextState
  refine congrArg _ (Finset.sum_congr rfl fun s _ => ?_)
  rw [trip_k A B d b h j n hn, trip_vnew A B d b h j n hn hS, keyCol_pair]

omit hS hn

/-- So they are before every trip, -/
theorem states_are : ∀ n, n ≤ 64 → StatesAre A B d b h j n
  | 0, _ => fun i e => by
    show K_main_v42 (F := Ideal) (ix4 (dirRow d b) (headRow h j) i e) = 0
    unfold K_main_v42 K_main_cst
    pointwise
  | n + 1, hn => fun i e => trip_next A B d b h j n hn (states_are n (Nat.le_of_succ_le hn)) i e

/-- and the outputs written so far are the recurrence's. -/
theorem outs_are (r : Fin 64) (e : Fin 128) : ∀ n, n ≤ 64 → ∀ k : Fin 64, k.val < n →
    (trips (F := Ideal) A B n).main_v44_8 (ix5 k (dirRow d b) (headRow h j) r e) = scanOut (chunkX A d b h) (decayD B d b h) k.val r (pairCol j e)
  | 0, _, _, h => absurd h (Nat.not_lt_zero _)
  | n + 1, hn, k, hk => by
    refine (trip_write (j := n) _ _ _ updateFits_S64x8x32x64x128_S1x8x32x64x128 hn (word_nat n hn) rfl rfl rfl rfl k _ _ r e).trans ?_
    split
    case isTrue h0 =>
      rw [h0]
      refine .trans ?_ (trip_out A B d b h j n hn (states_are A B d b h j n (Nat.le_of_succ_le hn)) r e)
      unfold b45
      generalize b40 n (trips (F := Ideal) A B n) = x
      pointwise
      try rfl
    case isFalse h0 => exact outs_are r e n (Nat.le_of_succ_le hn) k (by omega)

end Cert.State

end
-- ==== Proof.StatePieces.lean ====
/- What the scan kernel's body stores, told once for every head: each head's stores are one step of the recurrence over
   the head's own loads, whichever of the four kinds of point it runs at. -/
module

public import proofs.«01_k».proof.Proof.StateStores
import all proofs.«01_k».proof.Proof.StateRunA
import all proofs.«01_k».proof.Proof.StateRunB
import all proofs.«01_k».proof.Proof.StateRunC
import all proofs.«01_k».proof.Proof.StateRunD

@[expose] public section

set_option maxRecDepth 16384

noncomputable section

namespace Cert.State

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-! ## One head's loads -/

theorem ring_inb (t : Fin grid0.N) (d : Fin 2) (h r k R K : ℕ) (hh : h < 16) (hr : r + R ≤ 320) (hk : k + K ≤ 256) :
    ∀ a : Fin 5, (![(slotWord (grid0.coords t)).toNat, d.val, h, r, k] : Fin 5 → ℕ) a + (![1, 1, 1, R, K] : Fin 5 → ℕ) a ≤ S3x2x16x320x256.size a := by
  have hs : (slotWord (grid0.coords t)).toNat < 3 := by rw [slotWord_eq]; exact (Ring.sl 3 t.val).isLt
  have hd := d.isLt
  intro a; fin_cases a <;> simp [S3x2x16x320x256] <;> omega
/-- A load from this point's slot: direction `d`, head `h`, `R` rows from `r`, `K` columns from `k`. -/
def ringLd (c : Dev nD) (W0 : BufOf (F := F) c opM) (t : Fin grid0.N) (d : Fin 2) (h r k R K : ℕ) (hh : h < 16) (hr : r + R ≤ 320) (hk : k + K ≤ 256) :
    (Rect.unit (s := S3x2x16x320x256) ![(slotWord (grid0.coords t)).toNat, d.val, h, r, k] ![1, 1, 1, R, K] (ring_inb t d h r k R K hh hr hk)).shape.Idx → Elt F .bf16 :=
  View.readAt (Elt F) ringM.view (Rect.unit (s := S3x2x16x320x256) ![(slotWord (grid0.coords t)).toNat, d.val, h, r, k] ![1, 1, 1, R, K] (ring_inb t d h r k R K hh hr hk)).toLoadRect
    (landed c W0 d (Ring.sl 3 t.val) (Ring.bk 256 t.val) (win d (Ring.sl 3 t.val)).view.junk)

/-- The chunk whose decay a point reads, forward and backward. -/
def chunkWord (d : Fin 2) (i : grid0.Coords) : BitVec 32 :=
  match d with
  | 0 => Scalar.indexCast (BitVec.ofNat 32 (i 1).val)
  | 1 => Scalar.indexCast (Scalar.subi 63#32 (BitVec.ofNat 32 (i 1).val))
theorem chunkWord_eq : ∀ (d : Fin 2) (t : Fin grid0.N), (chunkWord d (grid0.coords t)).toNat = chunkOf d t.val := by decide +kernel
theorem chunkOf_lt (d : Fin 2) (k : ℕ) : chunkOf d k < 64 := by
  unfold chunkOf; split <;> omega
theorem dw_inb (t : Fin grid0.N) (d : Fin 2) (h : ℕ) (hh : h < 16) :
    ∀ a : Fin 5, (![0, 0, h, (chunkWord d (grid0.coords t)).toNat, 0] : Fin 5 → ℕ) a + (![1, 1, 1, 1, 256] : Fin 5 → ℕ) a ≤ S1x1x16x64x256.size a := by
  have := chunkOf_lt d t.val
  rw [chunkWord_eq]
  intro a; fin_cases a <;> simp [S1x1x16x64x256] <;> omega
/-- The load of a head's decay at this point. -/
def dwLd (t : Fin grid0.N) (d : Fin 2) (M : Memref sig .tc .vmem S1x1x16x64x256 .f32) (hM : M.IsWhole) (x : Vec F S1x1x16x64x256 .f32) (h : ℕ) (hh : h < 16) :
    (Rect.unit (s := S1x1x16x64x256) ![0, 0, h, (chunkWord d (grid0.coords t)).toNat, 0] ![1, 1, 1, 1, 256] (dw_inb t d h hh)).shape.Idx → Elt F .f32 :=
  View.readAt (Elt F) M.view (Rect.unit (s := S1x1x16x64x256) ![0, 0, h, (chunkWord d (grid0.coords t)).toNat, 0] ![1, 1, 1, 1, 256] (dw_inb t d h hh)).toLoadRect (hM.unread x)

theorem row_inb (b h : ℕ) (hh : b + h < 32) :
    ∀ a : Fin 3, (![b + h, 0, 0] : Fin 3 → ℕ) a + (![1, 128, 256] : Fin 3 → ℕ) a ≤ S32x128x256.size a := by
  intro a; fin_cases a <;> simp [S32x128x256] <;> omega
theorem stM_whole : stM.IsWhole := Memref.isWhole_whole _
/-- One head's state, of states held at `x7`. -/
def rowLd (x7 : Vec F S32x128x256 .f32) (b h : ℕ) (hh : b + h < 32) : (Rect.unit (s := S32x128x256) ![b + h, 0, 0] ![1, 128, 256] (row_inb b h hh)).shape.Idx → Elt F .f32 :=
  View.readAt (Elt F) stM.view (Rect.unit (s := S32x128x256) ![b + h, 0, 0] ![1, 128, 256] (row_inb b h hh)).toLoadRect (stM_whole.unread x7)
/-- The states' buffer set to zero. -/
def zeroed : List (View.Piece (Elt F) S32x128x256 .f32) := [⟨Rect.unit ![0, 0, 0] S32x128x256.size inb_S32x128x256_S32x128x256_0_0_0, k0_pay4⟩]
/-- One head's state, just set to zero. -/
def zeroLd (b h : ℕ) (hh : b + h < 32) : (Rect.unit (s := S32x128x256) ![b + h, 0, 0] ![1, 128, 256] (row_inb b h hh)).shape.Idx → Elt F .f32 :=
  stM.view.readCov (zeroed (F := F)) (Rect.unit (s := S32x128x256) ![b + h, 0, 0] ![1, 128, 256] (row_inb b h hh)).toLoadRect

/-! ## One head's step -/

section Step
variable (c : Dev nD) (W0 : BufOf (F := F) c opM) (t : Fin grid0.N) (d : Fin 2) (h : ℕ) (hh : h < 16) (s : FVec F S128x256 .f32)
def akOf : FVec F S192x128 .bf16 := k0_pay7 (ringLd c W0 t d h 192 0 64 128 hh (by decide) (by decide)) (ringLd c W0 t d h 192 128 128 128 hh (by decide) (by decide))
def wqOf : FVec F S128x256 .bf16 := k0_pay8 (ringLd c W0 t d h 0 0 128 256 hh (by decide) (by decide))
def uOf : FVec F S64x256 .bf16 := k0_pay9 (ringLd c W0 t d h 128 0 64 256 hh (by decide) (by decide))
def wsOf : FVec F S128x256 .f32 := k0_pay176 k0_pay5 (wqOf c W0 t d h hh) s
def akvOf : FVec F S192x256 .f32 := k0_pay213 k0_pay6 (akOf c W0 t d h hh) (uOf c W0 t d h hh) (wsOf c W0 t d h hh s)
/-- What the head stores of its output and of its state, from state `s`. -/
def outPay : FVec F S1x64x256 .bf16 := k0_pay256 (wsOf c W0 t d h hh s) (akvOf c W0 t d h hh s)
def statePay (dw : FVec F S1x256 .f32) : FVec F S1x128x256 .f32 := k0_pay257 dw s (akvOf c W0 t d h hh s)
end Step

/-! ## The stores -/

theorem out_inb (h : ℕ) (hh : h < 16) : ∀ a : Fin 3, (![0, 0, 256 * h] : Fin 3 → ℕ) a + (![1, 64, 256] : Fin 3 → ℕ) a ≤ S1x64x4096.size a := by
  intro a; fin_cases a <;> simp [S1x64x4096] <;> omega
/-- The first `n` heads' stores into an output, the last one first. -/
def outPieces (pay : (h : ℕ) → h < 16 → FVec F S1x64x256 .bf16) : (n : ℕ) → n ≤ 16 → List (View.Piece (Elt F) S1x64x4096 .bf16)
  | 0, _ => []
  | n + 1, hn => ⟨Rect.unit (s := S1x64x4096) ![0, 0, 256 * n] ![1, 64, 256] (out_inb n hn), pay n hn⟩ :: outPieces pay n (Nat.le_of_succ_le hn)
/-- The first `n` heads' stores into the states from row `b` on, the last one first. -/
def rowPieces (b : ℕ) (hb : b ≤ 16) (pay : (h : ℕ) → h < 16 → FVec F S1x128x256 .f32) : (n : ℕ) → n ≤ 16 → List (View.Piece (Elt F) S32x128x256 .f32)
  | 0, _ => []
  | n + 1, hn => ⟨Rect.unit (s := S32x128x256) ![b + n, 0, 0] ![1, 128, 256] (row_inb b n (by omega)), pay n hn⟩ :: rowPieces b hb pay n (Nat.le_of_succ_le hn)

section Lists
variable (m : (ℓ : Loc nD τ sig) → Buf (Elt F) ℓ) (c : Dev nD) (t : Fin cfg0.N)
/-- The step's stores at a point, from loads `ld` of the states. -/
abbrev outAt (d : Fin 2) (ld : (h : ℕ) → (hh : h < 16) → Vec F S1x128x256 .f32) : List (View.Piece (Elt F) S1x64x4096 .bf16) :=
  outPieces (fun h hh => outPay c (V m c main_arg0) t d h hh (k0_pay11 (ld h hh))) 16 le_rfl
abbrev stateOutF (ld : (h : ℕ) → (hh : h < 16) → Vec F S1x128x256 .f32) : List (View.Piece (Elt F) S32x128x256 .f32) :=
  rowPieces 0 (by decide) (fun h hh => statePay c (V m c main_arg0) t 0 h hh (k0_pay11 (ld h hh)) (k0_pay10 (dwLd t 0 (dwF t) (dwF_whole t) (iblk m c 0 t) h hh))) 16 le_rfl
abbrev stateOutB (ld : (h : ℕ) → (hh : h < 16) → Vec F S1x128x256 .f32) : List (View.Piece (Elt F) S32x128x256 .f32) :=
  rowPieces 16 (by decide) (fun h hh => statePay c (V m c main_arg0) t 1 h hh (k0_pay11 (ld h hh)) (k0_pay10 (dwLd t 1 (dwB t) (dwB_whole t) (iblk m c 1 t) h hh))) 16 le_rfl

theorem atA_outF (h0 : isFirst (grid0.coords t)) (h1 : isStart (grid0.coords t)) (h2 : isReset (grid0.coords t)) : (atA m c t h0 h1 h2).1 = outAt m c t 0 (fun h hh => zeroLd 0 h (by omega)) := by sl_kernel_rfl
theorem atA_outB (h0 : isFirst (grid0.coords t)) (h1 : isStart (grid0.coords t)) (h2 : isReset (grid0.coords t)) : (atA m c t h0 h1 h2).2.1 = outAt m c t 1 (fun h hh => zeroLd 16 h (by omega)) := by sl_kernel_rfl
theorem atA_state (h0 : isFirst (grid0.coords t)) (h1 : isStart (grid0.coords t)) (h2 : isReset (grid0.coords t)) : (atA m c t h0 h1 h2).2.2.1 = stateOutB m c t (fun h hh => zeroLd 16 h (by omega)) ++ (stateOutF m c t (fun h hh => zeroLd 0 h (by omega)) ++ zeroed) := by sl_kernel_rfl
theorem atB_outF (h0 : ¬isFirst (grid0.coords t)) (h1 : isStart (grid0.coords t)) (h2 : ¬isReset (grid0.coords t)) (x7 : Vec F S32x128x256 .f32) : (atB m c t h0 h1 h2 x7).1 = outAt m c t 0 (fun h hh => rowLd x7 0 h (by omega)) := by sl_kernel_rfl
theorem atB_outB (h0 : ¬isFirst (grid0.coords t)) (h1 : isStart (grid0.coords t)) (h2 : ¬isReset (grid0.coords t)) (x7 : Vec F S32x128x256 .f32) : (atB m c t h0 h1 h2 x7).2.1 = outAt m c t 1 (fun h hh => rowLd x7 16 h (by omega)) := by sl_kernel_rfl
theorem atB_state (h0 : ¬isFirst (grid0.coords t)) (h1 : isStart (grid0.coords t)) (h2 : ¬isReset (grid0.coords t)) (x7 : Vec F S32x128x256 .f32) : (atB m c t h0 h1 h2 x7).2.2.1 = stateOutB m c t (fun h hh => rowLd x7 16 h (by omega)) ++ (stateOutF m c t (fun h hh => rowLd x7 0 h (by omega))) := by sl_kernel_rfl
theorem atC_outF (h0 : ¬isFirst (grid0.coords t)) (h1 : isStart (grid0.coords t)) (h2 : isReset (grid0.coords t)) : (atC m c t h0 h1 h2).1 = outAt m c t 0 (fun h hh => zeroLd 0 h (by omega)) := by sl_kernel_rfl
theorem atC_outB (h0 : ¬isFirst (grid0.coords t)) (h1 : isStart (grid0.coords t)) (h2 : isReset (grid0.coords t)) : (atC m c t h0 h1 h2).2.1 = outAt m c t 1 (fun h hh => zeroLd 16 h (by omega)) := by sl_kernel_rfl
theorem atC_state (h0 : ¬isFirst (grid0.coords t)) (h1 : isStart (grid0.coords t)) (h2 : isReset (grid0.coords t)) : (atC m c t h0 h1 h2).2.2.1 = stateOutB m c t (fun h hh => zeroLd 16 h (by omega)) ++ (stateOutF m c t (fun h hh => zeroLd 0 h (by omega)) ++ zeroed) := by sl_kernel_rfl
theorem atD_outF (h0 : ¬isFirst (grid0.coords t)) (h1 : ¬isStart (grid0.coords t)) (h2 : ¬isReset (grid0.coords t)) (x7 : Vec F S32x128x256 .f32) : (atD m c t h0 h1 h2 x7).1 = outAt m c t 0 (fun h hh => rowLd x7 0 h (by omega)) := by sl_kernel_rfl
theorem atD_outB (h0 : ¬isFirst (grid0.coords t)) (h1 : ¬isStart (grid0.coords t)) (h2 : ¬isReset (grid0.coords t)) (x7 : Vec F S32x128x256 .f32) : (atD m c t h0 h1 h2 x7).2.1 = outAt m c t 1 (fun h hh => rowLd x7 16 h (by omega)) := by sl_kernel_rfl
theorem atD_state (h0 : ¬isFirst (grid0.coords t)) (h1 : ¬isStart (grid0.coords t)) (h2 : ¬isReset (grid0.coords t)) (x7 : Vec F S32x128x256 .f32) : (atD m c t h0 h1 h2 x7).2.2.1 = stateOutB m c t (fun h hh => rowLd x7 16 h (by omega)) ++ (stateOutF m c t (fun h hh => rowLd x7 0 h (by omega))) := by sl_kernel_rfl
end Lists

end Cert.State

end
-- ==== Proof.StateHead.lean ====
/- One head pair's step in the kernel, read at an index: the block-diagonal products are the two heads' own. -/
module

public import proofs.«01_k».proof.Proof.StateSpec
public import proofs.«01_k».proof.Proof.Gen.KernelIdeal.Skeleton
public import Idealize.ShloMosaic.Lib.Pointwise

@[expose] public section

set_option maxRecDepth 16384

noncomputable section

namespace Cert.State

open Idealize.ShloMosaic Idealize.ShloMosaic.TcCoe
open Cert.KernelIdeal Cert.KernelIdeal.Gen

theorem pay176_apply (wq : FVec Ideal S128x256 .bf16) (s : FVec Ideal S128x256 .f32) (r : Fin 128) (q : Fin 256) :
    k0_pay176 k0_pay5 wq s (ix2 r q) = ∑ i, wq (ix2 r (wide q i)) * s (ix2 i q) := by
  pointwise [k0_pay176, k0_pay5]
  rcases lt_or_ge q.val 128 with h | h
  · simp only [dif_pos h, mul_zero, Finset.sum_const_zero, add_zero]
    refine Finset.sum_congr rfl fun i _ => ?_
    congr 3; apply Fin.ext; simp only [wide, headOf]; omega
  · simp only [dif_neg (not_lt.mpr h), mul_zero, Finset.sum_const_zero, zero_add]
    refine Finset.sum_congr rfl fun i _ => ?_
    congr 3 <;> apply Fin.ext <;> simp only [wide, headOf] <;> omega

theorem pay213_apply (ak : FVec Ideal S192x128 .bf16) (u : FVec Ideal S64x256 .bf16) (ws : FVec Ideal S128x256 .f32) (r : Fin 192) (q : Fin 256) :
    k0_pay213 k0_pay6 ak u ws (ix2 r q) = ∑ s : Fin 64, ak (ix2 r ⟨64 * (headOf q).val + s.val, by omega⟩) * (u (ix2 s q) - ws (ix2 ⟨s.val, by omega⟩ q)) := by
  pointwise [k0_pay213, k0_pay6]
  rcases lt_or_ge q.val 128 with h | h
  · simp only [dif_pos h, mul_zero, Finset.sum_const_zero, add_zero]
    refine Finset.sum_congr rfl fun i _ => ?_
    congr 3; apply Fin.ext; simp only [headOf]; omega
  · simp only [dif_neg (not_lt.mpr h), mul_zero, Finset.sum_const_zero, zero_add]
    have e : (⟨128 + (q.val - 128), by omega⟩ : Fin 256) = q := Fin.ext (by simp only; omega)
    refine Finset.sum_congr rfl fun i _ => ?_
    simp only [e]
    congr 3; apply Fin.ext; simp only [headOf]; omega

theorem pay256_apply (ws : FVec Ideal S128x256 .f32) (akv : FVec Ideal S192x256 .f32) (r : Fin 64) (q : Fin 256) :
    k0_pay256 ws akv (ix3 0 r q) = ws (ix2 ⟨64 + r.val, by omega⟩ q) + akv (ix2 ⟨r.val, by omega⟩ q) := by
  pointwise [k0_pay256]

theorem pay257_apply (dw : FVec Ideal S1x256 .f32) (s : FVec Ideal S128x256 .f32) (akv : FVec Ideal S192x256 .f32) (i : Fin 128) (q : Fin 256) :
    k0_pay257 dw s akv (ix3 0 i q) = s (ix2 i q) * dw (ix2 0 q) + akv (ix2 ⟨64 + i.val, by omega⟩ q) := by
  pointwise [k0_pay257]

theorem pay8_apply (x : Vec Ideal S1x1x1x128x256 .bf16) (r : Fin 128) (q : Fin 256) : k0_pay8 x (ix2 r q) = x (ix5 0 0 0 r q) := by
  pointwise [k0_pay8]
theorem pay9_apply (x : Vec Ideal S1x1x1x64x256 .bf16) (r : Fin 64) (q : Fin 256) : k0_pay9 x (ix2 r q) = x (ix5 0 0 0 r q) := by
  pointwise [k0_pay9]
theorem pay10_apply (x : Vec Ideal S1x1x1x1x256 .f32) (q : Fin 256) : k0_pay10 x (ix2 0 q) = x (ix5 0 0 0 0 q) := by
  pointwise [k0_pay10]
theorem pay11_apply (x : Vec Ideal S1x128x256 .f32) (r : Fin 128) (q : Fin 256) : k0_pay11 x (ix2 r q) = x (ix3 0 r q) := by
  pointwise [k0_pay11]
theorem pay7_low (x : Vec Ideal S1x1x1x64x128 .bf16) (y : Vec Ideal S1x1x1x128x128 .bf16) (r : Fin 64) (q : Fin 128) : k0_pay7 x y (ix2 ⟨r.val, by omega⟩ q) = x (ix5 0 0 0 r q) := by
  pointwise [k0_pay7]
theorem pay7_high (x : Vec Ideal S1x1x1x64x128 .bf16) (y : Vec Ideal S1x1x1x128x128 .bf16) (r : Fin 128) (q : Fin 128) : k0_pay7 x y (ix2 ⟨64 + r.val, by omega⟩ q) = y (ix5 0 0 0 r q) := by
  pointwise [k0_pay7]

end Cert.State

end
-- ==== Proof.StateLoads.lean ====
/- What the scan kernel's body loads, read at an index: each load is a part of the operand's chunk of the point, of its
   decays, or of the states. -/
module

public import proofs.«01_k».proof.Proof.StatePieces
public import Idealize.ShloMosaic.Lib.Pointwise
public import Idealize.ShloMosaic.Lib.Claim
public import Idealize.ShloMosaic.Lib.Pipeline.ValueKit.Point
public import Idealize.ShloMosaic.Lib.ValueLayout
public import Idealize.ShloMosaic.Lib.ValueIdxRank6
public import Idealize.ShloMosaic.Lib.WholeRead
public import Idealize.ShloMosaic.Lib.VecWindow
public import proofs.«01_k».proof.Proof.StateHead

@[expose] public section

set_option maxRecDepth 16384

noncomputable section

namespace Cert.State

open Idealize.ShloMosaic Idealize.ShloMosaic.TcCoe
open Cert.KernelIdeal Cert.KernelIdeal.Gen

variable (m : (ℓ : Loc nD τ sig) → Buf (Elt Ideal) ℓ) (c : Dev nD)

theorem N_eq (t : Fin grid0.N) : t.val < 256 := t.isLt

theorem chunkOf_eq (d : Fin 2) (n : ℕ) (p : chunkOf d n < 64) : (⟨chunkOf d n, p⟩ : Fin 64) = chunkAt d n := by
  apply Fin.ext; unfold chunkOf chunkAt; dsimp only; split <;> rfl

theorem win_emb (d : Fin 2) (s : Fin 3) (h : Fin 16) (r : Fin 320) (k : Fin 256) :
    (win d s).view.emb (ix3 h r k) = ix5 s d h r k := by
  show (Rect.unit (s := S3x2x16x320x256) (winOff d s) S1x1x16x320x256.size (win_inb d s)).emb (Shape.reshapeEquiv squeezes_S1x1x16x320x256_S16x320x256.numel_eq (ix3 h r k)) = _
  rw [show Shape.reshapeEquiv squeezes_S1x1x16x320x256_S16x320x256.numel_eq (ix3 h r k) = ix5 0 0 h r k from ValueIdx.reshapeEquiv_ix3_11abc _ h r k]
  funext a; apply Fin.ext
  rw [ValueKit.rect_emb_unit_val]
  fin_cases a <;> simp [winOff]

theorem src_emb (d : Fin 2) (b : Fin 256) (h : Fin 16) (r : Fin 320) (k : Fin 256) :
    (src d b).view.emb (ix3 h r k) = ix6 d ⟨b.val / 64, by omega⟩ h ⟨chunkOf d b.val, chunkOf_lt d b.val⟩ r k := by
  show (Rect.unit (s := S2x4x16x64x320x256) (srcOff d b) S1x1x16x1x320x256.size (src_inb d b)).emb (Shape.reshapeEquiv squeezes_S1x1x16x1x320x256_S16x320x256.numel_eq (ix3 h r k)) = _
  rw [show Shape.reshapeEquiv squeezes_S1x1x16x1x320x256_S16x320x256.numel_eq (ix3 h r k) = ix6 0 0 h 0 r k from ValueIdx.reshapeEquiv_ix3_11a1bc _ h r k]
  funext a; apply Fin.ext
  rw [ValueKit.rect_emb_unit_val]
  fin_cases a <;> simp [srcOff]

/-- A view filled whole reads what it was filled with. -/
theorem read_filled {sp : Space} {S : Shape} {e : EltTy} (v : View sig .tc sp S e) (f : v.ty.Contents (Elt Ideal)) (w : S.Idx → Elt Ideal e) (y : S.Idx) :
    v.read (Elt Ideal) (v.writes (Elt Ideal) f [⟨Rect.whole S, w⟩]) y = w y := by
  have h := View.read_writes_cons_emb v f (Rect.whole S) w [] y
  have e : (Rect.whole S).emb y = y := by
    funext a; apply Fin.ext; rw [Rect.emb_apply]; show 0 + 1 * (y a).val = _; omega
  rwa [e] at h

theorem landed_at (W0 : BufOf (F := Ideal) c opM) (d : Fin 2) (s : Fin 3) (b : Fin 256) (f : BufOf (F := Ideal) c ringM) (h : Fin 16) (r : Fin 320) (k : Fin 256) :
    landed c W0 d s b f (ix5 s d h r k) = W0 (ix6 d ⟨b.val / 64, by omega⟩ h ⟨chunkOf d b.val, chunkOf_lt d b.val⟩ r k) := by
  have h1 : (win d s).view.read (Elt Ideal) (landed c W0 d s b f) (ix3 h r k) = ReadAs.same.apply ((src d b).view.read (Elt Ideal) W0) (ix3 h r k) := read_filled _ _ _ _
  have h2 : ReadAs.same.apply ((src d b).view.read (Elt Ideal) W0) (ix3 h r k) = (src d b).view.read (Elt Ideal) W0 (ix3 h r k) := rfl
  have h3 : (src d b).view.read (Elt Ideal) W0 (ix3 h r k) = W0 (ix6 d ⟨b.val / 64, by omega⟩ h ⟨chunkOf d b.val, chunkOf_lt d b.val⟩ r k) :=
    congrArg W0 (src_emb d b h r k)
  have h4 : (win d s).view.read (Elt Ideal) (landed c W0 d s b f) (ix3 h r k) = landed c W0 d s b f (ix5 s d h r k) := by
    generalize landed c W0 d s b f = g
    exact congrArg g (win_emb d s h r k)
  exact h4.symm.trans (h1.trans (h2.trans h3))

/-- A load from a whole buffer. -/
theorem readAt_whole (b : Ref sig .tc) (B : LoadRect b.ty.shape) (f : b.ty.Contents (Elt Ideal)) (x : B.shape.Idx) :
    View.readAt (Elt Ideal) (Memref.whole b).view B f x = f (B.idx x) := rfl

theorem ringLd_apply (W0 : BufOf (F := Ideal) c opM) (t : Fin grid0.N) (d : Fin 2) (h r k R K : ℕ) (hh : h < 16) (hr : r + R ≤ 320) (hk : k + K ≤ 256)
    (a : Fin R) (b : Fin K) : ringLd c W0 t d h r k R K hh hr hk (ix5 0 0 0 a b)
      = W0 (ix6 d ⟨t.val / 64, by have := N_eq t; omega⟩ ⟨h, hh⟩ ⟨chunkOf d t.val, chunkOf_lt d t.val⟩ ⟨r + a.val, by omega⟩ ⟨k + b.val, by omega⟩) := by
  have hb : Ring.bk 256 t.val = ⟨t.val, N_eq t⟩ := Fin.ext (Nat.mod_eq_of_lt (N_eq t))
  have e : (Rect.unit (s := S3x2x16x320x256) ![(slotWord (grid0.coords t)).toNat, d.val, h, r, k] ![1, 1, 1, R, K] (ring_inb t d h r k R K hh hr hk)).toLoadRect.idx (ix5 0 0 0 a b)
      = ix5 (Ring.sl 3 t.val) d ⟨h, hh⟩ ⟨r + a.val, by omega⟩ ⟨k + b.val, by omega⟩ := by
    have := slotWord_eq t
    funext e; apply Fin.ext
    fin_cases e <;> simp [Rect.unit, this]
  have h1 := landed_at c W0 d (Ring.sl 3 t.val) (Ring.bk 256 t.val) (win d (Ring.sl 3 t.val)).view.junk ⟨h, hh⟩ ⟨r + a.val, by omega⟩ ⟨k + b.val, by omega⟩
  rw [hb] at h1
  unfold ringLd
  rw [hb]
  exact (readAt_whole cc0_scratch1 _ _ _).trans ((congrArg _ e).trans h1)

theorem dwLd_apply (t : Fin grid0.N) (d : Fin 2) (M : Memref sig .tc .vmem S1x1x16x64x256 .f32) (hM : M.IsWhole) (x : Vec Ideal S1x1x16x64x256 .f32)
    (h : ℕ) (hh : h < 16) (q : Fin 256) : dwLd t d M hM x h hh (ix5 0 0 0 0 q) = x (ix5 0 0 ⟨h, hh⟩ ⟨chunkOf d t.val, chunkOf_lt d t.val⟩ q) := by
  refine (hM.readAt_unread x _ _).trans (congrArg x ?_)
  funext e; apply Fin.ext
  have := chunkWord_eq d t
  fin_cases e <;> simp [Rect.unit, this]

theorem rowLd_apply (x7 : Vec Ideal S32x128x256 .f32) (b h : ℕ) (hh : b + h < 32) (i : Fin 128) (q : Fin 256) :
    rowLd x7 b h hh (ix3 0 i q) = x7 (ix3 ⟨b + h, hh⟩ i q) := by
  refine (stM_whole.readAt_unread x7 _ _).trans (congrArg x7 ?_)
  funext e; apply Fin.ext
  fin_cases e <;> simp [Rect.unit]

theorem pay4_apply (y : S32x128x256.Idx) : k0_pay4 (F := Ideal) y = 0 := by
  rw [eq_ix3 y]; pointwise [k0_pay4]

theorem zeroed_at (f) (y : S32x128x256.Idx) : stM.view.read (Elt Ideal) (stM.view.writes (Elt Ideal) f zeroed) y = 0 := by
  exact (congrFun (View.read_writes_full (Val := Elt Ideal) stM.view f inb_S32x128x256_S32x128x256_0_0_0 (k0_pay4 (F := Ideal)) []) y).trans (pay4_apply y)

theorem zeroLd_apply (b h : ℕ) (hh : b + h < 32) (i : Fin 128) (q : Fin 256) : zeroLd (F := Ideal) b h hh (ix3 0 i q) = 0 :=
  zeroed_at _ _

/-- Where each window stands at point `t`. -/
theorem idx : ∀ t : Fin grid0.N, win0_0.index t = ![0, t.val / 64, 0, 0, 0] ∧ win0_1.index t = ![1, t.val / 64, 0, 0, 0]
    ∧ win0_2.index t = ![t.val / 64, t.val % 64, 0] ∧ win0_3.index t = ![t.val / 64, 63 - t.val % 64, 0] := by
  decide +kernel

theorem dwF_at (t : Fin cfg0.N) (h : Fin 16) (n : Fin 64) (q : Fin 256) :
    iblk m c 0 t (ix5 0 0 h n q) = m ((c : Thread nD τ).loc main_arg1) (ix5 0 ⟨t.val / 64, by have := N_eq t; omega⟩ h n q) := by
  blk_ext! [iblk, V, idx t]

theorem dwB_at (t : Fin cfg0.N) (h : Fin 16) (n : Fin 64) (q : Fin 256) :
    iblk m c 1 t (ix5 0 0 h n q) = m ((c : Thread nD τ).loc main_arg1) (ix5 1 ⟨t.val / 64, by have := N_eq t; omega⟩ h n q) := by
  blk_ext! [iblk, V, idx t]

/-- The batch a point works at. -/
def batch (t : Fin grid0.N) : Fin 4 := ⟨t.val / 64, by have := N_eq t; omega⟩

/-! ## One head pair's step -/

section Step
variable (W0 : BufOf (F := Ideal) c opM) (t : Fin grid0.N) (d : Fin 2) (h : ℕ) (hh : h < 16) (s : FVec Ideal S128x256 .f32) (S : Pair)
  (hS : ∀ i q, s (ix2 i q) = S i q)

theorem wqOf_apply (r : Fin 128) (q : Fin 256) : wqOf c W0 t d h hh (ix2 r q) = chunkX W0 d (batch t) ⟨h, hh⟩ t.val ⟨r.val, by omega⟩ q := by
  unfold wqOf
  rw [pay8_apply, ringLd_apply, chunkOf_eq]
  simp only [Nat.zero_add]; rfl
theorem uOf_apply (r : Fin 64) (q : Fin 256) : uOf c W0 t d h hh (ix2 r q) = chunkX W0 d (batch t) ⟨h, hh⟩ t.val ⟨128 + r.val, by omega⟩ q := by
  unfold uOf
  rw [pay9_apply, ringLd_apply, chunkOf_eq]
  simp only [Nat.zero_add]; rfl
theorem akOf_low (r : Fin 64) (q : Fin 128) : akOf c W0 t d h hh (ix2 ⟨r.val, by omega⟩ q) = chunkX W0 d (batch t) ⟨h, hh⟩ t.val ⟨192 + r.val, by omega⟩ ⟨q.val, by omega⟩ := by
  unfold akOf
  rw [pay7_low, ringLd_apply, chunkOf_eq]
  simp only [Nat.zero_add]; rfl
theorem akOf_high (r : Fin 128) (q : Fin 128) : akOf c W0 t d h hh (ix2 ⟨64 + r.val, by omega⟩ q) = chunkX W0 d (batch t) ⟨h, hh⟩ t.val ⟨192 + r.val, by omega⟩ ⟨128 + q.val, by omega⟩ := by
  unfold akOf
  rw [pay7_high, ringLd_apply, chunkOf_eq]
  rfl

include hS in
theorem wsOf_apply (r : Fin 128) (q : Fin 256) : wsOf c W0 t d h hh s (ix2 r q) = ∑ i, chunkX W0 d (batch t) ⟨h, hh⟩ t.val ⟨r.val, by omega⟩ (wide q i) * S i q := by
  unfold wsOf
  rw [pay176_apply]
  simp only [wqOf_apply, hS]

include hS in
theorem vnew_at (r : Fin 64) (q : Fin 256) : uOf c W0 t d h hh (ix2 r q) - wsOf c W0 t d h hh s (ix2 ⟨r.val, by omega⟩ q) = vnew (chunkX W0 d (batch t) ⟨h, hh⟩ t.val) S r q := by
  rw [uOf_apply, wsOf_apply c W0 t d h hh s S hS]; rfl

include hS in
theorem akv_low (r : Fin 64) (q : Fin 256) : akvOf c W0 t d h hh s (ix2 ⟨r.val, by omega⟩ q)
    = ∑ x, chunkX W0 d (batch t) ⟨h, hh⟩ t.val ⟨192 + r.val, by omega⟩ (attCol q x) * vnew (chunkX W0 d (batch t) ⟨h, hh⟩ t.val) S x q := by
  unfold akvOf
  rw [pay213_apply]
  refine Finset.sum_congr rfl fun x _ => ?_
  rw [vnew_at c W0 t d h hh s S hS, akOf_low c W0 t d h hh r]; rfl

include hS in
theorem akv_high (i : Fin 128) (q : Fin 256) : akvOf c W0 t d h hh s (ix2 ⟨64 + i.val, by omega⟩ q)
    = ∑ x, chunkX W0 d (batch t) ⟨h, hh⟩ t.val ⟨192 + i.val, by omega⟩ (keyCol q x) * vnew (chunkX W0 d (batch t) ⟨h, hh⟩ t.val) S x q := by
  unfold akvOf
  rw [pay213_apply]
  refine Finset.sum_congr rfl fun x _ => ?_
  rw [vnew_at c W0 t d h hh s S hS, akOf_high c W0 t d h hh i]
  congr 2; apply Fin.ext; simp only [keyCol]; omega

include hS in
theorem outPay_apply (r : Fin 64) (q : Fin 256) : outPay c W0 t d h hh s (ix3 0 r q) = outRow (chunkX W0 d (batch t) ⟨h, hh⟩ t.val) S r q := by
  unfold outPay
  rw [pay256_apply, wsOf_apply c W0 t d h hh s S hS, akv_low c W0 t d h hh s S hS]; rfl

include hS in
theorem statePay_apply (dw : FVec Ideal S1x256 .f32) (D : Fin 256 → EReal) (hD : ∀ q, dw (ix2 0 q) = D q) (i : Fin 128) (q : Fin 256) :
    statePay c W0 t d h hh s dw (ix3 0 i q) = nextState (chunkX W0 d (batch t) ⟨h, hh⟩ t.val) D S i q := by
  unfold statePay
  rw [pay257_apply, akv_high c W0 t d h hh s S hS, hS, hD]; rfl
end Step

end Cert.State

end
-- ==== Proof.StateValue.lean ====
/- The scan kernel's values: the states its points leave are the recurrence's, and the two result arrays are what the
   recurrence gives chunk by chunk. -/
module

public import proofs.«01_k».proof.Proof.StateLoads
public import proofs.«01_k».proof.Proof.StateFrame

@[expose] public section

set_option maxRecDepth 16384

noncomputable section

namespace Cert.State

open Idealize.ShloMosaic Idealize.ShloMosaic.TcCoe Idealize.SL.Sem
open Cert.KernelIdeal Cert.KernelIdeal.Gen

variable (m : (ℓ : Loc nD τ sig) → Buf (Elt Ideal) ℓ) (c : Dev nD)

/-! ## A list of stores, read -/

theorem mem_rect {s : Shape} (r : Rect s) (x : r.shape.Idx) : r.emb x ∈ r.set := by
  rw [← Rect.map_emb_univ]; exact Finset.mem_map_of_mem _ (Finset.mem_univ x)

theorem outPieces_all (pay : (h : ℕ) → h < 16 → FVec Ideal S1x64x256 .bf16) (G : S1x64x4096.Idx → EReal)
    (hG : ∀ h hh x, pay h hh x = G ((Rect.unit (s := S1x64x4096) ![0, 0, 256 * h] ![1, 64, 256] (out_inb h hh)).emb x)) :
    ∀ n hn, ∀ p ∈ outPieces pay n hn, ∀ x : p.1.shape.Idx, p.2 x = G (p.1.emb x)
  | 0, _, p, hp => absurd hp List.not_mem_nil
  | n + 1, hn, p, hp => by
    rcases List.mem_cons.mp hp with rfl | hp
    · exact hG n hn
    · exact outPieces_all pay G hG n _ p hp
theorem outPieces_mem (pay : (h : ℕ) → h < 16 → FVec Ideal S1x64x256 .bf16) (h : ℕ) :
    ∀ n hn, (hh : h < n) → (⟨Rect.unit (s := S1x64x4096) ![0, 0, 256 * h] ![1, 64, 256] (out_inb h (by omega)), pay h (by omega)⟩ : View.Piece (Elt Ideal) S1x64x4096 .bf16) ∈ outPieces pay n hn
  | 0, _, hh => absurd hh (Nat.not_lt_zero h)
  | n + 1, hn, hh => by
    rcases Nat.lt_succ_iff_lt_or_eq.mp hh with h' | rfl
    · exact List.mem_cons_of_mem _ (outPieces_mem pay h n _ h')
    · exact List.mem_cons_self

theorem rowPieces_all (b : ℕ) (hb : b ≤ 16) (pay : (h : ℕ) → h < 16 → FVec Ideal S1x128x256 .f32) (G : S32x128x256.Idx → EReal)
    (hG : ∀ h hh x, pay h hh x = G ((Rect.unit (s := S32x128x256) ![b + h, 0, 0] ![1, 128, 256] (row_inb b h (by omega))).emb x)) :
    ∀ n hn, ∀ p ∈ rowPieces b hb pay n hn, ∀ x : p.1.shape.Idx, p.2 x = G (p.1.emb x)
  | 0, _, p, hp => absurd hp List.not_mem_nil
  | n + 1, hn, p, hp => by
    rcases List.mem_cons.mp hp with rfl | hp
    · exact hG n hn
    · exact rowPieces_all b hb pay G hG n _ p hp
theorem rowPieces_mem (b : ℕ) (hb : b ≤ 16) (pay : (h : ℕ) → h < 16 → FVec Ideal S1x128x256 .f32) (h : ℕ) :
    ∀ n hn, (hh : h < n) → (⟨Rect.unit (s := S32x128x256) ![b + h, 0, 0] ![1, 128, 256] (row_inb b h (by omega)), pay h (by omega)⟩ : View.Piece (Elt Ideal) S32x128x256 .f32) ∈ rowPieces b hb pay n hn
  | 0, _, hh => absurd hh (Nat.not_lt_zero h)
  | n + 1, hn, hh => by
    rcases Nat.lt_succ_iff_lt_or_eq.mp hh with h' | rfl
    · exact List.mem_cons_of_mem _ (rowPieces_mem b hb pay h n _ h')
    · exact List.mem_cons_self

theorem out_emb (h : ℕ) (hh : h < 16) (r : Fin 64) (q : Fin 256) :
    (Rect.unit (s := S1x64x4096) ![0, 0, 256 * h] ![1, 64, 256] (out_inb h hh)).emb (ix3 0 r q) = ix3 0 r ⟨256 * h + q.val, by omega⟩ := by
  funext a; apply Fin.ext
  rw [ValueKit.rect_emb_unit_val]
  fin_cases a <;> simp
theorem row_emb (b h : ℕ) (hh : b + h < 32) (i : Fin 128) (q : Fin 256) :
    (Rect.unit (s := S32x128x256) ![b + h, 0, 0] ![1, 128, 256] (row_inb b h hh)).emb (ix3 0 i q) = ix3 ⟨b + h, hh⟩ i q := by
  funext a; apply Fin.ext
  rw [ValueKit.rect_emb_unit_val]
  fin_cases a <;> simp

/-! ## The stores of a point -/

/-- One head pair's state as a point loads it: zero where the point starts a batch. -/
def ldOf (t : Fin cfg0.N) (x7 : Vec Ideal S32x128x256 .f32) (b : ℕ) (hb : b ≤ 16) (h : ℕ) (hh : h < 16) : Vec Ideal S1x128x256 .f32 :=
  if t.val % 64 = 0 then zeroLd b h (by omega) else rowLd x7 b h (by omega)

section Cases
variable (t : Fin cfg0.N) (x7 : Vec Ideal S32x128x256 .f32)
theorem stores_A (h0 : isFirst (grid0.coords t)) (h1 : isStart (grid0.coords t)) (h2 : isReset (grid0.coords t)) :
    stores m c t x7 = ((atA m c t h0 h1 h2).1, (atA m c t h0 h1 h2).2.1, (atA m c t h0 h1 h2).2.2.1) :=
  (dif_pos h0).trans ((dif_pos h1).trans (dif_pos h2))
theorem stores_B (h0 : ¬isFirst (grid0.coords t)) (h1 : isStart (grid0.coords t)) (h2 : ¬isReset (grid0.coords t)) :
    stores m c t x7 = ((atB m c t h0 h1 h2 x7).1, (atB m c t h0 h1 h2 x7).2.1, (atB m c t h0 h1 h2 x7).2.2.1) :=
  (dif_neg h0).trans ((dif_pos h1).trans (dif_neg h2))
theorem stores_C (h0 : ¬isFirst (grid0.coords t)) (h1 : isStart (grid0.coords t)) (h2 : isReset (grid0.coords t)) :
    stores m c t x7 = ((atC m c t h0 h1 h2).1, (atC m c t h0 h1 h2).2.1, (atC m c t h0 h1 h2).2.2.1) :=
  (dif_neg h0).trans ((dif_pos h1).trans (dif_pos h2))
theorem stores_D (h0 : ¬isFirst (grid0.coords t)) (h1 : ¬isStart (grid0.coords t)) (h2 : ¬isReset (grid0.coords t)) :
    stores m c t x7 = ((atD m c t h0 h1 h2 x7).1, (atD m c t h0 h1 h2 x7).2.1, (atD m c t h0 h1 h2 x7).2.2.1) :=
  (dif_neg h0).trans ((dif_neg h1).trans (dif_neg h2))

/-- What a point stores of an output and of the states, whichever kind of point it is. -/
def OutIs (L : List (View.Piece (Elt Ideal) S1x64x4096 .bf16)) (d : Fin 2) (b : ℕ) (hb : b ≤ 16) : Prop := L = outAt m c t d (ldOf t x7 b hb)
def StateIs (L : List (View.Piece (Elt Ideal) S32x128x256 .f32)) : Prop :=
  ∃ L', L = stateOutB m c t (ldOf t x7 16 le_rfl) ++ (stateOutF m c t (ldOf t x7 0 (by omega)) ++ L')

theorem ldOf_reset (h2 : t.val % 64 = 0) (b : ℕ) (hb : b ≤ 16) : ldOf t x7 b hb = fun h hh => zeroLd b h (by omega) := by
  funext h hh; exact if_pos h2
theorem ldOf_kept (h2 : ¬t.val % 64 = 0) (b : ℕ) (hb : b ≤ 16) : ldOf t x7 b hb = fun h hh => rowLd x7 b h (by omega) := by
  funext h hh; exact if_neg h2

theorem stores_eq : OutIs m c t x7 (stores m c t x7).1 0 0 (by omega) ∧ OutIs m c t x7 (stores m c t x7).2.1 1 16 le_rfl
      ∧ StateIs m c t x7 (stores m c t x7).2.2 := by
  unfold OutIs StateIs
  by_cases h2 : t.val % 64 = 0
  · rw [ldOf_reset t x7 h2, ldOf_reset t x7 h2]
    have h2' := (isReset_iff t).mpr h2
    have h1' : isStart (grid0.coords t) := (isStart_iff t).mpr (by have := N_eq t; omega)
    by_cases h0 : isFirst (grid0.coords t)
    · rw [stores_A m c t x7 h0 h1' h2']
      exact ⟨atA_outF m c t h0 h1' h2', atA_outB m c t h0 h1' h2', _, atA_state m c t h0 h1' h2'⟩
    · rw [stores_C m c t x7 h0 h1' h2']
      exact ⟨atC_outF m c t h0 h1' h2', atC_outB m c t h0 h1' h2', _, atC_state m c t h0 h1' h2'⟩
  · rw [ldOf_kept t x7 h2, ldOf_kept t x7 h2]
    have h2' : ¬isReset (grid0.coords t) := fun h => h2 ((isReset_iff t).mp h)
    have h0' : ¬isFirst (grid0.coords t) := fun h => h2 (by rw [(isFirst_iff t).mp h])
    by_cases h1 : isStart (grid0.coords t)
    · rw [stores_B m c t x7 h0' h1 h2']
      exact ⟨atB_outF m c t h0' h1 h2' x7, atB_outB m c t h0' h1 h2' x7, [], by rw [List.append_nil]; exact atB_state m c t h0' h1 h2' x7⟩
    · rw [stores_D m c t x7 h0' h1 h2']
      exact ⟨atD_outF m c t h0' h1 h2' x7, atD_outB m c t h0' h1 h2' x7, [], by rw [List.append_nil]; exact atD_state m c t h0' h1 h2' x7⟩
end Cases

/-- The states a point starts from. -/
def startOf (t : Fin cfg0.N) (x7 : Vec Ideal S32x128x256 .f32) (R : Fin 32) : Pair :=
  fun i q => if t.val % 64 = 0 then 0 else x7 (ix3 R i q)
theorem ldOf_apply (t : Fin cfg0.N) (x7 : Vec Ideal S32x128x256 .f32) (b : ℕ) (hb : b ≤ 16) (h : ℕ) (hh : h < 16) (i : Fin 128) (q : Fin 256) :
    k0_pay11 (ldOf t x7 b hb h hh) (ix2 i q) = startOf t x7 ⟨b + h, by omega⟩ i q := by
  rw [pay11_apply]
  unfold ldOf startOf
  split
  · exact zeroLd_apply b h _ i q
  · exact rowLd_apply x7 b h _ i q

/-- Row `16 d + h` of the states holds pair `h` of direction `d`. -/
def rowOf (d : Fin 2) (h : Fin 16) : Fin 32 := ⟨16 * d.val + h.val, by omega⟩

/-- A point's chunk and decays. -/
abbrev ptX (t : Fin cfg0.N) (d : Fin 2) (h : Fin 16) (n : ℕ) : Chunk := chunkX (V m c main_arg0) d (batch t) h n
abbrev ptD (t : Fin cfg0.N) (d : Fin 2) (h : Fin 16) (n : ℕ) : Fin 256 → EReal := decayD (V m c main_arg1) d (batch t) h n

/-- What a point stores of an output, read at an index. -/
theorem outAt_at (t : Fin cfg0.N) (x7 : Vec Ideal S32x128x256 .f32) (d : Fin 2) (M : Memref sig .tc .vmem S1x64x4096 .bf16) (b : ℕ) (hb : b ≤ 16)
    (e : b = 16 * d.val) (h : Fin 16) (r : Fin 64) (q : Fin 256) :
    fill M (outAt m c t d (ldOf t x7 b hb)) (ix3 0 r ⟨256 * h.val + q.val, by omega⟩)
      = outRow (ptX m c t d h t.val) (startOf t x7 (rowOf d h)) r q := by
  let G : S1x64x4096.Idx → EReal := fun y =>
    outRow (ptX m c t d ⟨(y 2).val / 256, by have : (y 2).val < 4096 := (y 2).isLt; omega⟩ t.val)
      (startOf t x7 (rowOf d ⟨(y 2).val / 256, by have : (y 2).val < 4096 := (y 2).isLt; omega⟩)) (y 1) ⟨(y 2).val % 256, by omega⟩
  have hG : ∀ h hh x, outPay c (V m c main_arg0) t d h hh (k0_pay11 (ldOf t x7 b hb h hh)) x
      = G ((Rect.unit (s := S1x64x4096) ![0, 0, 256 * h] ![1, 64, 256] (out_inb h hh)).emb x) := by
    intro h hh x
    obtain ⟨z, r, q, rfl⟩ : ∃ (z : Fin 1) (r : Fin 64) (q : Fin 256), x = ix3 z r q := ⟨x 0, x 1, x 2, eq_ix3 x⟩
    obtain rfl : z = 0 := Subsingleton.elim _ _
    rw [out_emb h hh, outPay_apply c (V m c main_arg0) t d h hh (k0_pay11 (ldOf t x7 b hb h hh)) _ (ldOf_apply t x7 b hb h hh)]
    have e1 : (⟨(256 * h + q.val) / 256, by omega⟩ : Fin 16) = ⟨h, hh⟩ := Fin.ext (by show (256 * h + q.val) / 256 = h; omega)
    have e2 : (⟨(256 * h + q.val) % 256, by omega⟩ : Fin 256) = q := Fin.ext (by show (256 * h + q.val) % 256 = q.val; omega)
    have e3 : (⟨b + h, by omega⟩ : Fin 32) = rowOf d ⟨h, hh⟩ := Fin.ext (by show b + h = 16 * d.val + h; omega)
    show _ = outRow (ptX m c t d ⟨(256 * h + q.val) / 256, _⟩ t.val) (startOf t x7 (rowOf d ⟨(256 * h + q.val) / 256, _⟩)) r ⟨(256 * h + q.val) % 256, _⟩
    rw [e1, e2, e3]
  refine (View.read_writes_apply_of_pieces M.view _ G _ (outPieces_all _ G hG 16 le_rfl) _ ⟨_, outPieces_mem _ h.val 16 le_rfl h.isLt, ?_⟩).trans ?_
  · rw [← out_emb h.val h.isLt]; exact mem_rect _ _
  · rw [← out_emb h.val h.isLt, ← hG h.val h.isLt, outPay_apply c (V m c main_arg0) t d h.val h.isLt (k0_pay11 (ldOf t x7 b hb h.val h.isLt)) _ (ldOf_apply t x7 b hb h.val h.isLt)]
    congr 2; exact Fin.ext (by show b + h.val = 16 * d.val + h.val; omega)

/-- The decays a point loads. -/
theorem dw0_at (t : Fin cfg0.N) (h : ℕ) (hh : h < 16) (q : Fin 256) :
    k0_pay10 (dwLd t 0 (dwF t) (dwF_whole t) (iblk m c 0 t) h hh) (ix2 0 q) = ptD m c t 0 ⟨h, hh⟩ t.val q := by
  rw [pay10_apply, dwLd_apply, dwF_at, chunkOf_eq]; rfl
theorem dw1_at (t : Fin cfg0.N) (h : ℕ) (hh : h < 16) (q : Fin 256) :
    k0_pay10 (dwLd t 1 (dwB t) (dwB_whole t) (iblk m c 1 t) h hh) (ix2 0 q) = ptD m c t 1 ⟨h, hh⟩ t.val q := by
  rw [pay10_apply, dwLd_apply, dwB_at, chunkOf_eq]; rfl

/-- The states after a point, read at an index. -/
def afterPt (t : Fin cfg0.N) (x7 : Vec Ideal S32x128x256 .f32) (d : Fin 2) (h : Fin 16) : Pair :=
  nextState (ptX m c t d h t.val) (ptD m c t d h t.val) (startOf t x7 (rowOf d h))
def afterRow (t : Fin cfg0.N) (x7 : Vec Ideal S32x128x256 .f32) (y : S32x128x256.Idx) : EReal :=
  afterPt m c t x7 ⟨(y 0).val / 16, by have : (y 0).val < 32 := (y 0).isLt; omega⟩ ⟨(y 0).val % 16, by omega⟩ (y 1) (y 2)
theorem afterRow_at (t : Fin cfg0.N) (x7 : Vec Ideal S32x128x256 .f32) (d : Fin 2) (h : Fin 16) (i : Fin 128) (q : Fin 256) :
    afterRow m c t x7 (ix3 (rowOf d h) i q) = afterPt m c t x7 d h i q := by
  have e1 : (⟨(16 * d.val + h.val) / 16, by omega⟩ : Fin 2) = d := Fin.ext (by show (16 * d.val + h.val) / 16 = d.val; omega)
  have e2 : (⟨(16 * d.val + h.val) % 16, by omega⟩ : Fin 16) = h := Fin.ext (by show (16 * d.val + h.val) % 16 = h.val; omega)
  show afterPt m c t x7 ⟨(16 * d.val + h.val) / 16, _⟩ ⟨(16 * d.val + h.val) % 16, _⟩ i q = _
  rw [e1, e2]

theorem statePay_at (t : Fin cfg0.N) (x7 : Vec Ideal S32x128x256 .f32) (d : Fin 2) (b : ℕ) (hb : b ≤ 16) (e : b = 16 * d.val)
    (dw : (h : ℕ) → h < 16 → FVec Ideal S1x256 .f32) (hD : ∀ h hh q, dw h hh (ix2 0 q) = ptD m c t d ⟨h, hh⟩ t.val q)
    (h : ℕ) (hh : h < 16) (x : S1x128x256.Idx) :
    statePay c (V m c main_arg0) t d h hh (k0_pay11 (ldOf t x7 b hb h hh)) (dw h hh) x
      = afterRow m c t x7 ((Rect.unit (s := S32x128x256) ![b + h, 0, 0] ![1, 128, 256] (row_inb b h (by omega))).emb x) := by
  obtain ⟨z, i, q, rfl⟩ : ∃ (z : Fin 1) (i : Fin 128) (q : Fin 256), x = ix3 z i q := ⟨x 0, x 1, x 2, eq_ix3 x⟩
  obtain rfl : z = 0 := Subsingleton.elim _ _
  have e3 : (⟨b + h, by omega⟩ : Fin 32) = rowOf d ⟨h, hh⟩ := Fin.ext (by show b + h = 16 * d.val + h; omega)
  rw [row_emb b h (by omega), statePay_apply c (V m c main_arg0) t d h hh (k0_pay11 (ldOf t x7 b hb h hh)) _ (ldOf_apply t x7 b hb h hh) (dw h hh) _ (hD h hh), e3,
    afterRow_at]
  rfl

theorem stepState_at (t : Fin cfg0.N) (x7 : Vec Ideal S32x128x256 .f32) (d : Fin 2) (h : Fin 16) (i : Fin 128) (q : Fin 256) :
    stepState m c t x7 (ix3 (rowOf d h) i q) = afterPt m c t x7 d h i q := by
  obtain ⟨-, -, L', hL⟩ := stores_eq m c t x7
  unfold stepState fill
  rw [hL, ← List.append_assoc, View.writes_append]
  refine (View.read_writes_apply_of_pieces stM.view _ (afterRow m c t x7) _ ?_ _ ?_).trans (afterRow_at m c t x7 d h i q)
  · intro p hp
    rcases List.mem_append.mp hp with hp | hp
    · exact rowPieces_all 16 _ _ _ (statePay_at m c t x7 1 16 le_rfl rfl (fun h hh => k0_pay10 (dwLd t 1 (dwB t) (dwB_whole t) (iblk m c 1 t) h hh)) (dw1_at m c t)) 16 le_rfl p hp
    · exact rowPieces_all 0 _ _ _ (statePay_at m c t x7 0 0 (by omega) rfl (fun h hh => k0_pay10 (dwLd t 0 (dwF t) (dwF_whole t) (iblk m c 0 t) h hh)) (dw0_at m c t)) 16 le_rfl p hp
  · have hm (b : ℕ) (e : b = 16 * d.val) (hh : b + h.val < 32) :
        (ix3 (rowOf d h) i q : S32x128x256.Idx) ∈ (Rect.unit (s := S32x128x256) ![b + h.val, 0, 0] ![1, 128, 256] (row_inb b h.val hh)).set := by
      have e3 : rowOf d h = ⟨b + h.val, hh⟩ := Fin.ext (by show 16 * d.val + h.val = b + h.val; omega)
      rw [e3, ← row_emb b h.val hh]; exact mem_rect _ _
    match d with
    | 0 => exact ⟨_, List.mem_append_right _ (rowPieces_mem 0 _ _ h.val 16 le_rfl h.isLt), hm 0 rfl (by omega)⟩
    | 1 => exact ⟨_, List.mem_append_left _ (rowPieces_mem 16 _ _ h.val 16 le_rfl h.isLt), hm 16 rfl (by omega)⟩

/-! ## The recurrence -/

/-- A direction's scan over a batch's chunks. -/
abbrev scanAt (b : Fin 4) (d : Fin 2) (h : Fin 16) : ℕ → Pair := scanState (chunkX (V m c main_arg0) d b h) (decayD (V m c main_arg1) d b h)

theorem chunkAt_mod (d : Fin 2) (n : ℕ) : chunkAt d (n % 64) = chunkAt d n := by
  unfold chunkAt; simp only [Nat.mod_mod]
theorem ptX_mod (t : Fin cfg0.N) (d : Fin 2) (h : Fin 16) (n : ℕ) : ptX m c t d h n = ptX m c t d h (n % 64) := by
  unfold ptX chunkX; rw [chunkAt_mod]
theorem ptD_mod (t : Fin cfg0.N) (d : Fin 2) (h : Fin 16) (n : ℕ) : ptD m c t d h n = ptD m c t d h (n % 64) := by
  unfold ptD decayD; rw [chunkAt_mod]

theorem afterPt_scan (t : Fin cfg0.N) (x7 : Vec Ideal S32x128x256 .f32) (d : Fin 2) (h : Fin 16)
    (hs : startOf t x7 (rowOf d h) = scanAt m c (batch t) d h (t.val % 64)) : afterPt m c t x7 d h = scanAt m c (batch t) d h (t.val % 64 + 1) := by
  unfold afterPt
  rw [hs, ptX_mod, ptD_mod]; rfl

/-- Before a point the states are the recurrence's after the batch's chunks before it. -/
theorem start_scan : ∀ (k : ℕ) (hk : k < cfg0.N) (d : Fin 2) (h : Fin 16),
    startOf ⟨k, hk⟩ (stateAt m c k) (rowOf d h) = scanAt m c (batch ⟨k, hk⟩) d h (k % 64)
  | 0, hk, d, h => rfl
  | k + 1, hk, d, h => by
    funext i q
    unfold startOf
    dsimp only
    split
    case isTrue h0 => rw [h0]; rfl
    case isFalse h0 =>
      have ih := start_scan k (Nat.lt_of_succ_lt hk) d h
      rw [stateAt_succ m c ⟨k, Nat.lt_of_succ_lt hk⟩, stepState_at, afterPt_scan m c ⟨k, Nat.lt_of_succ_lt hk⟩ _ d h ih]
      have e1 : batch ⟨k, Nat.lt_of_succ_lt hk⟩ = batch ⟨k + 1, hk⟩ := Fin.ext (by show k / 64 = (k + 1) / 64; omega)
      have e2 : (k + 1) % 64 = k % 64 + 1 := by omega
      rw [e1, e2]

/-- What a point leaves in an output's buffer. -/
theorem out_at (t : Fin cfg0.N) (d : Fin 2) (M : Memref sig .tc .vmem S1x64x4096 .bf16) (b : ℕ) (hb : b ≤ 16) (e : b = 16 * d.val)
    (L : List (View.Piece (Elt Ideal) S1x64x4096 .bf16)) (hL : OutIs m c t (stateAt m c t.val) L d b hb) (h : Fin 16) (r : Fin 64) (q : Fin 256) :
    fill M L (ix3 0 r ⟨256 * h.val + q.val, by omega⟩)
      = scanOut (chunkX (V m c main_arg0) d (batch t) h) (decayD (V m c main_arg1) d (batch t) h) (t.val % 64) r q := by
  rw [hL, outAt_at m c t _ d M b hb e, ptX_mod, start_scan]; rfl

/-! ## The result arrays -/

/-- A direction's result: row `64 n + r` of batch `b` is row `r` of what its chunk gives, each pair of heads in its 256 columns. -/
def result (A : (⟨6, ![2, 4, 16, 64, 320, 256]⟩ : Shape).Idx → EReal) (B : (⟨5, ![2, 4, 16, 64, 256]⟩ : Shape).Idx → EReal) (d : Fin 2) :
    (⟨3, ![4, 4096, 4096]⟩ : Shape).Idx → EReal := fun y =>
  scanOut (chunkX A d (y 0) ⟨(y 2).val / 256, by have : (y 2).val < 4096 := (y 2).isLt; omega⟩)
    (decayD B d (y 0) ⟨(y 2).val / 256, by have : (y 2).val < 4096 := (y 2).isLt; omega⟩)
    (chunkAt d ((y 1).val / 64)).val ⟨(y 1).val % 64, by omega⟩ ⟨(y 2).val % 256, by omega⟩

theorem result_at (A : (⟨6, ![2, 4, 16, 64, 320, 256]⟩ : Shape).Idx → EReal) (B : (⟨5, ![2, 4, 16, 64, 256]⟩ : Shape).Idx → EReal) (d : Fin 2)
    (b : Fin 4) (n r : Fin 64) (h : Fin 16) (q : Fin 256) (R C : Fin 4096) (hR : R.val = 64 * n.val + r.val) (hC : C.val = 256 * h.val + q.val) :
    result A B d (ix3 b R C) = scanOut (chunkX A d b h) (decayD B d b h) (chunkAt d n.val).val r q := by
  have e1 : (⟨C.val / 256, by omega⟩ : Fin 16) = h := Fin.ext (by show C.val / 256 = h.val; omega)
  have e2 : (⟨C.val % 256, by omega⟩ : Fin 256) = q := Fin.ext (by show C.val % 256 = q.val; omega)
  have e3 : (⟨R.val % 64, by omega⟩ : Fin 64) = r := Fin.ext (by show R.val % 64 = r.val; omega)
  have e4 : R.val / 64 = n.val := by omega
  show scanOut (chunkX A d b ⟨C.val / 256, _⟩) (decayD B d b ⟨C.val / 256, _⟩) (chunkAt d (R.val / 64)).val ⟨R.val % 64, _⟩ ⟨C.val % 256, _⟩ = _
  rw [e1, e2, e3, e4]

def fwdRows (c : Dev nD) : Buf (Elt Ideal) ((c : Thread nD τ).loc main_v0_0) := result (V m c main_arg0) (V m c main_arg1) 0
def bwdRows (c : Dev nD) : Buf (Elt Ideal) ((c : Thread nD τ).loc main_v0_1) := result (V m c main_arg0) (V m c main_arg1) 1

theorem split_cols (x : Fin 4096) : ∃ (h : Fin 16) (q : Fin 256), x = ⟨256 * h.val + q.val, by omega⟩ :=
  ⟨⟨x.val / 256, by omega⟩, ⟨x.val % 256, by omega⟩, Fin.ext (by show x.val = 256 * (x.val / 256) + x.val % 256; omega)⟩

theorem fwd_array : (dats m 0 c).arrAt 2 cfg0.N = fwdRows m c := by
  refine (dats m 0 c).arrAt_eq_of_covers 2 _ (by decide +kernel) fun t hf y => ?_
  blk_simp
  rw [after_2]
  obtain ⟨z, r, x, rfl⟩ : ∃ (z : Fin 1) (r : Fin 64) (x : Fin 4096), y = ix3 z r x := ⟨y 0, y 1, y 2, eq_ix3 y⟩
  obtain rfl : z = 0 := Subsingleton.elim _ _
  obtain ⟨h, q, rfl⟩ := split_cols x
  refine (out_at m c t 0 (outF t) 0 (by omega) rfl _ (stores_eq m c t _).1 h r q).trans ?_
  have e : (win0_2.blk t).view.emb (ix3 0 r ⟨256 * h.val + q.val, by omega⟩) = ix3 (batch t) ⟨64 * (t.val % 64) + r.val, by omega⟩ ⟨256 * h.val + q.val, by omega⟩ := by
    funext a
    match a with
    | 0 | 1 | 2 => apply Fin.ext; blk_simp [idx t]; all_goals (try dsimp only [batch]); omega
  rw [e]
  refine .trans ?_ (result_at (V m c main_arg0) (V m c main_arg1) 0 (batch t) ⟨t.val % 64, by omega⟩ r h q _ _ rfl rfl).symm
  congr 1
  show t.val % 64 = (chunkAt 0 (t.val % 64)).val
  simp [chunkAt]

theorem bwd_array : (dats m 0 c).arrAt 3 cfg0.N = bwdRows m c := by
  refine (dats m 0 c).arrAt_eq_of_covers 3 _ (by decide +kernel) fun t hf y => ?_
  blk_simp
  rw [after_3]
  obtain ⟨z, r, x, rfl⟩ : ∃ (z : Fin 1) (r : Fin 64) (x : Fin 4096), y = ix3 z r x := ⟨y 0, y 1, y 2, eq_ix3 y⟩
  obtain rfl : z = 0 := Subsingleton.elim _ _
  obtain ⟨h, q, rfl⟩ := split_cols x
  refine (out_at m c t 1 (outB t) 16 le_rfl rfl _ (stores_eq m c t _).2.1 h r q).trans ?_
  have e : (win0_3.blk t).view.emb (ix3 0 r ⟨256 * h.val + q.val, by omega⟩) = ix3 (batch t) ⟨64 * (63 - t.val % 64) + r.val, by omega⟩ ⟨256 * h.val + q.val, by omega⟩ := by
    funext a
    match a with
    | 0 | 1 | 2 => apply Fin.ext; blk_simp [idx t]; all_goals (try dsimp only [batch]); omega
  rw [e]
  refine .trans ?_ (result_at (V m c main_arg0) (V m c main_arg1) 1 (batch t) ⟨63 - t.val % 64, by omega⟩ r h q _ _ rfl rfl).symm
  congr 1
  show t.val % 64 = (chunkAt 1 (63 - t.val % 64)).val
  simp [chunkAt]
  try omega

end Cert.State

end
-- ==== Proof.StateResult.lean ====
/-
  The results of the scan's reference, read at an index: each direction's rows in their own order.
-/
module

public import proofs.«01_k».proof.Proof.StateRef
public import proofs.«01_k».proof.Proof.StateValue

@[expose] public section

set_option maxRecDepth 16384

noncomputable section

namespace Cert.State

open Idealize.ShloMosaic Idealize.ShloMosaic.TcCoe
open Cert.ReferenceIdeal Cert.ReferenceIdeal.Gen Cert.ReferenceIdeal.Step

/-- A direction's outputs as rows: the chunks side by side, the heads side by side. -/
theorem rows_at (x : Vec Ideal S64x8x32x64x128 .f32) (h1 h2 h3 h4) (d : Fin 2) (hs : S2x4x64x64x4096.Slices ![d.val, 0, 0, 0, 0] S1x4x64x64x4096)
    (b : Fin 4) (n r : Fin 64) (h : Fin 16) (j : Fin 2) (e : Fin 128) (C : Fin 4096) (hC : C.val = 256 * h.val + (128 * j.val + e.val)) :
    shapeCast S4x64x64x4096 (extractStridedSlice S1x4x64x64x4096 ![d.val, 0, 0, 0, 0] (shapeCast S2x4x64x64x4096 (shapeCast S8x4096x4096
      (transpose S8x64x64x32x128 [1, 0, 3, 2, 4] x h1) h2) h3) hs) h4 (ix4 b n r C) = x (ix5 n (dirRow d b) (headRow h j) r e) := by
  refine (Idealize.ShloMosaic.shapeCast_apply _ h4 _ (ix5 0 b n r C) ?_).trans ?_
  · rw [Shape.rowMajor_val_five, Shape.rowMajor_val_four]
    show (((0 * 4 + b.val) * 64 + n.val) * 64 + r.val) * 4096 + C.val = ((b.val * 64 + n.val) * 64 + r.val) * 4096 + C.val
    ring
  have e1 : ∀ y : Vec Ideal S2x4x64x64x4096 .f32, extractStridedSlice S1x4x64x64x4096 ![d.val, 0, 0, 0, 0] y hs (ix5 0 b n r C) = y (ix5 d b n r C) := fun y => by
    unfold extractStridedSlice
    refine congrArg y (funext fun a => Fin.ext ?_)
    match a with
    | 0 => rfl
    | 1 | 2 | 3 | 4 => exact Nat.zero_add _
  rw [e1]
  refine (Idealize.ShloMosaic.shapeCast_apply _ h3 _ (ix3 (dirRow d b) ⟨64 * n.val + r.val, by omega⟩ C) ?_).trans ?_
  · rw [Shape.rowMajor_val_five, Shape.rowMajor_val_three]
    show ((4 * d.val + b.val) * 4096 + (64 * n.val + r.val)) * 4096 + C.val = (((d.val * 4 + b.val) * 64 + n.val) * 64 + r.val) * 4096 + C.val
    ring
  refine (Idealize.ShloMosaic.shapeCast_apply _ h2 _ (ix5 (dirRow d b) n r (headRow h j) e) ?_).trans ?_
  · rw [Shape.rowMajor_val_five, Shape.rowMajor_val_three]
    show (((((4 * d.val + b.val) * 64 + n.val) * 64 + r.val) * 32 + (2 * h.val + j.val)) * 128 + e.val
      = ((4 * d.val + b.val) * 4096 + (64 * n.val + r.val)) * 4096 + C.val)
    rw [hC]; ring
  pointwise
  try rfl

variable (A : Vec Ideal S2x4x16x64x320x256 .bf16) (B : Vec Ideal S2x4x16x64x256 .f32)

/-- A row and a column by chunk, pair and head. -/
theorem row_split (R : Fin 4096) : ∃ n r : Fin 64, R = ⟨64 * n.val + r.val, by omega⟩ :=
  ⟨⟨R.val / 64, by omega⟩, ⟨R.val % 64, by omega⟩, Fin.ext (by show R.val = 64 * (R.val / 64) + R.val % 64; omega)⟩
theorem col_split (C : Fin 4096) : ∃ (h : Fin 16) (j : Fin 2) (e : Fin 128), C.val = 256 * h.val + (128 * j.val + e.val) :=
  ⟨⟨C.val / 256, by omega⟩, ⟨C.val % 256 / 128, by omega⟩, ⟨C.val % 128, by omega⟩, by
    show C.val = 256 * (C.val / 256) + (128 * (C.val % 256 / 128) + C.val % 128); omega⟩

theorem merge_at (x : Vec Ideal S4x64x64x4096 .f32) (hc : S4x64x64x4096.ShapeCasts S4x4096x4096) (b : Fin 4) (n r : Fin 64) (C : Fin 4096) :
    shapeCast S4x4096x4096 x hc (ix3 b ⟨64 * n.val + r.val, by omega⟩ C) = x (ix4 b n r C) := by
  refine Idealize.ShloMosaic.shapeCast_apply _ hc _ _ ?_
  rw [Shape.rowMajor_val_four, Shape.rowMajor_val_three]
  show ((b.val * 64 + n.val) * 64 + r.val) * 4096 + C.val = (b.val * 4096 + (64 * n.val + r.val)) * 4096 + C.val
  ring

/-- The last step keeps every entry. -/
theorem low_at (x : Vec Ideal S4x4096x4096 .f32) (hb : FTy.bits .bf16 < FTy.bits .f32) (y : S4x4096x4096.Idx) : truncf (F := Ideal) .bf16 x hb y = x y := by
  pointwise

theorem ref_fwd : R_main_v51 (trips (F := Ideal) A B 64) = result A B 0 := by
  funext y
  obtain ⟨b, R, C, rfl⟩ : ∃ (b : Fin 4) (R C : Fin 4096), y = ix3 b R C := ⟨y 0, y 1, y 2, eq_ix3 y⟩
  obtain ⟨n, r, rfl⟩ := row_split R
  obtain ⟨h, j, e, hC⟩ := col_split C
  unfold R_main_v51
  refine (low_at _ bitsLt_bf16_f32 _).trans ((merge_at _ shapeCasts_S4x64x64x4096_S4x4096x4096 b n r C).trans ?_)
  refine (rows_at _ _ _ _ _ 0 _ b n r h j e C hC).trans ?_
  rw [outs_are A B 0 b h j r e 64 le_rfl n n.isLt]
  refine .trans ?_ (result_at A B 0 b n r h (pairCol (w := 128) j e) _ C rfl hC).symm
  congr 1
  exact (Nat.mod_eq_of_lt n.isLt).symm

theorem ref_bwd : R_main_v56 (trips (F := Ideal) A B 64) = result A B 1 := by
  funext y
  obtain ⟨b, R, C, rfl⟩ : ∃ (b : Fin 4) (R C : Fin 4096), y = ix3 b R C := ⟨y 0, y 1, y 2, eq_ix3 y⟩
  obtain ⟨n, r, rfl⟩ := row_split R
  obtain ⟨h, j, e, hC⟩ := col_split C
  unfold R_main_v56
  refine (low_at _ bitsLt_bf16_f32 _).trans ((merge_at _ shapeCasts_S4x64x64x4096_S4x4096x4096 b n r C).trans ?_)
  have e1 : ∀ x : Vec Ideal S4x64x64x4096 .f32, Host.reverse [1] x (ix4 b n r C) = x (ix4 b n.rev r C) := fun x => by pointwise; try rfl
  rw [e1]
  refine (rows_at _ _ _ _ _ 1 _ b n.rev r h j e C hC).trans ?_
  rw [outs_are A B 1 b h j r e 64 le_rfl n.rev n.rev.isLt]
  refine .trans ?_ (result_at A B 1 b n r h (pairCol (w := 128) j e) _ C rfl hC).symm
  congr 1
  show n.rev.val = 63 - n.val % 64
  rw [Fin.val_rev]; omega

end Cert.State

end
-- ==== Proof.StateClaim.lean ====
/- The scan computes what its reference computes. -/
module

public import proofs.«01_k».proof.Proof.StateResult
public import proofs.«01_k».proof.Defs

@[expose] public section

set_option maxRecDepth 16384

noncomputable section

namespace Cert.State

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The run, read: both directions' rows, the arguments as they were. -/
theorem run_values : θ_run defs (onTc (τ := τ) (main (F := Ideal))) ⟨m, fun _ => 0, ρ⟩ fun r => ∀ c : Dev nD,
    r.2.mem ((c.tc : Thread nD τ).loc main_v0_0) = fwdRows m c
    ∧ r.2.mem ((c.tc : Thread nD τ).loc main_v0_1) = bwdRows m c
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun _ h c => ⟨((h.1.1 c).1 2).trans (fwd_array m c), ((h.1.1 c).1 3).trans (bwd_array m c), h.2.1 c⟩)
    (θ_run_and (run_main m ρ) (frame m ρ))

theorem fwdRows_eq (c : Dev nD) : fwdRows m c = result (m ((c.tc : Thread nD τ).loc main_arg0)) (m ((c.tc : Thread nD τ).loc main_arg1)) 0 := by
  unfold fwdRows
  rw [V_main_arg0, V_main_arg1]
theorem bwdRows_eq (c : Dev nD) : bwdRows m c = result (m ((c.tc : Thread nD τ).loc main_arg0)) (m ((c.tc : Thread nD τ).loc main_arg1)) 1 := by
  unfold bwdRows
  rw [V_main_arg0, V_main_arg1]

/-- The two programs end with equal results. -/
theorem claim : Cert.algebraic_KernelIdeal_ReferenceIdeal := by
  intro m g m' g' _ hagree
  refine ⟨fun c => fwdRows m c, fun c => bwdRows m c, run_values m g, ?_⟩
  refine (θ_run _ _ _).mono (fun r h c => ?_) (run_trips (F := Ideal) m' g')
  obtain ⟨h0, h1⟩ := hagree c
  obtain ⟨r0, r1, r2, r3⟩ := h c
  rw [h0, h1] at r0 r1
  exact ⟨r0.trans ((ref_fwd _ _).trans (fwdRows_eq m c).symm), r1.trans ((ref_bwd _ _).trans (bwdRows_eq m c).symm), r2, r3⟩

end Cert.State

end
-- ==== Proof.GluRef.lean ====
/- The gated branch's reference, read at an index: the norm of a row, its two halves' products with their biases, gated. -/
module

public import proofs.«01_k».proof.Proof.Gen.Reference4Ideal.Run
public import proofs.«01_k».proof.Proof.Spec

@[expose] public section

set_option maxRecDepth 16384

noncomputable section

namespace Cert.Spec

open Idealize.ShloMosaic

/-- `a` times the logistic value of `g`: the reference's `a * sigmoid(gate)`. -/
def glu (a g : EReal) : EReal := a * Ideal.div 1 (1 + Ideal.exp (0 - g))

end Cert.Spec

namespace Cert.GluRef

open Idealize.ShloMosaic Idealize.ShloMosaic.TcCoe Idealize.SL.Sem
open Cert.Reference4Ideal Cert.Reference4Ideal.Gen Cert.Spec

/-- Every row's norm, as the reference writes it. -/
def norm (h : FVec Ideal S16384x2048 .f32) (w : FVec Ideal S2x2048 .f32) : FVec Ideal S16384x2048 .f32 :=
  mulf (mulf h (broadcastInDim S16384x2048 ![0, 1] bcast_S16384x1_S16384x2048_0_1 (Host.rsqrt (addf (Host.divf (broadcastInDim S16384x1 ![0] bcast_S16384_S16384x1_0 (Host.reduceAdd (mulf h h) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32))))))
    (broadcastInDim S16384x2048 ![0, 1] bcast_S1x2048_S16384x2048_0_1 (broadcastInDim S1x2048 ![1] bcast_S2048_S1x2048_1 (shapeCast _ (extractStridedSlice S1x2048 ![0, 0] w slices_S2x2048_S1x2048_0_0) shapeCasts_S1x2048_S2048)))

/-- Both halves of the projection of the normed rows, with their biases. -/
def proj (x : FVec Ideal S16384x2048 .f32) (w : FVec Ideal S1x2048x4096 .f32) (b : FVec Ideal S1x4096 .f32) : FVec Ideal S16384x4096 .f32 :=
  addf (Host.dotGeneral dot_S16384x2048_S2048x4096_S16384x4096_1_0_0_1_n_n none x (shapeCast _ w shapeCasts_S1x2048x4096_S2048x4096))
    (broadcastInDim S16384x4096 ![0, 1] bcast_S1x4096_S16384x4096_0_1 (broadcastInDim S1x4096 ![1] bcast_S4096_S1x4096_1 (shapeCast _ b shapeCasts_S1x4096_S4096)))

/-- The first half, gated by the second. -/
def gated (y : FVec Ideal S16384x4096 .f32) : FVec Ideal S16384x2048 .f32 :=
  mulf (extractStridedSlice S16384x2048 ![0, 0] y slices_S16384x4096_S16384x2048_0_0) (Host.divf (broadcastInDim S16384x2048 ![] bcast_S_S16384x2048 (constant S_ .f32 0x3F800000#32)) (addf (broadcastInDim S16384x2048 ![] bcast_S_S16384x2048 (constant S_ .f32 0x3F800000#32)) (Host.exp (Host.negf (extractStridedSlice S16384x2048 ![0, 2048] y slices_S16384x4096_S16384x2048_0_2048)))))

theorem norm_apply (h : FVec Ideal S16384x2048 .f32) (w : FVec Ideal S2x2048 .f32) (r : Fin 16384) (l : Fin 2048) :
    norm h w (ix2 r l) = rms (fun k => h (ix2 r k)) (fun k => w (ix2 0 k)) l := by
  pointwise [norm, rms]

theorem proj_apply (x : FVec Ideal S16384x2048 .f32) (w : FVec Ideal S1x2048x4096 .f32) (b : FVec Ideal S1x4096 .f32)
    (r : Fin 16384) (j : Fin 4096) :
    proj x w b (ix2 r j) = ∑ k, x (ix2 r k) * w (ix3 0 k j) + b (ix2 0 j) := by
  pointwise [proj]

theorem gated_apply (y : FVec Ideal S16384x4096 .f32) (r : Fin 16384) (j : Fin 2048) :
    gated y (ix2 r j) = glu (y (ix2 r ⟨j.val, by omega⟩)) (y (ix2 r ⟨2048 + j.val, by omega⟩)) := by
  pointwise [gated, glu]
  simp only [zero_sub]

end Cert.GluRef

end
-- ==== Proof.GluValue.lean ====
/- The gated branch's kernel, read at an index: its payloads, its blocks, what its points leave, its result array. -/
module

public import proofs.«01_k».proof.Proof.Gen.Kernel4Ideal.Value
public import proofs.«01_k».proof.Proof.GluRef
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.Glu

open Idealize.ShloMosaic Idealize.ShloMosaic.TcCoe Idealize.SL.Sem
open Cert.Kernel4Ideal Cert.Kernel4Ideal.Gen Cert.Spec

/-! ## The payloads -/

theorem pay1_apply (x : Vec Ideal S1024x2048 .f32) (w : Vec Ideal S1x2048 .f32) (r : Fin 1024) (l : Fin 2048) :
    k0_pay1 x w (ix2 r l) = rms (fun k => x (ix2 r k)) (fun k => w (ix2 0 k)) l := by
  pointwise [k0_pay1, rms]

theorem pay2_apply (x : Vec Ideal S1024x2048 .bf16) (wa : Vec Ideal S2048x512 .bf16) (ba : Vec Ideal S1x512 .f32)
    (wg : Vec Ideal S2048x512 .bf16) (bg : Vec Ideal S1x512 .f32) (r : Fin 1024) (j : Fin 512) :
    k0_pay2 x wa ba wg bg (ix2 r j) = glu (∑ k, x (ix2 r k) * wa (ix2 k j) + ba (ix2 0 j))
      (∑ k, x (ix2 r k) * wg (ix2 k j) + bg (ix2 0 j)) := by
  pointwise [k0_pay2, glu]

/-! ## The blocks -/

/-- Where each window stands at point `t`: row block `t / 4`, column block `t % 4` (the gate half four blocks on). -/
theorem idx : ∀ t : Fin grid0.N, win0_0.index t = ![t.val / 4, 0] ∧ win0_1.index t = ![0, 0]
    ∧ win0_2.index t = ![0, t.val % 4] ∧ win0_3.index t = ![0, t.val % 4 + 4]
    ∧ win0_4.index t = ![0, t.val % 4] ∧ win0_5.index t = ![0, t.val % 4 + 4] := by
  decide +kernel

variable (m : (ℓ : Loc nD τ sig) → Buf (Elt Ideal) ℓ) (c : Dev nD)

/-- The grid has 64 points. -/
theorem lt_N (t : Fin cfg0.N) : t.val < 64 := lt_of_lt_of_eq t.isLt N_0

theorem rows_at (t : Fin cfg0.N) (r : Fin 1024) (k : Fin 2048) :
    iblk m c 0 t (ix2 r k) = m ((c : Thread nD τ).loc main_arg0)
      (ix2 ⟨1024 * (t.val / 4) + r.val, by have := lt_N t; omega⟩ k) := by
  blk_ext [iblk, V, idx t]

theorem normw_at (t : Fin cfg0.N) (k : Fin 2048) :
    iblk m c 1 t (ix2 0 k) = m ((c : Thread nD τ).loc main_arg1) (ix2 0 k) := by
  blk_ext! [iblk, V, idx t]

theorem aw_at (t : Fin cfg0.N) (k : Fin 2048) (j : Fin 512) :
    iblk m c 2 t (ix2 k j) = m ((c : Thread nD τ).loc main_arg2) (ix3 0 k ⟨512 * (t.val % 4) + j.val, by omega⟩) := by
  blk_ext! [iblk, V, idx t]

theorem gw_at (t : Fin cfg0.N) (k : Fin 2048) (j : Fin 512) :
    iblk m c 3 t (ix2 k j) = m ((c : Thread nD τ).loc main_arg2)
      (ix3 0 k ⟨2048 + (512 * (t.val % 4) + j.val), by omega⟩) := by
  blk_ext! [iblk, V, idx t]

theorem ab_at (t : Fin cfg0.N) (j : Fin 512) :
    iblk m c 4 t (ix2 0 j) = m ((c : Thread nD τ).loc main_arg3) (ix2 0 ⟨512 * (t.val % 4) + j.val, by omega⟩) := by
  blk_ext! [iblk, V, idx t]

theorem gb_at (t : Fin cfg0.N) (j : Fin 512) :
    iblk m c 5 t (ix2 0 j) = m ((c : Thread nD τ).loc main_arg3)
      (ix2 0 ⟨2048 + (512 * (t.val % 4) + j.val), by omega⟩) := by
  blk_ext! [iblk, V, idx t]

/-! ## What a point leaves -/

/-- The first point of a row block norms the rows, -/
theorem at_reset (t : Fin cfg0.N) (h0 : t.val % 4 = 0) :
    (outsAt0 m c t.val t.isLt).2 = k0_pay1 (iblk m c 0 t) (iblk m c 1 t) := by
  rw [outsAt0_A m c t h0]
  frame_out

/-- the later ones keep them, -/
theorem at_step (t : Fin cfg0.N) (h0 : ¬ t.val % 4 = 0) (hp : t.val - 1 < cfg0.N) :
    (outsAt0 m c t.val t.isLt).2 = (outsAt0 m c (t.val - 1) hp).2 := by
  rw [outsAt0_B m c t h0]
  rfl

/-- and each gates its columns of the normed rows. -/
theorem at_out (t : Fin cfg0.N) : (outsAt0 m c t.val t.isLt).1
    = k0_pay2 (outsAt0 m c t.val t.isLt).2 (iblk m c 2 t) (iblk m c 4 t) (iblk m c 3 t) (iblk m c 5 t) := by
  by_cases h0 : t.val % 4 = 0
  · rw [outsAt0_A m c t h0]
    frame_out
  · rw [outsAt0_B m c t h0]
    frame_out
    simp only [read_unread_whole]
    rfl

/-! ## The result -/

/-- Row `R` of the activations, normed with layer 0's weights. -/
def hn (R : Fin 16384) (k : Fin 2048) : EReal :=
  rms (fun k => m ((c : Thread nD τ).loc main_arg0) (ix2 R k)) (fun k => m ((c : Thread nD τ).loc main_arg1) (ix2 0 k)) k

/-- Column `j` of the projected row `R`, with its bias. -/
def col (R : Fin 16384) (j : Fin 4096) : EReal :=
  ∑ k, hn m c R k * m ((c : Thread nD τ).loc main_arg2) (ix3 0 k j) + m ((c : Thread nD τ).loc main_arg3) (ix2 0 j)

/-- Entry `j` of the gated row `R`. -/
def entry (R : Fin 16384) (j : Fin 2048) : EReal :=
  glu (col m c R ⟨j.val, by omega⟩) (col m c R ⟨2048 + j.val, by omega⟩)

/-- Row `r` of point `t`'s row block. -/
def row (t : Fin cfg0.N) (r : Fin 1024) : Fin 16384 := ⟨1024 * (t.val / 4) + r.val, by have := lt_N t; omega⟩

/-- After every point the scratch holds the normed rows of its row block. -/
theorem held (n : ℕ) : ∀ (h : n < cfg0.N) (r : Fin 1024) (k : Fin 2048),
    (outsAt0 m c n h).2 (ix2 r k) = hn m c (row ⟨n, h⟩ r) k := by
  have first : ∀ (t : Fin cfg0.N) (r : Fin 1024) (k : Fin 2048),
      k0_pay1 (iblk m c 0 t) (iblk m c 1 t) (ix2 r k) = hn m c (row t r) k := fun t r k => by
    rw [pay1_apply, hn]; simp only [rows_at, normw_at, row]
  induction n with
  | zero => exact fun h r k => (congrFun (at_reset m c ⟨0, h⟩ rfl) _).trans (first _ r k)
  | succ n ih =>
    intro h r k
    by_cases h0 : (n + 1) % 4 = 0
    · exact (congrFun (at_reset m c ⟨n + 1, h⟩ h0) _).trans (first _ r k)
    · have hp : n < cfg0.N := Nat.lt_of_succ_lt h
      refine (congrFun (at_step m c ⟨n + 1, h⟩ h0 hp) _).trans ((ih hp r k).trans ?_)
      congr 1
      apply Fin.ext
      show 1024 * (n / 4) + r.val = 1024 * ((n + 1) / 4) + r.val
      have : n / 4 = (n + 1) / 4 := by omega
      rw [this]

/-- A point's block of the result. -/
theorem out_at (t : Fin cfg0.N) (r : Fin 1024) (j : Fin 512) :
    (outsAt0 m c t.val t.isLt).1 (ix2 r j) = entry m c (row t r) ⟨512 * (t.val % 4) + j.val, by omega⟩ := by
  rw [at_out, pay2_apply, entry, col, col]
  have e := held m c t.val t.isLt r
  simp only [e, aw_at, gw_at, ab_at, gb_at]

/-- The kernel's result array. -/
theorem result_apply (R : Fin 16384) (j : Fin 2048) : Value.G6 m c (ix2 R j) = entry m c R j := by
  have hN : cfg0.N = 64 := N_0
  have hv : Value.pt6Of (ix2 R j) = 4 * (R.val / 1024) + j.val / 512 := by
    show 4 * (R.val / 1024 - 0) + 1 * (j.val / 512 - 0) = _
    omega
  have hb : Value.pt6Of (ix2 R j) < cfg0.N := by omega
  have hl : Value.loc6Of (ix2 R j) = ix2 ⟨R.val % 1024, Nat.mod_lt _ (by decide)⟩ ⟨j.val % 512, Nat.mod_lt _ (by decide)⟩ := by
    funext a
    match a with
    | ⟨0, _⟩ => rfl
    | ⟨1, _⟩ => rfl
  rw [Value.G6, dif_pos hb, ← Value.outsAt0_sweep m c _ hb, hl]
  refine (out_at m c ⟨_, hb⟩ _ _).trans ?_
  congr 1 <;> apply Fin.ext
  · show 1024 * (Value.pt6Of (ix2 R j) / 4) + R.val % 1024 = R.val
    omega
  · show 512 * (Value.pt6Of (ix2 R j) % 4) + j.val % 512 = j.val
    omega

end Cert.Glu

end
-- ==== Proof.GluClaim.lean ====
/- The gated branch computes what the reference computes. -/
module

public import proofs.«01_k».proof.Defs
public import proofs.«01_k».proof.Proof.GluValue

@[expose] public section

set_option maxRecDepth 16384

noncomputable section

namespace Cert.Glu

open Idealize.ShloMosaic Idealize.ShloMosaic.TcCoe Idealize.SL.Sem
open Cert.Kernel4Ideal Cert.Kernel4Ideal.Gen Cert.Spec

/-- The two programs end with equal results. -/
theorem claim : Cert.algebraic_Kernel4Ideal_Reference4Ideal := by
  intro m g m' g' _ hagree
  refine ⟨fun c => Value.G6 m c, Value.run m g, ?_⟩
  refine (θ_run _ _ _).mono (fun r h c => ?_) (Cert.Reference4Ideal.Value.run m' g')
  obtain ⟨h0, h1, h2, h3⟩ := hagree c
  refine ⟨(h c).1.trans ?_, (h c).2⟩
  rw [h0, h1, h2, h3]
  funext i
  obtain ⟨R, j, rfl⟩ : ∃ (R : Fin 16384) (j : Fin 2048), i = ix2 R j := ⟨i 0, i 1, eq_ix2 i⟩
  refine (GluRef.gated_apply (GluRef.proj (GluRef.norm _ _) _ _) R j).trans ?_
  refine Eq.trans ?_ (result_apply m c R j).symm
  simp only [GluRef.proj_apply, GluRef.norm_apply, entry, col, hn]

end Cert.Glu

end
-- ==== Proof.DnOutPieces.lean ====
/- What the output projection's body stores, told once for every head: each head's stores into the scratch are its normed
   and gated columns, and the output block is the product of the scratch, read whole, with the weight. -/
module

public import proofs.«01_k».proof.Proof.Gen.Kernel5Ideal.Frame
import all proofs.«01_k».proof.Proof.Gen.Kernel5Ideal.Frame.RunA

@[expose] public section

set_option maxRecDepth 16384

noncomputable section

namespace Cert.DnOut

open Idealize.ShloMosaic Idealize.ShloMosaic.TcCoe Idealize.ShloMosaic.Tactic Idealize.SL.Sem
open Cert.Kernel5Ideal Cert.Kernel5Ideal.Gen

variable {F : FTy → Type} [FloatOps F]

theorem head_inb (h : ℕ) (hh : h < 32) : ∀ a : Fin 2, (![0, 128 * h] : Fin 2 → ℕ) a + S256x128.size a ≤ S256x4096.size a := by
  intro a; fin_cases a <;> simp [S256x128, S256x4096] <;> omega

/-- The columns of head `h`. -/
abbrev headRect (h : ℕ) (hh : h < 32) : Rect S256x4096 := Rect.unit (s := S256x4096) ![0, 128 * h] S256x128.size (head_inb h hh)

/-- A load of one head's columns. -/
def headLd {e : EltTy} (M : Memref sig .tc .vmem S256x4096 e) (hM : M.IsWhole) (x : Vec F S256x4096 e) (h : ℕ) (hh : h < 32) : Vec F S256x128 e :=
  View.readAt (Elt F) M.view (headRect h hh).toLoadRect (hM.unread x)

/-- A load of a whole buffer. -/
def wholeLd {s : Shape} {e : EltTy} (M : Memref sig .tc .vmem s e) (hM : M.IsWhole) (x : Vec F s e) (off : Fin s.rank → ℕ)
    (inb : ∀ a, off a + s.size a ≤ s.size a) : Vec F s e :=
  View.readAt (Elt F) M.view (Rect.unit (s := s) off s.size inb).toLoadRect (hM.unread x)

/-- The first `n` heads' stores into the scratch, the last one first. -/
def headPieces (pay : (h : ℕ) → h < 32 → FVec F S256x128 .bf16) : (n : ℕ) → n ≤ 32 → List (View.Piece (Elt F) S256x4096 .bf16)
  | 0, _ => []
  | n + 1, hn => ⟨headRect n hn, pay n hn⟩ :: headPieces pay n (Nat.le_of_succ_le hn)

section Point
variable (m : (ℓ : Loc nD τ sig) → Buf (Elt F) ℓ) (c : Dev nD) (t : Fin cfg0.N)

/-- What point `t` stores of head `h`. -/
def headPay (h : ℕ) (hh : h < 32) : FVec F S256x128 .bf16 :=
  k0_pay3 (headLd (ms0_0 t) (hs0_0 t) (iblk m c 0 t) h hh) (headLd (ms0_1 t) (hs0_1 t) (iblk m c 1 t) h hh)
    (headLd (ms0_2 t) (hs0_2 t) (iblk m c 2 t) h hh) (wholeLd (ms0_3 t) (hs0_3 t) (iblk m c 3 t) ![0, 0] inb_S1x128_S1x128_0_0)

/-- The scratch, read whole after the heads' stores. -/
def scratch : Vec F S256x4096 .bf16 :=
  scM0_0.view.readCov (headPieces (headPay m c t) 32 le_rfl) (Rect.unit (s := S256x4096) ![0, 0] S256x4096.size inb_S256x4096_S256x4096_0_0).toLoadRect

/-- The output's one store. -/
theorem stores_eq : (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) (iblk m c 2 t) (iblk m c 3 t) (iblk m c 4 t) (iblk m c 5 t)).1
    = [⟨Rect.unit (s := S256x2048) ![0, 0] S256x2048.size inb_S256x2048_S256x2048_0_0,
        k0_pay2 (wholeLd (ms0_5 t) (hs0_5 t) (iblk m c 5 t) ![0, 0] inb_S256x2048_S256x2048_0_0) (scratch m c t)
          (wholeLd (ms0_4 t) (hs0_4 t) (iblk m c 4 t) ![0, 0] inb_S4096x2048_S4096x2048_0_0)⟩] := by sl_kernel_rfl
end Point

end Cert.DnOut

end
-- ==== Proof.DnOutRef.lean ====
/- The output projection's reference, read at an index: each head's normed and gated sum, times the output weight. -/
module

public import proofs.«01_k».proof.Proof.Gen.Reference5Ideal.Run
public import proofs.«01_k».proof.Proof.Spec
public import Idealize.ShloMosaic.Lib.ValueLayout

@[expose] public section

set_option maxRecDepth 16384

noncomputable section

namespace Cert.Spec

open Idealize.ShloMosaic

/-- One head of a token: its 128 values `o` over the root of their mean square, times the weights `w`, times `silu(z)`.
    The two constants are 128 and the rounded 1e-6, both as the programs write them. -/
def headOut (o z w : Fin 128 → EReal) (k : Fin 128) : EReal :=
  o k * Ideal.rsqrt (Ideal.div (∑ x, o x * o x) (Ideal.ofBits FTy.f32 0x43000000#32) + Ideal.ofBits FTy.f32 0x358637BD#32) * w k
    * (z k * Ideal.div 1 (1 + Ideal.exp (0 - z k)))

/-- Column `j` of 4096 is column `j % 128` of head `j / 128`. -/
def headCol (j : Fin 4096) (k : Fin 128) : Fin 4096 := ⟨128 * (j.val / 128) + k.val, by omega⟩
def inHead (j : Fin 4096) : Fin 128 := ⟨j.val % 128, by omega⟩

end Cert.Spec

namespace Cert.DnOutRef

open Idealize.ShloMosaic Idealize.ShloMosaic.TcCoe Idealize.SL.Sem
open Cert.Reference5Ideal Cert.Reference5Ideal.Gen Cert.Spec

/-- The two directions' sum. -/
def both (a b : FVec Ideal S16384x4096 .bf16) : FVec Ideal S16384x4096 .f32 := addf (extf .f32 a bitsLt_bf16_f32) (extf .f32 b bitsLt_bf16_f32)

/-- The gate's columns of the projection. -/
def gate (p : FVec Ideal S16384x12288 .f32) : FVec Ideal S16384x4096 .f32 :=
  extractStridedSlice S16384x4096 ![0, 8192] p slices_S16384x12288_S16384x4096_0_8192

/-- A row's columns as heads. -/
def heads (y : FVec Ideal S16384x4096 .f32) : FVec Ideal S16384x32x128 .f32 := shapeCast _ y shapeCasts_S16384x4096_S16384x32x128

/-- Every head normed and gated, as the reference writes it. -/
def gated (o z : FVec Ideal S16384x32x128 .f32) (w : FVec Ideal S1x128 .f32) : FVec Ideal S16384x32x128 .f32 :=
  mulf (mulf (mulf o (broadcastInDim S16384x32x128 ![0, 1, 2] bcast_S16384x32x1_S16384x32x128_0_1_2 (Host.rsqrt (addf (Host.divf (broadcastInDim S16384x32x1 ![0, 1] bcast_S16384x32_S16384x32x1_0_1 (Host.reduceAdd (mulf o o) (constant S_ .f32 0x00000000#32) reducesTo_S16384x32x128_S16384x32_d2 h_S_)) (broadcastInDim S16384x32x1 ![] bcast_S_S16384x32x1 (constant S_ .f32 0x43000000#32))) (broadcastInDim S16384x32x1 ![] bcast_S_S16384x32x1 (constant S_ .f32 0x358637BD#32)))))) (broadcastInDim S16384x32x128 ![0, 1, 2] bcast_S1x1x128_S16384x32x128_0_1_2 (broadcastInDim S1x1x128 ![2] bcast_S128_S1x1x128_2 (shapeCast _ w shapeCasts_S1x128_S128))))
    (mulf z (Host.divf (broadcastInDim S16384x32x128 ![] bcast_S_S16384x32x128 (constant S_ .f32 0x3F800000#32)) (addf (broadcastInDim S16384x32x128 ![] bcast_S_S16384x32x128 (constant S_ .f32 0x3F800000#32)) (Host.exp (Host.negf z)))))

/-- The heads as a row's columns, times the output weight, added onto the rows. -/
def out (h : FVec Ideal S16384x2048 .f32) (y : FVec Ideal S16384x32x128 .f32) (w : FVec Ideal S1x4096x2048 .f32) : FVec Ideal S16384x2048 .f32 :=
  addf h (Host.dotGeneral dot_S16384x4096_S4096x2048_S16384x2048_1_0_0_1_n_n none (shapeCast _ y shapeCasts_S16384x32x128_S16384x4096) (shapeCast _ w shapeCasts_S1x4096x2048_S4096x2048))

theorem heads_apply (y : FVec Ideal S16384x4096 .f32) (r : Fin 16384) (h : Fin 32) (k : Fin 128) :
    heads y (ix3 r h k) = y (ix2 r ⟨128 * h.val + k.val, by omega⟩) := by
  unfold heads
  refine shapeCast_apply y _ (ix3 r h k) (ix2 r ⟨128 * h.val + k.val, by omega⟩) ?_
  rw [Shape.rowMajor_val_three, Shape.rowMajor_val_two]
  show r.val * 4096 + (128 * h.val + k.val) = (r.val * 32 + h.val) * 128 + k.val
  ring

theorem flat_apply (y : FVec Ideal S16384x32x128 .f32) (r : Fin 16384) (j : Fin 4096) :
    (shapeCast S16384x4096 y shapeCasts_S16384x32x128_S16384x4096 : FVec Ideal S16384x4096 .f32) (ix2 r j) = y (ix3 r ⟨j.val / 128, by omega⟩ (inHead j)) := by
  refine shapeCast_apply y _ (ix2 r j) (ix3 r ⟨j.val / 128, by omega⟩ (inHead j)) ?_
  rw [Shape.rowMajor_val_three, Shape.rowMajor_val_two]
  show (r.val * 32 + j.val / 128) * 128 + j.val % 128 = r.val * 4096 + j.val
  omega

theorem both_apply (a b : FVec Ideal S16384x4096 .bf16) (r : Fin 16384) (j : Fin 4096) :
    both a b (ix2 r j) = a (ix2 r j) + b (ix2 r j) := by
  pointwise [both]

theorem gate_apply (p : FVec Ideal S16384x12288 .f32) (r : Fin 16384) (j : Fin 4096) :
    gate p (ix2 r j) = p (ix2 r ⟨8192 + j.val, by omega⟩) := by
  pointwise [gate]

theorem gated_apply (o z : FVec Ideal S16384x32x128 .f32) (w : FVec Ideal S1x128 .f32) (r : Fin 16384) (h : Fin 32) (k : Fin 128) :
    gated o z w (ix3 r h k) = headOut (fun x => o (ix3 r h x)) (fun x => z (ix3 r h x)) (fun x => w (ix2 0 x)) k := by
  pointwise [gated, headOut]
  simp only [zero_sub]

theorem out_apply (h : FVec Ideal S16384x2048 .f32) (y : FVec Ideal S16384x32x128 .f32) (w : FVec Ideal S1x4096x2048 .f32)
    (r : Fin 16384) (l : Fin 2048) :
    out h y w (ix2 r l) = h (ix2 r l) + ∑ j : Fin 4096, y (ix3 r ⟨j.val / 128, by omega⟩ (inHead j)) * w (ix3 0 j l) := by
  unfold out
  have e : ∀ (x : FVec Ideal S16384x4096 .f32), (addf h (Host.dotGeneral dot_S16384x4096_S4096x2048_S16384x2048_1_0_0_1_n_n none x (shapeCast _ w shapeCasts_S1x4096x2048_S4096x2048))) (ix2 r l)
      = h (ix2 r l) + ∑ j : Fin 4096, x (ix2 r j) * w (ix3 0 j l) := fun x => by pointwise []
  rw [e]
  simp only [flat_apply]

end Cert.DnOutRef

end
-- ==== Proof.DnOutValue.lean ====
/- The output projection's kernel, read at an index: its payloads, its blocks, the scratch its heads fill, what its points
   leave, its result array. -/
module

public import proofs.«01_k».proof.Proof.Gen.Kernel5Ideal.Value
public import proofs.«01_k».proof.Proof.DnOutPieces
public import proofs.«01_k».proof.Proof.DnOutRef
public import Idealize.ShloMosaic.Lib.Pipeline.ValueKit.Point
public import Idealize.ShloMosaic.Lib.Pipeline.ReadBack
public import Idealize.ShloMosaic.Lib.Pointwise
public import Idealize.ShloMosaic.Lib.WholeRead
public import Idealize.ShloMosaic.Lib.VecWindow
public import Idealize.ShloMosaic.Lib.Claim

@[expose] public section

set_option maxRecDepth 16384

noncomputable section

namespace Cert.DnOut

open Idealize.ShloMosaic Idealize.ShloMosaic.TcCoe Idealize.SL.Sem
open Cert.Kernel5Ideal Cert.Kernel5Ideal.Gen Cert.Spec

/-! ## The payloads -/

theorem pay3_apply (a b : Vec Ideal S256x128 .bf16) (z : Vec Ideal S256x128 .f32) (w : Vec Ideal S1x128 .f32) (r : Fin 256) (k : Fin 128) :
    k0_pay3 a b z w (ix2 r k) = headOut (fun x => a (ix2 r x) + b (ix2 r x)) (fun x => z (ix2 r x)) (fun x => w (ix2 0 x)) k := by
  pointwise [k0_pay3, headOut]

theorem pay2_apply (h : Vec Ideal S256x2048 .f32) (y : Vec Ideal S256x4096 .bf16) (w : Vec Ideal S4096x2048 .bf16) (r : Fin 256) (l : Fin 2048) :
    k0_pay2 h y w (ix2 r l) = h (ix2 r l) + ∑ j, y (ix2 r j) * w (ix2 j l) := by
  pointwise [k0_pay2]

/-! ## The loads -/

theorem head_emb (h : ℕ) (hh : h < 32) (r : Fin 256) (k : Fin 128) :
    (headRect h hh).emb (ix2 r k) = ix2 r ⟨128 * h + k.val, by omega⟩ := by
  funext a; apply Fin.ext
  rw [ValueKit.rect_emb_unit_val]
  fin_cases a <;> simp

theorem headLd_apply {e : EltTy} (M : Memref sig .tc .vmem S256x4096 e) (hM : M.IsWhole) (x : Vec Ideal S256x4096 e) (h : ℕ) (hh : h < 32)
    (r : Fin 256) (k : Fin 128) : headLd M hM x h hh (ix2 r k) = x (ix2 r ⟨128 * h + k.val, by omega⟩) := by
  refine (hM.readAt_unread x _ _).trans (congrArg x ?_)
  funext a; apply Fin.ext
  fin_cases a <;> simp [Rect.unit]

theorem wholeLd_apply {a b : ℕ} {e : EltTy} (M : Memref sig .tc .vmem ⟨2, ![a, b]⟩ e) (hM : M.IsWhole) (x : Vec Ideal ⟨2, ![a, b]⟩ e)
    (inb : ∀ i, (![0, 0] : Fin 2 → ℕ) i + (⟨2, ![a, b]⟩ : Shape).size i ≤ (⟨2, ![a, b]⟩ : Shape).size i) (r : Fin a) (k : Fin b) :
    wholeLd M hM x ![0, 0] inb (ix2 r k) = x (ix2 r k) := by
  refine (hM.readAt_unread x _ _).trans (congrArg x ?_)
  funext i; apply Fin.ext
  fin_cases i <;> simp [Rect.unit]

/-! ## The blocks -/

/-- Where each window stands at point `t`: row block `t`, the gate's columns the third block of 4096, the weights whole. -/
theorem idx : ∀ t : Fin grid0.N, win0_0.index t = ![t.val, 0] ∧ win0_1.index t = ![t.val, 0]
    ∧ win0_2.index t = ![t.val, 2] ∧ win0_3.index t = ![0, 0]
    ∧ win0_4.index t = ![0, 0] ∧ win0_5.index t = ![t.val, 0] ∧ win0_6.index t = ![t.val, 0] := by
  decide +kernel

variable (m : (ℓ : Loc nD τ sig) → Buf (Elt Ideal) ℓ) (c : Dev nD)

/-- The grid has 64 points. -/
theorem lt_N (t : Fin cfg0.N) : t.val < 64 := lt_of_lt_of_eq t.isLt N_0

/-- Row `r` of point `t`'s row block. -/
def row (t : Fin cfg0.N) (r : Fin 256) : Fin 16384 := ⟨256 * t.val + r.val, by have := lt_N t; omega⟩

theorem of_at (t : Fin cfg0.N) (r : Fin 256) (j : Fin 4096) :
    iblk m c 0 t (ix2 r j) = m ((c : Thread nD τ).loc main_arg0) (ix2 (row t r) j) := by
  unfold row; blk_ext [iblk, V, idx t]

theorem ob_at (t : Fin cfg0.N) (r : Fin 256) (j : Fin 4096) :
    iblk m c 1 t (ix2 r j) = m ((c : Thread nD τ).loc main_arg1) (ix2 (row t r) j) := by
  unfold row; blk_ext [iblk, V, idx t]

theorem gate_at (t : Fin cfg0.N) (r : Fin 256) (j : Fin 4096) :
    iblk m c 2 t (ix2 r j) = m ((c : Thread nD τ).loc main_arg2) (ix2 (row t r) ⟨8192 + j.val, by omega⟩) := by
  unfold row; blk_ext [iblk, V, idx t]

theorem normw_at (t : Fin cfg0.N) (k : Fin 128) :
    iblk m c 3 t (ix2 0 k) = m ((c : Thread nD τ).loc main_arg3) (ix2 0 k) := by
  blk_ext! [iblk, V, idx t]

theorem outw_at (t : Fin cfg0.N) (j : Fin 4096) (l : Fin 2048) :
    iblk m c 4 t (ix2 j l) = m ((c : Thread nD τ).loc main_arg4) (ix3 0 j l) := by
  blk_ext! [iblk, V, idx t]

theorem h_at (t : Fin cfg0.N) (r : Fin 256) (l : Fin 2048) :
    iblk m c 5 t (ix2 r l) = m ((c : Thread nD τ).loc main_arg5) (ix2 (row t r) l) := by
  unfold row; blk_ext [iblk, V, idx t]

/-! ## The scratch -/

/-- Column `j` of the normed and gated row `R`. -/
def gatedCol (R : Fin 16384) (j : Fin 4096) : EReal :=
  headOut (fun k => HAdd.hAdd (α := EReal) (β := EReal) (m ((c : Thread nD τ).loc main_arg0) (ix2 R (headCol j k))) (m ((c : Thread nD τ).loc main_arg1) (ix2 R (headCol j k))))
    (fun k => m ((c : Thread nD τ).loc main_arg2) (ix2 R ⟨8192 + (headCol j k).val, by have := (headCol j k).isLt; omega⟩))
    (fun k => m ((c : Thread nD τ).loc main_arg3) (ix2 0 k)) (inHead j)

theorem headPay_apply (t : Fin cfg0.N) (h : ℕ) (hh : h < 32) (r : Fin 256) (k : Fin 128) :
    headPay m c t h hh (ix2 r k) = gatedCol m c (row t r) ⟨128 * h + k.val, by omega⟩ := by
  have ec : ∀ x : Fin 128, headCol ⟨128 * h + k.val, by omega⟩ x = ⟨128 * h + x.val, by omega⟩ := fun x =>
    Fin.ext (by show 128 * ((128 * h + k.val) / 128) + x.val = 128 * h + x.val; omega)
  have ek : inHead ⟨128 * h + k.val, by omega⟩ = k := Fin.ext (by show (128 * h + k.val) % 128 = k.val; omega)
  unfold headPay gatedCol
  rw [pay3_apply]
  simp only [ec, ek]
  have e0 := headLd_apply (ms0_0 t) (hs0_0 t) (iblk m c 0 t) h hh r
  have e1 := headLd_apply (ms0_1 t) (hs0_1 t) (iblk m c 1 t) h hh r
  have e2 := headLd_apply (ms0_2 t) (hs0_2 t) (iblk m c 2 t) h hh r
  have e3 := wholeLd_apply (ms0_3 t) (hs0_3 t) (iblk m c 3 t) inb_S1x128_S1x128_0_0 0
  simp only [e0, e1, e2, e3, of_at, ob_at, gate_at, normw_at]

theorem headPieces_all (pay : (h : ℕ) → h < 32 → FVec Ideal S256x128 .bf16) (G : S256x4096.Idx → EReal)
    (hG : ∀ h hh x, pay h hh x = G ((headRect h hh).emb x)) :
    ∀ n hn, ∀ p ∈ headPieces pay n hn, ∀ x : p.1.shape.Idx, p.2 x = G (p.1.emb x)
  | 0, _, p, hp => absurd hp List.not_mem_nil
  | n + 1, hn, p, hp => by
    rcases List.mem_cons.mp hp with rfl | hp
    · exact hG n hn
    · exact headPieces_all pay G hG n _ p hp

theorem headPieces_mem (pay : (h : ℕ) → h < 32 → FVec Ideal S256x128 .bf16) (h : ℕ) :
    ∀ n hn, (hh : h < n) → (⟨headRect h (by omega), pay h (by omega)⟩ : View.Piece (Elt Ideal) S256x4096 .bf16) ∈ headPieces pay n hn
  | 0, _, hh => absurd hh (Nat.not_lt_zero h)
  | n + 1, hn, hh => by
    rcases Nat.lt_succ_iff_lt_or_eq.mp hh with h' | rfl
    · exact List.mem_cons_of_mem _ (headPieces_mem pay h n _ h')
    · exact List.mem_cons_self

/-- The scratch holds the normed and gated rows. -/
theorem scratch_apply (t : Fin cfg0.N) (r : Fin 256) (j : Fin 4096) :
    scratch m c t (ix2 r j) = gatedCol m c (row t r) j := by
  let G : S256x4096.Idx → EReal := fun y => gatedCol m c (row t (y 0)) (y 1)
  have hG : ∀ h hh x, headPay m c t h hh x = G ((headRect h hh).emb x) := by
    intro h hh x
    obtain ⟨r, k, rfl⟩ : ∃ (r : Fin 256) (k : Fin 128), x = ix2 r k := ⟨x 0, x 1, eq_ix2 x⟩
    rw [head_emb h hh, headPay_apply m c t h hh r k]
    rfl
  have hj : j.val / 128 < 32 := by omega
  have ej : (ix2 r j : S256x4096.Idx) = (headRect (j.val / 128) hj).emb (ix2 r (inHead j)) := by
    rw [head_emb]
    congr 1
    exact Fin.ext (by show j.val = 128 * (j.val / 128) + j.val % 128; omega)
  have whole : (Rect.unit (s := S256x4096) ![0, 0] S256x4096.size inb_S256x4096_S256x4096_0_0).toLoadRect.idx (ix2 r j) = ix2 r j := by
    funext i; apply Fin.ext
    fin_cases i <;> simp [Rect.unit]
  show scM0_0.view.read (Elt Ideal) (scM0_0.view.writes (Elt Ideal) scM0_0.view.junk (headPieces (headPay m c t) 32 le_rfl)) _ = _
  refine (congrArg _ whole).trans ?_
  refine View.read_writes_apply_of_pieces scM0_0.view _ G _ (headPieces_all _ G hG 32 le_rfl) (ix2 r j)
    ⟨_, headPieces_mem _ (j.val / 128) 32 le_rfl hj, ?_⟩
  rw [ej, ← Rect.map_emb_univ]
  exact Finset.mem_map_of_mem _ (Finset.mem_univ _)

/-! ## The result -/

/-- Entry `l` of the resulting row `R`. -/
def entry (R : Fin 16384) (l : Fin 2048) : EReal :=
  HAdd.hAdd (α := EReal) (β := EReal) (m ((c : Thread nD τ).loc main_arg5) (ix2 R l)) (∑ j, gatedCol m c R j * m ((c : Thread nD τ).loc main_arg4) (ix3 0 j l))

/-- A point's block of the result. -/
theorem out_at (t : Fin cfg0.N) (r : Fin 256) (l : Fin 2048) : outsAt0 m c t (ix2 r l) = entry m c (row t r) l := by
  unfold outsAt0 out0_A_6
  rw [stores_eq m c t]
  refine (congrFun (View.read_writes_full (Val := Elt Ideal) VO0_6 VO0_6.junk inb_S256x2048_S256x2048_0_0 _ []) (ix2 r l)).trans ?_
  refine (pay2_apply _ _ _ r l).trans ?_
  have e4 := fun j => wholeLd_apply (ms0_4 t) (hs0_4 t) (iblk m c 4 t) inb_S4096x2048_S4096x2048_0_0 j l
  have e5 := wholeLd_apply (ms0_5 t) (hs0_5 t) (iblk m c 5 t) inb_S256x2048_S256x2048_0_0 r l
  simp only [e4, e5, scratch_apply, outw_at, h_at, entry]

/-- The kernel's result array. -/
def result : Vec Ideal S16384x2048 .f32 := fun i => entry m c (i 0) (i 1)

theorem result_array : (dats m 0 c).arrAt 6 cfg0.N = result m c := by
  refine (dats m 0 c).arrAt_eq_of_covers 6 _ (by decide +kernel) fun t hf y => ?_
  blk_simp
  rw [after0_6]
  obtain ⟨r, l, rfl⟩ : ∃ (r : Fin 256) (l : Fin 2048), y = ix2 r l := ⟨y 0, y 1, eq_ix2 y⟩
  refine (out_at m c t r l).trans ?_
  unfold result row
  congr 1 <;> apply Fin.ext <;> blk_simp [idx t]
  all_goals (try dsimp only); omega

end Cert.DnOut

end
-- ==== Proof.DnOutClaim.lean ====
/- The output projection computes what the reference computes. -/
module

public import proofs.«01_k».proof.Defs
public import proofs.«01_k».proof.Proof.DnOutValue

@[expose] public section

set_option maxRecDepth 16384

noncomputable section

namespace Cert.DnOut

open Idealize.ShloMosaic Idealize.ShloMosaic.TcCoe Idealize.SL.Sem
open Cert.Kernel5Ideal Cert.Kernel5Ideal.Gen Cert.Spec

/-- The two programs end with equal results. -/
theorem claim : Cert.algebraic_Kernel5Ideal_Reference5Ideal := by
  intro m g m' g' _ hagree
  refine ⟨fun c => result m c, (θ_run _ _ _).mono (fun r h c => ⟨(h c).1.trans (result_array m c), (h c).2⟩) (Value.run_blocks m g), ?_⟩
  refine (θ_run _ _ _).mono (fun r h c => ?_) (Cert.Reference5Ideal.Value.run m' g')
  obtain ⟨h0, h1, h2, h3, h4, h5⟩ := hagree c
  refine ⟨(h c).1.trans ?_, (h c).2⟩
  rw [h0, h1, h2, h3, h4, h5]
  funext i
  obtain ⟨R, l, rfl⟩ : ∃ (R : Fin 16384) (l : Fin 2048), i = ix2 R l := ⟨i 0, i 1, eq_ix2 i⟩
  refine (DnOutRef.out_apply _ (DnOutRef.gated (DnOutRef.heads (DnOutRef.both _ _)) (DnOutRef.heads (DnOutRef.gate _)) _) _ R l).trans ?_
  simp only [DnOutRef.gated_apply, DnOutRef.heads_apply, DnOutRef.both_apply, DnOutRef.gate_apply]
  rfl

end Cert.DnOut

end
-- ==== Proof.ConvTrip.lean ====
/- The convolution module's loop, one trip at a time: a trip copies its 256 columns of the extended rows seven times, each copy
   one row further, then sums the 31 taps of four blocks of 64 rows and adds the bias. What it leaves is stated as one plain
   function of the extended rows, the taps and the bias; the invariant says how far that function is filled in. -/
module

public import proofs.«01_k».proof.Proof.Gen.Kernel6Ideal.Loops
public import Idealize.ShloMosaic.Lib.Pipeline.ValueKit
public import Idealize.ShloMosaic.Lib.Pipeline.ReadBack
public import Idealize.ShloMosaic.Lib.VecWindow
public import Idealize.ShloMosaic.Lib.ValueLayout
public meta import Idealize.ShloMosaic.Lib.Tactic.RunNames

@[expose] public section

set_option maxRecDepth 16384

noncomputable section

namespace Cert.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel6Ideal Cert.Kernel6Ideal.Gen

variable {F : FTy → Type} [FloatOps F]

local notation "𝕄" => MT nD τ sig Unit (Elt F) ℕ (UR sig nD τ) ℕ

/-- An entry of the extended rows, one of the taps' weights and one of the bias, by plain numbers. -/
def gx (x : Vec F S288x2048 .f32) (r c : ℕ) : F .f32 := x (ix2 (Fin.ofNat 288 r) (Fin.ofNat 2048 c))
def gw (w : Vec F S31x2048 .f32) (j c : ℕ) : F .f32 := w (ix2 (Fin.ofNat 31 j) (Fin.ofNat 2048 c))
def gb (b : Vec F S1x2048 .f32) (c : ℕ) : F .f32 := b (ix2 0 (Fin.ofNat 2048 c))

/-- The first `n` taps' sum at row `r` of the tile and column `c`. -/
def tapSum (w : Vec F S31x2048 .f32) (x : Vec F S288x2048 .f32) (r c : ℕ) : ℕ → F .f32
  | 0 => Scalar.ofBits .f32 0x00000000#32
  | n + 1 => FloatOps.addf (tapSum w x r c n) (FloatOps.mulf (gw w n c) (gx x (r + 1 + n) c))

/-- What the loop leaves: the depthwise convolution of the extended rows, with its bias. -/
def conv (w : Vec F S31x2048 .f32) (b : Vec F S1x2048 .f32) (x : Vec F S288x2048 .f32) : Vec F S256x2048 .f32 :=
  fun y => FloatOps.addf (tapSum w x (y 0).val (y 1).val 31) (gb b (y 1).val)

/-- A block of 64 rows from row `r` and 256 columns from column `o` of the extended rows; one tap's weights and the bias
    over such a block. -/
def rowsAt (x : Vec F S288x2048 .f32) (o r : ℕ) : FVec F S64x256 .f32 := fun y => gx x (r + (y 0).val) (o + (y 1).val)
def tapAt (w : Vec F S31x2048 .f32) (o j : ℕ) : FVec F S64x256 .f32 := fun y => gw w j (o + (y 1).val)
def biasAt (b : Vec F S1x2048 .f32) (o : ℕ) : FVec F S64x256 .f32 := fun y => gb b (o + (y 1).val)

/-- The first `n` taps' sum over the block whose first row is `r`. -/
def blockSum (w : Vec F S31x2048 .f32) (x : Vec F S288x2048 .f32) (o r : ℕ) : ℕ → FVec F S64x256 .f32
  | 0 => broadcast S64x256 (Scalar.ofBits .f32 0x00000000#32)
  | n + 1 => addf (blockSum w x o r n) (mulf (tapAt w o n) (rowsAt x o (r + 1 + n)))

theorem blockSum_apply (w : Vec F S31x2048 .f32) (x : Vec F S288x2048 .f32) (o r : ℕ) (y : S64x256.Idx) :
    ∀ n, blockSum w x o r n y = tapSum w x (r + (y 0).val) (o + (y 1).val) n
  | 0 => rfl
  | n + 1 => by
    show FloatOps.addf (blockSum w x o r n y) (FloatOps.mulf (gw w n (o + (y 1).val)) (gx x (r + 1 + n + (y 0).val) (o + (y 1).val))) = _
    rw [blockSum_apply w x o r y n, show r + 1 + n + (y 0).val = r + (y 0).val + 1 + n by omega]
    rfl

/-- A block's sum with its bias is the convolution there. -/
theorem block_conv (w : Vec F S31x2048 .f32) (b : Vec F S1x2048 .f32) (x : Vec F S288x2048 .f32) {off : Fin 2 → ℕ} (r o : ℕ)
    (h : off = ![r, o]) (inb : ∀ a, off a + ![64, 256] a ≤ S256x2048.size a) (u : S64x256.Idx) :
    addf (blockSum w x o r 31) (biasAt b o) u = conv w b x ((Rect.unit (s := S256x2048) off ![64, 256] inb).emb u) := by
  subst h
  show FloatOps.addf (blockSum w x o r 31 u) (gb b (o + (u 1).val))
    = FloatOps.addf (tapSum w x (r + 1 * (u 0).val) (o + 1 * (u 1).val) 31) (gb b (o + 1 * (u 1).val))
  rw [blockSum_apply, Nat.one_mul, Nat.one_mul]

/-- Loads of one tap's weights, of the bias and of a block of rows. -/
theorem ld_tap (M : Memref sig .tc .vmem S31x2048 .f32) (X : BufTy.Contents (Elt F) M.view.ty) {off : Fin 2 → ℕ} [C : ClosedOff off]
    (inb : ∀ a, off a + ![1, 256] a ≤ S31x2048.size a) (hc) (hb) :
    broadcastTo (s := S1x256) (α := F .f32) S64x256 (shapeCast (s := S1x256) (α := F .f32) S1x256 (View.readAt (Elt F) M.view (Rect.unit (s := S31x2048) off ![1, 256] inb).toLoadRect X) hc) hb
      = tapAt (M.view.read (Elt F) X) (C.form 1) (C.form 0) := by
  have h0 : off 0 + 1 ≤ 31 := inb 0
  have h1 : off 1 + 256 ≤ 2048 := inb 1
  rw [← C.eq]
  funext y
  obtain ⟨a, b, rfl⟩ : ∃ (a : Fin 64) (b : Fin 256), y = ix2 a b := ⟨y 0, y 1, eq_ix2 y⟩
  rw [shapeCast_self]
  refine (ValueIdx.broadcastTo_1b_ab_apply (a := 64) (b := 256) _ hb a b).trans ?_
  refine congrArg (M.view.read (Elt F) X) (funext fun i => Fin.ext ?_)
  have hb := b.isLt
  match i with
  | ⟨0, _⟩ => show off 0 + 1 * 0 = off 0 % 31; omega
  | ⟨1, _⟩ => show off 1 + 1 * b.val = (off 1 + b.val) % 2048; omega

theorem ld_bias (M : Memref sig .tc .vmem S1x2048 .f32) (X : BufTy.Contents (Elt F) M.view.ty) {off : Fin 2 → ℕ} [C : ClosedOff off]
    (inb : ∀ a, off a + ![1, 256] a ≤ S1x2048.size a) (hc) (hb) :
    broadcastTo (s := S1x256) (α := F .f32) S64x256 (shapeCast (s := S1x256) (α := F .f32) S1x256 (View.readAt (Elt F) M.view (Rect.unit (s := S1x2048) off ![1, 256] inb).toLoadRect X) hc) hb
      = biasAt (M.view.read (Elt F) X) (C.form 1) := by
  have h0 : off 0 + 1 ≤ 1 := inb 0
  have h1 : off 1 + 256 ≤ 2048 := inb 1
  rw [← C.eq]
  funext y
  obtain ⟨a, b, rfl⟩ : ∃ (a : Fin 64) (b : Fin 256), y = ix2 a b := ⟨y 0, y 1, eq_ix2 y⟩
  rw [shapeCast_self]
  refine (ValueIdx.broadcastTo_1b_ab_apply (a := 64) (b := 256) _ hb a b).trans ?_
  refine congrArg (M.view.read (Elt F) X) (funext fun i => Fin.ext ?_)
  have hb := b.isLt
  match i with
  | ⟨0, _⟩ => show off 0 + 1 * 0 = 0; omega
  | ⟨1, _⟩ => show off 1 + 1 * b.val = (off 1 + b.val) % 2048; omega

theorem ld_rows (M : Memref sig .tc .vmem S288x2048 .f32) (X : BufTy.Contents (Elt F) M.view.ty) {off : Fin 2 → ℕ} [C : ClosedOff off]
    (inb : ∀ a, off a + ![64, 256] a ≤ S288x2048.size a) :
    View.readAt (Elt F) M.view (Rect.unit (s := S288x2048) off ![64, 256] inb).toLoadRect X
      = rowsAt (M.view.read (Elt F) X) (C.form 1) (C.form 0) := by
  have h0 : off 0 + 64 ≤ 288 := inb 0
  have h1 : off 1 + 256 ≤ 2048 := inb 1
  rw [← C.eq]
  funext y
  obtain ⟨a, b, rfl⟩ : ∃ (a : Fin 64) (b : Fin 256), y = ix2 a b := ⟨y 0, y 1, eq_ix2 y⟩
  refine congrArg (M.view.read (Elt F) X) (funext fun i => Fin.ext ?_)
  have hb := b.isLt; have ha := a.isLt
  match i with
  | ⟨0, _⟩ => show off 0 + 1 * a.val = (off 0 + a.val) % 288; omega
  | ⟨1, _⟩ => show off 1 + 1 * b.val = (off 1 + b.val) % 2048; omega

/-- One shifted copy, as it is stored: row `a` of copy `s` is row `s + 1 + a`. -/
theorem copy_val (M : Memref sig .tc .vmem S288x2048 .f32) (X : BufTy.Contents (Elt F) M.view.ty) {off : Fin 2 → ℕ} (o s : ℕ)
    (h : off = ![s + 1, o]) (inb : ∀ a, off a + S280x256.size a ≤ S288x2048.size a) (hc)
    (inb' : ∀ a, (![s, 0, 0] : Fin 3 → ℕ) a + S1x280x256.size a ≤ S7x280x256.size a) (u : S1x280x256.Idx) :
    shapeCast S1x280x256 (View.readAt (Elt F) M.view (Rect.unit (s := S288x2048) off S280x256.size inb).toLoadRect X) hc u
      = gx (M.view.read (Elt F) X) (((Rect.unit (s := S7x280x256) ![s, 0, 0] S1x280x256.size inb').emb u 0).val + 1
          + ((Rect.unit (s := S7x280x256) ![s, 0, 0] S1x280x256.size inb').emb u 1).val)
          (o + ((Rect.unit (s := S7x280x256) ![s, 0, 0] S1x280x256.size inb').emb u 2).val) := by
  subst h
  have h0 : s + 1 + 280 ≤ 288 := inb 0
  have h1 : o + 256 ≤ 2048 := inb 1
  obtain ⟨z, a, b, rfl⟩ : ∃ (z : Fin 1) (a : Fin 280) (b : Fin 256), u = ix3 z a b := ⟨u 0, u 1, u 2, eq_ix3 u⟩
  have hb := b.isLt; have ha := a.isLt; have hz := z.isLt
  rw [shapeCast_apply _ hc (ix3 z a b) (ix2 a b) (by rw [Shape.rowMajor_val_two, Shape.rowMajor_val_three]; simp)]
  refine congrArg (M.view.read (Elt F) X) (funext fun i => Fin.ext ?_)
  match i with
  | ⟨0, _⟩ => show s + 1 + 1 * a.val = (s + 1 * z.val + 1 + (0 + 1 * a.val)) % 288; omega
  | ⟨1, _⟩ => show o + 1 * b.val = (o + (0 + 1 * b.val)) % 2048; omega

/-- A trip's seven shifted copies of its columns. -/
abbrev copies (M : Memref sig .tc .vmem S288x2048 .f32) (X : BufTy.Contents (Elt F) M.view.ty) (k : Fin k0_t1_loop.trips) :
    List (View.Piece (Elt F) S7x280x256 .f32) :=
  [⟨Rect.unit (s := S7x280x256) ![6, 0, 0] S1x280x256.size inb_S7x280x256_S1x280x256_6_0_0,
      k0_pay8 (View.readAt (Elt F) M.view (Rect.unit (s := S288x2048) (k0_off7 k) S280x256.size (k0_off7_inb k)).toLoadRect X)⟩,
    ⟨Rect.unit (s := S7x280x256) ![5, 0, 0] S1x280x256.size inb_S7x280x256_S1x280x256_5_0_0,
      k0_pay7 (View.readAt (Elt F) M.view (Rect.unit (s := S288x2048) (k0_off6 k) S280x256.size (k0_off6_inb k)).toLoadRect X)⟩,
    ⟨Rect.unit (s := S7x280x256) ![4, 0, 0] S1x280x256.size inb_S7x280x256_S1x280x256_4_0_0,
      k0_pay6 (View.readAt (Elt F) M.view (Rect.unit (s := S288x2048) (k0_off5 k) S280x256.size (k0_off5_inb k)).toLoadRect X)⟩,
    ⟨Rect.unit (s := S7x280x256) ![3, 0, 0] S1x280x256.size inb_S7x280x256_S1x280x256_3_0_0,
      k0_pay5 (View.readAt (Elt F) M.view (Rect.unit (s := S288x2048) (k0_off4 k) S280x256.size (k0_off4_inb k)).toLoadRect X)⟩,
    ⟨Rect.unit (s := S7x280x256) ![2, 0, 0] S1x280x256.size inb_S7x280x256_S1x280x256_2_0_0,
      k0_pay4 (View.readAt (Elt F) M.view (Rect.unit (s := S288x2048) (k0_off3 k) S280x256.size (k0_off3_inb k)).toLoadRect X)⟩,
    ⟨Rect.unit (s := S7x280x256) ![1, 0, 0] S1x280x256.size inb_S7x280x256_S1x280x256_1_0_0,
      k0_pay3 (View.readAt (Elt F) M.view (Rect.unit (s := S288x2048) (k0_off2 k) S280x256.size (k0_off2_inb k)).toLoadRect X)⟩,
    ⟨Rect.unit (s := S7x280x256) ![0, 0, 0] S1x280x256.size inb_S7x280x256_S1x280x256_0_0_0,
      k0_pay2 (View.readAt (Elt F) M.view (Rect.unit (s := S288x2048) (k0_off1 k) S280x256.size (k0_off1_inb k)).toLoadRect X)⟩]

/-- An entry of the copies. -/
theorem copies_val (M : Memref sig .tc .vmem S288x2048 .f32) (X : BufTy.Contents (Elt F) M.view.ty) (k : Fin k0_t1_loop.trips) (z : S7x280x256.Idx) :
    View.canon (Val := Elt F) (copies M X k) z = gx (M.view.read (Elt F) X) ((z 0).val + 1 + (z 1).val) (256 * k.val + (z 2).val) := by
  refine View.canon_apply_of_pieces (Val := Elt F) (e := .f32) (fun z : S7x280x256.Idx => (gx (M.view.read (Elt F) X) ((z 0).val + 1 + (z 1).val) (256 * k.val + (z 2).val) : F .f32)) _ ?_ z ?_
  · simp only [List.forall_mem_cons, List.not_mem_nil, false_imp_iff, implies_true, _root_.and_true]
    exact ⟨copy_val M X _ 6 (k0_off7_eq k) _ _ _, copy_val M X _ 5 (k0_off6_eq k) _ _ _, copy_val M X _ 4 (k0_off5_eq k) _ _ _,
      copy_val M X _ 3 (k0_off4_eq k) _ _ _, copy_val M X _ 2 (k0_off3_eq k) _ _ _, copy_val M X _ 1 (k0_off2_eq k) _ _ _,
      copy_val M X _ 0 (k0_off1_eq k) _ _ _⟩
  · have h0 : (z 0).val < 7 := (z 0).isLt
    have h1 : (z 1).val < 280 := (z 1).isLt
    have h2 : (z 2).val < 256 := (z 2).isLt
    simp only [List.exists_mem_cons_iff, List.not_mem_nil, _root_.false_and, exists_false, _root_.or_false, Rect.mem_set_unit, Fin.forall_fin_succ]
    simp
    omega

/-- A load of 64 rows of one shifted copy. -/
theorem ld_copy (N : Memref sig .tc .vmem S7x280x256 .f32) (x : Vec F S288x2048 .f32) (o : ℕ) (L : List (View.Piece (Elt F) S7x280x256 .f32))
    (hL : ∀ z : S7x280x256.Idx, View.canon (Val := Elt F) L z = gx x ((z 0).val + 1 + (z 1).val) (o + (z 2).val))
    (s q : ℕ) (inb : ∀ a, (![s, q, 0] : Fin 3 → ℕ) a + (![1, 64, 256] : Fin 3 → ℕ) a ≤ S7x280x256.size a) (hc) :
    shapeCast (s := S1x64x256) (α := F .f32) S64x256 (N.view.readCov (Val := Elt F) L (Rect.unit (s := S7x280x256) ![s, q, 0] ![1, 64, 256] inb).toLoadRect) hc
      = rowsAt x o (s + 1 + q) := by
  funext y
  obtain ⟨a, b, rfl⟩ : ∃ (a : Fin 64) (b : Fin 256), y = ix2 a b := ⟨y 0, y 1, eq_ix2 y⟩
  rw [View.readCov_eq_canon', shapeCast_apply _ hc (ix2 a b) (ix3 0 a b) (by rw [Shape.rowMajor_val_two, Shape.rowMajor_val_three]; simp), hL]
  show gx _ (s + 1 * 0 + 1 + (q + 1 * a.val)) (o + (0 + 1 * b.val)) = gx _ (s + 1 + q + a.val) (o + b.val)
  congr 1 <;> omega

/-- The scratch before trip `k`: the first `256 * k` columns hold `v`, the others what it held at first. -/
def upTo {arg14 : Memref sig .tc .vmem S256x2048 .f32} (harg14 : arg14.IsWhole) (G : BufTy.Contents (Elt F) arg14.view.ty)
    (v : Vec F S256x2048 .f32) : ℕ → BufTy.Contents (Elt F) arg14.view.ty
  | 0 => G
  | k + 1 => harg14.unread (fun y => if (y 1).val < 256 * (k + 1) then v y else arg14.view.read (Elt F) G y)

theorem read_upTo {arg14 : Memref sig .tc .vmem S256x2048 .f32} (harg14 : arg14.IsWhole) (G : BufTy.Contents (Elt F) arg14.view.ty)
    (v : Vec F S256x2048 .f32) (y : S256x2048.Idx) :
    ∀ k, arg14.view.read (Elt F) (upTo harg14 G v k) y = if (y 1).val < 256 * k then v y else arg14.view.read (Elt F) G y
  | 0 => by rw [if_neg (by omega)]; rfl
  | k + 1 => by unfold upTo; rw [harg14.read_unread]

/-- After eight trips it holds `v`. -/
theorem upTo_eight {arg14 : Memref sig .tc .vmem S256x2048 .f32} (harg14 : arg14.IsWhole) (G : BufTy.Contents (Elt F) arg14.view.ty)
    (v : Vec F S256x2048 .f32) : upTo harg14 G v (Scf.trips k0_t1_loop.lb k0_t1_loop.ub k0_t1_loop.st) = harg14.unread v := by
  have e : Scf.trips k0_t1_loop.lb k0_t1_loop.ub k0_t1_loop.st = 8 := by decide
  rw [e]
  refine harg14.eq_unread (funext fun y => ?_)
  have h1 : (y 1).val < 2048 := (y 1).isLt
  rw [read_upTo, if_pos (by omega)]

section
variable (c : Dev nD) (i : grid0.Coords) (arg2 : Memref sig .tc .vmem S1x256x2048 .f32) (harg2 : arg2.IsWhole) (arg3 : Memref sig .tc .vmem S1x16x2048 .f32) (harg3 : arg3.IsWhole) (arg4 : Memref sig .tc .vmem S1x16x2048 .f32) (harg4 : arg4.IsWhole) (arg5 : Memref sig .tc .vmem S1x256x2048 .f32) (harg5 : arg5.IsWhole) (arg6 : Memref sig .tc .vmem S31x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S2048x2048 .bf16) (harg10 : arg10.IsWhole) (arg11 : Memref sig .tc .vmem S1x2048 .f32) (harg11 : arg11.IsWhole) (arg12 : Memref sig .tc .vmem S1x256x2048 .f32) (harg12 : arg12.IsWhole) (arg13 : Memref sig .tc .vmem S288x2048 .f32) (harg13 : arg13.IsWhole) (arg14 : Memref sig .tc .vmem S256x2048 .f32) (harg14 : arg14.IsWhole) (arg15 : Memref sig .tc .vmem S7x280x256 .f32) (harg15 : arg15.IsWhole)
  (X6 : BufTy.Contents (Elt F) arg6.view.ty) (X7 : BufTy.Contents (Elt F) arg7.view.ty) (X13 : BufTy.Contents (Elt F) arg13.view.ty)

/-- What a trip holds: the taps, the bias and the extended rows as they are, the two scratches it writes. -/
abbrev Held (f14 : BufTy.Contents (Elt F) arg14.view.ty) (f15 : BufTy.Contents (Elt F) arg15.view.ty) : sProp 𝕄 :=
  iprop((arg6.view.loc (c : Thread nD τ) ↦[arg6.view.set]{fullShare} X6) ∗ (arg7.view.loc (c : Thread nD τ) ↦[arg7.view.set]{fullShare} X7) ∗ (arg13.view.loc (c : Thread nD τ) ↦[arg13.view.set]{fullShare} X13)
    ∗ (arg14.view.loc (c : Thread nD τ) ↦[arg14.view.set]{fullShare} f14) ∗ (arg15.view.loc (c : Thread nD τ) ↦[arg15.view.set]{fullShare} f15))

set_option maxHeartbeats 1000000 in
/-- One trip: its columns of the scratch hold the convolution, the others what they held. -/
theorem trip (k : Fin k0_t1_loop.trips) (E : Set ℕ) (f14 : BufTy.Contents (Elt F) arg14.view.ty) (f15 : BufTy.Contents (Elt F) arg15.view.ty) :
      Held (F := F) c arg6 arg7 arg13 arg14 arg15 X6 X7 X13 f14 f15
      ⊢ wp frame (wpE (defs₀ (F := F)) Variants.none (c : Thread nD τ) none) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 k PUnit.unit)
          (fun _ => iprop(∃ g f, Held (F := F) c arg6 arg7 arg13 arg14 arg15 X6 X7 X13 g f ∗ ⌜∀ y, arg14.view.read (Elt F) g y = if (y 1).val / 256 = k.val then conv (arg6.view.read (Elt F) X6) (arg7.view.read (Elt F) X7) (arg13.view.read (Elt F) X13) y else arg14.view.read (Elt F) f14 y⌝)) := by
  have hk : k.val < 8 := Nat.lt_of_lt_of_le k.isLt k0_t1_abs.2.1
  unfold k0_t1_body
  iintro ⟨HR_arg6, HR_arg7, HR_arg13, HW_arg14, HW_arg15⟩
  sl_exec
  sl_step
  iexists _, _
  isplitl
  · isplitl [HR_arg6]; · iexact HR_arg6
    isplitl [HR_arg7]; · iexact HR_arg7
    isplitl [HR_arg13]; · iexact HR_arg13
    isplitl [HW_arg14]; · iexact HW_arg14
    iexact HW_arg15
  · ipureintro
    intro y
    split
    · rename_i hy
      refine View.read_writes_apply_of_pieces arg14.view _ (conv (arg6.view.read (Elt F) X6) (arg7.view.read (Elt F) X7) (arg13.view.read (Elt F) X13)) _ ?_ y ?_
      · simp only [List.forall_mem_cons, List.not_mem_nil, false_imp_iff, implies_true, _root_.and_true]
        sl_unfold_run_values
        have hcp := copies_val arg13 X13 k
        have ldc := fun s q inb hc => ld_copy arg15 (arg13.view.read (Elt F) X13) (256 * k.val) (trip.sl.HW_arg15_7 arg13 X13 k) hcp s q inb hc
        refine ⟨?_, ?_, ?_, ?_⟩
        all_goals intro u
        · refine Eq.trans (congrFun ?_ u) (block_conv _ _ _ 192 (256 * k.val) (k0_off55_eq k) _ u)
          simp only [k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, ldc, ld_tap, ld_rows, ld_bias]
          simp only [shapeCast_self]
          simp only [blockSum, Nat.reduceAdd]
          refine congrArg₂ addf ?_ rfl
          iterate 31 refine congrArg₂ addf ?_ (congrArg₂ mulf rfl rfl)
          rfl
        · refine Eq.trans (congrFun ?_ u) (block_conv _ _ _ 128 (256 * k.val) (k0_off51_eq k) _ u)
          simp only [k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, ldc, ld_tap, ld_rows, ld_bias]
          simp only [shapeCast_self]
          simp only [blockSum, Nat.reduceAdd]
          refine congrArg₂ addf ?_ rfl
          iterate 31 refine congrArg₂ addf ?_ (congrArg₂ mulf rfl rfl)
          rfl
        · refine Eq.trans (congrFun ?_ u) (block_conv _ _ _ 64 (256 * k.val) (k0_off47_eq k) _ u)
          simp only [k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, ldc, ld_tap, ld_rows, ld_bias]
          simp only [shapeCast_self]
          simp only [blockSum, Nat.reduceAdd]
          refine congrArg₂ addf ?_ rfl
          iterate 31 refine congrArg₂ addf ?_ (congrArg₂ mulf rfl rfl)
          rfl
        · refine Eq.trans (congrFun ?_ u) (block_conv _ _ _ 0 (256 * k.val) (k0_off43_eq k) _ u)
          simp only [k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, ldc, ld_tap, ld_rows, ld_bias]
          simp only [shapeCast_self]
          simp only [blockSum, Nat.reduceAdd]
          refine congrArg₂ addf ?_ rfl
          iterate 31 refine congrArg₂ addf ?_ (congrArg₂ mulf rfl rfl)
          rfl
      · have h0 : (y 0).val < 256 := (y 0).isLt
        have h1 : (y 1).val < 2048 := (y 1).isLt
        simp only [List.exists_mem_cons_iff, List.not_mem_nil, _root_.false_and, exists_false, _root_.or_false, Rect.mem_set_unit, Fin.forall_fin_succ,
          k0_off43_eq, k0_off47_eq, k0_off51_eq, k0_off55_eq]
        simp
        omega
    · rename_i hy
      refine View.read_writes_apply_of_forall_not_mem _ _ _ _ ?_
      have h1 : (y 1).val < 2048 := (y 1).isLt
      simp only [List.forall_mem_cons, List.not_mem_nil, false_imp_iff, implies_true, _root_.and_true, Rect.mem_set_unit, Fin.forall_fin_succ,
          k0_off43_eq, k0_off47_eq, k0_off51_eq, k0_off55_eq]
      simp
      omega

set_option warn.classDefReducibility false in
/-- The loop by its invariant: the convolution filled in column block by column block, the copies at any contents. -/
@[sl_loop] def convLoop (E : Set ℕ) (G : BufTy.Contents (Elt F) arg14.view.ty) :
    LoopInvTy_k0_t1 (F := F) Unit ℕ (UR sig nD τ) ℕ Variants.none c none E i arg2 harg2 arg3 harg3 arg4 harg4 arg5 harg5 arg6 harg6 arg7 harg7 arg8 harg8 arg9 harg9 arg10 harg10 arg11 harg11 arg12 harg12 arg13 harg13 arg14 harg14 arg15 harg15 where
  inv k _ := iprop((arg6.view.loc (c : Thread nD τ) ↦[arg6.view.set]{fullShare} X6) ∗ (arg7.view.loc (c : Thread nD τ) ↦[arg7.view.set]{fullShare} X7) ∗ (arg13.view.loc (c : Thread nD τ) ↦[arg13.view.set]{fullShare} X13)
    ∗ (∃ f, (arg14.view.loc (c : Thread nD τ) ↦[arg14.view.set]{fullShare} f) ∗ ⌜f = upTo harg14 G (conv (arg6.view.read (Elt F) X6) (arg7.view.read (Elt F) X7) (arg13.view.read (Elt F) X13)) k⌝)
    ∗ (∃ f, (arg15.view.loc (c : Thread nD τ) ↦[arg15.view.set]{fullShare} f)))
  step k acc := by
    iintro ⟨H6, H7, H13, ⟨%f14, H14, %h14⟩, ⟨%f15, H15⟩⟩
    iapply (wp_wand_r Idealize.ShloMosaic.frame (wpE (defs₀ (F := F)) Variants.none (c : Thread nD τ) none) E)
    isplitl [H6 H7 H13 H14 H15]
    · iapply (trip c i arg2 harg2 arg3 harg3 arg4 harg4 arg5 harg5 arg6 harg6 arg7 harg7 arg8 harg8 arg9 harg9 arg10 harg10 arg11 harg11 arg12 harg12 arg13 harg13 arg14 harg14 arg15 harg15 X6 X7 X13 k E f14 f15)
      isplitl [H6]; · iexact H6
      isplitl [H7]; · iexact H7
      isplitl [H13]; · iexact H13
      isplitl [H14]; · iexact H14
      iexact H15
    · iintro %_ ⟨%g, %f, ⟨H6, H7, H13, H14, H15⟩, %hg⟩
      isplitl [H6]; · iexact H6
      isplitl [H7]; · iexact H7
      isplitl [H13]; · iexact H13
      isplitl [H14]
      · iexists _; isplitl [H14]; · iexact H14
        ipureintro
        refine harg14.eq_unread (funext fun y => ?_)
        rw [hg, h14, read_upTo]
        by_cases h : (y 1).val / 256 = k.val
        · rw [if_pos h, if_pos (by omega)]
        · rw [if_neg h]
          by_cases h' : (y 1).val < 256 * k.val
          · rw [if_pos h', if_pos (by omega)]
          · rw [if_neg h', if_neg (by omega)]
      iexists _; iexact H15

end

end Cert.Conv

end
-- ==== Proof.ConvRun.lean ====
/- The convolution module's body, run once at a symbolic grid point: the tile's rows are stored between the two halos, the loop
   leaves their depthwise convolution, and the rest norms it, applies silu, multiplies by the weight and adds. -/
module

public import proofs.«01_k».proof.Proof.ConvTrip
public import proofs.«01_k».proof.Proof.Gen.Kernel6Ideal.Frame
public meta import Idealize.ShloMosaic.Lib.Tactic.RunNames

@[expose] public section

set_option maxRecDepth 16384

noncomputable section

namespace Cert.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel6Ideal Cert.Kernel6Ideal.Gen

variable {F : FTy → Type} [FloatOps F]

local notation "𝕄" => MT nD τ sig Unit (Elt F) ℕ (UR sig nD τ) ℕ

/-- The extended rows: 16 rows of the halo before the tile, the tile's 256, 16 of the halo after it. -/
def ext (i : grid0.Coords) (u : Vec F S1x256x2048 .f32) (a b : Vec F S1x16x2048 .f32) : Vec F S288x2048 .f32 := fun y =>
  if (y 0).val < 16 then k0_pay55 i a (ix2 (Fin.ofNat 16 (y 0).val) (y 1))
  else if (y 0).val < 272 then k0_pay56 u (ix2 (Fin.ofNat 256 ((y 0).val - 16)) (y 1))
  else k0_pay57 i b (ix2 (Fin.ofNat 16 ((y 0).val - 272)) (y 1))

/-- The three stores' pieces of it. -/
theorem ext_before (i : grid0.Coords) (u : Vec F S1x256x2048 .f32) (a b : Vec F S1x16x2048 .f32) (inb) (z : S16x2048.Idx) :
    k0_pay55 i a z = ext i u a b ((Rect.unit (s := S288x2048) ![0, 0] S16x2048.size inb).emb z) := by
  obtain ⟨p, q, rfl⟩ : ∃ (p : Fin 16) (q : Fin 2048), z = ix2 p q := ⟨z 0, z 1, eq_ix2 z⟩
  have e0 : ((Rect.unit (s := S288x2048) ![0, 0] S16x2048.size inb).emb (ix2 p q) 0).val = p.val := by show 0 + 1 * p.val = _; omega
  unfold ext
  rw [if_pos (by omega)]
  refine congrArg (k0_pay55 i a) (funext fun d => Fin.ext ?_)
  match d with
  | ⟨0, _⟩ => show p.val = (0 + 1 * p.val) % 16; omega
  | ⟨1, _⟩ => show q.val = 0 + 1 * q.val; omega

theorem ext_tile (i : grid0.Coords) (u : Vec F S1x256x2048 .f32) (a b : Vec F S1x16x2048 .f32) (inb) (z : S256x2048.Idx) :
    k0_pay56 u z = ext i u a b ((Rect.unit (s := S288x2048) ![16, 0] S256x2048.size inb).emb z) := by
  obtain ⟨p, q, rfl⟩ : ∃ (p : Fin 256) (q : Fin 2048), z = ix2 p q := ⟨z 0, z 1, eq_ix2 z⟩
  have e0 : ((Rect.unit (s := S288x2048) ![16, 0] S256x2048.size inb).emb (ix2 p q) 0).val = 16 + p.val := by show 16 + 1 * p.val = _; omega
  unfold ext
  rw [if_neg (by omega), if_pos (by omega)]
  refine congrArg (k0_pay56 u) (funext fun d => Fin.ext ?_)
  match d with
  | ⟨0, _⟩ => show p.val = (16 + 1 * p.val - 16) % 256; omega
  | ⟨1, _⟩ => show q.val = 0 + 1 * q.val; omega

theorem ext_after (i : grid0.Coords) (u : Vec F S1x256x2048 .f32) (a b : Vec F S1x16x2048 .f32) (inb) (z : S16x2048.Idx) :
    k0_pay57 i b z = ext i u a b ((Rect.unit (s := S288x2048) ![272, 0] S16x2048.size inb).emb z) := by
  obtain ⟨p, q, rfl⟩ : ∃ (p : Fin 16) (q : Fin 2048), z = ix2 p q := ⟨z 0, z 1, eq_ix2 z⟩
  have e0 : ((Rect.unit (s := S288x2048) ![272, 0] S16x2048.size inb).emb (ix2 p q) 0).val = 272 + p.val := by show 272 + 1 * p.val = _; omega
  unfold ext
  rw [if_neg (by omega), if_neg (by omega)]
  refine congrArg (k0_pay57 i b) (funext fun d => Fin.ext ?_)
  match d with
  | ⟨0, _⟩ => show p.val = (272 + 1 * p.val - 272) % 16; omega
  | ⟨1, _⟩ => show q.val = 0 + 1 * q.val; omega

/-- What a point leaves in its output block, over the convolution of the extended rows. -/
def left (i : grid0.Coords) (x0 : Vec F S1x256x2048 .f32) (x1 : Vec F S1x16x2048 .f32) (x2 : Vec F S1x16x2048 .f32) (x3 : Vec F S1x256x2048 .f32) (x4 : Vec F S31x2048 .f32) (x5 : Vec F S1x2048 .f32) (x6 : Vec F S1x2048 .f32) (x7 : Vec F S1x2048 .f32) (x8 : Vec F S2048x2048 .bf16) (x9 : Vec F S1x2048 .f32) : Vec F S1x256x2048 .f32 :=
  k0_pay1 (k0_pay59 (conv x4 x5 (ext i x0 x1 x2)) (k0_pay58 (conv x4 x5 (ext i x0 x1 x2))) x6 x7 x3 x8 x9)

section

variable (c : Dev nD) (i : grid0.Coords)
  (arg2 : Memref sig .tc .vmem S1x256x2048 .f32) (harg2 : arg2.IsWhole)
  (arg3 : Memref sig .tc .vmem S1x16x2048 .f32) (harg3 : arg3.IsWhole)
  (arg4 : Memref sig .tc .vmem S1x16x2048 .f32) (harg4 : arg4.IsWhole)
  (arg5 : Memref sig .tc .vmem S1x256x2048 .f32) (harg5 : arg5.IsWhole)
  (arg6 : Memref sig .tc .vmem S31x2048 .f32) (harg6 : arg6.IsWhole)
  (arg7 : Memref sig .tc .vmem S1x2048 .f32) (harg7 : arg7.IsWhole)
  (arg8 : Memref sig .tc .vmem S1x2048 .f32) (harg8 : arg8.IsWhole)
  (arg9 : Memref sig .tc .vmem S1x2048 .f32) (harg9 : arg9.IsWhole)
  (arg10 : Memref sig .tc .vmem S2048x2048 .bf16) (harg10 : arg10.IsWhole)
  (arg11 : Memref sig .tc .vmem S1x2048 .f32) (harg11 : arg11.IsWhole)
  (arg12 : Memref sig .tc .vmem S1x256x2048 .f32) (harg12 : arg12.IsWhole)
  (arg13 : Memref sig .tc .vmem S288x2048 .f32) (harg13 : arg13.IsWhole)
  (arg14 : Memref sig .tc .vmem S256x2048 .f32) (harg14 : arg14.IsWhole)
  (arg15 : Memref sig .tc .vmem S7x280x256 .f32) (harg15 : arg15.IsWhole)
  (x0 : Vec F S1x256x2048 .f32) (x1 : Vec F S1x16x2048 .f32) (x2 : Vec F S1x16x2048 .f32) (x3 : Vec F S1x256x2048 .f32) (x4 : Vec F S31x2048 .f32) (x5 : Vec F S1x2048 .f32) (x6 : Vec F S1x2048 .f32) (x7 : Vec F S1x2048 .f32) (x8 : Vec F S2048x2048 .bf16) (x9 : Vec F S1x2048 .f32)

set_option maxHeartbeats 2000000 in
/-- The body at a grid point. -/
theorem run (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (left i x0 x1 x2 x3 x4 x5 x6 x7 x8 x9) ∗ (∃ d, owns (c : Thread nD τ) arg13 fullShare d) ∗ (∃ d, owns (c : Thread nD τ) arg14 fullShare d) ∗ (∃ d, owns (c : Thread nD τ) arg15 fullShare d)) -∗ K ⟨⟩))
      ⊢ wp frame (wpE (defs₀ (F := F)) Variants.none c none) E
          (cc0_conv_module i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_conv_module_eq_skeleton]; unfold cc0_conv_module_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  sl_exec
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; swap; · iexact H12
    ipureintro
    refine (View.read_writes_full _ _ _ _ _).trans ?_
    sl_unfold_run_values
    have hx : View.read (Elt F) arg13.view (arg13.view.writes (Elt F) arg13.view.junk
        (run.sl.H13_3 c i arg2 harg2 arg3 harg3 arg4 harg4 x0 x1 x2)) = ext i x0 x1 x2 := by
      funext y
      have h0 : (y 0).val < 288 := (y 0).isLt
      have h1 : (y 1).val < 2048 := (y 1).isLt
      refine View.read_writes_apply_of_pieces arg13.view _ (ext i x0 x1 x2) _ ?_ y ?_
      · sl_unfold_run_names
        simp only [List.forall_mem_cons, List.not_mem_nil, false_imp_iff, implies_true, _root_.and_true]
        refine ⟨fun z => ?_, fun z => ?_, fun z => ?_⟩
        · refine Eq.trans ?_ (ext_after i x0 x1 x2 _ z); frame_out
        · refine Eq.trans ?_ (ext_tile i x0 x1 x2 _ z); frame_out
        · refine Eq.trans ?_ (ext_before i x0 x1 x2 _ z); frame_out
      · sl_unfold_run_names
        simp only [List.exists_mem_cons_iff, List.not_mem_nil, _root_.false_and, exists_false, _root_.or_false, Rect.mem_set_unit, Fin.forall_fin_succ]
        simp
        omega
    have hg : ∀ v, upTo harg14 f14 v (Scf.trips (0#32) (Scalar.addi 0#32 8#32) 1#32) = harg14.unread v := upTo_eight harg14 f14
    simp only [hx, hf6, hf7]
    unfold left
    frame_out
    rw [hg, harg14.read_unread]
  isplitl [H13]
  · iexists _, _; isplitr; swap; · iexact H13
    ipureintro; rfl
  isplitl [H14]
  · iexists _, _; isplitr; swap; · iexact H14
    ipureintro; rfl
  iexists _, _; isplitr; swap; · iexact H15
  ipureintro; rfl

end

end Cert.Conv

end
-- ==== Proof.ConvFrame.lean ====
/- The convolution module's frame: what every grid point leaves, the body obligation — the three scratches are filled anew at
   every point, so the invariant only lends them — and the run of the whole program. -/
module

public import proofs.«01_k».proof.Proof.ConvRun
public import Idealize.ShloMosaic.Lib.Pipeline.TableIdle

@[expose] public section

set_option maxRecDepth 16384

noncomputable section

namespace Cert.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel6Ideal Cert.Kernel6Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratches are the buffers the region leaves to the body. -/
theorem lent (c : Dev nD) :
    (Pipeline.ΦA spec0 c : sProp 𝕄)
      = iprop(((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d)) ∗ (∃ r, prngReg c r)) := by
  unfold Pipeline.ΦA; rw [scopedRest0_eq]; simp only [owns_whole]; try rfl

/-- What point `t` leaves in its output block. -/
def out (c : Dev nD) (t : Fin cfg0.N) : Vec F S1x256x2048 .f32 :=
  left (grid0.coords t) (iblk m c 0 t) (iblk m c 1 t) (iblk m c 2 t) (iblk m c 3 t) (iblk m c 4 t) (iblk m c 5 t) (iblk m c 6 t) (iblk m c 7 t) (iblk m c 8 t) (iblk m c 9 t)

/-- What each window's buffer holds after the body: an input its block, the output what the point leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => out m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

section

variable (c : Dev nD) (t : Fin cfg0.N)

theorem after_0 : (dats m 0 c).after 0 t = iblk m c 0 t := by dsimp only [dats]
theorem after_1 : (dats m 0 c).after 1 t = iblk m c 1 t := by dsimp only [dats]
theorem after_2 : (dats m 0 c).after 2 t = iblk m c 2 t := by dsimp only [dats]
theorem after_3 : (dats m 0 c).after 3 t = iblk m c 3 t := by dsimp only [dats]
theorem after_4 : (dats m 0 c).after 4 t = iblk m c 4 t := by dsimp only [dats]
theorem after_5 : (dats m 0 c).after 5 t = iblk m c 5 t := by dsimp only [dats]
theorem after_6 : (dats m 0 c).after 6 t = iblk m c 6 t := by dsimp only [dats]
theorem after_7 : (dats m 0 c).after 7 t = iblk m c 7 t := by dsimp only [dats]
theorem after_8 : (dats m 0 c).after 8 t = iblk m c 8 t := by dsimp only [dats]
theorem after_9 : (dats m 0 c).after 9 t = iblk m c 9 t := by dsimp only [dats]
theorem after_10 : (dats m 0 c).after 10 t = out m c t := by dsimp only [dats]

theorem before_0 (d) : (dats m 0 c).before 0 t d = iblk m c 0 t :=
  before0_0_of m (dats m 0 c) (A_eq m c 0) (after_0 m c) t d
theorem before_1 (d) : (dats m 0 c).before 1 t d = iblk m c 1 t :=
  before0_1_of m (dats m 0 c) (A_eq m c 1) (after_1 m c) t d
theorem before_2 (d) : (dats m 0 c).before 2 t d = iblk m c 2 t :=
  before0_2_of m (dats m 0 c) (A_eq m c 2) (after_2 m c) t d
theorem before_3 (d) : (dats m 0 c).before 3 t d = iblk m c 3 t :=
  before0_3_of m (dats m 0 c) (A_eq m c 3) (after_3 m c) t d
theorem before_4 (d) : (dats m 0 c).before 4 t d = iblk m c 4 t :=
  before0_4_of m (dats m 0 c) (A_eq m c 4) (after_4 m c) t d
theorem before_5 (d) : (dats m 0 c).before 5 t d = iblk m c 5 t :=
  before0_5_of m (dats m 0 c) (A_eq m c 5) (after_5 m c) t d
theorem before_6 (d) : (dats m 0 c).before 6 t d = iblk m c 6 t :=
  before0_6_of m (dats m 0 c) (A_eq m c 6) (after_6 m c) t d
theorem before_7 (d) : (dats m 0 c).before 7 t d = iblk m c 7 t :=
  before0_7_of m (dats m 0 c) (A_eq m c 7) (after_7 m c) t d
theorem before_8 (d) : (dats m 0 c).before 8 t d = iblk m c 8 t :=
  before0_8_of m (dats m 0 c) (A_eq m c 8) (after_8 m c) t d
theorem before_9 (d) : (dats m 0 c).before 9 t d = iblk m c 9 t :=
  before0_9_of m (dats m 0 c) (A_eq m c 9) (after_9 m c) t d

end

/-- Each window's current buffer at a point, as the pipeline passes it. -/
abbrev buf (t : Fin cfg0.N) (w : Fin cfg0.W) := (cfg0.win w).stage (cfg0.slots t w)

/-- What the body is called with at a point, window by window, -/
def pre (c : Dev nD) (t : Fin cfg0.N) : sProp 𝕄 :=
  iprop((dats m 0 c).Φ t.castSucc ∗ (dats m 0 c).owesAt () t.castSucc
    ∗ (∃ d, owns (c : Thread nD τ) (buf t 0) fullShare ((dats m 0 c).before 0 t d))
    ∗ (∃ d, owns (c : Thread nD τ) (buf t 1) fullShare ((dats m 0 c).before 1 t d))
    ∗ (∃ d, owns (c : Thread nD τ) (buf t 2) fullShare ((dats m 0 c).before 2 t d))
    ∗ (∃ d, owns (c : Thread nD τ) (buf t 3) fullShare ((dats m 0 c).before 3 t d))
    ∗ (∃ d, owns (c : Thread nD τ) (buf t 4) fullShare ((dats m 0 c).before 4 t d))
    ∗ (∃ d, owns (c : Thread nD τ) (buf t 5) fullShare ((dats m 0 c).before 5 t d))
    ∗ (∃ d, owns (c : Thread nD τ) (buf t 6) fullShare ((dats m 0 c).before 6 t d))
    ∗ (∃ d, owns (c : Thread nD τ) (buf t 7) fullShare ((dats m 0 c).before 7 t d))
    ∗ (∃ d, owns (c : Thread nD τ) (buf t 8) fullShare ((dats m 0 c).before 8 t d))
    ∗ (∃ d, owns (c : Thread nD τ) (buf t 9) fullShare ((dats m 0 c).before 9 t d))
    ∗ (∃ d, owns (c : Thread nD τ) (buf t 10) fullShare ((dats m 0 c).before 10 t d)))

/-- and what it returns. -/
def post (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t)

/-- A window is left at its stated contents. -/
theorem leaves_live (c : Dev nD) (t : Fin cfg0.N) (w : Fin cfg0.W) (h : cfg0.idle w (grid0.coords t) = false) :
    (dats m 0 c).leavesExact w t = owns (c : Thread nD τ) (buf t w) fullShare ((dats m 0 c).after w t) := by
  unfold Dat.leavesExact; rw [h]

set_option maxHeartbeats 4000000 in
/-- The body at any point. -/
theorem body (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3, before_4, before_5, before_6, before_7, before_8, before_9]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, lent]
  rw [leaves_live m c t 0 rfl, leaves_live m c t 1 rfl, leaves_live m c t 2 rfl, leaves_live m c t 3 rfl, leaves_live m c t 4 rfl, leaves_live m c t 5 rfl, leaves_live m c t 6 rfl, leaves_live m c t 7 rfl, leaves_live m c t 8 rfl, leaves_live m c t 9 rfl, leaves_live m c t 10 rfl,
    after_0, after_1, after_2, after_3, after_4, after_5, after_6, after_7, after_8, after_9, after_10]
  unfold out
  iintro ⟨⟨⟨HA, HB, HC⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (run c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [HA]; · iexact HA
  isplitl [HB]; · iexact HB
  isplitl [HC]; · iexact HC
  iintro ⟨H0, H1, H2, H3, H4, H5, H6, H7, H8, H9, H10, HA, HB, HC⟩
  isplitl [HA HB HC Hg]
  · isplitl [HA HB HC]
    · isplitl [HA]; · iexact HA
      isplitl [HB]; · iexact HB
      iexact HC
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body obligation of the pipeline. -/
theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (body m c t) rfl .rfl fun _ => .rfl

-- the launch lemma's implicit arguments are found by unifying its conclusion with this one, through plain definitions
set_option backward.isDefEq.respectTransparency.types false in
/-- The run: every array of the pipeline ends at what the points' contents make of it, every counter at zero. -/
theorem run_all : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m)
    (hin := fun _ => Idealize.SL.BI.Entails.refl _) (hout := fun _ => Idealize.SL.BI.Entails.refl _)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) ((θ_run defs _ _).mono (fun _ h => h.1) (run_all m ρ)))
    ((θ_run defs _ _).mono (fun _ h => h.2) (run_all m ρ))

end Cert.Conv

end
-- ==== Proof.ConvBits.lean ====
/- The convolution module's frame at the machine's own float values: the program and the idealized program are one text, so
   the run proved for any float values is both programs' run. -/
module

public import proofs.«01_k».proof.Defs
public import proofs.«01_k».proof.Proof.Gen.Kernel6
public import proofs.«01_k».proof.Proof.ConvFrame

@[expose] public section

set_option maxRecDepth 16384

noncomputable section

namespace Cert.Conv

open Idealize.ShloMosaic Idealize.SL.Sem

/-- The two body tables have the same one row. -/
theorem rows_eq : Cert.Kernel6.defs₀ (F := Bits) = Cert.Kernel6Ideal.defs₀ (F := Bits) := by
  unfold Cert.Kernel6.defs₀ Cert.Kernel6Ideal.defs₀
  refine congrArg Defs.onTc (funext fun l => ?_)
  match l with
  | 0 => rfl

theorem defs_eq : Cert.Kernel6.defs (F := Bits) = Cert.Kernel6Ideal.defs (F := Bits) :=
  congrArg (Pipeline.defs (Cert.Kernel6Ideal.pcfgs (F := Bits))) rows_eq

theorem frame_kernel : Cert.quiescent_Kernel6 := fun m ρ _ => by
  rw [defs_eq]
  exact frame (F := Bits) m ρ

end Cert.Conv

end
-- ==== Proof.ConvRef.lean ====
/- The convolution module's reference, read at an index: the padded rows, the 31 taps' sum, the norm of a row, its activation,
   the last product. -/
module

public import proofs.«01_k».proof.Proof.Gen.Reference6Ideal.Run
public import proofs.«01_k».proof.Proof.Spec

@[expose] public section

set_option maxRecDepth 16384

noncomputable section

namespace Cert.Spec

open Idealize.ShloMosaic

/-- Entry `p` of a column of 4096 values with 15 zeros on either side. -/
def padded (u : Fin 4096 → EReal) (p : ℕ) : EReal := if h : 15 ≤ p ∧ p - 15 < 4096 then u ⟨p - 15, h.2⟩ else 0

/-- The first `n` of the 31 taps' terms at row `s`. -/
def taps (w : Fin 31 → EReal) (u : Fin 4096 → EReal) (s : ℕ) : ℕ → EReal
  | 0 => 0
  | n + 1 => taps w u s n + w (Fin.ofNat 31 n) * padded u (s + n)

/-- A row's mean; its 2048 is as the programs write it. -/
def mean (x : Fin 2048 → EReal) : EReal := Ideal.div (∑ k, x k) (Ideal.ofBits FTy.f32 0x45000000#32)

/-- A row less its mean, over the root of its variance, scaled and shifted: the reference's `layernorm`, with the rounded
    1e-5 as the programs write it. -/
def lnorm (x g b : Fin 2048 → EReal) (l : Fin 2048) : EReal :=
  (x l - mean x) * Ideal.rsqrt (Ideal.div (∑ k, (x k - mean x) * (x k - mean x)) (Ideal.ofBits FTy.f32 0x45000000#32)
    + Ideal.ofBits FTy.f32 0x3727C5AC#32) * g l + b l

/-- `y` times its logistic value. -/
def silu (y : EReal) : EReal := y * Ideal.div 1 (1 + Ideal.exp (0 - y))

end Cert.Spec

namespace Cert.ConvRef

open Idealize.ShloMosaic Idealize.ShloMosaic.TcCoe Idealize.SL.Sem
open Cert.Reference6Ideal Cert.Reference6Ideal.Gen Cert.Spec

/-- The rows with 15 zero rows on either side. -/
def pads (u : FVec Ideal S4x4096x2048 .f32) : FVec Ideal S4x4126x2048 .f32 :=
  pad S4x4126x2048 ![0, 15, 0] ![0, 15, 0] ![0, 0, 0] u (sitofp .f32 (constantI S_ 32 0#32)) pads_S4x4096x2048_S4x4126x2048_000_15150_000 h_S_

/-- A row of 2048 values over the whole array. -/
def over (v : FVec Ideal S2048 .f32) : FVec Ideal S4x4096x2048 .f32 :=
  broadcastInDim S4x4096x2048 ![0, 1, 2] bcast_S1x1x2048_S4x4096x2048_0_1_2 (broadcastInDim S1x1x2048 ![2] bcast_S2048_S1x1x2048_2 v)

theorem slices_rows (n : ℕ) (h : n < 31) : S4x4126x2048.Slices ![0, n, 0] S4x4096x2048 := by
  refine ⟨rfl, fun a => ?_⟩
  match a with
  | ⟨0, _⟩ => show 0 + 4 ≤ 4; omega
  | ⟨1, _⟩ => show n + 4096 ≤ 4126; omega
  | ⟨2, _⟩ => show 0 + 2048 ≤ 2048; omega

theorem slices_taps (n : ℕ) (h : n < 31) : S31x2048.Slices ![n, 0] S1x2048 := by
  refine ⟨rfl, fun a => ?_⟩
  match a with
  | ⟨0, _⟩ => show n + 1 ≤ 31; omega
  | ⟨1, _⟩ => show 0 + 2048 ≤ 2048; omega

/-- One tap's term. -/
def tap (j : ℕ) (p : FVec Ideal S4x4126x2048 .f32) (w : FVec Ideal S31x2048 .f32)
    (hp : S4x4126x2048.Slices ![0, j, 0] S4x4096x2048) (hw : S31x2048.Slices ![j, 0] S1x2048) : FVec Ideal S4x4096x2048 .f32 :=
  mulf (extractStridedSlice S4x4096x2048 ![0, j, 0] p hp) (over (shapeCast _ (extractStridedSlice S1x2048 ![j, 0] w hw) shapeCasts_S1x2048_S2048))

theorem over_apply (v : FVec Ideal S2048 .f32) (b : Fin 4) (s : Fin 4096) (l : Fin 2048) : over v (ix3 b s l) = v (ix1 l) := by
  pointwise [over]

theorem pads_apply (u : FVec Ideal S4x4096x2048 .f32) (b : Fin 4) (p : Fin 4126) (l : Fin 2048) :
    pads u (ix3 b p l) = padded (fun s => u (ix3 b s l)) p.val := by
  pointwise [pads, padded]
  have e : (FloatOps.sitofp FTy.f32 0#32 : Ideal .f32) = (0 : EReal) := by
    show (((0#32 : BitVec 32).toInt : ℝ) : EReal) = 0
    simp
  rw [e]

theorem tap_apply (j : ℕ) (hj : j < 31) (p : FVec Ideal S4x4126x2048 .f32) (w : FVec Ideal S31x2048 .f32) (hp) (hw)
    (b : Fin 4) (s : Fin 4096) (l : Fin 2048) :
    tap j p w hp hw (ix3 b s l) = p (ix3 b ⟨s.val + j, by omega⟩ l) * w (ix2 ⟨j, hj⟩ l) := by
  pointwise [tap, over]
  congr 3
  exact Fin.ext (Nat.add_comm _ _)

/-- The sum of the first `n` taps' terms. -/
def sums (p : FVec Ideal S4x4126x2048 .f32) (w : FVec Ideal S31x2048 .f32) : (n : ℕ) → n ≤ 31 → FVec Ideal S4x4096x2048 .f32
  | 0, _ => broadcastInDim S4x4096x2048 ![] bcast_S_S4x4096x2048 (constant S_ .f32 0x00000000#32)
  | n + 1, h => addf (sums p w n (Nat.le_of_succ_le h)) (tap n p w (slices_rows n h) (slices_taps n h))

/-- The convolved rows with their bias. -/
def conv (u : FVec Ideal S4x4096x2048 .f32) (w : FVec Ideal S1x31x2048 .f32) (b : FVec Ideal S1x2048 .f32) : FVec Ideal S4x4096x2048 .f32 :=
  addf (sums (pads u) (shapeCast _ w shapeCasts_S1x31x2048_S31x2048) 31 (Nat.le_refl 31)) (over (shapeCast _ b shapeCasts_S1x2048_S2048))

theorem sums_apply (p : FVec Ideal S4x4126x2048 .f32) (w : FVec Ideal S31x2048 .f32) (u : Fin 4096 → EReal)
    (b : Fin 4) (s : Fin 4096) (l : Fin 2048) (hp : ∀ q : Fin 4126, p (ix3 b q l) = padded u q.val) :
    ∀ n h, sums p w n h (ix3 b s l) = taps (fun j => w (ix2 j l)) u s.val n
  | 0, _ => by
    unfold sums taps
    pointwise
  | n + 1, h => by
    show HAdd.hAdd (α := EReal) (β := EReal) (sums p w n _ (ix3 b s l)) (tap n p w _ _ (ix3 b s l)) = taps _ u s.val n + w (ix2 (Fin.ofNat 31 n) l) * padded u (s.val + n)
    rw [sums_apply p w u b s l hp n, tap_apply n h, hp, mul_comm,
      show (⟨n, h⟩ : Fin 31) = Fin.ofNat 31 n from Fin.ext (Nat.mod_eq_of_lt h).symm]

theorem conv_apply (u : FVec Ideal S4x4096x2048 .f32) (w : FVec Ideal S1x31x2048 .f32) (c : FVec Ideal S1x2048 .f32)
    (b : Fin 4) (s : Fin 4096) (l : Fin 2048) :
    conv u w c (ix3 b s l) = taps (fun j => w (ix3 0 j l)) (fun r => u (ix3 b r l)) s.val 31 + c (ix2 0 l) := by
  have h := sums_apply (pads u) (shapeCast _ w shapeCasts_S1x31x2048_S31x2048) (fun r => u (ix3 b r l)) b s l (fun q => pads_apply u b q l) 31 (Nat.le_refl 31)
  unfold conv
  show HAdd.hAdd (α := EReal) (β := EReal) (sums _ _ 31 _ (ix3 b s l)) (over _ (ix3 b s l)) = _
  rw [h, over_apply]
  pointwise

/-- Every row's norm, as the reference writes it. -/
def less (x : FVec Ideal S4x4096x2048 .f32) : FVec Ideal S4x4096x2048 .f32 :=
  subf x (broadcastInDim S4x4096x2048 ![0, 1, 2] bcast_S4x4096x1_S4x4096x2048_0_1_2 (Host.divf (broadcastInDim S4x4096x1 ![0, 1] bcast_S4x4096_S4x4096x1_0_1 (Host.reduceAdd x (constant S_ .f32 0x00000000#32) reducesTo_S4x4096x2048_S4x4096_d2 h_S_)) (broadcastInDim S4x4096x1 ![] bcast_S_S4x4096x1 (constant S_ .f32 0x45000000#32))))
def norm (y : FVec Ideal S4x4096x2048 .f32) (g b : FVec Ideal S1x2048 .f32) : FVec Ideal S4x4096x2048 .f32 :=
  addf (mulf (mulf y (broadcastInDim S4x4096x2048 ![0, 1, 2] bcast_S4x4096x1_S4x4096x2048_0_1_2 (Host.rsqrt (addf (Host.divf (broadcastInDim S4x4096x1 ![0, 1] bcast_S4x4096_S4x4096x1_0_1 (Host.reduceAdd (mulf y y) (constant S_ .f32 0x00000000#32) reducesTo_S4x4096x2048_S4x4096_d2 h_S_)) (broadcastInDim S4x4096x1 ![] bcast_S_S4x4096x1 (constant S_ .f32 0x45000000#32))) (broadcastInDim S4x4096x1 ![] bcast_S_S4x4096x1 (constant S_ .f32 0x3727C5AC#32))))))
    (over (shapeCast _ g shapeCasts_S1x2048_S2048))) (over (shapeCast _ b shapeCasts_S1x2048_S2048))

/-- The activation's product with the weight, its bias, added to the residual. -/
def last (h y : FVec Ideal S4x4096x2048 .f32) (w : FVec Ideal S1x2048x2048 .f32) (b : FVec Ideal S1x2048 .f32) : FVec Ideal S4x4096x2048 .f32 :=
  addf h (addf (Host.dotGeneral dot_S4x4096x2048_S2048x2048_S4x4096x2048_2_0_01_1_n_n none (mulf y (Host.divf (broadcastInDim S4x4096x2048 ![] bcast_S_S4x4096x2048 (constant S_ .f32 0x3F800000#32)) (addf (broadcastInDim S4x4096x2048 ![] bcast_S_S4x4096x2048 (constant S_ .f32 0x3F800000#32)) (Host.exp (Host.negf y))))) (shapeCast _ w shapeCasts_S1x2048x2048_S2048x2048))
    (over (shapeCast _ b shapeCasts_S1x2048_S2048)))

theorem less_apply (x : FVec Ideal S4x4096x2048 .f32) (b : Fin 4) (s : Fin 4096) (l : Fin 2048) :
    less x (ix3 b s l) = HSub.hSub (α := EReal) (β := EReal) (x (ix3 b s l)) (mean fun k => x (ix3 b s k)) := by
  pointwise [less, mean]

theorem norm_apply (y : FVec Ideal S4x4096x2048 .f32) (g c : FVec Ideal S1x2048 .f32) (b : Fin 4) (s : Fin 4096) (l : Fin 2048) :
    norm y g c (ix3 b s l) = y (ix3 b s l) * Ideal.rsqrt (Ideal.div (∑ k, HMul.hMul (α := EReal) (β := EReal) (y (ix3 b s k)) (y (ix3 b s k))) (Ideal.ofBits FTy.f32 0x45000000#32)
      + Ideal.ofBits FTy.f32 0x3727C5AC#32) * g (ix2 0 l) + c (ix2 0 l) := by
  pointwise [norm, over]

theorem last_apply (h y : FVec Ideal S4x4096x2048 .f32) (w : FVec Ideal S1x2048x2048 .f32) (c : FVec Ideal S1x2048 .f32)
    (b : Fin 4) (s : Fin 4096) (l : Fin 2048) :
    last h y w c (ix3 b s l) = h (ix3 b s l) + (∑ k, silu (y (ix3 b s k)) * w (ix3 0 k l) + c (ix2 0 l)) := by
  pointwise [last, over, silu]
  simp only [zero_sub]

/-- The run's terms are these stages. -/
theorem terms (V : Valuation τ sig (Elt Ideal)) :
    Value.res_main_v247 V
      = norm (less (conv (V (Proc.devRef .tc main_arg0)) (V (Proc.devRef .tc main_arg2)) (V (Proc.devRef .tc main_arg3))))
          (V (Proc.devRef .tc main_arg4)) (V (Proc.devRef .tc main_arg5)) := by
  have e0 : Value.res_main_v1 V = pads (V (Proc.devRef .tc main_arg0)) := rfl
  have e1 : Value.res_main_v79 V = sums (Value.res_main_v1 V) (Value.res_main_v0 V) 11 (by decide) := rfl
  have e2 : Value.res_main_v156 V = sums (Value.res_main_v1 V) (Value.res_main_v0 V) 22 (by decide) := by
    unfold Value.res_main_v156; rw [e1]; rfl
  have e3 : Value.res_main_v223 V = conv (V (Proc.devRef .tc main_arg0)) (V (Proc.devRef .tc main_arg2)) (V (Proc.devRef .tc main_arg3)) := by
    unfold Value.res_main_v223; rw [e2]; rfl
  have e4 : Value.res_main_v231 V = less (Value.res_main_v223 V) := rfl
  have e5 : Value.res_main_v247 V = norm (Value.res_main_v231 V) (V (Proc.devRef .tc main_arg4)) (V (Proc.devRef .tc main_arg5)) := rfl
  rw [e5, e4, e3]

end Cert.ConvRef

end
-- ==== Proof.ConvValue.lean ====
/- The convolution module's values: the extended rows are the padded rows, so what a point leaves is the reference's formula on
   its rows; the result array they make up. -/
module

public import proofs.«01_k».proof.Proof.ConvFrame
public import proofs.«01_k».proof.Proof.ConvRef
public import Idealize.ShloMosaic.Lib.Pointwise
public import Idealize.ShloMosaic.Lib.Claim

@[expose] public section

set_option maxRecDepth 16384

noncomputable section

namespace Cert.Conv

open Idealize.ShloMosaic Idealize.ShloMosaic.TcCoe Idealize.SL.Sem
open Cert.Kernel6Ideal Cert.Kernel6Ideal.Gen Cert.Spec

/-! ## The payloads, read at an index -/

theorem pay59_apply (x : Vec Ideal S256x2048 .f32) (g b : Vec Ideal S1x2048 .f32) (h : Vec Ideal S1x256x2048 .f32)
    (w : Vec Ideal S2048x2048 .bf16) (d : Vec Ideal S1x2048 .f32) (r : Fin 256) (l : Fin 2048) :
    k0_pay59 x (k0_pay58 x) g b h w d (ix2 r l)
      = h (ix3 0 r l) + ∑ k, silu (lnorm (fun k => x (ix2 r k)) (fun k => g (ix2 0 k)) (fun k => b (ix2 0 k)) k) * w (ix2 k l) + d (ix2 0 l) := by
  pointwise [k0_pay59, k0_pay58, lnorm, mean, silu]

theorem pay1_apply (x : FVec Ideal S256x2048 .f32) (r : Fin 256) (l : Fin 2048) : k0_pay1 x (ix3 0 r l) = x (ix2 r l) := by
  pointwise [k0_pay1]

theorem pay56_apply (x : Vec Ideal S1x256x2048 .f32) (r : Fin 256) (l : Fin 2048) : k0_pay56 x (ix2 r l) = x (ix3 0 r l) := by
  pointwise [k0_pay56]

/-- The grid has 64 points. -/
theorem lt_N (t : Fin cfg0.N) : t.val < 64 := lt_of_lt_of_eq t.isLt N_0

theorem coord1 (t : Fin cfg0.N) : (grid0.coords t 1).val = t.val % 16 := by
  have e : (grid0.coords t 1).val = t.val / 1 % 16 := Pipeline.Grid.coords_val t 1 (by decide) rfl
  rw [e, Nat.div_one]

theorem positive : ∀ n < 16, Scalar.cmpi .sgt (BitVec.ofNat 32 n) 0#32 = if n = 0 then 0#1 else 1#1 := by decide +kernel
theorem below : ∀ n < 16, Scalar.cmpi .slt (BitVec.ofNat 32 n) 15#32 = if n = 15 then 0#1 else 1#1 := by decide +kernel

/-- The halo before the tile counts but at a batch's first tile, -/
theorem pay55_apply (t : Fin cfg0.N) (x : Vec Ideal S1x16x2048 .f32) (r : Fin 16) (l : Fin 2048) :
    k0_pay55 (grid0.coords t) x (ix2 r l) = if t.val % 16 = 0 then (0 : EReal) else x (ix3 0 r l) := by
  pointwise [k0_pay55, coord1 t]
  rw [positive _ (Nat.mod_lt _ (by decide))]
  split <;> rfl

/-- the halo after it but at its last. -/
theorem pay57_apply (t : Fin cfg0.N) (x : Vec Ideal S1x16x2048 .f32) (r : Fin 16) (l : Fin 2048) :
    k0_pay57 (grid0.coords t) x (ix2 r l) = if t.val % 16 = 15 then (0 : EReal) else x (ix3 0 r l) := by
  pointwise [k0_pay57, coord1 t]
  rw [below _ (Nat.mod_lt _ (by decide))]
  split <;> rfl

/-! ## The blocks, read at an index -/

/-- Where each window stands at point `t`: batch `t / 16`, tile `t % 16` of 256 rows; the halos' blocks have 16 rows. -/
theorem idx : ∀ t : Fin grid0.N, win0_0.index t = ![t.val / 16, t.val % 16, 0]
    ∧ win0_1.index t = ![t.val / 16, t.val % 16 * 16 - 1, 0] ∧ win0_2.index t = ![t.val / 16, min (t.val % 16 * 16 + 16) 255, 0]
    ∧ win0_3.index t = ![t.val / 16, t.val % 16, 0] ∧ win0_4.index t = ![0, 0] ∧ win0_5.index t = ![0, 0]
    ∧ win0_6.index t = ![0, 0] ∧ win0_7.index t = ![0, 0] ∧ win0_8.index t = ![0, 0] ∧ win0_9.index t = ![0, 0]
    ∧ win0_10.index t = ![t.val / 16, t.val % 16, 0] := by
  decide +kernel

variable (m : (ℓ : Loc nD τ sig) → Buf (Elt Ideal) ℓ) (c : Dev nD)

/-- A point's batch, and row `r` of its tile. -/
def bat (t : Fin cfg0.N) : Fin 4 := ⟨t.val / 16, by have := lt_N t; omega⟩
def row (t : Fin cfg0.N) (r : Fin 256) : Fin 4096 := ⟨256 * (t.val % 16) + r.val, by omega⟩

theorem tile_at (t : Fin cfg0.N) (r : Fin 256) (l : Fin 2048) :
    iblk m c 0 t (ix3 0 r l) = m ((c : Thread nD τ).loc main_arg0) (ix3 (bat t) (row t r) l) := by
  unfold row bat; blk_ext [iblk, V, idx t]

theorem before_at (t : Fin cfg0.N) (h : t.val % 16 ≠ 0) (r : Fin 16) (l : Fin 2048) :
    iblk m c 1 t (ix3 0 r l) = m ((c : Thread nD τ).loc main_arg0) (ix3 (bat t) ⟨256 * (t.val % 16) + r.val - 16, by omega⟩ l) := by
  unfold bat; blk_ext [iblk, V, idx t]

theorem after_at (t : Fin cfg0.N) (h : t.val % 16 ≠ 15) (r : Fin 16) (l : Fin 2048) :
    iblk m c 2 t (ix3 0 r l) = m ((c : Thread nD τ).loc main_arg0) (ix3 (bat t) ⟨256 * (t.val % 16) + 256 + r.val, by omega⟩ l) := by
  unfold bat; blk_ext [iblk, V, idx t]

theorem h_at (t : Fin cfg0.N) (r : Fin 256) (l : Fin 2048) :
    iblk m c 3 t (ix3 0 r l) = m ((c : Thread nD τ).loc main_arg1) (ix3 (bat t) (row t r) l) := by
  unfold row bat; blk_ext [iblk, V, idx t]

theorem taps_at (t : Fin cfg0.N) (j : Fin 31) (l : Fin 2048) :
    iblk m c 4 t (ix2 j l) = m ((c : Thread nD τ).loc main_arg2) (ix3 0 j l) := by
  blk_ext! [iblk, V, idx t]

theorem bias_at (t : Fin cfg0.N) (l : Fin 2048) :
    iblk m c 5 t (ix2 0 l) = m ((c : Thread nD τ).loc main_arg3) (ix2 0 l) := by
  blk_ext! [iblk, V, idx t]

theorem scale_at (t : Fin cfg0.N) (l : Fin 2048) :
    iblk m c 6 t (ix2 0 l) = m ((c : Thread nD τ).loc main_arg4) (ix2 0 l) := by
  blk_ext! [iblk, V, idx t]

theorem shift_at (t : Fin cfg0.N) (l : Fin 2048) :
    iblk m c 7 t (ix2 0 l) = m ((c : Thread nD τ).loc main_arg5) (ix2 0 l) := by
  blk_ext! [iblk, V, idx t]

theorem weight_at (t : Fin cfg0.N) (k l : Fin 2048) :
    iblk m c 8 t (ix2 k l) = m ((c : Thread nD τ).loc main_arg6) (ix3 0 k l) := by
  blk_ext! [iblk, V, idx t]

theorem last_at (t : Fin cfg0.N) (l : Fin 2048) :
    iblk m c 9 t (ix2 0 l) = m ((c : Thread nD τ).loc main_arg7) (ix2 0 l) := by
  blk_ext! [iblk, V, idx t]

/-! ## The convolution -/

/-- Row `r + 1 + n` of a point's extended rows is entry `r + n` past the tile's first of the padded column. -/
theorem ext_at (t : Fin cfg0.N) (r : Fin 256) (n : ℕ) (hn : n < 31) (l : Fin 2048) :
    gx (ext (grid0.coords t) (iblk m c 0 t) (iblk m c 1 t) (iblk m c 2 t)) (r.val + 1 + n) l.val
      = padded (fun s => m ((c : Thread nD τ).loc main_arg0) (ix3 (bat t) s l)) ((row t r).val + n) := by
  have hr := r.isLt
  have e0 : ((Fin.ofNat 288 (r.val + 1 + n) : Fin 288)).val = r.val + 1 + n := Nat.mod_eq_of_lt (by omega)
  have e1 : (Fin.ofNat 2048 l.val : Fin 2048) = l := Fin.ext (Nat.mod_eq_of_lt l.isLt)
  have ep : (row t r).val + n = 256 * (t.val % 16) + r.val + n := rfl
  unfold gx ext
  rw [e1]
  show (if (Fin.ofNat 288 (r.val + 1 + n) : Fin 288).val < 16 then k0_pay55 (grid0.coords t) (iblk m c 1 t) (ix2 (Fin.ofNat 16 (Fin.ofNat 288 (r.val + 1 + n) : Fin 288).val) l)
    else if (Fin.ofNat 288 (r.val + 1 + n) : Fin 288).val < 272 then k0_pay56 (iblk m c 0 t) (ix2 (Fin.ofNat 256 ((Fin.ofNat 288 (r.val + 1 + n) : Fin 288).val - 16)) l)
    else k0_pay57 (grid0.coords t) (iblk m c 2 t) (ix2 (Fin.ofNat 16 ((Fin.ofNat 288 (r.val + 1 + n) : Fin 288).val - 272)) l)) = _
  rw [e0, ep]
  unfold padded
  by_cases h1 : r.val + 1 + n < 16
  · rw [if_pos h1, pay55_apply]
    by_cases h2 : t.val % 16 = 0
    · rw [if_pos h2, dif_neg (by omega)]
    · rw [if_neg h2, before_at m c t h2, dif_pos (by omega)]
      congr 2
      apply Fin.ext
      show 256 * (t.val % 16) + (r.val + 1 + n) % 16 - 16 = 256 * (t.val % 16) + r.val + n - 15
      omega
  · rw [if_neg h1]
    by_cases h3 : r.val + 1 + n < 272
    · rw [if_pos h3, pay56_apply, tile_at, dif_pos (by omega)]
      congr 2
      apply Fin.ext
      show 256 * (t.val % 16) + (r.val + 1 + n - 16) % 256 = 256 * (t.val % 16) + r.val + n - 15
      omega
    · rw [if_neg h3, pay57_apply]
      by_cases h2 : t.val % 16 = 15
      · rw [if_pos h2, dif_neg (by omega)]
      · rw [if_neg h2, after_at m c t h2, dif_pos (by omega)]
        congr 2
        apply Fin.ext
        show 256 * (t.val % 16) + 256 + (r.val + 1 + n - 272) % 16 = 256 * (t.val % 16) + r.val + n - 15
        omega

theorem tapSum_eq (w : Vec Ideal S31x2048 .f32) (x : Vec Ideal S288x2048 .f32) (u : Fin 4096 → EReal) (r s : ℕ) (l : Fin 2048)
    (h : ∀ n < 31, gx x (r + 1 + n) l.val = padded u (s + n)) :
    ∀ n ≤ 31, tapSum w x r l.val n = taps (fun j => w (ix2 j l)) u s n
  | 0, _ => Ideal.ofBits_zero_f32
  | n + 1, hn => by
    have e1 : (Fin.ofNat 2048 l.val : Fin 2048) = l := Fin.ext (Nat.mod_eq_of_lt l.isLt)
    show HAdd.hAdd (α := EReal) (β := EReal) (tapSum w x r l.val n) (HMul.hMul (α := EReal) (β := EReal) (w (ix2 (Fin.ofNat 31 n) (Fin.ofNat 2048 l.val))) (gx x (r + 1 + n) l.val)) = _
    rw [tapSum_eq w x u r s l h n (Nat.le_of_succ_le hn), h n hn, e1]
    rfl

/-- Entry `l` of batch `b`'s row `s`, convolved, -/
def entry (b : Fin 4) (s : Fin 4096) (l : Fin 2048) : EReal :=
  HAdd.hAdd (α := EReal) (β := EReal) (taps (fun j => m ((c : Thread nD τ).loc main_arg2) (ix3 0 j l)) (fun r => m ((c : Thread nD τ).loc main_arg0) (ix3 b r l)) s.val 31)
    (m ((c : Thread nD τ).loc main_arg3) (ix2 0 l))

/-- and of the result. -/
def value (b : Fin 4) (s : Fin 4096) (l : Fin 2048) : EReal :=
  HAdd.hAdd (α := EReal) (β := EReal) (m ((c : Thread nD τ).loc main_arg1) (ix3 b s l))
    (HAdd.hAdd (α := EReal) (β := EReal) (∑ k, silu (lnorm (fun k => entry m c b s k) (fun k => m ((c : Thread nD τ).loc main_arg4) (ix2 0 k)) (fun k => m ((c : Thread nD τ).loc main_arg5) (ix2 0 k)) k)
        * m ((c : Thread nD τ).loc main_arg6) (ix3 0 k l))
      (m ((c : Thread nD τ).loc main_arg7) (ix2 0 l)))

theorem conv_at (t : Fin cfg0.N) (r : Fin 256) (l : Fin 2048) :
    conv (iblk m c 4 t) (iblk m c 5 t) (ext (grid0.coords t) (iblk m c 0 t) (iblk m c 1 t) (iblk m c 2 t)) (ix2 r l)
      = entry m c (bat t) (row t r) l := by
  have e1 : (Fin.ofNat 2048 l.val : Fin 2048) = l := Fin.ext (Nat.mod_eq_of_lt l.isLt)
  show HAdd.hAdd (α := EReal) (β := EReal) (tapSum (iblk m c 4 t) (ext (grid0.coords t) (iblk m c 0 t) (iblk m c 1 t) (iblk m c 2 t)) r.val l.val 31) (iblk m c 5 t (ix2 0 (Fin.ofNat 2048 l.val))) = _
  rw [tapSum_eq _ _ _ _ _ l (fun n hn => ext_at m c t r n hn l) 31 (Nat.le_refl 31), e1, bias_at]
  simp only [taps_at]
  rfl

/-- Point `t` leaves its rows of the result. -/
theorem out_at (t : Fin cfg0.N) (r : Fin 256) (l : Fin 2048) : out m c t (ix3 0 r l) = value m c (bat t) (row t r) l := by
  unfold out left
  rw [pay1_apply, pay59_apply]
  simp only [conv_at, h_at, scale_at, shift_at, weight_at, last_at, value]
  exact add_assoc _ _ _

/-- The result array. -/
def result (c : Dev nD) : Buf (Elt Ideal) ((c : Thread nD τ).loc main_v11) := fun i => value m c (i 0) (i 1) (i 2)

theorem result_array : (dats m 0 c).arrAt 10 cfg0.N = result m c := by
  refine (dats m 0 c).arrAt_eq_of_covers 10 _ (by decide +kernel) fun t hf y => ?_
  blk_simp
  rw [after_10]
  obtain ⟨z, r, l, rfl⟩ : ∃ (z : Fin 1) (r : Fin 256) (l : Fin 2048), y = ix3 z r l := ⟨y 0, y 1, y 2, eq_ix3 y⟩
  obtain rfl : z = 0 := Subsingleton.elim _ _
  refine (out_at m c t r l).trans ?_
  unfold result bat row
  congr 1 <;> apply Fin.ext <;> blk_simp [idx t]
  all_goals (try dsimp only); omega

end Cert.Conv

end
-- ==== Proof.ConvClaim.lean ====
/- The convolution module computes what the reference computes. -/
module

public import proofs.«01_k».proof.Proof.ConvValue
public import proofs.«01_k».proof.Defs

@[expose] public section

set_option maxRecDepth 16384

noncomputable section

namespace Cert.Conv

open Idealize.ShloMosaic Idealize.ShloMosaic.TcCoe Idealize.SL.Sem
open Cert.Kernel6Ideal Cert.Kernel6Ideal.Gen Cert.Spec

variable (m : (ℓ : Loc nD τ sig) → Buf (Elt Ideal) ℓ) (ρ : Dev nD → PrngReg)

/-- The run, read: the result, the arguments as they were. -/
theorem run_values : θ_run defs (onTc (τ := τ) (main (F := Ideal))) ⟨m, fun _ => 0, ρ⟩ fun r => ∀ c : Dev nD,
    r.2.mem ((c.tc : Thread nD τ).loc main_v11) = result m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7) :=
  (θ_run defs _ _).mono (fun _ h c => ⟨((h.1 c).1 10).trans (result_array m c), h.2 c⟩)
    (θ_run_and ((θ_run defs _ _).mono (fun _ h => h.1) (run_all m ρ))
      (frame_of m ρ (dats m) (A_eq m) ((θ_run defs _ _).mono (fun _ h => h.1) (run_all m ρ))))

/-- The reference's stages, read at an index, are the kernel's formula. -/
theorem stages (h u : FVec Ideal Cert.Reference6Ideal.S4x4096x2048 .f32) (w : FVec Ideal Cert.Reference6Ideal.S1x31x2048 .f32)
    (bw g b : FVec Ideal Cert.Reference6Ideal.S1x2048 .f32) (p : FVec Ideal Cert.Reference6Ideal.S1x2048x2048 .f32)
    (bp : FVec Ideal Cert.Reference6Ideal.S1x2048 .f32) (z : Fin 4) (s : Fin 4096) (l : Fin 2048) :
    ConvRef.last h (ConvRef.norm (ConvRef.less (ConvRef.conv u w bw)) g b) p bp (ix3 z s l)
      = h (ix3 z s l) + (∑ k, silu (lnorm (fun k => taps (fun j => w (ix3 0 j k)) (fun r => u (ix3 z r k)) s.val 31 + bw (ix2 0 k))
          (fun k => g (ix2 0 k)) (fun k => b (ix2 0 k)) k) * p (ix3 0 k l) + bp (ix2 0 l)) := by
  refine (ConvRef.last_apply _ _ _ _ _ _ _).trans ?_
  simp only [ConvRef.norm_apply, ConvRef.less_apply, ConvRef.conv_apply, lnorm]

/-- The two programs end with equal results. -/
theorem claim : Cert.algebraic_Kernel6Ideal_Reference6Ideal := by
  intro m g m' g' _ hagree
  refine ⟨fun c => result m c, run_values m g, ?_⟩
  refine (θ_run _ _ _).mono (fun r h c => ?_) (Cert.Reference6Ideal.Value.run m' g')
  obtain ⟨h0, h1, h2, h3, h4, h5, h6, h7⟩ := hagree c
  refine ⟨(h c).1.trans ?_, (h c).2⟩
  rw [ConvRef.terms]
  show ConvRef.last (m' ((c.tc : Thread Cert.Reference6Ideal.nD Cert.Reference6Ideal.τ).loc Cert.Reference6Ideal.main_arg1))
    (ConvRef.norm (ConvRef.less (ConvRef.conv (m' ((c.tc : Thread Cert.Reference6Ideal.nD Cert.Reference6Ideal.τ).loc Cert.Reference6Ideal.main_arg0))
        (m' ((c.tc : Thread Cert.Reference6Ideal.nD Cert.Reference6Ideal.τ).loc Cert.Reference6Ideal.main_arg2))
        (m' ((c.tc : Thread Cert.Reference6Ideal.nD Cert.Reference6Ideal.τ).loc Cert.Reference6Ideal.main_arg3))))
      (m' ((c.tc : Thread Cert.Reference6Ideal.nD Cert.Reference6Ideal.τ).loc Cert.Reference6Ideal.main_arg4))
      (m' ((c.tc : Thread Cert.Reference6Ideal.nD Cert.Reference6Ideal.τ).loc Cert.Reference6Ideal.main_arg5)))
    (m' ((c.tc : Thread Cert.Reference6Ideal.nD Cert.Reference6Ideal.τ).loc Cert.Reference6Ideal.main_arg6))
    (m' ((c.tc : Thread Cert.Reference6Ideal.nD Cert.Reference6Ideal.τ).loc Cert.Reference6Ideal.main_arg7)) = _
  rw [h0, h1, h2, h3, h4, h5, h6, h7]
  funext i
  obtain ⟨z, s, l, rfl⟩ : ∃ (z : Fin 4) (s : Fin 4096) (l : Fin 2048), i = ix3 z s l := ⟨i 0, i 1, i 2, eq_ix3 i⟩
  exact stages _ _ _ _ _ _ _ _ z s l

end Cert.Conv

end
-- ==== Proof.lean ====
module

public import proofs.«01_k».proof.Defs
public import proofs.«01_k».proof.Proof.Gen.Kernel2.Frame
public import proofs.«01_k».proof.Proof.Gen.Kernel2Ideal.Value
public import proofs.«01_k».proof.Proof.Gen.Reference2Ideal.Run
public import Idealize.ShloMosaic.Adequacy
public import Idealize.ShloMosaic.Init
public import Idealize.ShloMosaic.Lib.Quiescent
public import proofs.«01_k».proof.Proof.Gen.Kernel3
public import proofs.«01_k».proof.Proof.FfnClaim
public import proofs.«01_k».proof.Proof.InProjBits
public import proofs.«01_k».proof.Proof.InProjClaim
public import proofs.«01_k».proof.Proof.Gen.ReferenceIdeal.Run
public import proofs.«01_k».proof.Proof.StateBits
public import proofs.«01_k».proof.Proof.StateClaim
public import proofs.«01_k».proof.Proof.GluClaim
public import proofs.«01_k».proof.Proof.DnOutClaim
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6
public import proofs.«01_k».proof.Proof.Gen.Kernel6Ideal.Points
public import proofs.«01_k».proof.Proof.Gen.Kernel6Ideal.Loops
public import proofs.«01_k».proof.Proof.Gen.Kernel6Ideal.Launch
public import proofs.«01_k».proof.Proof.Gen.Kernel6Ideal.Frame
public import proofs.«01_k».proof.Proof.Gen.Reference6Ideal.Run
public import proofs.«01_k».proof.Proof.ConvBits
public import proofs.«01_k».proof.Proof.ConvClaim

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

theorem quiescent_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem quiescent_Reference3Ideal : quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

theorem quiescent_Reference4Ideal : quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem quiescent_Reference5Ideal : quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem quiescent_Reference6Ideal : quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.State.frame_kernel, fun m ρ _ => Cert.State.frame m ρ, quiescent_ReferenceIdeal,
  fun m ρ _ => Cert.Kernel2.Gen.frame m ρ, fun m ρ _ => Cert.Kernel2Ideal.Gen.frame m ρ, quiescent_Reference2Ideal,
  Cert.InProj.frame_kernel, fun m ρ _ => Cert.InProj.frame m ρ, quiescent_Reference3Ideal,
  fun m ρ _ => Cert.Kernel4.Gen.frame m ρ, fun m ρ _ => Cert.Kernel4Ideal.Gen.frame m ρ, quiescent_Reference4Ideal,
  fun m ρ _ => Cert.Kernel5.Gen.frame m ρ, fun m ρ _ => Cert.Kernel5Ideal.Gen.frame m ρ, quiescent_Reference5Ideal,
  Cert.Conv.frame_kernel, fun m ρ _ => Cert.Conv.frame m ρ, quiescent_Reference6Ideal,
  (trivial : preserves_Kernel_KernelIdeal), Cert.State.claim,
  (trivial : preserves_Kernel2_Kernel2Ideal), Cert.Ffn.claim,
  (trivial : preserves_Kernel3_Kernel3Ideal), Cert.InProj.claim,
  (trivial : preserves_Kernel4_Kernel4Ideal), Cert.Glu.claim,
  (trivial : preserves_Kernel5_Kernel5Ideal), Cert.DnOut.claim,
  (trivial : preserves_Kernel6_Kernel6Ideal), Cert.Conv.claim⟩

end Cert.Proof

end
